-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite3 [hPre_finite3 : Cert.Pre_finite3.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite3.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).1 = (fun _ => 1#1)
    ∧ (Cert.Pre_finite3.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.1 = (fun _ => 1#1)
    ∧ (Cert.Pre_finite3.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.1 = (fun _ => 1#1)
    ∧ (Cert.Pre_finite3.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))).2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite3 [hPre_finite3 : Cert.Pre_finite3.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite3.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).1 = (fun _ => 1#1)
    ∧ (Cert.Pre_finite3.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.1 = (fun _ => 1#1)
    ∧ (Cert.Pre_finite3.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.1 = (fun _ => 1#1)
    ∧ (Cert.Pre_finite3.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))).2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite3 [hKernel5Ideal : Cert.Kernel5Ideal.Facts] [hPre_finite3 : Cert.Pre_finite3.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite3 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite3 [hReference5Ideal : Cert.Reference5Ideal.Facts] [hPre_finite3 : Cert.Pre_finite3.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite3 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10)
      ∧ r.2.mem ((c.tc : Thread Cert.Kernel14.nD Cert.Kernel14.τ).loc Cert.Kernel14.main_arg11) = m ((c.tc : Thread Cert.Kernel14.nD Cert.Kernel14.τ).loc Cert.Kernel14.main_arg11)
      ∧ r.2.mem ((c.tc : Thread Cert.Kernel14.nD Cert.Kernel14.τ).loc Cert.Kernel14.main_arg12) = m ((c.tc : Thread Cert.Kernel14.nD Cert.Kernel14.τ).loc Cert.Kernel14.main_arg12)
      ∧ r.2.mem ((c.tc : Thread Cert.Kernel14.nD Cert.Kernel14.τ).loc Cert.Kernel14.main_arg13) = m ((c.tc : Thread Cert.Kernel14.nD Cert.Kernel14.τ).loc Cert.Kernel14.main_arg13)
      ∧ r.2.mem ((c.tc : Thread Cert.Kernel14.nD Cert.Kernel14.τ).loc Cert.Kernel14.main_arg14) = m ((c.tc : Thread Cert.Kernel14.nD Cert.Kernel14.τ).loc Cert.Kernel14.main_arg14)
      ∧ r.2.mem ((c.tc : Thread Cert.Kernel14.nD Cert.Kernel14.τ).loc Cert.Kernel14.main_arg15) = m ((c.tc : Thread Cert.Kernel14.nD Cert.Kernel14.τ).loc Cert.Kernel14.main_arg15)
      ∧ r.2.mem ((c.tc : Thread Cert.Kernel14.nD Cert.Kernel14.τ).loc Cert.Kernel14.main_arg16) = m ((c.tc : Thread Cert.Kernel14.nD Cert.Kernel14.τ).loc Cert.Kernel14.main_arg16))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
      ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
      ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
      ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
      ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
      ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
      ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10)
      ∧ r.2.mem ((c.tc : Thread Cert.Reference14Ideal.nD Cert.Reference14Ideal.τ).loc Cert.Reference14Ideal.main_arg11) = m ((c.tc : Thread Cert.Reference14Ideal.nD Cert.Reference14Ideal.τ).loc Cert.Reference14Ideal.main_arg11)
      ∧ r.2.mem ((c.tc : Thread Cert.Reference14Ideal.nD Cert.Reference14Ideal.τ).loc Cert.Reference14Ideal.main_arg12) = m ((c.tc : Thread Cert.Reference14Ideal.nD Cert.Reference14Ideal.τ).loc Cert.Reference14Ideal.main_arg12)
      ∧ r.2.mem ((c.tc : Thread Cert.Reference14Ideal.nD Cert.Reference14Ideal.τ).loc Cert.Reference14Ideal.main_arg13) = m ((c.tc : Thread Cert.Reference14Ideal.nD Cert.Reference14Ideal.τ).loc Cert.Reference14Ideal.main_arg13)
      ∧ r.2.mem ((c.tc : Thread Cert.Reference14Ideal.nD Cert.Reference14Ideal.τ).loc Cert.Reference14Ideal.main_arg14) = m ((c.tc : Thread Cert.Reference14Ideal.nD Cert.Reference14Ideal.τ).loc Cert.Reference14Ideal.main_arg14)
      ∧ r.2.mem ((c.tc : Thread Cert.Reference14Ideal.nD Cert.Reference14Ideal.τ).loc Cert.Reference14Ideal.main_arg15) = m ((c.tc : Thread Cert.Reference14Ideal.nD Cert.Reference14Ideal.τ).loc Cert.Reference14Ideal.main_arg15)
      ∧ r.2.mem ((c.tc : Thread Cert.Reference14Ideal.nD Cert.Reference14Ideal.τ).loc Cert.Reference14Ideal.main_arg16) = m ((c.tc : Thread Cert.Reference14Ideal.nD Cert.Reference14Ideal.τ).loc Cert.Reference14Ideal.main_arg16))
      ∧ r.2.sem = fun _ => 0)

def preserves_Kernel_KernelIdeal : Prop :=
  True

def algebraic_KernelIdeal_ReferenceIdeal_on_gate_columns [hKernelIdeal : Cert.KernelIdeal.Facts] [hReferenceIdeal : Cert.ReferenceIdeal.Facts] [hOn_gate_columns : Cert.On_gate_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)) (v7 : (c : Dev Cert.KernelIdeal.nD) → Buf (Elt Ideal) ((c.tc : Thread Cert.KernelIdeal.nD Cert.KernelIdeal.τ).loc Cert.KernelIdeal.main_v6_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v6_0) i = v0 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v6_1) i = v1 c i)
          ∧ (∀ i : (⟨2, ![4160, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v6_2) i = v2 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v6_3) i = v3 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v6_4) i = v4 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v6_5) i = v5 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.KernelIdeal.nD Cert.KernelIdeal.τ).loc Cert.KernelIdeal.main_v6_6) i = v6 c i)
          ∧ (∀ i : (⟨2, ![1, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.KernelIdeal.nD Cert.KernelIdeal.τ).loc Cert.KernelIdeal.main_v6_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v49) i = v0 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v48) i = v1 c i)
          ∧ (∀ i : (⟨2, ![4160, 6144]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v50) i = v2 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v51) i = v3 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v52) i = v4 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v53) i = v5 c i)
          ∧ (∀ i : (⟨2, ![4160, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 i = 1#1 → r.2.mem ((c.tc : Thread Cert.ReferenceIdeal.nD Cert.ReferenceIdeal.τ).loc Cert.ReferenceIdeal.main_v54) i = v6 c i)
          ∧ (∀ i : (⟨2, ![1, 1024]⟩ : Shape).Idx, (Cert.On_gate_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 i = 1#1 → r.2.mem ((c.tc : Thread Cert.ReferenceIdeal.nD Cert.ReferenceIdeal.τ).loc Cert.ReferenceIdeal.main_v55) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5_0)) (v1 : (c : Dev Cert.Kernel2Ideal.nD) → Buf (Elt Ideal) ((c.tc : Thread Cert.Kernel2Ideal.nD Cert.Kernel2Ideal.τ).loc Cert.Kernel2Ideal.main_v5_1)) (v2 : (c : Dev Cert.Kernel2Ideal.nD) → Buf (Elt Ideal) ((c.tc : Thread Cert.Kernel2Ideal.nD Cert.Kernel2Ideal.τ).loc Cert.Kernel2Ideal.main_v5_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5_0) = v0 c
          ∧ r.2.mem ((c.tc : Thread Cert.Kernel2Ideal.nD Cert.Kernel2Ideal.τ).loc Cert.Kernel2Ideal.main_v5_1) = v1 c
          ∧ r.2.mem ((c.tc : Thread Cert.Kernel2Ideal.nD Cert.Kernel2Ideal.τ).loc Cert.Kernel2Ideal.main_v5_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_v46) = v1 c
          ∧ r.2.mem ((c.tc : Thread Cert.Reference2Ideal.nD Cert.Reference2Ideal.τ).loc Cert.Reference2Ideal.main_v47) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)) (v2 : (c : Dev Cert.Kernel3Ideal.nD) → Buf (Elt Ideal) ((c.tc : Thread Cert.Kernel3Ideal.nD Cert.Kernel3Ideal.τ).loc Cert.Kernel3Ideal.main_v24_2)) (v3 : (c : Dev Cert.Kernel3Ideal.nD) → Buf (Elt Ideal) ((c.tc : Thread Cert.Kernel3Ideal.nD Cert.Kernel3Ideal.τ).loc Cert.Kernel3Ideal.main_v24_3)) (v4 : (c : Dev Cert.Kernel3Ideal.nD) → Buf (Elt Ideal) ((c.tc : Thread Cert.Kernel3Ideal.nD Cert.Kernel3Ideal.τ).loc Cert.Kernel3Ideal.main_v24_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_v24_2) = v2 c
          ∧ r.2.mem ((c.tc : Thread Cert.Kernel3Ideal.nD Cert.Kernel3Ideal.τ).loc Cert.Kernel3Ideal.main_v24_3) = v3 c
          ∧ r.2.mem ((c.tc : Thread Cert.Kernel3Ideal.nD Cert.Kernel3Ideal.τ).loc Cert.Kernel3Ideal.main_v24_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v58) = v3 c
          ∧ r.2.mem ((c.tc : Thread Cert.Reference3Ideal.nD Cert.Reference3Ideal.τ).loc Cert.Reference3Ideal.main_v59) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_1)) (v1 : (c : Dev Cert.Kernel4Ideal.nD) → Buf (Elt Ideal) ((c.tc : Thread Cert.Kernel4Ideal.nD Cert.Kernel4Ideal.τ).loc Cert.Kernel4Ideal.main_v8_0)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)) (v5 : (c : Dev Cert.Kernel4Ideal.nD) → Buf (Elt Ideal) ((c.tc : Thread Cert.Kernel4Ideal.nD Cert.Kernel4Ideal.τ).loc Cert.Kernel4Ideal.main_v8_5)) (v6 : (c : Dev Cert.Kernel4Ideal.nD) → Buf (Elt Ideal) ((c.tc : Thread Cert.Kernel4Ideal.nD Cert.Kernel4Ideal.τ).loc Cert.Kernel4Ideal.main_v8_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_1) = v0 c
          ∧ r.2.mem ((c.tc : Thread Cert.Kernel4Ideal.nD Cert.Kernel4Ideal.τ).loc Cert.Kernel4Ideal.main_v8_0) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_v8_5) = v5 c
          ∧ r.2.mem ((c.tc : Thread Cert.Kernel4Ideal.nD Cert.Kernel4Ideal.τ).loc Cert.Kernel4Ideal.main_v8_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v75) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_v77) = v3 c
          ∧ r.2.mem ((c.tc : Thread Cert.Reference4Ideal.nD Cert.Reference4Ideal.τ).loc Cert.Reference4Ideal.main_v78) = v4 c
          ∧ r.2.mem ((c.tc : Thread Cert.Reference4Ideal.nD Cert.Reference4Ideal.τ).loc Cert.Reference4Ideal.main_v79) = v5 c
          ∧ r.2.mem ((c.tc : Thread Cert.Reference4Ideal.nD Cert.Reference4Ideal.τ).loc Cert.Reference4Ideal.main_v80) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite3 [hKernel5Ideal : Cert.Kernel5Ideal.Facts] [hReference5Ideal : Cert.Reference5Ideal.Facts] [hPre_finite3 : Cert.Pre_finite3.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite3 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v24_0)) (v1 : (c : Dev Cert.Kernel5Ideal.nD) → Buf (Elt Ideal) ((c.tc : Thread Cert.Kernel5Ideal.nD Cert.Kernel5Ideal.τ).loc Cert.Kernel5Ideal.main_v24_1)) (v2 : (c : Dev Cert.Kernel5Ideal.nD) → Buf (Elt Ideal) ((c.tc : Thread Cert.Kernel5Ideal.nD Cert.Kernel5Ideal.τ).loc Cert.Kernel5Ideal.main_v24_2)) (v3 : (c : Dev Cert.Kernel5Ideal.nD) → Buf (Elt Ideal) ((c.tc : Thread Cert.Kernel5Ideal.nD Cert.Kernel5Ideal.τ).loc Cert.Kernel5Ideal.main_v24_3)) (v4 : (c : Dev Cert.Kernel5Ideal.nD) → Buf (Elt Ideal) ((c.tc : Thread Cert.Kernel5Ideal.nD Cert.Kernel5Ideal.τ).loc Cert.Kernel5Ideal.main_v24_4)) (v5 : (c : Dev Cert.Kernel5Ideal.nD) → Buf (Elt Ideal) ((c.tc : Thread Cert.Kernel5Ideal.nD Cert.Kernel5Ideal.τ).loc Cert.Kernel5Ideal.main_v24_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24_0) = v0 c
          ∧ r.2.mem ((c.tc : Thread Cert.Kernel5Ideal.nD Cert.Kernel5Ideal.τ).loc Cert.Kernel5Ideal.main_v24_1) = v1 c
          ∧ r.2.mem ((c.tc : Thread Cert.Kernel5Ideal.nD Cert.Kernel5Ideal.τ).loc Cert.Kernel5Ideal.main_v24_2) = v2 c
          ∧ r.2.mem ((c.tc : Thread Cert.Kernel5Ideal.nD Cert.Kernel5Ideal.τ).loc Cert.Kernel5Ideal.main_v24_3) = v3 c
          ∧ r.2.mem ((c.tc : Thread Cert.Kernel5Ideal.nD Cert.Kernel5Ideal.τ).loc Cert.Kernel5Ideal.main_v24_4) = v4 c
          ∧ r.2.mem ((c.tc : Thread Cert.Kernel5Ideal.nD Cert.Kernel5Ideal.τ).loc Cert.Kernel5Ideal.main_v24_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v55) = v0 c
          ∧ r.2.mem ((c.tc : Thread Cert.Reference5Ideal.nD Cert.Reference5Ideal.τ).loc Cert.Reference5Ideal.main_v56) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_v59) = v4 c
          ∧ r.2.mem ((c.tc : Thread Cert.Reference5Ideal.nD Cert.Reference5Ideal.τ).loc Cert.Reference5Ideal.main_v60) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v6_0)) (v1 : (c : Dev Cert.Kernel8Ideal.nD) → Buf (Elt Ideal) ((c.tc : Thread Cert.Kernel8Ideal.nD Cert.Kernel8Ideal.τ).loc Cert.Kernel8Ideal.main_v6_1)) (v2 : (c : Dev Cert.Kernel8Ideal.nD) → Buf (Elt Ideal) ((c.tc : Thread Cert.Kernel8Ideal.nD Cert.Kernel8Ideal.τ).loc Cert.Kernel8Ideal.main_v6_2)) (v3 : (c : Dev Cert.Kernel8Ideal.nD) → Buf (Elt Ideal) ((c.tc : Thread Cert.Kernel8Ideal.nD Cert.Kernel8Ideal.τ).loc Cert.Kernel8Ideal.main_v6_3)) (v4 : (c : Dev Cert.Kernel8Ideal.nD) → Buf (Elt Ideal) ((c.tc : Thread Cert.Kernel8Ideal.nD Cert.Kernel8Ideal.τ).loc Cert.Kernel8Ideal.main_v6_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6_0) = v0 c
          ∧ r.2.mem ((c.tc : Thread Cert.Kernel8Ideal.nD Cert.Kernel8Ideal.τ).loc Cert.Kernel8Ideal.main_v6_1) = v1 c
          ∧ r.2.mem ((c.tc : Thread Cert.Kernel8Ideal.nD Cert.Kernel8Ideal.τ).loc Cert.Kernel8Ideal.main_v6_2) = v2 c
          ∧ r.2.mem ((c.tc : Thread Cert.Kernel8Ideal.nD Cert.Kernel8Ideal.τ).loc Cert.Kernel8Ideal.main_v6_3) = v3 c
          ∧ r.2.mem ((c.tc : Thread Cert.Kernel8Ideal.nD Cert.Kernel8Ideal.τ).loc Cert.Kernel8Ideal.main_v6_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v21) = v0 c
          ∧ r.2.mem ((c.tc : Thread Cert.Reference8Ideal.nD Cert.Reference8Ideal.τ).loc Cert.Reference8Ideal.main_v22) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_v24) = v3 c
          ∧ r.2.mem ((c.tc : Thread Cert.Reference8Ideal.nD Cert.Reference8Ideal.τ).loc Cert.Reference8Ideal.main_v25) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def preserves_Kernel10_Kernel10Ideal : Prop :=
  True

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v9) = v2 c
          ∧ r.2.mem ((c.tc : Thread Cert.Reference12Ideal.nD Cert.Reference12Ideal.τ).loc Cert.Reference12Ideal.main_v15) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2_0)) (v1 : (c : Dev Cert.Kernel13Ideal.nD) → Buf (Elt Ideal) ((c.tc : Thread Cert.Kernel13Ideal.nD Cert.Kernel13Ideal.τ).loc Cert.Kernel13Ideal.main_v2_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2_0) = v0 c
          ∧ r.2.mem ((c.tc : Thread Cert.Kernel13Ideal.nD Cert.Kernel13Ideal.τ).loc Cert.Kernel13Ideal.main_v2_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v1) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)
      ∧ m' ((c.tc : Thread Cert.Reference14Ideal.nD Cert.Reference14Ideal.τ).loc Cert.Reference14Ideal.main_arg11) = m ((c.tc : Thread Cert.Kernel14Ideal.nD Cert.Kernel14Ideal.τ).loc Cert.Kernel14Ideal.main_arg11)
      ∧ m' ((c.tc : Thread Cert.Reference14Ideal.nD Cert.Reference14Ideal.τ).loc Cert.Reference14Ideal.main_arg12) = m ((c.tc : Thread Cert.Kernel14Ideal.nD Cert.Kernel14Ideal.τ).loc Cert.Kernel14Ideal.main_arg12)
      ∧ m' ((c.tc : Thread Cert.Reference14Ideal.nD Cert.Reference14Ideal.τ).loc Cert.Reference14Ideal.main_arg13) = m ((c.tc : Thread Cert.Kernel14Ideal.nD Cert.Kernel14Ideal.τ).loc Cert.Kernel14Ideal.main_arg13)
      ∧ m' ((c.tc : Thread Cert.Reference14Ideal.nD Cert.Reference14Ideal.τ).loc Cert.Reference14Ideal.main_arg14) = m ((c.tc : Thread Cert.Kernel14Ideal.nD Cert.Kernel14Ideal.τ).loc Cert.Kernel14Ideal.main_arg14)
      ∧ m' ((c.tc : Thread Cert.Reference14Ideal.nD Cert.Reference14Ideal.τ).loc Cert.Reference14Ideal.main_arg15) = m ((c.tc : Thread Cert.Kernel14Ideal.nD Cert.Kernel14Ideal.τ).loc Cert.Kernel14Ideal.main_arg15)
      ∧ m' ((c.tc : Thread Cert.Reference14Ideal.nD Cert.Reference14Ideal.τ).loc Cert.Reference14Ideal.main_arg16) = m ((c.tc : Thread Cert.Kernel14Ideal.nD Cert.Kernel14Ideal.τ).loc Cert.Kernel14Ideal.main_arg16)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10)
          ∧ r.2.mem ((c.tc : Thread Cert.Kernel14Ideal.nD Cert.Kernel14Ideal.τ).loc Cert.Kernel14Ideal.main_arg11) = m ((c.tc : Thread Cert.Kernel14Ideal.nD Cert.Kernel14Ideal.τ).loc Cert.Kernel14Ideal.main_arg11)
          ∧ r.2.mem ((c.tc : Thread Cert.Kernel14Ideal.nD Cert.Kernel14Ideal.τ).loc Cert.Kernel14Ideal.main_arg12) = m ((c.tc : Thread Cert.Kernel14Ideal.nD Cert.Kernel14Ideal.τ).loc Cert.Kernel14Ideal.main_arg12)
          ∧ r.2.mem ((c.tc : Thread Cert.Kernel14Ideal.nD Cert.Kernel14Ideal.τ).loc Cert.Kernel14Ideal.main_arg13) = m ((c.tc : Thread Cert.Kernel14Ideal.nD Cert.Kernel14Ideal.τ).loc Cert.Kernel14Ideal.main_arg13)
          ∧ r.2.mem ((c.tc : Thread Cert.Kernel14Ideal.nD Cert.Kernel14Ideal.τ).loc Cert.Kernel14Ideal.main_arg14) = m ((c.tc : Thread Cert.Kernel14Ideal.nD Cert.Kernel14Ideal.τ).loc Cert.Kernel14Ideal.main_arg14)
          ∧ r.2.mem ((c.tc : Thread Cert.Kernel14Ideal.nD Cert.Kernel14Ideal.τ).loc Cert.Kernel14Ideal.main_arg15) = m ((c.tc : Thread Cert.Kernel14Ideal.nD Cert.Kernel14Ideal.τ).loc Cert.Kernel14Ideal.main_arg15)
          ∧ r.2.mem ((c.tc : Thread Cert.Kernel14Ideal.nD Cert.Kernel14Ideal.τ).loc Cert.Kernel14Ideal.main_arg16) = m ((c.tc : Thread Cert.Kernel14Ideal.nD Cert.Kernel14Ideal.τ).loc Cert.Kernel14Ideal.main_arg16))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10)
          ∧ r.2.mem ((c.tc : Thread Cert.Reference14Ideal.nD Cert.Reference14Ideal.τ).loc Cert.Reference14Ideal.main_arg11) = m' ((c.tc : Thread Cert.Reference14Ideal.nD Cert.Reference14Ideal.τ).loc Cert.Reference14Ideal.main_arg11)
          ∧ r.2.mem ((c.tc : Thread Cert.Reference14Ideal.nD Cert.Reference14Ideal.τ).loc Cert.Reference14Ideal.main_arg12) = m' ((c.tc : Thread Cert.Reference14Ideal.nD Cert.Reference14Ideal.τ).loc Cert.Reference14Ideal.main_arg12)
          ∧ r.2.mem ((c.tc : Thread Cert.Reference14Ideal.nD Cert.Reference14Ideal.τ).loc Cert.Reference14Ideal.main_arg13) = m' ((c.tc : Thread Cert.Reference14Ideal.nD Cert.Reference14Ideal.τ).loc Cert.Reference14Ideal.main_arg13)
          ∧ r.2.mem ((c.tc : Thread Cert.Reference14Ideal.nD Cert.Reference14Ideal.τ).loc Cert.Reference14Ideal.main_arg14) = m' ((c.tc : Thread Cert.Reference14Ideal.nD Cert.Reference14Ideal.τ).loc Cert.Reference14Ideal.main_arg14)
          ∧ r.2.mem ((c.tc : Thread Cert.Reference14Ideal.nD Cert.Reference14Ideal.τ).loc Cert.Reference14Ideal.main_arg15) = m' ((c.tc : Thread Cert.Reference14Ideal.nD Cert.Reference14Ideal.τ).loc Cert.Reference14Ideal.main_arg15)
          ∧ r.2.mem ((c.tc : Thread Cert.Reference14Ideal.nD Cert.Reference14Ideal.τ).loc Cert.Reference14Ideal.main_arg16) = m' ((c.tc : Thread Cert.Reference14Ideal.nD Cert.Reference14Ideal.τ).loc Cert.Reference14Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite3 : Cert.Pre_finite3.Facts) (hOn_gate_columns : Cert.On_gate_columns.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite3 (hKernel5Ideal := hKernel5Ideal) (hPre_finite3 := hPre_finite3)
    ∧ quiescent_Reference5Ideal (hReference5Ideal := hReference5Ideal)
    ∧ quiescent_Reference5Ideal_pre_finite3 (hReference5Ideal := hReference5Ideal) (hPre_finite3 := hPre_finite3)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_on_gate_columns (hKernelIdeal := hKernelIdeal) (hReferenceIdeal := hReferenceIdeal) (hOn_gate_columns := hOn_gate_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite3 (hKernel5Ideal := hKernel5Ideal) (hReference5Ideal := hReference5Ideal) (hPre_finite3 := hPre_finite3)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== On_gate_columns.lean ====
abbrev S4160x1024 : Shape := ⟨2, ![4160, 1024]⟩
abbrev S4160x6144 : Shape := ⟨2, ![4160, 6144]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

class Facts : Prop where
  bcast_S_S4160x1024 : S_.BroadcastsInDim S4160x1024 (![] : Fin 0 → Fin S4160x1024.rank)
  bcast_S_S1x1024 : S_.BroadcastsInDim S1x1024 (![] : Fin 0 → Fin S1x1024.rank)
  bcast_S_S4160x6144 : S_.BroadcastsInDim S4160x6144 (![] : Fin 0 → Fin S4160x6144.rank)

variable [Facts]

def fn {F : FTy → Type} [FloatOps F] (main_arg0 : FVec F S4160x1024 .f32) (main_arg1 : FVec F S4160x1024 .f32) (main_arg2 : FVec F S4160x1024 .f32) (main_arg3 : FVec F S4160x6144 .f32) (main_arg4 : FVec F S1024x1024 .f32) (main_arg5 : FVec F S1024x1024 .f32) (main_arg6 : FVec F S1024 .f32) (main_arg7 : FVec F S1024x1024 .f32) : IVec S4160x1024 1 × IVec S4160x1024 1 × IVec S4160x6144 1 × IVec S4160x1024 1 × IVec S4160x1024 1 × IVec S4160x1024 1 × IVec S4160x1024 1 × IVec S1x1024 1 :=
  let main_c : IVec S_ 1 := constantI S_ 1 1#1
  let main_v0 : IVec S4160x1024 1 := broadcastInDim S4160x1024 ![] bcast_S_S4160x1024 main_c
  let main_c_0 : IVec S_ 1 := constantI S_ 1 1#1
  let main_v1 : IVec S1x1024 1 := broadcastInDim S1x1024 ![] bcast_S_S1x1024 main_c_0
  let main_v2 : IVec S4160x6144 32 := iotaInDim S4160x6144 32 1
  let main_c_1 : IVec S_ 32 := constantI S_ 32 4096#32
  let main_v3 : IVec S4160x6144 32 := broadcastInDim S4160x6144 ![] bcast_S_S4160x6144 main_c_1
  let main_v4 : IVec S4160x6144 1 := cmpi .sge main_v2 main_v3
  (main_v0, main_v0, main_v4, main_v0, main_v0, main_v0, main_v0, main_v1)
-- ==== Pre_finite3.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_
  bcast_S_S4160x1024 : S_.BroadcastsInDim S4160x1024 (![] : Fin 0 → Fin S4160x1024.rank)
  reducesTo_S4160x1024_S_d0_1 : S4160x1024.ReducesTo [0, 1] S_

variable [Facts]

def fn {F : FTy → Type} [FloatOps F] (main_arg0 : FVec F S4160x1024 .f32) (main_arg1 : FVec F S1024 .f32) (main_arg2 : FVec F S1024x5632 .f32) (main_arg3 : FVec F S2816x1024 .f32) (main_arg4 : FVec F S4160x1024 .f32) : IVec S_ 1 × IVec S_ 1 × IVec S_ 1 × IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : FVec F S2816x1024 .f32 := Host.absf main_arg3
  let main_cst_2 : FVec F S_ .f32 := constant S_ .f32 0x7F800000#32
  let main_v9 : FVec F S2816x1024 .f32 := broadcastInDim S2816x1024 ![] bcast_S_S2816x1024 main_cst_2
  let main_v10 : IVec S2816x1024 1 := cmpf .olt main_v8 main_v9
  let main_c_3 : IVec S_ 1 := constantI S_ 1 1#1
  let main_v11 : IVec S_ 1 := (fun x v => Host.reduce IntOp.andi x v reducesTo_S2816x1024_S_d0_1 h_S_) main_v10 main_c_3
  let main_v12 : FVec F S4160x1024 .f32 := Host.absf main_arg4
  let main_cst_4 : FVec F S_ .f32 := constant S_ .f32 0x7F800000#32
  let main_v13 : FVec F S4160x1024 .f32 := broadcastInDim S4160x1024 ![] bcast_S_S4160x1024 main_cst_4
  let main_v14 : IVec S4160x1024 1 := cmpf .olt main_v12 main_v13
  let main_c_5 : IVec S_ 1 := constantI S_ 1 1#1
  let main_v15 : IVec S_ 1 := (fun x v => Host.reduce IntOp.andi x v reducesTo_S4160x1024_S_d0_1 h_S_) main_v14 main_c_5
  (main_v3, main_v7, main_v11, main_v15)
-- ==== Kernel.lean ====
abbrev S4160x1024 : Shape := ⟨2, ![4160, 1024]⟩
abbrev S4160x6144 : Shape := ⟨2, ![4160, 6144]⟩
abbrev S1024x1024 : Shape := ⟨2, ![1024, 1024]⟩
abbrev S1024 : Shape := ⟨1, ![1024]⟩
abbrev S1x1024 : Shape := ⟨2, ![1, 1024]⟩
abbrev S416x1024 : Shape := ⟨2, ![416, 1024]⟩
abbrev S416x2048 : Shape := ⟨2, ![416, 2048]⟩

abbrev nBuf : Space → Nat
  | .hbm => 22
  | .vmem => 29
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .f32⟩
  | .hbm, ⟨3, _⟩ => ⟨S4160x6144, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4160x1024, .bf16⟩
  | .hbm, ⟨9, _⟩ => ⟨S4160x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1024x1024, .bf16⟩
  | .hbm, ⟨14, _⟩ => ⟨S4160x1024, .f32⟩
  | .hbm, ⟨15, _⟩ => ⟨S4160x1024, .f32⟩
  | .hbm, ⟨16, _⟩ => ⟨S4160x6144, .bf16⟩
  | .hbm, ⟨17, _⟩ => ⟨S4160x1024, .bf16⟩
  | .hbm, ⟨18, _⟩ => ⟨S4160x1024, .bf16⟩
  | .hbm, ⟨19, _⟩ => ⟨S4160x1024, .bf16⟩
  | .hbm, ⟨20, _⟩ => ⟨S4160x1024, .bf16⟩
  | .hbm, ⟨21, _⟩ => ⟨S1x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .bf16⟩
  | .local _ .vmem, ⟨3, _⟩ => ⟨S416x1024, .bf16⟩
  | .local _ .vmem, ⟨4, _⟩ => ⟨S416x1024, .bf16⟩
  | .local _ .vmem, ⟨5, _⟩ => ⟨S416x1024, .bf16⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S416x1024, .f32⟩
  | .local _ .vmem, ⟨15, _⟩ => ⟨S416x1024, .f32⟩
  | .local _ .vmem, ⟨16, _⟩ => ⟨S416x1024, .f32⟩
  | .local _ .vmem, ⟨17, _⟩ => ⟨S416x1024, .f32⟩
  | .local _ .vmem, ⟨18, _⟩ => ⟨S416x2048, .bf16⟩
  | .local _ .vmem, ⟨19, _⟩ => ⟨S416x2048, .bf16⟩
  | .local _ .vmem, ⟨20, _⟩ => ⟨S416x1024, .bf16⟩
  | .local _ .vmem, ⟨21, _⟩ => ⟨S416x1024, .bf16⟩
  | .local _ .vmem, ⟨22, _⟩ => ⟨S416x1024, .bf16⟩
  | .local _ .vmem, ⟨23, _⟩ => ⟨S416x1024, .bf16⟩
  | .local _ .vmem, ⟨24, _⟩ => ⟨S416x1024, .bf16⟩
  | .local _ .vmem, ⟨25, _⟩ => ⟨S416x1024, .bf16⟩
  | .local _ .vmem, ⟨26, _⟩ => ⟨S416x1024, .bf16⟩
  | .local _ .vmem, ⟨27, _⟩ => ⟨S416x1024, .bf16⟩
  | .local _ .vmem, ⟨28, _⟩ => ⟨S1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v6_7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S416x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S416x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S416x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4160x1024 : Shape := ⟨2, ![4160, 1024]⟩
abbrev S4160x6144 : Shape := ⟨2, ![4160, 6144]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 76
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .f32⟩
  | .hbm, ⟨3, _⟩ => ⟨S4160x6144, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4160x1024, .f32⟩
  | .hbm, ⟨9, _⟩ => ⟨S4160x1024, .f32⟩
  | .hbm, ⟨10, _⟩ => ⟨S1x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S_, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S4160x1024, .f32⟩
  | .hbm, ⟨26, _⟩ => ⟨S4160x1024, .f32⟩
  | .hbm, ⟨27, _⟩ => ⟨S_, .f32⟩
  | .hbm, ⟨28, _⟩ => ⟨S4160x1024, .f32⟩
  | .hbm, ⟨29, _⟩ => ⟨S4160x1024, .f32⟩
  | .hbm, ⟨30, _⟩ => ⟨S4160x1024, .f32⟩
  | .hbm, ⟨31, _⟩ => ⟨S4160x1024, .f32⟩
  | .hbm, ⟨32, _⟩ => ⟨S4160x1024, .f32⟩
  | .hbm, ⟨33, _⟩ => ⟨S4160x1024, .f32⟩
  | .hbm, ⟨34, _⟩ => ⟨S_, .f32⟩
  | .hbm, ⟨35, _⟩ => ⟨S4160x1024, .f32⟩
  | .hbm, ⟨36, _⟩ => ⟨S4160x1024, .f32⟩
  | .hbm, ⟨37, _⟩ => ⟨S_, .f32⟩
  | .hbm, ⟨38, _⟩ => ⟨S4160x1024, .f32⟩
  | .hbm, ⟨39, _⟩ => ⟨S4160x1024, .f32⟩
  | .hbm, ⟨40, _⟩ => ⟨S_, .f32⟩
  | .hbm, ⟨41, _⟩ => ⟨S4160x1024, .f32⟩
  | .hbm, ⟨42, _⟩ => ⟨S4160x1024, .f32⟩
  | .hbm, ⟨43, _⟩ => ⟨S4160x1024, .f32⟩
  | .hbm, ⟨44, _⟩ => ⟨S4160x1024, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S4160x1024, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x1024, .f32⟩
  | .hbm, ⟨53, _⟩ => ⟨S4160x1024, .f32⟩
  | .hbm, ⟨54, _⟩ => ⟨S_, .f32⟩
  | .hbm, ⟨55, _⟩ => ⟨S4160x1024, .f32⟩
  | .hbm, ⟨56, _⟩ => ⟨S_, .f32⟩
  | .hbm, ⟨57, _⟩ => ⟨S4160x1024, .f32⟩
  | .hbm, ⟨58, _⟩ => ⟨S_, .f32⟩
  | .hbm, ⟨59, _⟩ => ⟨S4160x1024, .f32⟩
  | .hbm, ⟨60, _⟩ => ⟨S_, .f32⟩
  | .hbm, ⟨61, _⟩ => ⟨S4160x1024, .f32⟩
  | .hbm, ⟨62, _⟩ => ⟨S4160x6144, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S4160x1024, .f32⟩
  | .hbm, ⟨69, _⟩ => ⟨S4160x1024, .f32⟩
  | .hbm, ⟨70, _⟩ => ⟨S4160x6144, .bf16⟩
  | .hbm, ⟨71, _⟩ => ⟨S4160x1024, .bf16⟩
  | .hbm, ⟨72, _⟩ => ⟨S4160x1024, .bf16⟩
  | .hbm, ⟨73, _⟩ => ⟨S4160x1024, .bf16⟩
  | .hbm, ⟨74, _⟩ => ⟨S4160x1024, .bf16⟩
  | .hbm, ⟨75, _⟩ => ⟨S1x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel2.lean ====
abbrev S4160x1024 : Shape := ⟨2, ![4160, 1024]⟩
abbrev S1024 : Shape := ⟨1, ![1024]⟩
abbrev S1024x6144 : Shape := ⟨2, ![1024, 6144]⟩
abbrev S6144 : Shape := ⟨1, ![6144]⟩
abbrev S4160x6144 : Shape := ⟨2, ![4160, 6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S4x1x1536 : Shape := ⟨3, ![4, 1, 1536]⟩
abbrev S416x6144 : Shape := ⟨2, ![416, 6144]⟩
abbrev S416x1024 : Shape := ⟨2, ![416, 1024]⟩
abbrev S416x1536 : Shape := ⟨2, ![416, 1536]⟩
abbrev S1x1024x1536 : Shape := ⟨3, ![1, 1024, 1536]⟩
abbrev S1024x1536 : Shape := ⟨2, ![1024, 1536]⟩
abbrev S1x1x1536 : Shape := ⟨3, ![1, 1, 1536]⟩
abbrev S1x1536 : Shape := ⟨2, ![1, 1536]⟩
abbrev S1536 : Shape := ⟨1, ![1536]⟩
abbrev S416 : Shape := ⟨1, ![416]⟩
abbrev S416x1 : Shape := ⟨2, ![416, 1]⟩

abbrev nBuf : Space → Nat
  | .hbm => 14
  | .vmem => 12
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S4160x1024, .f32⟩
  | .hbm, ⟨5, _⟩ => ⟨S4160x6144, .f32⟩
  | .hbm, ⟨6, _⟩ => ⟨S1024x4x1536, .f32⟩
  | .hbm, ⟨7, _⟩ => ⟨S4x1024x1536, .f32⟩
  | .hbm, ⟨8, _⟩ => ⟨S4x1024x1536, .bf16⟩
  | .hbm, ⟨9, _⟩ => ⟨S4160x6144, .bf16⟩
  | .hbm, ⟨10, _⟩ => ⟨S1x1024, .f32⟩
  | .hbm, ⟨11, _⟩ => ⟨S4160x1024, .f32⟩
  | .hbm, ⟨12, _⟩ => ⟨S1x1024, .f32⟩
  | .hbm, ⟨13, _⟩ => ⟨S4x1x1536, .f32⟩
  | .local _ .vmem, ⟨0, _⟩ => ⟨S416x6144, .bf16⟩
  | .local _ .vmem, ⟨1, _⟩ => ⟨S416x6144, .bf16⟩
  | .local _ .vmem, ⟨2, _⟩ => ⟨S416x1024, .f32⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S1x1024, .f32⟩
  | .local _ .vmem, ⟨7, _⟩ => ⟨S4x1024x1536, .bf16⟩
  | .local _ .vmem, ⟨8, _⟩ => ⟨S416x1024, .f32⟩
  | .local _ .vmem, ⟨9, _⟩ => ⟨S416x1024, .f32⟩
  | .local _ .vmem, ⟨10, _⟩ => ⟨S1x1024, .f32⟩
  | .local _ .vmem, ⟨11, _⟩ => ⟨S4x1x1536, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S416x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S4160x1024 : Shape := ⟨2, ![4160, 1024]⟩
abbrev S1024 : Shape := ⟨1, ![1024]⟩
abbrev S1024x6144 : Shape := ⟨2, ![1024, 6144]⟩
abbrev S6144 : Shape := ⟨1, ![6144]⟩
abbrev S4160x6144 : Shape := ⟨2, ![4160, 6144]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S1x6144 : Shape := ⟨2, ![1, 6144]⟩
abbrev S4x1x1536 : Shape := ⟨3, ![4, 1, 1536]⟩

abbrev nBuf : Space → Nat
  | .hbm => 65
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S4160x1024, .f32⟩
  | .hbm, ⟨5, _⟩ => ⟨S4160x6144, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1, .f32⟩
  | .hbm, ⟨18, _⟩ => ⟨S_, .f32⟩
  | .hbm, ⟨19, _⟩ => ⟨S4160x1, .f32⟩
  | .hbm, ⟨20, _⟩ => ⟨S4160x1, .f32⟩
  | .hbm, ⟨21, _⟩ => ⟨S4160x1024, .f32⟩
  | .hbm, ⟨22, _⟩ => ⟨S4160x1024, .f32⟩
  | .hbm, ⟨23, _⟩ => ⟨S1x1024, .f32⟩
  | .hbm, ⟨24, _⟩ => ⟨S4160x1024, .f32⟩
  | .hbm, ⟨25, _⟩ => ⟨S4160x1024, .f32⟩
  | .hbm, ⟨26, _⟩ => ⟨S4160x6144, .f32⟩
  | .hbm, ⟨27, _⟩ => ⟨S1x6144, .f32⟩
  | .hbm, ⟨28, _⟩ => ⟨S4160x6144, .f32⟩
  | .hbm, ⟨29, _⟩ => ⟨S4160x6144, .f32⟩
  | .hbm, ⟨30, _⟩ => ⟨S4160x6144, .f32⟩
  | .hbm, ⟨31, _⟩ => ⟨S_, .f32⟩
  | .hbm, ⟨32, _⟩ => ⟨S6144, .f32⟩
  | .hbm, ⟨33, _⟩ => ⟨S1x6144, .f32⟩
  | .hbm, ⟨34, _⟩ => ⟨S_, .f32⟩
  | .hbm, ⟨35, _⟩ => ⟨S6144, .f32⟩
  | .hbm, ⟨36, _⟩ => ⟨S4160x1024, .f32⟩
  | .hbm, ⟨37, _⟩ => ⟨S4160x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4160x1024, .f32⟩
  | .hbm, ⟨42, _⟩ => ⟨S4160x1024, .f32⟩
  | .hbm, ⟨43, _⟩ => ⟨S_, .f32⟩
  | .hbm, ⟨44, _⟩ => ⟨S1024, .f32⟩
  | .hbm, ⟨45, _⟩ => ⟨S4160x1024, .f32⟩
  | .hbm, ⟨46, _⟩ => ⟨S_, .f32⟩
  | .hbm, ⟨47, _⟩ => ⟨S4160, .f32⟩
  | .hbm, ⟨48, _⟩ => ⟨S4160x1, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x1, .f32⟩
  | .hbm, ⟨53, _⟩ => ⟨S_, .f32⟩
  | .hbm, ⟨54, _⟩ => ⟨S4160x1, .f32⟩
  | .hbm, ⟨55, _⟩ => ⟨S4160x1, .f32⟩
  | .hbm, ⟨56, _⟩ => ⟨S_, .f32⟩
  | .hbm, ⟨57, _⟩ => ⟨S4160, .f32⟩
  | .hbm, ⟨58, _⟩ => ⟨S4160x1024, .f32⟩
  | .hbm, ⟨59, _⟩ => ⟨S4160x1024, .f32⟩
  | .hbm, ⟨60, _⟩ => ⟨S4160x1024, .f32⟩
  | .hbm, ⟨61, _⟩ => ⟨S4160x1024, .f32⟩
  | .hbm, ⟨62, _⟩ => ⟨S4160x1024, .f32⟩
  | .hbm, ⟨63, _⟩ => ⟨S1x1024, .f32⟩
  | .hbm, ⟨64, _⟩ => ⟨S4x1x1536, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩

abbrev nD : Nat := 1
abbrev τ : Topo := Topo.v7x

variable {F : FTy → Type} [FloatOps F]
-- ==== Kernel3.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S416x1024 : Shape := ⟨2, ![416, 1024]⟩
abbrev S416x2816 : Shape := ⟨2, ![416, 2816]⟩
abbrev S1x256x1024 : Shape := ⟨3, ![1, 256, 1024]⟩
abbrev S256x1024 : Shape := ⟨2, ![256, 1024]⟩
abbrev S416x256 : Shape := ⟨2, ![416, 256]⟩
abbrev S1x128x1024 : Shape := ⟨3, ![1, 128, 1024]⟩
abbrev S128x1024 : Shape := ⟨2, ![128, 1024]⟩
abbrev S416x128 : Shape := ⟨2, ![416, 128]⟩
abbrev S416x1408 : Shape := ⟨2, ![416, 1408]⟩
abbrev S1x1024x1408 : Shape := ⟨3, ![1, 1024, 1408]⟩
abbrev S1024x1408 : Shape := ⟨2, ![1024, 1408]⟩
abbrev S416 : Shape := ⟨1, ![416]⟩
abbrev S416x1 : Shape := ⟨2, ![416, 1]⟩

abbrev nBuf : Space → Nat
  | .hbm => 37
  | .vmem => 20
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S1x1024, .f32⟩
  | .hbm, ⟨19, _⟩ => ⟨S4160x1024, .f32⟩
  | .hbm, ⟨20, _⟩ => ⟨S4160x1024, .f32⟩
  | .hbm, ⟨21, _⟩ => ⟨S4160x5632, .f32⟩
  | .hbm, ⟨22, _⟩ => ⟨S4160x2816, .f32⟩
  | .hbm, ⟨23, _⟩ => ⟨S4160x2816, .f32⟩
  | .hbm, ⟨24, _⟩ => ⟨S1024x4x1408, .f32⟩
  | .hbm, ⟨25, _⟩ => ⟨S4x1024x1408, .f32⟩
  | .hbm, ⟨26, _⟩ => ⟨S4x1024x1408, .bf16⟩
  | .hbm, ⟨27, _⟩ => ⟨S1x1024, .f32⟩
  | .hbm, ⟨28, _⟩ => ⟨S4160x2816, .bf16⟩
  | .hbm, ⟨29, _⟩ => ⟨S4160x2816, .bf16⟩
  | .hbm, ⟨30, _⟩ => ⟨S2816x1024, .bf16⟩
  | .hbm, ⟨31, _⟩ => ⟨S2x1408x1024, .bf16⟩
  | .hbm, ⟨32, _⟩ => ⟨S4160x1024, .f32⟩
  | .hbm, ⟨33, _⟩ => ⟨S4160x2816, .bf16⟩
  | .hbm, ⟨34, _⟩ => ⟨S4160x2816, .bf16⟩
  | .hbm, ⟨35, _⟩ => ⟨S4160x1024, .bf16⟩
  | .hbm, ⟨36, _⟩ => ⟨S1x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S1x1024, .f32⟩
  | .local _ .vmem, ⟨5, _⟩ => ⟨S416x2816, .bf16⟩
  | .local _ .vmem, ⟨6, _⟩ => ⟨S416x2816, .bf16⟩
  | .local _ .vmem, ⟨7, _⟩ => ⟨S416x2816, .bf16⟩
  | .local _ .vmem, ⟨8, _⟩ => ⟨S416x2816, .bf16⟩
  | .local _ .vmem, ⟨9, _⟩ => ⟨S4x1024x1408, .bf16⟩
  | .local _ .vmem, ⟨10, _⟩ => ⟨S2x1408x1024, .bf16⟩
  | .local _ .vmem, ⟨11, _⟩ => ⟨S416x1024, .f32⟩
  | .local _ .vmem, ⟨12, _⟩ => ⟨S416x1024, .f32⟩
  | .local _ .vmem, ⟨13, _⟩ => ⟨S416x2816, .bf16⟩
  | .local _ .vmem, ⟨14, _⟩ => ⟨S416x2816, .bf16⟩
  | .local _ .vmem, ⟨15, _⟩ => ⟨S416x2816, .bf16⟩
  | .local _ .vmem, ⟨16, _⟩ => ⟨S416x2816, .bf16⟩
  | .local _ .vmem, ⟨17, _⟩ => ⟨S416x1024, .bf16⟩
  | .local _ .vmem, ⟨18, _⟩ => ⟨S416x1024, .bf16⟩
  | .local _ .vmem, ⟨19, _⟩ => ⟨S1x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S416x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩

abbrev nBuf : Space → Nat
  | .hbm => 91
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S_, .f32⟩
  | .hbm, ⟨18, _⟩ => ⟨S4160x1, .f32⟩
  | .hbm, ⟨19, _⟩ => ⟨S4160x1, .f32⟩
  | .hbm, ⟨20, _⟩ => ⟨S4160x1024, .f32⟩
  | .hbm, ⟨21, _⟩ => ⟨S4160x1024, .f32⟩
  | .hbm, ⟨22, _⟩ => ⟨S1x1024, .f32⟩
  | .hbm, ⟨23, _⟩ => ⟨S4160x1024, .f32⟩
  | .hbm, ⟨24, _⟩ => ⟨S4160x1024, .f32⟩
  | .hbm, ⟨25, _⟩ => ⟨S4160x5632, .f32⟩
  | .hbm, ⟨26, _⟩ => ⟨S4160x2816, .f32⟩
  | .hbm, ⟨27, _⟩ => ⟨S4160x2816, .f32⟩
  | .hbm, ⟨28, _⟩ => ⟨S4160x2816, .f32⟩
  | .hbm, ⟨29, _⟩ => ⟨S4160x2816, .f32⟩
  | .hbm, ⟨30, _⟩ => ⟨S_, .f32⟩
  | .hbm, ⟨31, _⟩ => ⟨S4160x2816, .f32⟩
  | .hbm, ⟨32, _⟩ => ⟨S4160x2816, .f32⟩
  | .hbm, ⟨33, _⟩ => ⟨S_, .f32⟩
  | .hbm, ⟨34, _⟩ => ⟨S4160x2816, .f32⟩
  | .hbm, ⟨35, _⟩ => ⟨S4160x2816, .f32⟩
  | .hbm, ⟨36, _⟩ => ⟨S_, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x1024, .f32⟩
  | .hbm, ⟨43, _⟩ => ⟨S_, .f32⟩
  | .hbm, ⟨44, _⟩ => ⟨S4160x1024, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S_, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x2816, .f32⟩
  | .hbm, ⟨53, _⟩ => ⟨S4160x2816, .f32⟩
  | .hbm, ⟨54, _⟩ => ⟨S4160x2816, .f32⟩
  | .hbm, ⟨55, _⟩ => ⟨S4160x2816, .f32⟩
  | .hbm, ⟨56, _⟩ => ⟨S4160x2816, .f32⟩
  | .hbm, ⟨57, _⟩ => ⟨S4160x2816, .f32⟩
  | .hbm, ⟨58, _⟩ => ⟨S4160x2816, .f32⟩
  | .hbm, ⟨59, _⟩ => ⟨S4160x5632, .f32⟩
  | .hbm, ⟨60, _⟩ => ⟨S4160x1024, .f32⟩
  | .hbm, ⟨61, _⟩ => ⟨S4160x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4160x1024, .f32⟩
  | .hbm, ⟨66, _⟩ => ⟨S4160x1024, .f32⟩
  | .hbm, ⟨67, _⟩ => ⟨S_, .f32⟩
  | .hbm, ⟨68, _⟩ => ⟨S1024, .f32⟩
  | .hbm, ⟨69, _⟩ => ⟨S4160x1024, .f32⟩
  | .hbm, ⟨70, _⟩ => ⟨S_, .f32⟩
  | .hbm, ⟨71, _⟩ => ⟨S4160, .f32⟩
  | .hbm, ⟨72, _⟩ => ⟨S4160x1, .f32⟩
  | .hbm, ⟨73, _⟩ => ⟨S4160x1024, .f32⟩
  | .hbm, ⟨74, _⟩ => ⟨S4160x1024, .f32⟩
  | .hbm, ⟨75, _⟩ => ⟨S4160x1, .f32⟩
  | .hbm, ⟨76, _⟩ => ⟨S_, .f32⟩
  | .hbm, ⟨77, _⟩ => ⟨S4160x1, .f32⟩
  | .hbm, ⟨78, _⟩ => ⟨S4160x1, .f32⟩
  | .hbm, ⟨79, _⟩ => ⟨S_, .f32⟩
  | .hbm, ⟨80, _⟩ => ⟨S4160, .f32⟩
  | .hbm, ⟨81, _⟩ => ⟨S4160x1024, .f32⟩
  | .hbm, ⟨82, _⟩ => ⟨S4160x1024, .f32⟩
  | .hbm, ⟨83, _⟩ => ⟨S4160x1024, .f32⟩
  | .hbm, ⟨84, _⟩ => ⟨S4160x1024, .f32⟩
  | .hbm, ⟨85, _⟩ => ⟨S4160x1024, .f32⟩
  | .hbm, ⟨86, _⟩ => ⟨S4160x1024, .f32⟩
  | .hbm, ⟨87, _⟩ => ⟨S4160x2816, .bf16⟩
  | .hbm, ⟨88, _⟩ => ⟨S4160x2816, .bf16⟩
  | .hbm, ⟨89, _⟩ => ⟨S4160x1024, .bf16⟩
  | .hbm, ⟨90, _⟩ => ⟨S1x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Kernel4.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S1024x4x1408 : Shape := ⟨3, ![1024, 4, 1408]⟩
abbrev S4x1024x1408 : Shape := ⟨3, ![4, 1024, 1408]⟩
abbrev S_ : Shape := ⟨0, ![]⟩
abbrev S1x1024 : Shape := ⟨2, ![1, 1024]⟩
abbrev S2x1408x1024 : Shape := ⟨3, ![2, 1408, 1024]⟩
abbrev S8x128 : Shape := ⟨2, ![8, 128]⟩
abbrev S4160x2816 : Shape := ⟨2, ![4160, 2816]⟩
abbrev S416x1024 : Shape := ⟨2, ![416, 1024]⟩
abbrev S416x2816 : Shape := ⟨2, ![416, 2816]⟩
abbrev S416 : Shape := ⟨1, ![416]⟩
abbrev S416x1 : Shape := ⟨2, ![416, 1]⟩
abbrev S1x1024x256 : Shape := ⟨3, ![1, 1024, 256]⟩
abbrev S1024x256 : Shape := ⟨2, ![1024, 256]⟩
abbrev S416x256 : Shape := ⟨2, ![416, 256]⟩
abbrev S1x1024x128 : Shape := ⟨3, ![1, 1024, 128]⟩
abbrev S1024x128 : Shape := ⟨2, ![1024, 128]⟩
abbrev S416x128 : Shape := ⟨2, ![416, 128]⟩
abbrev S416x1408 : Shape := ⟨2, ![416, 1408]⟩
abbrev S1x1408x1024 : Shape := ⟨3, ![1, 1408, 1024]⟩
abbrev S1408x1024 : Shape := ⟨2, ![1408, 1024]⟩
abbrev S1x416x1024 : Shape := ⟨3, ![1, 416, 1024]⟩
abbrev S1 : Shape := ⟨1, ![1]⟩
abbrev S1x1x1 : Shape := ⟨3, ![1, 1, 1]⟩

abbrev nBuf : Space → Nat
  | .hbm => 22
  | .vmem => 20
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S_, .f32⟩
  | .hbm, ⟨10, _⟩ => ⟨S4160x1024, .f32⟩
  | .hbm, ⟨11, _⟩ => ⟨S1x1024, .f32⟩
  | .hbm, ⟨12, _⟩ => ⟨S2816x1024, .bf16⟩
  | .hbm, ⟨13, _⟩ => ⟨S1x1024, .f32⟩
  | .hbm, ⟨14, _⟩ => ⟨S2x1408x1024, .bf16⟩
  | .hbm, ⟨15, _⟩ => ⟨S4160x1024, .f32⟩
  | .hbm, ⟨16, _⟩ => ⟨S8x128, .f32⟩
  | .hbm, ⟨17, _⟩ => ⟨S1x1024, .f32⟩
  | .hbm, ⟨18, _⟩ => ⟨S4160x2816, .bf16⟩
  | .hbm, ⟨19, _⟩ => ⟨S4160x2816, .bf16⟩
  | .hbm, ⟨20, _⟩ => ⟨S4160x2816, .bf16⟩
  | .hbm, ⟨21, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S4x1024x1408, .bf16⟩
  | .local _ .vmem, ⟨4, _⟩ => ⟨S2x1408x1024, .bf16⟩
  | .local _ .vmem, ⟨5, _⟩ => ⟨S1x1024, .f32⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S8x128, .f32⟩
  | .local _ .vmem, ⟨11, _⟩ => ⟨S1x1024, .f32⟩
  | .local _ .vmem, ⟨12, _⟩ => ⟨S416x2816, .bf16⟩
  | .local _ .vmem, ⟨13, _⟩ => ⟨S416x2816, .bf16⟩
  | .local _ .vmem, ⟨14, _⟩ => ⟨S416x2816, .bf16⟩
  | .local _ .vmem, ⟨15, _⟩ => ⟨S416x2816, .bf16⟩
  | .local _ .vmem, ⟨16, _⟩ => ⟨S416x2816, .bf16⟩
  | .local _ .vmem, ⟨17, _⟩ => ⟨S416x2816, .bf16⟩
  | .local _ .vmem, ⟨18, _⟩ => ⟨S416x1024, .bf16⟩
  | .local _ .vmem, ⟨19, _⟩ => ⟨S416x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S416x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference4Ideal.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S4096x1024 : Shape := ⟨2, ![4096, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩
abbrev S4096 : Shape := ⟨1, ![4096]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S4096x1024, .f32⟩
  | .hbm, ⟨6, _⟩ => ⟨S4160x1024, .f32⟩
  | .hbm, ⟨7, _⟩ => ⟨S_, .f32⟩
  | .hbm, ⟨8, _⟩ => ⟨S4160, .f32⟩
  | .hbm, ⟨9, _⟩ => ⟨S4160x1, .f32⟩
  | .hbm, ⟨10, _⟩ => ⟨S_, .f32⟩
  | .hbm, ⟨11, _⟩ => ⟨S4160x1, .f32⟩
  | .hbm, ⟨12, _⟩ => ⟨S4160x1, .f32⟩
  | .hbm, ⟨13, _⟩ => ⟨S_, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S4160x1024, .f32⟩
  | .hbm, ⟨18, _⟩ => ⟨S4160x1024, .f32⟩
  | .hbm, ⟨19, _⟩ => ⟨S1x1024, .f32⟩
  | .hbm, ⟨20, _⟩ => ⟨S4160x1024, .f32⟩
  | .hbm, ⟨21, _⟩ => ⟨S4160x1024, .f32⟩
  | .hbm, ⟨22, _⟩ => ⟨S4160x5632, .f32⟩
  | .hbm, ⟨23, _⟩ => ⟨S4160x2816, .f32⟩
  | .hbm, ⟨24, _⟩ => ⟨S4160x2816, .f32⟩
  | .hbm, ⟨25, _⟩ => ⟨S4160x2816, .f32⟩
  | .hbm, ⟨26, _⟩ => ⟨S4160x2816, .f32⟩
  | .hbm, ⟨27, _⟩ => ⟨S_, .f32⟩
  | .hbm, ⟨28, _⟩ => ⟨S4160x2816, .f32⟩
  | .hbm, ⟨29, _⟩ => ⟨S4160x2816, .f32⟩
  | .hbm, ⟨30, _⟩ => ⟨S_, .f32⟩
  | .hbm, ⟨31, _⟩ => ⟨S4160x2816, .f32⟩
  | .hbm, ⟨32, _⟩ => ⟨S4160x2816, .f32⟩
  | .hbm, ⟨33, _⟩ => ⟨S4160x2816, .f32⟩
  | .hbm, ⟨34, _⟩ => ⟨S4160x2816, .f32⟩
  | .hbm, ⟨35, _⟩ => ⟨S4160x1024, .f32⟩
  | .hbm, ⟨36, _⟩ => ⟨S_, .f32⟩
  | .hbm, ⟨37, _⟩ => ⟨S4160x1024, .f32⟩
  | .hbm, ⟨38, _⟩ => ⟨S4160x1024, .f32⟩
  | .hbm, ⟨39, _⟩ => ⟨S4160x1024, .f32⟩
  | .hbm, ⟨40, _⟩ => ⟨S4160x1024, .f32⟩
  | .hbm, ⟨41, _⟩ => ⟨S_, .f32⟩
  | .hbm, ⟨42, _⟩ => ⟨S4160, .f32⟩
  | .hbm, ⟨43, _⟩ => ⟨S4160x1, .f32⟩
  | .hbm, ⟨44, _⟩ => ⟨S_, .f32⟩
  | .hbm, ⟨45, _⟩ => ⟨S4160x1, .f32⟩
  | .hbm, ⟨46, _⟩ => ⟨S4160x1, .f32⟩
  | .hbm, ⟨47, _⟩ => ⟨S_, .f32⟩
  | .hbm, ⟨48, _⟩ => ⟨S4160x1, .f32⟩
  | .hbm, ⟨49, _⟩ => ⟨S4160x1, .f32⟩
  | .hbm, ⟨50, _⟩ => ⟨S4160x1, .f32⟩
  | .hbm, ⟨51, _⟩ => ⟨S4160x1, .f32⟩
  | .hbm, ⟨52, _⟩ => ⟨S_, .f32⟩
  | .hbm, ⟨53, _⟩ => ⟨S4160x1, .f32⟩
  | .hbm, ⟨54, _⟩ => ⟨S4160x1, .f32⟩
  | .hbm, ⟨55, _⟩ => ⟨S4160x1024, .f32⟩
  | .hbm, ⟨56, _⟩ => ⟨S4160x1024, .f32⟩
  | .hbm, ⟨57, _⟩ => ⟨S1x1024, .f32⟩
  | .hbm, ⟨58, _⟩ => ⟨S4160x1024, .f32⟩
  | .hbm, ⟨59, _⟩ => ⟨S4160x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S_, .f32⟩
  | .hbm, ⟨69, _⟩ => ⟨S4096, .f32⟩
  | .hbm, ⟨70, _⟩ => ⟨S4096, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S4160x1024, .f32⟩
  | .hbm, ⟨86, _⟩ => ⟨S4160x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S4160x1024, .f32⟩
  | .hbm, ⟨91, _⟩ => ⟨S4160x1024, .f32⟩
  | .hbm, ⟨92, _⟩ => ⟨S_, .f32⟩
  | .hbm, ⟨93, _⟩ => ⟨S1024, .f32⟩
  | .hbm, ⟨94, _⟩ => ⟨S4160x1024, .f32⟩
  | .hbm, ⟨95, _⟩ => ⟨S_, .f32⟩
  | .hbm, ⟨96, _⟩ => ⟨S4160, .f32⟩
  | .hbm, ⟨97, _⟩ => ⟨S4160x1, .f32⟩
  | .hbm, ⟨98, _⟩ => ⟨S4160x1024, .f32⟩
  | .hbm, ⟨99, _⟩ => ⟨S4160x1024, .f32⟩
  | .hbm, ⟨100, _⟩ => ⟨S4160x1, .f32⟩
  | .hbm, ⟨101, _⟩ => ⟨S_, .f32⟩
  | .hbm, ⟨102, _⟩ => ⟨S4160x1, .f32⟩
  | .hbm, ⟨103, _⟩ => ⟨S4160x1, .f32⟩
  | .hbm, ⟨104, _⟩ => ⟨S_, .f32⟩
  | .hbm, ⟨105, _⟩ => ⟨S4160, .f32⟩
  | .hbm, ⟨106, _⟩ => ⟨S4160x1024, .f32⟩
  | .hbm, ⟨107, _⟩ => ⟨S4160x1024, .f32⟩
  | .hbm, ⟨108, _⟩ => ⟨S4160x1024, .f32⟩
  | .hbm, ⟨109, _⟩ => ⟨S4160x1024, .f32⟩
  | .hbm, ⟨110, _⟩ => ⟨S4160x1024, .f32⟩
  | .hbm, ⟨111, _⟩ => ⟨S8x128, .f32⟩
  | .hbm, ⟨112, _⟩ => ⟨S1x1024, .f32⟩
  | .hbm, ⟨113, _⟩ => ⟨S4160x2816, .bf16⟩
  | .hbm, ⟨114, _⟩ => ⟨S4160x2816, .bf16⟩
  | .hbm, ⟨115, _⟩ => ⟨S4160x2816, .bf16⟩
  | .hbm, ⟨116, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_cst_12 : Ref sig .tc := ⟨.hbm, 75, rfl⟩
abbrev main_cst_13 : Ref sig .tc := ⟨.hbm, 76, rfl⟩
abbrev main_v48 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_15 : Ref sig .tc := ⟨.hbm, 84, rfl⟩
abbrev main_v54 : Ref sig .tc := ⟨.hbm, 85, rfl⟩
abbrev main_v55 : Ref sig .tc := ⟨.hbm, 86, rfl⟩
abbrev main_cst_16 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_17 : Ref sig .tc := ⟨.hbm, 92, rfl⟩
abbrev main_v60 : Ref sig .tc := ⟨.hbm, 93, rfl⟩
abbrev main_v61 : Ref sig .tc := ⟨.hbm, 94, rfl⟩
abbrev main_cst_18 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_cst_20 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== Kernel5.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩
abbrev S1024x4x1408 : Shape := ⟨3, ![1024, 4, 1408]⟩
abbrev S4x1024x1408 : Shape := ⟨3, ![4, 1024, 1408]⟩
abbrev S2x1408x1024 : Shape := ⟨3, ![2, 1408, 1024]⟩
abbrev S4096x1024 : Shape := ⟨2, ![4096, 1024]⟩
abbrev S416x1024 : Shape := ⟨2, ![416, 1024]⟩
abbrev S416x2816 : Shape := ⟨2, ![416, 2816]⟩
abbrev S1 : Shape := ⟨1, ![1]⟩
abbrev S1x256x1024 : Shape := ⟨3, ![1, 256, 1024]⟩
abbrev S256x1024 : Shape := ⟨2, ![256, 1024]⟩
abbrev S416x256 : Shape := ⟨2, ![416, 256]⟩
abbrev S1x128x1024 : Shape := ⟨3, ![1, 128, 1024]⟩
abbrev S128x1024 : Shape := ⟨2, ![128, 1024]⟩
abbrev S416x128 : Shape := ⟨2, ![416, 128]⟩
abbrev S416x1408 : Shape := ⟨2, ![416, 1408]⟩
abbrev S1x1024x1408 : Shape := ⟨3, ![1, 1024, 1408]⟩
abbrev S1024x1408 : Shape := ⟨2, ![1024, 1408]⟩
abbrev S416 : Shape := ⟨1, ![416]⟩
abbrev S416x1 : Shape := ⟨2, ![416, 1]⟩
abbrev S400x1024 : Shape := ⟨2, ![400, 1024]⟩
abbrev S368x1024 : Shape := ⟨2, ![368, 1024]⟩

abbrev nBuf : Space → Nat
  | .hbm => 38
  | .vmem => 21
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1024, .f32⟩
  | .hbm, ⟨17, _⟩ => ⟨S4160x1024, .f32⟩
  | .hbm, ⟨18, _⟩ => ⟨S1x1024, .f32⟩
  | .hbm, ⟨19, _⟩ => ⟨S4160x1024, .f32⟩
  | .hbm, ⟨20, _⟩ => ⟨S4160x1024, .f32⟩
  | .hbm, ⟨21, _⟩ => ⟨S4160x5632, .f32⟩
  | .hbm, ⟨22, _⟩ => ⟨S4160x2816, .f32⟩
  | .hbm, ⟨23, _⟩ => ⟨S4160x2816, .f32⟩
  | .hbm, ⟨24, _⟩ => ⟨S1024x4x1408, .f32⟩
  | .hbm, ⟨25, _⟩ => ⟨S4x1024x1408, .f32⟩
  | .hbm, ⟨26, _⟩ => ⟨S4x1024x1408, .bf16⟩
  | .hbm, ⟨27, _⟩ => ⟨S1x1024, .f32⟩
  | .hbm, ⟨28, _⟩ => ⟨S4160x2816, .bf16⟩
  | .hbm, ⟨29, _⟩ => ⟨S4160x2816, .bf16⟩
  | .hbm, ⟨30, _⟩ => ⟨S2816x1024, .bf16⟩
  | .hbm, ⟨31, _⟩ => ⟨S2x1408x1024, .bf16⟩
  | .hbm, ⟨32, _⟩ => ⟨S4160x1024, .f32⟩
  | .hbm, ⟨33, _⟩ => ⟨S4160x2816, .bf16⟩
  | .hbm, ⟨34, _⟩ => ⟨S4160x2816, .bf16⟩
  | .hbm, ⟨35, _⟩ => ⟨S4160x1024, .bf16⟩
  | .hbm, ⟨36, _⟩ => ⟨S1x1024, .f32⟩
  | .hbm, ⟨37, _⟩ => ⟨S4096x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S1x1024, .f32⟩
  | .local _ .vmem, ⟨5, _⟩ => ⟨S416x2816, .bf16⟩
  | .local _ .vmem, ⟨6, _⟩ => ⟨S416x2816, .bf16⟩
  | .local _ .vmem, ⟨7, _⟩ => ⟨S416x2816, .bf16⟩
  | .local _ .vmem, ⟨8, _⟩ => ⟨S416x2816, .bf16⟩
  | .local _ .vmem, ⟨9, _⟩ => ⟨S4x1024x1408, .bf16⟩
  | .local _ .vmem, ⟨10, _⟩ => ⟨S2x1408x1024, .bf16⟩
  | .local _ .vmem, ⟨11, _⟩ => ⟨S416x1024, .f32⟩
  | .local _ .vmem, ⟨12, _⟩ => ⟨S416x1024, .f32⟩
  | .local _ .vmem, ⟨13, _⟩ => ⟨S416x2816, .bf16⟩
  | .local _ .vmem, ⟨14, _⟩ => ⟨S416x2816, .bf16⟩
  | .local _ .vmem, ⟨15, _⟩ => ⟨S416x2816, .bf16⟩
  | .local _ .vmem, ⟨16, _⟩ => ⟨S416x2816, .bf16⟩
  | .local _ .vmem, ⟨17, _⟩ => ⟨S416x1024, .bf16⟩
  | .local _ .vmem, ⟨18, _⟩ => ⟨S416x1024, .bf16⟩
  | .local _ .vmem, ⟨19, _⟩ => ⟨S1x1024, .f32⟩
  | .local _ .vmem, ⟨20, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev main_v24_4 : Ref sig .tc := ⟨.hbm, 36, rfl⟩
abbrev main_v24_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c1_i32 : BitVec 32 := 1#32
  let v423 : BitVec 1 := Scalar.cmpi .eq arg0 c1_i32
  let v424 : BitVec 32 := Scalar.extui v423
  let c0_i32_232 : BitVec 32 := 0#32
  let v425 : BitVec 1 := Scalar.cmpi .ne v424 c0_i32_232
  v425

def k0_mult1 : BitVec 32 :=
  let c0_i32_245 : BitVec 32 := 0#32
  c0_i32_245
def k0_cond3 (i : grid0.Coords) : BitVec 1 :=
  let arg0 : BitVec 32 := BitVec.ofNat 32 (i 0).val
  let c1_i32_233 : BitVec 32 := 1#32
  let v426 : BitVec 1 := Scalar.cmpi .sgt arg0 c1_i32_233
  let v427 : BitVec 32 := Scalar.extui v426
  let c0_i32_234 : BitVec 32 := 0#32
  let v428 : BitVec 1 := Scalar.cmpi .ne v427 c0_i32_234
  v428

def k0_mult2 (i : grid0.Coords) : BitVec 32 :=
  let arg0 : BitVec 32 := BitVec.ofNat 32 (i 0).val
  let c1_i32_245 : BitVec 32 := 1#32
  let v445 : BitVec 32 := Scalar.subi arg0 c1_i32_245
  let c416_i32 : BitVec 32 := 416#32
  let v446 : BitVec 32 := Scalar.muli v445 c416_i32
  let c0_i32_246 : BitVec 32 := 0#32
  let v447 : BitVec 32 := Scalar.addi v446 c0_i32_246
  let c16_i32 : BitVec 32 := 16#32
  let v448 : BitVec 32 := Scalar.subi v447 c16_i32
  v448
def k0_off1 (i : grid0.Coords) : Fin 2 → Nat :=
  let arg0 : BitVec 32 := BitVec.ofNat 32 (i 0).val
  let c1_i32_245 : BitVec 32 := 1#32
  let v445 : BitVec 32 := Scalar.subi arg0 c1_i32_245
  let c416_i32 : BitVec 32 := 416#32
  let v446 : BitVec 32 := Scalar.muli v445 c416_i32
  let c0_i32_246 : BitVec 32 := 0#32
  let v447 : BitVec 32 := Scalar.addi v446 c0_i32_246
  let c16_i32 : BitVec 32 := 16#32
  let v448 : BitVec 32 := Scalar.subi v447 c16_i32
  let v449 : BitVec 32 := v448
  let c0_i32_248 : BitVec 32 := 0#32
  ![v449.toNat, 0]
def k0_cond4 (i : grid0.Coords) : BitVec 1 :=
  let arg0 : BitVec 32 := BitVec.ofNat 32 (i 0).val
  let c0_i32_239 : BitVec 32 := 0#32
  let v434 : BitVec 1 := Scalar.cmpi .eq arg0 c0_i32_239
  let v435 : BitVec 32 := Scalar.extui v434
  let c0_i32_240 : BitVec 32 := 0#32
  let v436 : BitVec 1 := Scalar.cmpi .ne v435 c0_i32_240
  v436

def k0_mult3 : BitVec 32 :=
  let c0_i32_245 : BitVec 32 := 0#32
  c0_i32_245
def k0_cond5 (i : grid0.Coords) : BitVec 1 :=
  let arg0 : BitVec 32 := BitVec.ofNat 32 (i 0).val
  let c0_i32_241 : BitVec 32 := 0#32
  let v437 : BitVec 1 := Scalar.cmpi .sgt arg0 c0_i32_241
  let c9_i32 : BitVec 32 := 9#32
  let v438 : BitVec 1 := Scalar.cmpi .slt arg0 c9_i32
  let v439 : BitVec 1 := Scalar.andi v437 v438
  let v440 : BitVec 32 := Scalar.extui v439
  let c0_i32_242 : BitVec 32 := 0#32
  let v441 : BitVec 1 := Scalar.cmpi .ne v440 c0_i32_242
  v441

def k0_mult4 (i : grid0.Coords) : BitVec 32 :=
  let arg0 : BitVec 32 := BitVec.ofNat 32 (i 0).val
  let c416_i32 : BitVec 32 := 416#32
  let v445 : BitVec 32 := Scalar.muli arg0 c416_i32
  let c0_i32_245 : BitVec 32 := 0#32
  let v446 : BitVec 32 := Scalar.addi v445 c0_i32_245
  let c16_i32 : BitVec 32 := 16#32
  let v447 : BitVec 32 := Scalar.subi v446 c16_i32
  v447
def k0_off2 (i : grid0.Coords) : Fin 2 → Nat :=
  let arg0 : BitVec 32 := BitVec.ofNat 32 (i 0).val
  let c416_i32 : BitVec 32 := 416#32
  let v445 : BitVec 32 := Scalar.muli arg0 c416_i32
  let c0_i32_245 : BitVec 32 := 0#32
  let v446 : BitVec 32 := Scalar.addi v445 c0_i32_245
  let c16_i32 : BitVec 32 := 16#32
  let v447 : BitVec 32 := Scalar.subi v446 c16_i32
  let v448 : BitVec 32 := v447
  let c0_i32_247 : BitVec 32 := 0#32
  ![v448.toNat, 0]
def k0_cond6 (i : grid0.Coords) : BitVec 1 :=
  let arg0 : BitVec 32 := BitVec.ofNat 32 (i 0).val
  let c9_i32_243 : BitVec 32 := 9#32
  let v442 : BitVec 1 := Scalar.cmpi .eq arg0 c9_i32_243
  let v443 : BitVec 32 := Scalar.extui v442
  let c0_i32_244 : BitVec 32 := 0#32
  let v444 : BitVec 1 := Scalar.cmpi .ne v443 c0_i32_244
  v444

def k0_mult5 : BitVec 32 :=
  let c3728_i32 : BitVec 32 := 3728#32
  c3728_i32
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S416x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1408x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S416x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S416x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩
abbrev S4096x1024 : Shape := ⟨2, ![4096, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S4160x1024, .f32⟩
  | .hbm, ⟨6, _⟩ => ⟨S_, .f32⟩
  | .hbm, ⟨7, _⟩ => ⟨S4160, .f32⟩
  | .hbm, ⟨8, _⟩ => ⟨S4160x1, .f32⟩
  | .hbm, ⟨9, _⟩ => ⟨S_, .f32⟩
  | .hbm, ⟨10, _⟩ => ⟨S4160x1, .f32⟩
  | .hbm, ⟨11, _⟩ => ⟨S4160x1, .f32⟩
  | .hbm, ⟨12, _⟩ => ⟨S_, .f32⟩
  | .hbm, ⟨13, _⟩ => ⟨S4160x1, .f32⟩
  | .hbm, ⟨14, _⟩ => ⟨S4160x1, .f32⟩
  | .hbm, ⟨15, _⟩ => ⟨S4160x1, .f32⟩
  | .hbm, ⟨16, _⟩ => ⟨S4160x1, .f32⟩
  | .hbm, ⟨17, _⟩ => ⟨S_, .f32⟩
  | .hbm, ⟨18, _⟩ => ⟨S4160x1, .f32⟩
  | .hbm, ⟨19, _⟩ => ⟨S4160x1, .f32⟩
  | .hbm, ⟨20, _⟩ => ⟨S4160x1024, .f32⟩
  | .hbm, ⟨21, _⟩ => ⟨S4160x1024, .f32⟩
  | .hbm, ⟨22, _⟩ => ⟨S1x1024, .f32⟩
  | .hbm, ⟨23, _⟩ => ⟨S4160x1024, .f32⟩
  | .hbm, ⟨24, _⟩ => ⟨S4160x1024, .f32⟩
  | .hbm, ⟨25, _⟩ => ⟨S4160x5632, .f32⟩
  | .hbm, ⟨26, _⟩ => ⟨S4160x2816, .f32⟩
  | .hbm, ⟨27, _⟩ => ⟨S4160x2816, .f32⟩
  | .hbm, ⟨28, _⟩ => ⟨S4160x2816, .f32⟩
  | .hbm, ⟨29, _⟩ => ⟨S4160x2816, .f32⟩
  | .hbm, ⟨30, _⟩ => ⟨S_, .f32⟩
  | .hbm, ⟨31, _⟩ => ⟨S4160x2816, .f32⟩
  | .hbm, ⟨32, _⟩ => ⟨S4160x2816, .f32⟩
  | .hbm, ⟨33, _⟩ => ⟨S_, .f32⟩
  | .hbm, ⟨34, _⟩ => ⟨S4160x2816, .f32⟩
  | .hbm, ⟨35, _⟩ => ⟨S4160x2816, .f32⟩
  | .hbm, ⟨36, _⟩ => ⟨S_, .f32⟩
  | .hbm, ⟨37, _⟩ => ⟨S4160x2816, .f32⟩
  | .hbm, ⟨38, _⟩ => ⟨S4160x2816, .f32⟩
  | .hbm, ⟨39, _⟩ => ⟨S4160x2816, .f32⟩
  | .hbm, ⟨40, _⟩ => ⟨S4160x2816, .f32⟩
  | .hbm, ⟨41, _⟩ => ⟨S4160x2816, .f32⟩
  | .hbm, ⟨42, _⟩ => ⟨S4160x1024, .f32⟩
  | .hbm, ⟨43, _⟩ => ⟨S_, .f32⟩
  | .hbm, ⟨44, _⟩ => ⟨S4160x1024, .f32⟩
  | .hbm, ⟨45, _⟩ => ⟨S4160x1024, .f32⟩
  | .hbm, ⟨46, _⟩ => ⟨S4160x1024, .f32⟩
  | .hbm, ⟨47, _⟩ => ⟨S4160x1024, .f32⟩
  | .hbm, ⟨48, _⟩ => ⟨S_, .f32⟩
  | .hbm, ⟨49, _⟩ => ⟨S4160x1024, .f32⟩
  | .hbm, ⟨50, _⟩ => ⟨S4160x1024, .f32⟩
  | .hbm, ⟨51, _⟩ => ⟨S4160x1024, .f32⟩
  | .hbm, ⟨52, _⟩ => ⟨S4160x2816, .f32⟩
  | .hbm, ⟨53, _⟩ => ⟨S4160x2816, .f32⟩
  | .hbm, ⟨54, _⟩ => ⟨S4160x2816, .f32⟩
  | .hbm, ⟨55, _⟩ => ⟨S4160x2816, .f32⟩
  | .hbm, ⟨56, _⟩ => ⟨S4160x2816, .f32⟩
  | .hbm, ⟨57, _⟩ => ⟨S4160x2816, .f32⟩
  | .hbm, ⟨58, _⟩ => ⟨S4160x2816, .f32⟩
  | .hbm, ⟨59, _⟩ => ⟨S4160x5632, .f32⟩
  | .hbm, ⟨60, _⟩ => ⟨S4160x1024, .f32⟩
  | .hbm, ⟨61, _⟩ => ⟨S4160x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4160x1024, .f32⟩
  | .hbm, ⟨66, _⟩ => ⟨S4160x1024, .f32⟩
  | .hbm, ⟨67, _⟩ => ⟨S_, .f32⟩
  | .hbm, ⟨68, _⟩ => ⟨S1024, .f32⟩
  | .hbm, ⟨69, _⟩ => ⟨S4160x1024, .f32⟩
  | .hbm, ⟨70, _⟩ => ⟨S_, .f32⟩
  | .hbm, ⟨71, _⟩ => ⟨S4160, .f32⟩
  | .hbm, ⟨72, _⟩ => ⟨S4160x1, .f32⟩
  | .hbm, ⟨73, _⟩ => ⟨S4160x1024, .f32⟩
  | .hbm, ⟨74, _⟩ => ⟨S4160x1024, .f32⟩
  | .hbm, ⟨75, _⟩ => ⟨S4160x1, .f32⟩
  | .hbm, ⟨76, _⟩ => ⟨S_, .f32⟩
  | .hbm, ⟨77, _⟩ => ⟨S4160x1, .f32⟩
  | .hbm, ⟨78, _⟩ => ⟨S4160x1, .f32⟩
  | .hbm, ⟨79, _⟩ => ⟨S_, .f32⟩
  | .hbm, ⟨80, _⟩ => ⟨S4160, .f32⟩
  | .hbm, ⟨81, _⟩ => ⟨S4160x1024, .f32⟩
  | .hbm, ⟨82, _⟩ => ⟨S4160x1024, .f32⟩
  | .hbm, ⟨83, _⟩ => ⟨S4160x1024, .f32⟩
  | .hbm, ⟨84, _⟩ => ⟨S4160x1024, .f32⟩
  | .hbm, ⟨85, _⟩ => ⟨S4160x1024, .f32⟩
  | .hbm, ⟨86, _⟩ => ⟨S4160x1024, .f32⟩
  | .hbm, ⟨87, _⟩ => ⟨S4160x2816, .bf16⟩
  | .hbm, ⟨88, _⟩ => ⟨S4160x2816, .bf16⟩
  | .hbm, ⟨89, _⟩ => ⟨S4160x1024, .bf16⟩
  | .hbm, ⟨90, _⟩ => ⟨S1x1024, .f32⟩
  | .hbm, ⟨91, _⟩ => ⟨S4096x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_6 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_8 : Ref sig .tc := ⟨.hbm, 76, rfl⟩
abbrev main_v47 : Ref sig .tc := ⟨.hbm, 77, rfl⟩
abbrev main_v48 : Ref sig .tc := ⟨.hbm, 78, rfl⟩
abbrev main_cst_9 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Kernel6.lean ====
abbrev S4160x1024 : Shape := ⟨2, ![4160, 1024]⟩
abbrev S1024 : Shape := ⟨1, ![1024]⟩
abbrev S1024x6144 : Shape := ⟨2, ![1024, 6144]⟩
abbrev S6144 : Shape := ⟨1, ![6144]⟩
abbrev S1024x4x1536 : Shape := ⟨3, ![1024, 4, 1536]⟩
abbrev S4x1024x1536 : Shape := ⟨3, ![4, 1024, 1536]⟩
abbrev S1x1024 : Shape := ⟨2, ![1, 1024]⟩
abbrev S1x6144 : Shape := ⟨2, ![1, 6144]⟩
abbrev S4160x6144 : Shape := ⟨2, ![4160, 6144]⟩
abbrev S416x1024 : Shape := ⟨2, ![416, 1024]⟩
abbrev S416x6144 : Shape := ⟨2, ![416, 6144]⟩
abbrev S416 : Shape := ⟨1, ![416]⟩
abbrev S416x1 : Shape := ⟨2, ![416, 1]⟩
abbrev S1x1024x1536 : Shape := ⟨3, ![1, 1024, 1536]⟩
abbrev S1024x1536 : Shape := ⟨2, ![1024, 1536]⟩
abbrev S416x1536 : Shape := ⟨2, ![416, 1536]⟩
abbrev S1x1536 : Shape := ⟨2, ![1, 1536]⟩

abbrev nBuf : Space → Nat
  | .hbm => 11
  | .vmem => 9
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S1024x4x1536, .f32⟩
  | .hbm, ⟨5, _⟩ => ⟨S4x1024x1536, .f32⟩
  | .hbm, ⟨6, _⟩ => ⟨S4x1024x1536, .bf16⟩
  | .hbm, ⟨7, _⟩ => ⟨S1x1024, .f32⟩
  | .hbm, ⟨8, _⟩ => ⟨S1x6144, .f32⟩
  | .hbm, ⟨9, _⟩ => ⟨S4160x6144, .f32⟩
  | .hbm, ⟨10, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S4x1024x1536, .bf16⟩
  | .local _ .vmem, ⟨4, _⟩ => ⟨S1x6144, .f32⟩
  | .local _ .vmem, ⟨5, _⟩ => ⟨S416x6144, .f32⟩
  | .local _ .vmem, ⟨6, _⟩ => ⟨S416x6144, .f32⟩
  | .local _ .vmem, ⟨7, _⟩ => ⟨S416x1024, .bf16⟩
  | .local _ .vmem, ⟨8, _⟩ => ⟨S416x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4160x1024 : Shape := ⟨2, ![4160, 1024]⟩
abbrev S1024 : Shape := ⟨1, ![1024]⟩
abbrev S1024x6144 : Shape := ⟨2, ![1024, 6144]⟩
abbrev S6144 : Shape := ⟨1, ![6144]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x6144 : Shape := ⟨2, ![4160, 6144]⟩
abbrev S1x6144 : Shape := ⟨2, ![1, 6144]⟩

abbrev nBuf : Space → Nat
  | .hbm => 25
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x6144, .f32⟩
  | .hbm, ⟨3, _⟩ => ⟨S6144, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S1x1024, .f32⟩
  | .hbm, ⟨18, _⟩ => ⟨S4160x1024, .f32⟩
  | .hbm, ⟨19, _⟩ => ⟨S4160x1024, .f32⟩
  | .hbm, ⟨20, _⟩ => ⟨S4160x6144, .f32⟩
  | .hbm, ⟨21, _⟩ => ⟨S1x6144, .f32⟩
  | .hbm, ⟨22, _⟩ => ⟨S4160x6144, .f32⟩
  | .hbm, ⟨23, _⟩ => ⟨S4160x6144, .f32⟩
  | .hbm, ⟨24, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S4160x1024 : Shape := ⟨2, ![4160, 1024]⟩
abbrev S4160x6144 : Shape := ⟨2, ![4160, 6144]⟩
abbrev S1024x1024 : Shape := ⟨2, ![1024, 1024]⟩
abbrev S1024 : Shape := ⟨1, ![1024]⟩
abbrev S1x1024 : Shape := ⟨2, ![1, 1024]⟩
abbrev S416x1024 : Shape := ⟨2, ![416, 1024]⟩

abbrev nBuf : Space → Nat
  | .hbm => 15
  | .vmem => 16
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .f32⟩
  | .hbm, ⟨3, _⟩ => ⟨S4160x6144, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4160x1024, .bf16⟩
  | .hbm, ⟨9, _⟩ => ⟨S4160x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1024x1024, .bf16⟩
  | .hbm, ⟨14, _⟩ => ⟨S4160x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .bf16⟩
  | .local _ .vmem, ⟨3, _⟩ => ⟨S416x1024, .bf16⟩
  | .local _ .vmem, ⟨4, _⟩ => ⟨S416x1024, .bf16⟩
  | .local _ .vmem, ⟨5, _⟩ => ⟨S416x1024, .bf16⟩
  | .local _ .vmem, ⟨6, _⟩ => ⟨S416x1024, .f32⟩
  | .local _ .vmem, ⟨7, _⟩ => ⟨S416x1024, .f32⟩
  | .local _ .vmem, ⟨8, _⟩ => ⟨S416x1024, .f32⟩
  | .local _ .vmem, ⟨9, _⟩ => ⟨S416x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .bf16⟩
  | .local _ .vmem, ⟨14, _⟩ => ⟨S416x1024, .f32⟩
  | .local _ .vmem, ⟨15, _⟩ => ⟨S416x1024, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference7Ideal.lean ====
abbrev S4160x1024 : Shape := ⟨2, ![4160, 1024]⟩
abbrev S4160x6144 : Shape := ⟨2, ![4160, 6144]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S4160x1024, .f32⟩
  | .hbm, ⟨2, _⟩ => ⟨S4160x1024, .f32⟩
  | .hbm, ⟨3, _⟩ => ⟨S4160x6144, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S4160x1024, .f32⟩
  | .hbm, ⟨9, _⟩ => ⟨S4160x1024, .f32⟩
  | .hbm, ⟨10, _⟩ => ⟨S1x1024, .f32⟩
  | .hbm, ⟨11, _⟩ => ⟨S4160x1024, .f32⟩
  | .hbm, ⟨12, _⟩ => ⟨S4160x1024, .f32⟩
  | .hbm, ⟨13, _⟩ => ⟨S4160x1024, .f32⟩
  | .hbm, ⟨14, _⟩ => ⟨S4160x1024, .f32⟩
  | .hbm, ⟨15, _⟩ => ⟨S4160x1024, .f32⟩
  | .hbm, ⟨16, _⟩ => ⟨S4160x1024, .f32⟩
  | .hbm, ⟨17, _⟩ => ⟨S4160x1024, .f32⟩
  | .hbm, ⟨18, _⟩ => ⟨S4160x1024, .f32⟩
  | .hbm, ⟨19, _⟩ => ⟨S4160x1024, .f32⟩
  | .hbm, ⟨20, _⟩ => ⟨S4160x1024, .f32⟩
  | .hbm, ⟨21, _⟩ => ⟨S_, .f32⟩
  | .hbm, ⟨22, _⟩ => ⟨S4160x1024, .f32⟩
  | .hbm, ⟨23, _⟩ => ⟨S4160x1024, .f32⟩
  | .hbm, ⟨24, _⟩ => ⟨S_, .f32⟩
  | .hbm, ⟨25, _⟩ => ⟨S4160x1024, .f32⟩
  | .hbm, ⟨26, _⟩ => ⟨S4160x1024, .f32⟩
  | .hbm, ⟨27, _⟩ => ⟨S4160x1024, .f32⟩
  | .hbm, ⟨28, _⟩ => ⟨S4160x1024, .f32⟩
  | .hbm, ⟨29, _⟩ => ⟨S4160x1024, .f32⟩
  | .hbm, ⟨30, _⟩ => ⟨S_, .f32⟩
  | .hbm, ⟨31, _⟩ => ⟨S4160x1024, .f32⟩
  | .hbm, ⟨32, _⟩ => ⟨S4160x1024, .f32⟩
  | .hbm, ⟨33, _⟩ => ⟨S_, .f32⟩
  | .hbm, ⟨34, _⟩ => ⟨S4160x1024, .f32⟩
  | .hbm, ⟨35, _⟩ => ⟨S4160x1024, .f32⟩
  | .hbm, ⟨36, _⟩ => ⟨S4160x1024, .f32⟩
  | .hbm, ⟨37, _⟩ => ⟨S4160x1024, .f32⟩
  | .hbm, ⟨38, _⟩ => ⟨S4160x1024, .f32⟩
  | .hbm, ⟨39, _⟩ => ⟨S4160x1024, .f32⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Kernel8.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S2x1408x1024 : Shape := ⟨3, ![2, 1408, 1024]⟩
abbrev S4160x2816 : Shape := ⟨2, ![4160, 2816]⟩
abbrev S416x1024 : Shape := ⟨2, ![416, 1024]⟩
abbrev S416x2816 : Shape := ⟨2, ![416, 2816]⟩
abbrev S416 : Shape := ⟨1, ![416]⟩
abbrev S416x1 : Shape := ⟨2, ![416, 1]⟩
abbrev S1x1024x256 : Shape := ⟨3, ![1, 1024, 256]⟩
abbrev S1024x256 : Shape := ⟨2, ![1024, 256]⟩
abbrev S416x256 : Shape := ⟨2, ![416, 256]⟩
abbrev S1x1024x128 : Shape := ⟨3, ![1, 1024, 128]⟩
abbrev S1024x128 : Shape := ⟨2, ![1024, 128]⟩
abbrev S416x128 : Shape := ⟨2, ![416, 128]⟩
abbrev S416x1408 : Shape := ⟨2, ![416, 1408]⟩
abbrev S1x1408x1024 : Shape := ⟨3, ![1, 1408, 1024]⟩
abbrev S1408x1024 : Shape := ⟨2, ![1408, 1024]⟩

abbrev nBuf : Space → Nat
  | .hbm => 15
  | .vmem => 15
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S1x1024, .f32⟩
  | .hbm, ⟨8, _⟩ => ⟨S2816x1024, .bf16⟩
  | .hbm, ⟨9, _⟩ => ⟨S2x1408x1024, .bf16⟩
  | .hbm, ⟨10, _⟩ => ⟨S4160x1024, .f32⟩
  | .hbm, ⟨11, _⟩ => ⟨S4160x2816, .bf16⟩
  | .hbm, ⟨12, _⟩ => ⟨S4160x2816, .bf16⟩
  | .hbm, ⟨13, _⟩ => ⟨S4160x2816, .bf16⟩
  | .hbm, ⟨14, _⟩ => ⟨S4160x1024, .bf16⟩
  | .local _ .vmem, ⟨0, _⟩ => ⟨S416x1024, .f32⟩
  | .local _ .vmem, ⟨1, _⟩ => ⟨S416x1024, .f32⟩
  | .local _ .vmem, ⟨2, _⟩ => ⟨S1x1024, .f32⟩
  | .local _ .vmem, ⟨3, _⟩ => ⟨S4x1024x1408, .bf16⟩
  | .local _ .vmem, ⟨4, _⟩ => ⟨S2x1408x1024, .bf16⟩
  | .local _ .vmem, ⟨5, _⟩ => ⟨S416x1024, .f32⟩
  | .local _ .vmem, ⟨6, _⟩ => ⟨S416x1024, .f32⟩
  | .local _ .vmem, ⟨7, _⟩ => ⟨S416x2816, .bf16⟩
  | .local _ .vmem, ⟨8, _⟩ => ⟨S416x2816, .bf16⟩
  | .local _ .vmem, ⟨9, _⟩ => ⟨S416x2816, .bf16⟩
  | .local _ .vmem, ⟨10, _⟩ => ⟨S416x2816, .bf16⟩
  | .local _ .vmem, ⟨11, _⟩ => ⟨S416x2816, .bf16⟩
  | .local _ .vmem, ⟨12, _⟩ => ⟨S416x2816, .bf16⟩
  | .local _ .vmem, ⟨13, _⟩ => ⟨S416x1024, .bf16⟩
  | .local _ .vmem, ⟨14, _⟩ => ⟨S416x1024, .bf16⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S416x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S416x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S416x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference8Ideal.lean ====
abbrev S4160x1024 : Shape := ⟨2, ![4160, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4160 : Shape := ⟨1, ![4160]⟩
abbrev S4160x1 : Shape := ⟨2, ![4160, 1]⟩
abbrev S1x1024 : Shape := ⟨2, ![1, 1024]⟩
abbrev S4160x5632 : Shape := ⟨2, ![4160, 5632]⟩
abbrev S4160x2816 : Shape := ⟨2, ![4160, 2816]⟩

abbrev nBuf : Space → Nat
  | .hbm => 42
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S4160x1024, .f32⟩
  | .hbm, ⟨5, _⟩ => ⟨S_, .f32⟩
  | .hbm, ⟨6, _⟩ => ⟨S4160, .f32⟩
  | .hbm, ⟨7, _⟩ => ⟨S4160x1, .f32⟩
  | .hbm, ⟨8, _⟩ => ⟨S_, .f32⟩
  | .hbm, ⟨9, _⟩ => ⟨S4160x1, .f32⟩
  | .hbm, ⟨10, _⟩ => ⟨S4160x1, .f32⟩
  | .hbm, ⟨11, _⟩ => ⟨S_, .f32⟩
  | .hbm, ⟨12, _⟩ => ⟨S4160x1, .f32⟩
  | .hbm, ⟨13, _⟩ => ⟨S4160x1, .f32⟩
  | .hbm, ⟨14, _⟩ => ⟨S4160x1, .f32⟩
  | .hbm, ⟨15, _⟩ => ⟨S4160x1024, .f32⟩
  | .hbm, ⟨16, _⟩ => ⟨S4160x1024, .f32⟩
  | .hbm, ⟨17, _⟩ => ⟨S1x1024, .f32⟩
  | .hbm, ⟨18, _⟩ => ⟨S4160x1024, .f32⟩
  | .hbm, ⟨19, _⟩ => ⟨S4160x1024, .f32⟩
  | .hbm, ⟨20, _⟩ => ⟨S4160x5632, .f32⟩
  | .hbm, ⟨21, _⟩ => ⟨S4160x2816, .f32⟩
  | .hbm, ⟨22, _⟩ => ⟨S4160x2816, .f32⟩
  | .hbm, ⟨23, _⟩ => ⟨S4160x2816, .f32⟩
  | .hbm, ⟨24, _⟩ => ⟨S4160x2816, .f32⟩
  | .hbm, ⟨25, _⟩ => ⟨S_, .f32⟩
  | .hbm, ⟨26, _⟩ => ⟨S4160x2816, .f32⟩
  | .hbm, ⟨27, _⟩ => ⟨S4160x2816, .f32⟩
  | .hbm, ⟨28, _⟩ => ⟨S_, .f32⟩
  | .hbm, ⟨29, _⟩ => ⟨S4160x2816, .f32⟩
  | .hbm, ⟨30, _⟩ => ⟨S4160x2816, .f32⟩
  | .hbm, ⟨31, _⟩ => ⟨S4160x2816, .f32⟩
  | .hbm, ⟨32, _⟩ => ⟨S4160x2816, .f32⟩
  | .hbm, ⟨33, _⟩ => ⟨S4160x1024, .f32⟩
  | .hbm, ⟨34, _⟩ => ⟨S_, .f32⟩
  | .hbm, ⟨35, _⟩ => ⟨S4160x1024, .f32⟩
  | .hbm, ⟨36, _⟩ => ⟨S4160x1024, .f32⟩
  | .hbm, ⟨37, _⟩ => ⟨S4160x1024, .f32⟩
  | .hbm, ⟨38, _⟩ => ⟨S4160x2816, .bf16⟩
  | .hbm, ⟨39, _⟩ => ⟨S4160x2816, .bf16⟩
  | .hbm, ⟨40, _⟩ => ⟨S4160x2816, .bf16⟩
  | .hbm, ⟨41, _⟩ => ⟨S4160x1024, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel9.lean ====
abbrev S4160x6144 : Shape := ⟨2, ![4160, 6144]⟩
abbrev S4x1024 : Shape := ⟨2, ![4, 1024]⟩
abbrev S1024 : Shape := ⟨1, ![1024]⟩
abbrev S4x256x256 : Shape := ⟨3, ![4, 256, 256]⟩
abbrev S4160x1024 : Shape := ⟨2, ![4160, 1024]⟩
abbrev S1x1024 : Shape := ⟨2, ![1, 1024]⟩
abbrev S_ : Shape := ⟨0, ![]⟩
abbrev S3x1024 : Shape := ⟨2, ![3, 1024]⟩
abbrev S4157x1024 : Shape := ⟨2, ![4157, 1024]⟩
abbrev S2x1024 : Shape := ⟨2, ![2, 1024]⟩
abbrev S4158x1024 : Shape := ⟨2, ![4158, 1024]⟩
abbrev S4159x1024 : Shape := ⟨2, ![4159, 1024]⟩
abbrev S4160x4x256 : Shape := ⟨3, ![4160, 4, 256]⟩
abbrev S4x256x4160 : Shape := ⟨3, ![4, 256, 4160]⟩
abbrev S4156x1024 : Shape := ⟨2, ![4156, 1024]⟩
abbrev S8x1024 : Shape := ⟨2, ![8, 1024]⟩
abbrev S4152x1024 : Shape := ⟨2, ![4152, 1024]⟩
abbrev S16x1024 : Shape := ⟨2, ![16, 1024]⟩
abbrev S4144x1024 : Shape := ⟨2, ![4144, 1024]⟩
abbrev S32x1024 : Shape := ⟨2, ![32, 1024]⟩
abbrev S4128x1024 : Shape := ⟨2, ![4128, 1024]⟩
abbrev S64x1024 : Shape := ⟨2, ![64, 1024]⟩
abbrev S4096x1024 : Shape := ⟨2, ![4096, 1024]⟩
abbrev S128x1024 : Shape := ⟨2, ![128, 1024]⟩
abbrev S4032x1024 : Shape := ⟨2, ![4032, 1024]⟩
abbrev S256x1024 : Shape := ⟨2, ![256, 1024]⟩
abbrev S3904x1024 : Shape := ⟨2, ![3904, 1024]⟩
abbrev S512x1024 : Shape := ⟨2, ![512, 1024]⟩
abbrev S3648x1024 : Shape := ⟨2, ![3648, 1024]⟩
abbrev S1024x1024 : Shape := ⟨2, ![1024, 1024]⟩
abbrev S3136x1024 : Shape := ⟨2, ![3136, 1024]⟩
abbrev S2048x1024 : Shape := ⟨2, ![2048, 1024]⟩
abbrev S2112x1024 : Shape := ⟨2, ![2112, 1024]⟩
abbrev S1x4160x1024 : Shape := ⟨3, ![1, 4160, 1024]⟩
abbrev S4x4160x1024 : Shape := ⟨3, ![4, 4160, 1024]⟩
abbrev S4x4x64x256 : Shape := ⟨4, ![4, 4, 64, 256]⟩
abbrev S416x1024 : Shape := ⟨2, ![416, 1024]⟩
abbrev S4x416x1024 : Shape := ⟨3, ![4, 416, 1024]⟩
abbrev S416x2048 : Shape := ⟨2, ![416, 2048]⟩
abbrev S424x1024 : Shape := ⟨2, ![424, 1024]⟩
abbrev S8x416x128 : Shape := ⟨3, ![8, 416, 128]⟩
abbrev S1x416x1024 : Shape := ⟨3, ![1, 416, 1024]⟩
abbrev S416x128 : Shape := ⟨2, ![416, 128]⟩
abbrev S1x416x128 : Shape := ⟨3, ![1, 416, 128]⟩
abbrev S8x128 : Shape := ⟨2, ![8, 128]⟩
abbrev S416x256 : Shape := ⟨2, ![416, 256]⟩
abbrev S1x256x256 : Shape := ⟨3, ![1, 256, 256]⟩
abbrev S256x256 : Shape := ⟨2, ![256, 256]⟩
abbrev S1x64x256 : Shape := ⟨3, ![1, 64, 256]⟩
abbrev S64x256 : Shape := ⟨2, ![64, 256]⟩
abbrev S1x1x64x256 : Shape := ⟨4, ![1, 1, 64, 256]⟩

abbrev nBuf : Space → Nat
  | .hbm => 271
  | .vmem => 38
  | .smem => 0
  | _ => 0

abbrev hbmTy0_0 (i : Nat) : BufTy := match i % 128 with
  | 0 => ⟨S4160x6144, .f32⟩
  | 1 => ⟨S4x1024, .f32⟩
  | 2 => ⟨S1024, .f32⟩
  | 3 => ⟨S4x256x256, .f32⟩
  | 4 => ⟨S1024, .f32⟩
  | 5 => ⟨S4x256x256, .f32⟩
  | 6 => ⟨S1024, .f32⟩
  | 7 => ⟨S1024, .f32⟩
  | 8 => ⟨S4160x1024, .f32⟩
  | 9 => ⟨S4160x6144, .f32⟩
  | 10 => ⟨S4160x1024, .f32⟩
  | 11 => ⟨S1x1024, .f32⟩
  | 12 => ⟨S1024, .f32⟩
  | 13 => ⟨S_, .f32⟩
  | 14 => ⟨S3x1024, .f32⟩
  | 15 => ⟨S4157x1024, .f32⟩
  | 16 => ⟨S4160x1024, .f32⟩
  | 17 => ⟨S1x1024, .f32⟩
  | 18 => ⟨S4160x1024, .f32⟩
  | 19 => ⟨S4160x1024, .f32⟩
  | 20 => ⟨S_, .f32⟩
  | 21 => ⟨S4160x1024, .f32⟩
  | 22 => ⟨S4160x1024, .f32⟩
  | 23 => ⟨S1x1024, .f32⟩
  | 24 => ⟨S1024, .f32⟩
  | 25 => ⟨S_, .f32⟩
  | 26 => ⟨S2x1024, .f32⟩
  | 27 => ⟨S4158x1024, .f32⟩
  | 28 => ⟨S4160x1024, .f32⟩
  | 29 => ⟨S1x1024, .f32⟩
  | 30 => ⟨S4160x1024, .f32⟩
  | 31 => ⟨S4160x1024, .f32⟩
  | 32 => ⟨S4160x1024, .f32⟩
  | 33 => ⟨S1x1024, .f32⟩
  | 34 => ⟨S1024, .f32⟩
  | 35 => ⟨S_, .f32⟩
  | 36 => ⟨S1x1024, .f32⟩
  | 37 => ⟨S4159x1024, .f32⟩
  | 38 => ⟨S4160x1024, .f32⟩
  | 39 => ⟨S1x1024, .f32⟩
  | 40 => ⟨S4160x1024, .f32⟩
  | 41 => ⟨S4160x1024, .f32⟩
  | 42 => ⟨S4160x1024, .f32⟩
  | 43 => ⟨S1x1024, .f32⟩
  | 44 => ⟨S1024, .f32⟩
  | 45 => ⟨S1x1024, .f32⟩
  | 46 => ⟨S4160x1024, .f32⟩
  | 47 => ⟨S4160x1024, .f32⟩
  | 48 => ⟨S4160x1024, .f32⟩
  | 49 => ⟨S1x1024, .f32⟩
  | 50 => ⟨S4160x1024, .f32⟩
  | 51 => ⟨S4160x1024, .f32⟩
  | 52 => ⟨S4160x4x256, .f32⟩
  | 53 => ⟨S4x256x4160, .f32⟩
  | 54 => ⟨S4160x4x256, .f32⟩
  | 55 => ⟨S4160x1024, .f32⟩
  | 56 => ⟨S1x1024, .f32⟩
  | 57 => ⟨S4160x1024, .f32⟩
  | 58 => ⟨S4160x1024, .f32⟩
  | 59 => ⟨S4160x1024, .f32⟩
  | 60 => ⟨S4160x1024, .f32⟩
  | 61 => ⟨S_, .f32⟩
  | 62 => ⟨S4160x1024, .f32⟩
  | 63 => ⟨S4160x1024, .f32⟩
  | 64 => ⟨S_, .f32⟩
  | 65 => ⟨S4160x1024, .f32⟩
  | 66 => ⟨S4160x1024, .f32⟩
  | 67 => ⟨S4x256x4160, .f32⟩
  | 68 => ⟨S4160x4x256, .f32⟩
  | 69 => ⟨S4160x1024, .f32⟩
  | 70 => ⟨S1x1024, .f32⟩
  | 71 => ⟨S4160x1024, .f32⟩
  | 72 => ⟨S4160x1024, .f32⟩
  | 73 => ⟨S4160x1024, .f32⟩
  | 74 => ⟨S4160x1024, .f32⟩
  | 75 => ⟨S_, .f32⟩
  | 76 => ⟨S4160x1024, .f32⟩
  | 77 => ⟨S4160x1024, .f32⟩
  | 78 => ⟨S_, .f32⟩
  | 79 => ⟨S4160x1024, .f32⟩
  | 80 => ⟨S4160x1024, .f32⟩
  | 81 => ⟨S_, .f32⟩
  | 82 => ⟨S4160x1024, .f32⟩
  | 83 => ⟨S4160x1024, .f32⟩
  | 84 => ⟨S1024, .f32⟩
  | 85 => ⟨S_, .f32⟩
  | 86 => ⟨S1024, .f32⟩
  | 87 => ⟨S1024, .f32⟩
  | 88 => ⟨S1024, .f32⟩
  | 89 => ⟨S1024, .f32⟩
  | 90 => ⟨S1024, .i1⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1024, .f32⟩
  | 99 => ⟨S1x1024, .f32⟩
  | 100 => ⟨S4160x1024, .f32⟩
  | 101 => ⟨S4160x1024, .f32⟩
  | 102 => ⟨S4160x1024, .f32⟩
  | 103 => ⟨S_, .f32⟩
  | 104 => ⟨S4160x1024, .f32⟩
  | 105 => ⟨S4160x1024, .f32⟩
  | 106 => ⟨S4160x1024, .f32⟩
  | 107 => ⟨S4160x1024, .f32⟩
  | 108 => ⟨S4160x1024, .f32⟩
  | 109 => ⟨S4160x1024, .f32⟩
  | 110 => ⟨S4160x1024, .f32⟩
  | 111 => ⟨S_, .f32⟩
  | 112 => ⟨S1x1024, .f32⟩
  | 113 => ⟨S4159x1024, .f32⟩
  | 114 => ⟨S4160x1024, .f32⟩
  | 115 => ⟨S4160x1024, .f32⟩
  | 116 => ⟨S_, .f32⟩
  | 117 => ⟨S1x1024, .f32⟩
  | 118 => ⟨S4159x1024, .f32⟩
  | 119 => ⟨S4160x1024, .f32⟩
  | 120 => ⟨S4160x1024, .f32⟩
  | 121 => ⟨S4160x1024, .f32⟩
  | 122 => ⟨S_, .f32⟩
  | 123 => ⟨S2x1024, .f32⟩
  | 124 => ⟨S4158x1024, .f32⟩
  | 125 => ⟨S4160x1024, .f32⟩
  | 126 => ⟨S4160x1024, .f32⟩
  | 127 => ⟨S_, .f32⟩
  | _ => ⟨S4160x6144, .f32⟩

abbrev hbmTy0_1 (i : Nat) : BufTy := match i % 128 with
  | 0 => ⟨S2x1024, .f32⟩
  | 1 => ⟨S4158x1024, .f32⟩
  | 2 => ⟨S4160x1024, .f32⟩
  | 3 => ⟨S4160x1024, .f32⟩
  | 4 => ⟨S4160x1024, .f32⟩
  | 5 => ⟨S_, .f32⟩
  | 6 => ⟨S4x1024, .f32⟩
  | 7 => ⟨S4156x1024, .f32⟩
  | 8 => ⟨S4160x1024, .f32⟩
  | 9 => ⟨S4160x1024, .f32⟩
  | 10 => ⟨S_, .f32⟩
  | 11 => ⟨S4x1024, .f32⟩
  | 12 => ⟨S4156x1024, .f32⟩
  | 13 => ⟨S4160x1024, .f32⟩
  | 14 => ⟨S4160x1024, .f32⟩
  | 15 => ⟨S4160x1024, .f32⟩
  | 16 => ⟨S_, .f32⟩
  | 17 => ⟨S8x1024, .f32⟩
  | 18 => ⟨S4152x1024, .f32⟩
  | 19 => ⟨S4160x1024, .f32⟩
  | 20 => ⟨S4160x1024, .f32⟩
  | 21 => ⟨S_, .f32⟩
  | 22 => ⟨S8x1024, .f32⟩
  | 23 => ⟨S4152x1024, .f32⟩
  | 24 => ⟨S4160x1024, .f32⟩
  | 25 => ⟨S4160x1024, .f32⟩
  | 26 => ⟨S4160x1024, .f32⟩
  | 27 => ⟨S_, .f32⟩
  | 28 => ⟨S16x1024, .f32⟩
  | 29 => ⟨S4144x1024, .f32⟩
  | 30 => ⟨S4160x1024, .f32⟩
  | 31 => ⟨S4160x1024, .f32⟩
  | 32 => ⟨S_, .f32⟩
  | 33 => ⟨S16x1024, .f32⟩
  | 34 => ⟨S4144x1024, .f32⟩
  | 35 => ⟨S4160x1024, .f32⟩
  | 36 => ⟨S4160x1024, .f32⟩
  | 37 => ⟨S4160x1024, .f32⟩
  | 38 => ⟨S_, .f32⟩
  | 39 => ⟨S32x1024, .f32⟩
  | 40 => ⟨S4128x1024, .f32⟩
  | 41 => ⟨S4160x1024, .f32⟩
  | 42 => ⟨S4160x1024, .f32⟩
  | 43 => ⟨S_, .f32⟩
  | 44 => ⟨S32x1024, .f32⟩
  | 45 => ⟨S4128x1024, .f32⟩
  | 46 => ⟨S4160x1024, .f32⟩
  | 47 => ⟨S4160x1024, .f32⟩
  | 48 => ⟨S4160x1024, .f32⟩
  | 49 => ⟨S_, .f32⟩
  | 50 => ⟨S64x1024, .f32⟩
  | 51 => ⟨S4096x1024, .f32⟩
  | 52 => ⟨S4160x1024, .f32⟩
  | 53 => ⟨S4160x1024, .f32⟩
  | 54 => ⟨S_, .f32⟩
  | 55 => ⟨S64x1024, .f32⟩
  | 56 => ⟨S4096x1024, .f32⟩
  | 57 => ⟨S4160x1024, .f32⟩
  | 58 => ⟨S4160x1024, .f32⟩
  | 59 => ⟨S4160x1024, .f32⟩
  | 60 => ⟨S_, .f32⟩
  | 61 => ⟨S128x1024, .f32⟩
  | 62 => ⟨S4032x1024, .f32⟩
  | 63 => ⟨S4160x1024, .f32⟩
  | 64 => ⟨S4160x1024, .f32⟩
  | 65 => ⟨S_, .f32⟩
  | 66 => ⟨S128x1024, .f32⟩
  | 67 => ⟨S4032x1024, .f32⟩
  | 68 => ⟨S4160x1024, .f32⟩
  | 69 => ⟨S4160x1024, .f32⟩
  | 70 => ⟨S4160x1024, .f32⟩
  | 71 => ⟨S_, .f32⟩
  | 72 => ⟨S256x1024, .f32⟩
  | 73 => ⟨S3904x1024, .f32⟩
  | 74 => ⟨S4160x1024, .f32⟩
  | 75 => ⟨S4160x1024, .f32⟩
  | 76 => ⟨S_, .f32⟩
  | 77 => ⟨S256x1024, .f32⟩
  | 78 => ⟨S3904x1024, .f32⟩
  | 79 => ⟨S4160x1024, .f32⟩
  | 80 => ⟨S4160x1024, .f32⟩
  | 81 => ⟨S4160x1024, .f32⟩
  | 82 => ⟨S_, .f32⟩
  | 83 => ⟨S512x1024, .f32⟩
  | 84 => ⟨S3648x1024, .f32⟩
  | 85 => ⟨S4160x1024, .f32⟩
  | 86 => ⟨S4160x1024, .f32⟩
  | 87 => ⟨S_, .f32⟩
  | 88 => ⟨S512x1024, .f32⟩
  | 89 => ⟨S3648x1024, .f32⟩
  | 90 => ⟨S4160x1024, .f32⟩
  | 91 => ⟨S4160x1024, .f32⟩
  | 92 => ⟨S4160x1024, .f32⟩
  | 93 => ⟨S_, .f32⟩
  | 94 => ⟨S1024x1024, .f32⟩
  | 95 => ⟨S3136x1024, .f32⟩
  | 96 => ⟨S4160x1024, .f32⟩
  | 97 => ⟨S4160x1024, .f32⟩
  | 98 => ⟨S_, .f32⟩
  | 99 => ⟨S1024x1024, .f32⟩
  | 100 => ⟨S3136x1024, .f32⟩
  | 101 => ⟨S4160x1024, .f32⟩
  | 102 => ⟨S4160x1024, .f32⟩
  | 103 => ⟨S4160x1024, .f32⟩
  | 104 => ⟨S_, .f32⟩
  | 105 => ⟨S2048x1024, .f32⟩
  | 106 => ⟨S2112x1024, .f32⟩
  | 107 => ⟨S4160x1024, .f32⟩
  | 108 => ⟨S4160x1024, .f32⟩
  | 109 => ⟨S_, .f32⟩
  | 110 => ⟨S2048x1024, .f32⟩
  | 111 => ⟨S2112x1024, .f32⟩
  | 112 => ⟨S4160x1024, .f32⟩
  | 113 => ⟨S4160x1024, .f32⟩
  | 114 => ⟨S4160x1024, .f32⟩
  | 115 => ⟨S_, .f32⟩
  | 116 => ⟨S4096x1024, .f32⟩
  | 117 => ⟨S64x1024, .f32⟩
  | 118 => ⟨S4160x1024, .f32⟩
  | 119 => ⟨S4160x1024, .f32⟩
  | 120 => ⟨S_, .f32⟩
  | 121 => ⟨S4096x1024, .f32⟩
  | 122 => ⟨S64x1024, .f32⟩
  | 123 => ⟨S4160x1024, .f32⟩
  | 124 => ⟨S4160x1024, .f32⟩
  | 125 => ⟨S4160x1024, .f32⟩
  | 126 => ⟨S1x4160x1024, .f32⟩
  | 127 => ⟨S1x4160x1024, .f32⟩
  | _ => ⟨S4160x6144, .f32⟩

abbrev hbmTy0_2 (i : Nat) : BufTy := match i % 128 with
  | 0 => ⟨S1x4160x1024, .f32⟩
  | 1 => ⟨S1x4160x1024, .f32⟩
  | 2 => ⟨S4x4160x1024, .f32⟩
  | 3 => ⟨S4160x6144, .bf16⟩
  | 4 => ⟨S4x256x256, .bf16⟩
  | 5 => ⟨S4x256x256, .bf16⟩
  | 6 => ⟨S1x1024, .f32⟩
  | 7 => ⟨S4160x6144, .bf16⟩
  | 8 => ⟨S4x4x64x256, .bf16⟩
  | 9 => ⟨S4x4x64x256, .bf16⟩
  | 10 => ⟨S4x1024, .f32⟩
  | 11 => ⟨S1x1024, .f32⟩
  | 12 => ⟨S1x1024, .f32⟩
  | 13 => ⟨S1x1024, .f32⟩
  | 14 => ⟨S1x1024, .f32⟩
  | _ => ⟨S4160x6144, .f32⟩

abbrev hbmTy (i : Nat) : BufTy := match i / 128 with
  | 0 => hbmTy0_0 i
  | 1 => hbmTy0_1 i
  | 2 => hbmTy0_2 i
  | _ => ⟨S4160x6144, .f32⟩

abbrev bufTy : (tb : Table) → Fin (tcTables nBuf tb) → BufTy
  | .hbm, ⟨i, _⟩ => hbmTy i
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S416x1024, .f32⟩
  | .local _ .vmem, ⟨5, _⟩ => ⟨S416x1024, .f32⟩
  | .local _ .vmem, ⟨6, _⟩ => ⟨S8x1024, .f32⟩
  | .local _ .vmem, ⟨7, _⟩ => ⟨S8x1024, .f32⟩
  | .local _ .vmem, ⟨8, _⟩ => ⟨S416x1024, .f32⟩
  | .local _ .vmem, ⟨9, _⟩ => ⟨S416x1024, .f32⟩
  | .local _ .vmem, ⟨10, _⟩ => ⟨S8x1024, .f32⟩
  | .local _ .vmem, ⟨11, _⟩ => ⟨S8x1024, .f32⟩
  | .local _ .vmem, ⟨12, _⟩ => ⟨S416x1024, .f32⟩
  | .local _ .vmem, ⟨13, _⟩ => ⟨S416x1024, .f32⟩
  | .local _ .vmem, ⟨14, _⟩ => ⟨S4x1024, .f32⟩
  | .local _ .vmem, ⟨15, _⟩ => ⟨S4x256x256, .bf16⟩
  | .local _ .vmem, ⟨16, _⟩ => ⟨S4x416x1024, .f32⟩
  | .local _ .vmem, ⟨17, _⟩ => ⟨S4x416x1024, .f32⟩
  | .local _ .vmem, ⟨18, _⟩ => ⟨S4x256x256, .bf16⟩
  | .local _ .vmem, ⟨19, _⟩ => ⟨S1x1024, .f32⟩
  | .local _ .vmem, ⟨20, _⟩ => ⟨S416x2048, .bf16⟩
  | .local _ .vmem, ⟨21, _⟩ => ⟨S416x2048, .bf16⟩
  | .local _ .vmem, ⟨22, _⟩ => ⟨S4x4x64x256, .bf16⟩
  | .local _ .vmem, ⟨23, _⟩ => ⟨S4x4x64x256, .bf16⟩
  | .local _ .vmem, ⟨24, _⟩ => ⟨S4x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S424x1024, .f32⟩
  | .local _ .vmem, ⟨32, _⟩ => ⟨S424x1024, .f32⟩
  | .local _ .vmem, ⟨33, _⟩ => ⟨S8x416x128, .f32⟩
  | .local _ .vmem, ⟨34, _⟩ => ⟨S8x416x128, .f32⟩
  | .local _ .vmem, ⟨35, _⟩ => ⟨S4x256x256, .f32⟩
  | .local _ .vmem, ⟨36, _⟩ => ⟨S4x256x256, .f32⟩
  | .local _ .vmem, ⟨37, _⟩ => ⟨S1x1024, .f32⟩
  | _, _ => ⟨S4160x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_3 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_5 : Ref sig .tc := ⟨.hbm, 75, rfl⟩
abbrev main_v59 : Ref sig .tc := ⟨.hbm, 76, rfl⟩
abbrev main_v60 : Ref sig .tc := ⟨.hbm, 77, rfl⟩
abbrev main_cst_6 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call0_cst : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_call0_v3 : Ref sig .tc := ⟨.hbm, 89, rfl⟩
abbrev main_call0_v4 : Ref sig .tc := ⟨.hbm, 90, rfl⟩
abbrev main_call0_v5 : Ref sig .tc := ⟨.hbm, 91, rfl⟩
abbrev main_call0_v6 : Ref sig .tc := ⟨.hbm, 92, rfl⟩
abbrev main_call0_v7 : Ref sig .tc := ⟨.hbm, 93, rfl⟩
abbrev main_call0_v8 : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_8 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_9 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_10 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_11 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_12 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_13 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_14 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_15 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_16 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_17 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_18 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_19 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_cst_20 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_cst_21 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_cst_22 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_cst_23 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_24 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_cst_25 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_cst_26 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_cst_27 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_cst_28 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_cst_29 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_cst_30 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_cst_31 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_32 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_cst_33 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_34 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204_0 : Ref sig .tc := ⟨.hbm, 263, rfl⟩
abbrev main_v204_1 : Ref sig .tc := ⟨.hbm, 264, rfl⟩
abbrev main_v204_2 : Ref sig .tc := ⟨.hbm, 265, rfl⟩
abbrev main_v204_3 : Ref sig .tc := ⟨.hbm, 266, rfl⟩
abbrev main_v204_4 : Ref sig .tc := ⟨.hbm, 267, rfl⟩
abbrev main_v204_5 : Ref sig .tc := ⟨.hbm, 268, rfl⟩
abbrev main_v204_6 : Ref sig .tc := ⟨.hbm, 269, rfl⟩
abbrev main_v204_7 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_scratch5 : Ref sig .tc := ⟨.vmem, 34, rfl⟩
abbrev cc0_scratch6 : Ref sig .tc := ⟨.vmem, 35, rfl⟩
abbrev cc0_scratch7 : Ref sig .tc := ⟨.vmem, 36, rfl⟩
abbrev cc0_scratch8 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32_91 : BitVec 32 := 0#32
  let c52_i32 : BitVec 32 := 52#32
  let v158 : BitVec 32 := Scalar.addi c0_i32_91 c52_i32
  let c1_i32 : BitVec 32 := 1#32
  ⟨c0_i32_91, v158, c1_i32⟩
def k0_off1 (k0_t1 : Fin k0_t1_loop.trips) : Fin 2 → Nat :=
  let c51_i32 : BitVec 32 := 51#32
  let c0_i32_91 : BitVec 32 := 0#32
  let c1_i32 : BitVec 32 := 1#32
  let arg31 : BitVec 32 := Scf.iv c0_i32_91 c1_i32 k0_t1
  let v470 : BitVec 32 := Scalar.subi c51_i32 arg31
  let v473 : Index := Scalar.indexCast v470
  let c0_293 : Index := 0#32
  ![v473.toNat, 0]
@[reducible] def k0_t2_loop : Scf.Loop 32 :=
  let c0_i32_93 : BitVec 32 := 0#32
  let c52_i32_94 : BitVec 32 := 52#32
  let v193 : BitVec 32 := Scalar.addi c0_i32_93 c52_i32_94
  let c1_i32_95 : BitVec 32 := 1#32
  ⟨c0_i32_93, v193, c1_i32_95⟩
def k0_off2 (k0_t2 : Fin k0_t2_loop.trips) : Fin 2 → Nat :=
  let c0_i32_93 : BitVec 32 := 0#32
  let c1_i32_95 : BitVec 32 := 1#32
  let arg31 : BitVec 32 := Scf.iv c0_i32_93 c1_i32_95 k0_t2
  let v472 : Index := Scalar.indexCast arg31
  let c0_293 : Index := 0#32
  ![v472.toNat, 0]
def k0_cond2 (i : grid0.Coords) : BitVec 1 :=
  let arg0 : BitVec 32 := BitVec.ofNat 32 (i 0).val
  let c9_i32_288 : BitVec 32 := 9#32
  let v467 : BitVec 1 := Scalar.cmpi .eq arg0 c9_i32_288
  let v468 : BitVec 32 := Scalar.extui v467
  let c0_i32_289 : BitVec 32 := 0#32
  let v469 : BitVec 1 := Scalar.cmpi .ne v468 c0_i32_289
  v469

def cc0_transform_0 (i : grid0.Coords) : Fin 2 → Nat :=
  let arg0 : BitVec 32 := BitVec.ofNat 32 (i 0).val
  let c9_i32 : BitVec 32 := 9#32
  let v0 : BitVec 32 := Scalar.subi c9_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.subi c9_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c9_i32 : BitVec 32 := 9#32
  let v0 : BitVec 32 := Scalar.subi c9_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c9_i32 : BitVec 32 := 9#32
  let v0 : BitVec 32 := Scalar.subi c9_i32 arg0
  let c52_i32 : BitVec 32 := 52#32
  let v1 : BitVec 32 := Scalar.muli v0 c52_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c9_i32 : BitVec 32 := 9#32
  let v0 : BitVec 32 := Scalar.subi c9_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c9_i32 : BitVec 32 := 9#32
  let v0 : BitVec 32 := Scalar.subi c9_i32 arg0
  let c52_i32 : BitVec 32 := 52#32
  let v1 : BitVec 32 := Scalar.muli v0 c52_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c9_i32 : BitVec 32 := 9#32
  let v0 : BitVec 32 := Scalar.subi c9_i32 arg0
  let c1_i32 : BitVec 32 := 1#32
  let c0_i32 : BitVec 32 := 0#32
  ![v0.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c9_i32 : BitVec 32 := 9#32
  let v0 : BitVec 32 := Scalar.subi c9_i32 arg0
  let c0_i32 : BitVec 32 := 0#32
  let c0_i32_0 : BitVec 32 := 0#32
  let c0_i32_1 : BitVec 32 := 0#32
  ![c0_i32.toNat, v0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c9_i32 : BitVec 32 := 9#32
  let v0 : BitVec 32 := Scalar.subi c9_i32 arg0
  let c0_i32 : BitVec 32 := 0#32
  let c0_i32_0 : BitVec 32 := 0#32
  ![v0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S416x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S416x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x416x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S416x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x4x64x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x4x64x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Kernel10.lean ====
abbrev S4160x6144 : Shape := ⟨2, ![4160, 6144]⟩
abbrev S4x1024 : Shape := ⟨2, ![4, 1024]⟩
abbrev S1024 : Shape := ⟨1, ![1024]⟩
abbrev S4x256x256 : Shape := ⟨3, ![4, 256, 256]⟩
abbrev S1x1024 : Shape := ⟨2, ![1, 1024]⟩
abbrev S4160x1024 : Shape := ⟨2, ![4160, 1024]⟩
abbrev S4x4160x1024 : Shape := ⟨3, ![4, 4160, 1024]⟩
abbrev S416x1024 : Shape := ⟨2, ![416, 1024]⟩
abbrev S4x416x1024 : Shape := ⟨3, ![4, 416, 1024]⟩
abbrev S424x1024 : Shape := ⟨2, ![424, 1024]⟩
abbrev S8x416x128 : Shape := ⟨3, ![8, 416, 128]⟩
abbrev S8x1024 : Shape := ⟨2, ![8, 1024]⟩
abbrev S416x256 : Shape := ⟨2, ![416, 256]⟩
abbrev S1x256x256 : Shape := ⟨3, ![1, 256, 256]⟩
abbrev S256x256 : Shape := ⟨2, ![256, 256]⟩
abbrev S1x416x1024 : Shape := ⟨3, ![1, 416, 1024]⟩
abbrev S416x128 : Shape := ⟨2, ![416, 128]⟩
abbrev S1x416x128 : Shape := ⟨3, ![1, 416, 128]⟩
abbrev S8x128 : Shape := ⟨2, ![8, 128]⟩

abbrev nBuf : Space → Nat
  | .hbm => 18
  | .vmem => 23
  | .smem => 0
  | _ => 0

abbrev bufTy : (tb : Table) → Fin (tcTables nBuf tb) → BufTy
  | .hbm, ⟨0, _⟩ => ⟨S4160x6144, .f32⟩
  | .hbm, ⟨1, _⟩ => ⟨S4x1024, .f32⟩
  | .hbm, ⟨2, _⟩ => ⟨S1024, .f32⟩
  | .hbm, ⟨3, _⟩ => ⟨S4x256x256, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S4x256x256, .bf16⟩
  | .hbm, ⟨10, _⟩ => ⟨S1x1024, .f32⟩
  | .hbm, ⟨11, _⟩ => ⟨S4x256x256, .bf16⟩
  | .hbm, ⟨12, _⟩ => ⟨S1x1024, .f32⟩
  | .hbm, ⟨13, _⟩ => ⟨S1x1024, .f32⟩
  | .hbm, ⟨14, _⟩ => ⟨S4160x1024, .f32⟩
  | .hbm, ⟨15, _⟩ => ⟨S4160x1024, .f32⟩
  | .hbm, ⟨16, _⟩ => ⟨S4160x1024, .bf16⟩
  | .hbm, ⟨17, _⟩ => ⟨S4x4160x1024, .f32⟩
  | .local _ .vmem, ⟨0, _⟩ => ⟨S416x1024, .f32⟩
  | .local _ .vmem, ⟨1, _⟩ => ⟨S416x1024, .f32⟩
  | .local _ .vmem, ⟨2, _⟩ => ⟨S416x1024, .f32⟩
  | .local _ .vmem, ⟨3, _⟩ => ⟨S416x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S416x1024, .f32⟩
  | .local _ .vmem, ⟨12, _⟩ => ⟨S416x1024, .f32⟩
  | .local _ .vmem, ⟨13, _⟩ => ⟨S416x1024, .f32⟩
  | .local _ .vmem, ⟨14, _⟩ => ⟨S416x1024, .f32⟩
  | .local _ .vmem, ⟨15, _⟩ => ⟨S416x1024, .bf16⟩
  | .local _ .vmem, ⟨16, _⟩ => ⟨S416x1024, .bf16⟩
  | .local _ .vmem, ⟨17, _⟩ => ⟨S4x416x1024, .f32⟩
  | .local _ .vmem, ⟨18, _⟩ => ⟨S4x416x1024, .f32⟩
  | .local _ .vmem, ⟨19, _⟩ => ⟨S424x1024, .f32⟩
  | .local _ .vmem, ⟨20, _⟩ => ⟨S1x1024, .f32⟩
  | .local _ .vmem, ⟨21, _⟩ => ⟨S8x416x128, .f32⟩
  | .local _ .vmem, ⟨22, _⟩ => ⟨S8x416x128, .f32⟩
  | _, _ => ⟨S4160x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![10], ![false]⟩

@[reducible] def k0_t1_loop : Scf.Loop 32 :=
  let c0_i32_133 : BitVec 32 := 0#32
  let c52_i32 : BitVec 32 := 52#32
  let v225 : BitVec 32 := Scalar.addi c0_i32_133 c52_i32
  let c1_i32_134 : BitVec 32 := 1#32
  ⟨c0_i32_133, v225, c1_i32_134⟩
def k0_off1 (k0_t1 : Fin k0_t1_loop.trips) : Fin 2 → Nat :=
  let c0_i32_133 : BitVec 32 := 0#32
  let c1_i32_134 : BitVec 32 := 1#32
  let arg18 : BitVec 32 := Scf.iv c0_i32_133 c1_i32_134 k0_t1
  let v302 : Index := Scalar.indexCast arg18
  let c0_181 : Index := 0#32
  ![v302.toNat, 0]
@[reducible] def k0_t2_loop : Scf.Loop 32 :=
  let c0_i32_136 : BitVec 32 := 0#32
  let c52_i32_137 : BitVec 32 := 52#32
  let v260 : BitVec 32 := Scalar.addi c0_i32_136 c52_i32_137
  let c1_i32_138 : BitVec 32 := 1#32
  ⟨c0_i32_136, v260, c1_i32_138⟩
def k0_off2 (k0_t2 : Fin k0_t2_loop.trips) : Fin 2 → Nat :=
  let c0_i32_136 : BitVec 32 := 0#32
  let c1_i32_138 : BitVec 32 := 1#32
  let arg18 : BitVec 32 := Scf.iv c0_i32_136 c1_i32_138 k0_t2
  let v302 : Index := Scalar.indexCast arg18
  let c0_181 : Index := 0#32
  ![v302.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S416x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S416x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x416x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Kernel11.lean ====
abbrev S4160x1024 : Shape := ⟨2, ![4160, 1024]⟩
abbrev S1024x6144 : Shape := ⟨2, ![1024, 6144]⟩
abbrev S6144 : Shape := ⟨1, ![6144]⟩
abbrev S4160x6144 : Shape := ⟨2, ![4160, 6144]⟩
abbrev S4x1024x1536 : Shape := ⟨3, ![4, 1024, 1536]⟩
abbrev S2080x1024 : Shape := ⟨2, ![2080, 1024]⟩
abbrev S2080x1536 : Shape := ⟨2, ![2080, 1536]⟩
abbrev S1x1024x1536 : Shape := ⟨3, ![1, 1024, 1536]⟩
abbrev S1024x1536 : Shape := ⟨2, ![1024, 1536]⟩

abbrev nBuf : Space → Nat
  | .hbm => 7
  | .vmem => 7
  | .smem => 0
  | _ => 0

abbrev bufTy : (tb : Table) → Fin (tcTables nBuf tb) → BufTy
  | .hbm, ⟨0, _⟩ => ⟨S4160x1024, .f32⟩
  | .hbm, ⟨1, _⟩ => ⟨S1024x6144, .f32⟩
  | .hbm, ⟨2, _⟩ => ⟨S6144, .f32⟩
  | .hbm, ⟨3, _⟩ => ⟨S4160x6144, .f32⟩
  | .hbm, ⟨4, _⟩ => ⟨S4160x1024, .bf16⟩
  | .hbm, ⟨5, _⟩ => ⟨S4160x6144, .bf16⟩
  | .hbm, ⟨6, _⟩ => ⟨S4x1024x1536, .bf16⟩
  | .local _ .vmem, ⟨0, _⟩ => ⟨S2080x1024, .bf16⟩
  | .local _ .vmem, ⟨1, _⟩ => ⟨S2080x1024, .bf16⟩
  | .local _ .vmem, ⟨2, _⟩ => ⟨S2080x1536, .bf16⟩
  | .local _ .vmem, ⟨3, _⟩ => ⟨S2080x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4160x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2080x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2080x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference11Ideal.lean ====
abbrev S4160x1024 : Shape := ⟨2, ![4160, 1024]⟩
abbrev S1024x6144 : Shape := ⟨2, ![1024, 6144]⟩
abbrev S6144 : Shape := ⟨1, ![6144]⟩
abbrev S4160x6144 : Shape := ⟨2, ![4160, 6144]⟩
abbrev S1x6144 : Shape := ⟨2, ![1, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 13
  | .vmem => 0
  | .smem => 0
  | _ => 0

abbrev bufTy : (tb : Table) → Fin (tcTables nBuf tb) → BufTy
  | .hbm, ⟨0, _⟩ => ⟨S4160x1024, .f32⟩
  | .hbm, ⟨1, _⟩ => ⟨S1024x6144, .f32⟩
  | .hbm, ⟨2, _⟩ => ⟨S6144, .f32⟩
  | .hbm, ⟨3, _⟩ => ⟨S4160x6144, .f32⟩
  | .hbm, ⟨4, _⟩ => ⟨S4160x6144, .f32⟩
  | .hbm, ⟨5, _⟩ => ⟨S1x6144, .f32⟩
  | .hbm, ⟨6, _⟩ => ⟨S4160x6144, .f32⟩
  | .hbm, ⟨7, _⟩ => ⟨S4160x6144, .f32⟩
  | .hbm, ⟨8, _⟩ => ⟨S6144x1024, .f32⟩
  | .hbm, ⟨9, _⟩ => ⟨S1024x6144, .f32⟩
  | .hbm, ⟨10, _⟩ => ⟨S1024x4x1536, .f32⟩
  | .hbm, ⟨11, _⟩ => ⟨S4x1024x1536, .f32⟩
  | .hbm, ⟨12, _⟩ => ⟨S4x1024x1536, .bf16⟩
  | _, _ => ⟨S4160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel12.lean ====
abbrev S1024x1536 : Shape := ⟨2, ![1024, 1536]⟩
abbrev S512x1536 : Shape := ⟨2, ![512, 1536]⟩
abbrev S_ : Shape := ⟨0, ![]⟩
abbrev S1 : Shape := ⟨1, ![1]⟩
abbrev S2 : Shape := ⟨1, ![2]⟩
abbrev S256x1536 : Shape := ⟨2, ![256, 1536]⟩

abbrev nBuf : Space → Nat
  | .hbm => 13
  | .vmem => 18
  | .smem => 1
  | _ => 0

abbrev bufTy : (tb : Table) → Fin (tcTables nBuf tb) → BufTy
  | .hbm, ⟨0, _⟩ => ⟨S1024x1536, .f32⟩
  | .hbm, ⟨1, _⟩ => ⟨S512x1536, .f32⟩
  | .hbm, ⟨2, _⟩ => ⟨S512x1536, .f32⟩
  | .hbm, ⟨3, _⟩ => ⟨S1024x1536, .f32⟩
  | .hbm, ⟨4, _⟩ => ⟨S1024x1536, .f32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1024x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | .local _ .smem, ⟨0, _⟩ => ⟨S2, .i32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S1024x1536 : Shape := ⟨2, ![1024, 1536]⟩
abbrev S512x1536 : Shape := ⟨2, ![512, 1536]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S512x1536, .f32⟩
  | .hbm, ⟨2, _⟩ => ⟨S512x1536, .f32⟩
  | .hbm, ⟨3, _⟩ => ⟨S1024x1536, .f32⟩
  | .hbm, ⟨4, _⟩ => ⟨S1024x1536, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S512x1536, .f32⟩
  | .hbm, ⟨9, _⟩ => ⟨S_, .i32⟩
  | .hbm, ⟨10, _⟩ => ⟨S_, .i1⟩
  | .hbm, ⟨11, _⟩ => ⟨S512x1536, .f32⟩
  | .hbm, ⟨12, _⟩ => ⟨S1024x1536, .f32⟩
  | .hbm, ⟨13, _⟩ => ⟨S_, .f32⟩
  | .hbm, ⟨14, _⟩ => ⟨S1024x1536, .f32⟩
  | .hbm, ⟨15, _⟩ => ⟨S1024x1536, .f32⟩
  | .hbm, ⟨16, _⟩ => ⟨S_, .f32⟩
  | .hbm, ⟨17, _⟩ => ⟨S1024x1536, .f32⟩
  | .hbm, ⟨18, _⟩ => ⟨S1024x1536, .f32⟩
  | .hbm, ⟨19, _⟩ => ⟨S1024x1536, .f32⟩
  | .hbm, ⟨20, _⟩ => ⟨S_, .f32⟩
  | .hbm, ⟨21, _⟩ => ⟨S1024x1536, .f32⟩
  | .hbm, ⟨22, _⟩ => ⟨S1024x1536, .f32⟩
  | .hbm, ⟨23, _⟩ => ⟨S1024x1536, .f32⟩
  | .hbm, ⟨24, _⟩ => ⟨S_, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S_, .f32⟩
  | .hbm, ⟨29, _⟩ => ⟨S1024x1536, .f32⟩
  | .hbm, ⟨30, _⟩ => ⟨S1024x1536, .f32⟩
  | .hbm, ⟨31, _⟩ => ⟨S_, .f32⟩
  | .hbm, ⟨32, _⟩ => ⟨S1024x1536, .f32⟩
  | .hbm, ⟨33, _⟩ => ⟨S1024x1536, .f32⟩
  | .hbm, ⟨34, _⟩ => ⟨S1024x1536, .f32⟩
  | .hbm, ⟨35, _⟩ => ⟨S_, .f32⟩
  | .hbm, ⟨36, _⟩ => ⟨S1024x1536, .f32⟩
  | .hbm, ⟨37, _⟩ => ⟨S1024x1536, .f32⟩
  | .hbm, ⟨38, _⟩ => ⟨S1024x1536, .f32⟩
  | .hbm, ⟨39, _⟩ => ⟨S_, .f32⟩
  | .hbm, ⟨40, _⟩ => ⟨S1024x1536, .f32⟩
  | .hbm, ⟨41, _⟩ => ⟨S1024x1536, .f32⟩
  | .hbm, ⟨42, _⟩ => ⟨S1024x1536, .f32⟩
  | .hbm, ⟨43, _⟩ => ⟨S_, .f32⟩
  | .hbm, ⟨44, _⟩ => ⟨S1024x1536, .f32⟩
  | .hbm, ⟨45, _⟩ => ⟨S1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel13.lean ====
abbrev S4x512x1408 : Shape := ⟨3, ![4, 512, 1408]⟩
abbrev S4x352x1024 : Shape := ⟨3, ![4, 352, 1024]⟩
abbrev S512x1408 : Shape := ⟨2, ![512, 1408]⟩
abbrev S352x1024 : Shape := ⟨2, ![352, 1024]⟩
abbrev S1x512x1408 : Shape := ⟨3, ![1, 512, 1408]⟩
abbrev S1x352x1024 : Shape := ⟨3, ![1, 352, 1024]⟩

abbrev nBuf : Space → Nat
  | .hbm => 6
  | .vmem => 4
  | .smem => 0
  | _ => 0

abbrev bufTy : (tb : Table) → Fin (tcTables nBuf tb) → BufTy
  | .hbm, ⟨0, _⟩ => ⟨S4x512x1408, .f32⟩
  | .hbm, ⟨1, _⟩ => ⟨S4x352x1024, .f32⟩
  | .hbm, ⟨2, _⟩ => ⟨S4x512x1408, .bf16⟩
  | .hbm, ⟨3, _⟩ => ⟨S4x352x1024, .bf16⟩
  | .hbm, ⟨4, _⟩ => ⟨S512x1408, .f32⟩
  | .hbm, ⟨5, _⟩ => ⟨S352x1024, .f32⟩
  | .local _ .vmem, ⟨0, _⟩ => ⟨S4x512x1408, .bf16⟩
  | .local _ .vmem, ⟨1, _⟩ => ⟨S4x352x1024, .bf16⟩
  | .local _ .vmem, ⟨2, _⟩ => ⟨S512x1408, .f32⟩
  | .local _ .vmem, ⟨3, _⟩ => ⟨S352x1024, .f32⟩
  | _, _ => ⟨S4x512x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4x512x1408 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference13Ideal.lean ====
abbrev S4x512x1408 : Shape := ⟨3, ![4, 512, 1408]⟩
abbrev S4x352x1024 : Shape := ⟨3, ![4, 352, 1024]⟩
abbrev S_ : Shape := ⟨0, ![]⟩
abbrev S512x1408 : Shape := ⟨2, ![512, 1408]⟩
abbrev S352x1024 : Shape := ⟨2, ![352, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4x512x1408, .f32⟩
  | .hbm, ⟨1, _⟩ => ⟨S4x352x1024, .f32⟩
  | .hbm, ⟨2, _⟩ => ⟨S_, .f32⟩
  | .hbm, ⟨3, _⟩ => ⟨S512x1408, .f32⟩
  | .hbm, ⟨4, _⟩ => ⟨S_, .f32⟩
  | .hbm, ⟨5, _⟩ => ⟨S352x1024, .f32⟩
  | _, _ => ⟨S4x512x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel14.lean ====
abbrev S1x1024 : Shape := ⟨2, ![1, 1024]⟩
abbrev S1x6144 : Shape := ⟨2, ![1, 6144]⟩
abbrev S16x1024 : Shape := ⟨2, ![16, 1024]⟩
abbrev S4x1024 : Shape := ⟨2, ![4, 1024]⟩
abbrev S31x1024 : Shape := ⟨2, ![31, 1024]⟩
abbrev S_ : Shape := ⟨0, ![]⟩
abbrev S2 : Shape := ⟨1, ![2]⟩
abbrev S8x88x1024 : Shape := ⟨3, ![8, 88, 1024]⟩
abbrev S1x88x1024 : Shape := ⟨3, ![1, 88, 1024]⟩
abbrev S1 : Shape := ⟨1, ![1]⟩
abbrev S88x1024 : Shape := ⟨2, ![88, 1024]⟩
abbrev S1x1x1024 : Shape := ⟨3, ![1, 1, 1024]⟩
abbrev S1x16x1024 : Shape := ⟨3, ![1, 16, 1024]⟩
abbrev S1x4x1024 : Shape := ⟨3, ![1, 4, 1024]⟩
abbrev S1x31x1024 : Shape := ⟨3, ![1, 31, 1024]⟩

abbrev nBuf : Space → Nat
  | .hbm => 21
  | .vmem => 18
  | .smem => 1
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16x1024, .f32⟩
  | .hbm, ⟨15, _⟩ => ⟨S4x1024, .f32⟩
  | .hbm, ⟨16, _⟩ => ⟨S31x1024, .f32⟩
  | .hbm, ⟨17, _⟩ => ⟨S_, .i32⟩
  | .hbm, ⟨18, _⟩ => ⟨S8x88x1024, .f32⟩
  | .hbm, ⟨19, _⟩ => ⟨S1x88x1024, .f32⟩
  | .hbm, ⟨20, _⟩ => ⟨S88x1024, .f32⟩
  | .local _ .vmem, ⟨0, _⟩ => ⟨S1x1024, .f32⟩
  | .local _ .vmem, ⟨1, _⟩ => ⟨S1x1024, .f32⟩
  | .local _ .vmem, ⟨2, _⟩ => ⟨S1x6144, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S16x1024, .f32⟩
  | .local _ .vmem, ⟨14, _⟩ => ⟨S4x1024, .f32⟩
  | .local _ .vmem, ⟨15, _⟩ => ⟨S31x1024, .f32⟩
  | .local _ .vmem, ⟨16, _⟩ => ⟨S1x1024, .f32⟩
  | .local _ .vmem, ⟨17, _⟩ => ⟨S1x88x1024, .f32⟩
  | .local _ .smem, ⟨0, _⟩ => ⟨S2, .i32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (inb_S2_S1_0 : ∀ a, (![0] : Fin 1 → Nat) a + S1.size a ≤ S2.size a) (numel1_S1 : S1.numel = 1) (inb_S2_S1_1 : ∀ a, (![1] : Fin 1 → Nat) a + S1.size a ≤ S2.size a) (pf : pre0.Contents (Elt F)) (i : grid0.Coords) : Fin 3 → Nat :=
  let arg0 : BitVec 32 := BitVec.ofNat 32 (i 0).val
  let c0 : Index := 0#32
  let v0 : BitVec 32 := pf.at 0 (Rect.unit (s := S2) ![0] S1.size inb_S2_S1_0) numel1_S1
  let c2_i32 : BitVec 32 := 2#32
  let v1 : BitVec 32 := Scalar.muli c2_i32 v0
  let c1 : Index := 1#32
  let v2 : BitVec 32 := pf.at 0 (Rect.unit (s := S2) ![1] S1.size inb_S2_S1_1) numel1_S1
  let v3 : BitVec 32 := Scalar.addi v1 v2
  let c0_i32 : BitVec 32 := 0#32
  let c0_i32_0 : BitVec 32 := 0#32
  let c0_i32_1 : BitVec 32 := 0#32
  ![v3.toNat, c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S31x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x88x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference14Ideal.lean ====
abbrev S1x1024 : Shape := ⟨2, ![1, 1024]⟩
abbrev S1x6144 : Shape := ⟨2, ![1, 6144]⟩
abbrev S16x1024 : Shape := ⟨2, ![16, 1024]⟩
abbrev S4x1024 : Shape := ⟨2, ![4, 1024]⟩
abbrev S31x1024 : Shape := ⟨2, ![31, 1024]⟩
abbrev S6x1024 : Shape := ⟨2, ![6, 1024]⟩
abbrev S_ : Shape := ⟨0, ![]⟩
abbrev S7x1024 : Shape := ⟨2, ![7, 1024]⟩
abbrev S44x1024 : Shape := ⟨2, ![44, 1024]⟩
abbrev S88x1024 : Shape := ⟨2, ![88, 1024]⟩

abbrev nBuf : Space → Nat
  | .hbm => 29
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S16x1024, .f32⟩
  | .hbm, ⟨15, _⟩ => ⟨S4x1024, .f32⟩
  | .hbm, ⟨16, _⟩ => ⟨S31x1024, .f32⟩
  | .hbm, ⟨17, _⟩ => ⟨S6x1024, .f32⟩
  | .hbm, ⟨18, _⟩ => ⟨S_, .f32⟩
  | .hbm, ⟨19, _⟩ => ⟨S6x1024, .f32⟩
  | .hbm, ⟨20, _⟩ => ⟨S_, .f32⟩
  | .hbm, ⟨21, _⟩ => ⟨S4x1024, .f32⟩
  | .hbm, ⟨22, _⟩ => ⟨S_, .f32⟩
  | .hbm, ⟨23, _⟩ => ⟨S1x1024, .f32⟩
  | .hbm, ⟨24, _⟩ => ⟨S_, .f32⟩
  | .hbm, ⟨25, _⟩ => ⟨S7x1024, .f32⟩
  | .hbm, ⟨26, _⟩ => ⟨S44x1024, .f32⟩
  | .hbm, ⟨27, _⟩ => ⟨S44x1024, .f32⟩
  | .hbm, ⟨28, _⟩ => ⟨S88x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_cst_0 : Ref sig .tc := ⟨.hbm, 20, rfl⟩
abbrev main_v2 : Ref sig .tc := ⟨.hbm, 21, rfl⟩
abbrev main_cst_1 : Ref sig .tc := ⟨.hbm, 22, rfl⟩
abbrev main_v3 : Ref sig .tc := ⟨.hbm, 23, rfl⟩
abbrev main_cst_2 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩

abbrev nD : Nat := 1
abbrev τ : Topo := Topo.v7x

variable {F : FTy → Type} [FloatOps F]
-- ==== Proof.MergeBlock.lean ====
module

public import proofs.«01_k».proof.Proof.Gen.KernelIdeal.Value
public import Idealize.ShloMosaic.Lib.ValueIdxCore

@[expose] public section

noncomputable section

namespace Cert.KernelIdeal.Merge

open Idealize.ShloMosaic.ValueIdx Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem off_zero : (![0, 0] : Fin 2 → Nat) = fun _ => 0 := by
  funext a; fin_cases a <;> rfl

/-- The gradient of the merged rows at point `t`. -/
def dmg (c : Dev nD) (t : Fin cfg0.N) : Vec F S416x1024 .f32 := k0_pay5 (iblk m c 0 t) (iblk m c 8 t)
/-- The first branch's rows at point `t`. -/
def rowA (c : Dev nD) (t : Fin cfg0.N) : Vec F S416x1024 .f32 := k0_pay6 (iblk m c 1 t) (iblk m c 5 t)
/-- The second branch's rows at point `t`. -/
def rowB (c : Dev nD) (t : Fin cfg0.N) : Vec F S416x1024 .f32 := k0_pay7 (iblk m c 2 t) (iblk m c 6 t) (iblk m c 7 t)
/-- The first branch's gate at point `t`. -/
def gateA (c : Dev nD) (t : Fin cfg0.N) : Vec F S416x1024 .f32 := k0_pay8 (iblk m c 3 t)

theorem point_dz (c : Dev nD) (t : Fin cfg0.N) : (outsAt0 m c t.val t.isLt).1 = k0_pay1 (k0_pay15 (dmg m c t) (gateA m c t)) (iblk m c 5 t) := by
  by_cases h0 : t.val % 10 = 0
  · rw [outsAt0_A m c t h0]
    dsimp only
    unfold out0_A_9
    rw [View.read_writes_eq_canon _ _ _ (fun y => cover0_A_9 (y := y) ..)]
    unfold kernelRun0_A; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
  · rw [outsAt0_B m c t h0]
    dsimp only
    unfold out0_B_9
    rw [View.read_writes_eq_canon _ _ _ (fun y => cover0_B_9 (y := y) ..)]
    unfold kernelRun0_B; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

theorem point_ds (c : Dev nD) (t : Fin cfg0.N) : (outsAt0 m c t.val t.isLt).2.1 = k0_pay2 (k0_pay16 (dmg m c t) (iblk m c 4 t)) (iblk m c 6 t) := by
  by_cases h0 : t.val % 10 = 0
  · rw [outsAt0_A m c t h0]
    dsimp only
    unfold out0_A_10
    rw [View.read_writes_eq_canon _ _ _ (fun y => cover0_A_10 (y := y) ..)]
    unfold kernelRun0_A; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
  · rw [outsAt0_B m c t h0]
    dsimp only
    unfold out0_B_10
    rw [View.read_writes_eq_canon _ _ _ (fun y => cover0_B_10 (y := y) ..)]
    unfold kernelRun0_B; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

theorem point_dhb (c : Dev nD) (t : Fin cfg0.N) : (outsAt0 m c t.val t.isLt).2.2.2.1 = k0_pay4 (iblk m c 0 t) := by
  by_cases h0 : t.val % 10 = 0
  · rw [outsAt0_A m c t h0]
    dsimp only
    unfold out0_A_12
    rw [View.read_writes_eq_canon _ _ _ (fun y => cover0_A_12 (y := y) ..)]
    unfold kernelRun0_A; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
  · rw [outsAt0_B m c t h0]
    dsimp only
    unfold out0_B_12
    rw [View.read_writes_eq_canon _ _ _ (fun y => cover0_B_12 (y := y) ..)]
    unfold kernelRun0_B; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

theorem point_merged (c : Dev nD) (t : Fin cfg0.N) : (outsAt0 m c t.val t.isLt).2.2.2.2.1 = k0_pay10 (rowA m c t) (rowB m c t) (gateA m c t) (iblk m c 4 t) := by
  by_cases h0 : t.val % 10 = 0
  · rw [outsAt0_A m c t h0]
    dsimp only
    unfold out0_A_13
    rw [View.read_writes_eq_canon _ _ _ (fun y => cover0_A_13 (y := y) ..)]
    unfold kernelRun0_A; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
  · rw [outsAt0_B m c t h0]
    dsimp only
    unfold out0_B_13
    rw [View.read_writes_eq_canon _ _ _ (fun y => cover0_B_13 (y := y) ..)]
    unfold kernelRun0_B; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

theorem point_dya (c : Dev nD) (t : Fin cfg0.N) : (outsAt0 m c t.val t.isLt).2.2.2.2.2.1 = k0_pay15 (dmg m c t) (gateA m c t) := by
  by_cases h0 : t.val % 10 = 0
  · rw [outsAt0_A m c t h0]
    dsimp only
    unfold out0_A_14
    rw [View.read_writes_eq_canon _ _ _ (fun y => cover0_A_14 (y := y) ..)]
    unfold kernelRun0_A; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
  · rw [outsAt0_B m c t h0]
    dsimp only
    unfold out0_B_14
    rw [View.read_writes_eq_canon _ _ _ (fun y => cover0_B_14 (y := y) ..)]
    unfold kernelRun0_B; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

theorem point_dyb (c : Dev nD) (t : Fin cfg0.N) : (outsAt0 m c t.val t.isLt).2.2.2.2.2.2.1 = k0_pay16 (dmg m c t) (iblk m c 4 t) := by
  by_cases h0 : t.val % 10 = 0
  · rw [outsAt0_A m c t h0]
    dsimp only
    unfold out0_A_15
    rw [View.read_writes_eq_canon _ _ _ (fun y => cover0_A_15 (y := y) ..)]
    unfold kernelRun0_A; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
  · rw [outsAt0_B m c t h0]
    dsimp only
    unfold out0_B_15
    rw [View.read_writes_eq_canon _ _ _ (fun y => cover0_B_15 (y := y) ..)]
    unfold kernelRun0_B; dsimp only; sl_unfold_words
    rw [View.canon_unit_zero off_zero]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

/-- The two gates' gradients side by side: the first branch's columns, then the second's. -/
def gatePair (a b : Vec F S416x1024 .bf16) : Vec F S416x2048 .bf16 := fun y =>
  if h : (y 1).val < 1024 then a (ix2 (y 0) ⟨(y 1).val, h⟩) else b (ix2 (y 0) ⟨(y 1).val - 1024, by have := (y 1).isLt; change _ < 2048 at this; omega⟩)

theorem canon_pair (a b : Vec F S416x1024 .bf16) (y : S416x2048.Idx) :
    View.canon [(⟨Rect.unit (s := S416x2048) ![0, 1024] S416x1024.size inb_S416x2048_S416x1024_0_1024, b⟩ : View.Piece (Elt F) S416x2048 .bf16),
      ⟨Rect.unit (s := S416x2048) ![0, 0] S416x1024.size inb_S416x2048_S416x1024_0_0, a⟩] y = gatePair a b y := by
  refine View.canon_apply_of_pieces (gatePair a b) _ ?_ y ?_
  · intro p hp x
    simp only [List.mem_cons, List.not_mem_nil, or_false] at hp
    rcases hp with rfl | rfl
    · have h1 : (((Rect.unit (s := S416x2048) ![0, 1024] S416x1024.size inb_S416x2048_S416x1024_0_1024).emb x) 1 : Nat) = 1024 + x 1 := by
        rw [Rect.emb_apply]; show 1024 + 1 * (x 1 : Nat) = _; omega
      have h0 : (((Rect.unit (s := S416x2048) ![0, 1024] S416x1024.size inb_S416x2048_S416x1024_0_1024).emb x) 0 : Nat) = x 0 := by
        rw [Rect.emb_apply]; show 0 + 1 * (x 0 : Nat) = _; omega
      show b x = gatePair a b ((Rect.unit (s := S416x2048) ![0, 1024] S416x1024.size inb_S416x2048_S416x1024_0_1024).emb x)
      unfold gatePair
      rw [dif_neg (by omega)]
      refine congrArg b (funext fun d => Fin.ext ?_)
      fin_cases d
      · exact h0.symm
      · show (x 1 : Nat) = _; show _ = (((Rect.unit (s := S416x2048) ![0, 1024] S416x1024.size inb_S416x2048_S416x1024_0_1024).emb x) 1 : Nat) - 1024; omega
    · have h1 : (((Rect.unit (s := S416x2048) ![0, 0] S416x1024.size inb_S416x2048_S416x1024_0_0).emb x) 1 : Nat) = x 1 := by
        rw [Rect.emb_apply]; show 0 + 1 * (x 1 : Nat) = _; omega
      have h0 : (((Rect.unit (s := S416x2048) ![0, 0] S416x1024.size inb_S416x2048_S416x1024_0_0).emb x) 0 : Nat) = x 0 := by
        rw [Rect.emb_apply]; show 0 + 1 * (x 0 : Nat) = _; omega
      have hx : (x 1 : Nat) < 1024 := (x 1).isLt
      show a x = gatePair a b ((Rect.unit (s := S416x2048) ![0, 0] S416x1024.size inb_S416x2048_S416x1024_0_0).emb x)
      unfold gatePair
      rw [dif_pos (by omega)]
      refine congrArg a (funext fun d => Fin.ext ?_)
      fin_cases d
      · exact h0.symm
      · exact h1.symm
  · have hy0 : (y 0 : Nat) < 416 := (y 0).isLt
    have hy1 : (y 1 : Nat) < 2048 := (y 1).isLt
    by_cases h : (y 1 : Nat) < 1024
    · refine ⟨_, List.mem_cons_of_mem _ (List.mem_singleton_self _), ?_⟩
      refine (Rect.mem_set_unit (inb := inb_S416x2048_S416x1024_0_0)).mpr fun d => ?_
      fin_cases d
      · show 0 ≤ (y 0 : Nat) ∧ (y 0 : Nat) < 0 + 416; omega
      · show 0 ≤ (y 1 : Nat) ∧ (y 1 : Nat) < 0 + 1024; omega
    · refine ⟨_, List.mem_cons_self, ?_⟩
      refine (Rect.mem_set_unit (inb := inb_S416x2048_S416x1024_0_1024)).mpr fun d => ?_
      fin_cases d
      · show 0 ≤ (y 0 : Nat) ∧ (y 0 : Nat) < 0 + 416; omega
      · show 1024 ≤ (y 1 : Nat) ∧ (y 1 : Nat) < 1024 + 1024; omega

theorem point_dgab (c : Dev nD) (t : Fin cfg0.N) : (outsAt0 m c t.val t.isLt).2.2.1
    = gatePair (k0_pay11 (dmg m c t) (rowA m c t) (gateA m c t)) (k0_pay12 (dmg m c t) (rowB m c t) (iblk m c 4 t)) := by
  by_cases h0 : t.val % 10 = 0
  · rw [outsAt0_A m c t h0]
    dsimp only
    unfold out0_A_11
    rw [View.read_writes_eq_canon _ _ _ (fun y => cover0_A_11 (y := y) ..)]
    unfold kernelRun0_A; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
    funext y
    exact canon_pair _ _ y
  · rw [outsAt0_B m c t h0]
    dsimp only
    unfold out0_B_11
    rw [View.read_writes_eq_canon _ _ _ (fun y => cover0_B_11 (y := y) ..)]
    unfold kernelRun0_B; dsimp only; sl_unfold_words
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]
    funext y
    exact canon_pair _ _ y

theorem point_first (c : Dev nD) (t : Fin cfg0.N) (h0 : t.val % 10 = 0) : (outsAt0 m c t.val t.isLt).2.2.2.2.2.2.2
    = k0_pay14 (dmg m c t) (iblk m c 4 t) k0_pay3 := by
  rw [outsAt0_A m c t h0]
  dsimp only
  unfold out0_A_16
  rw [View.read_writes_eq_canon _ _ _ (fun y => cover0_A_16 (y := y) ..)]
  unfold kernelRun0_A; dsimp only; sl_unfold_words
  rw [View.canon_cons_unit_zero off_zero]
  simp only [View.readCov_unit_zero (S := S1x1024) _ off_zero, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

theorem point_next (c : Dev nD) (t : Fin cfg0.N) (h0 : ¬t.val % 10 = 0) : (outsAt0 m c t.val t.isLt).2.2.2.2.2.2.2
    = k0_pay14 (dmg m c t) (iblk m c 4 t) (outsAt0 m c (t.val - 1) (Nat.lt_of_le_of_lt (Nat.sub_le _ _) t.isLt)).2.2.2.2.2.2.2 := by
  rw [outsAt0_B m c t h0]
  dsimp only
  unfold out0_B_16
  rw [View.read_writes_eq_canon _ _ _ (fun y => cover0_B_16 (y := y) ..)]
  unfold kernelRun0_B; dsimp only; sl_unfold_words
  rw [View.canon_unit_zero off_zero]
  simp only [(hs0_16 t).read_unread, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, View.ld_unit_zero (S := S416x1024) off_zero, View.ld_unit_zero (S := S1024x1024) off_zero, View.ld_unit_zero (S := S1x1024) off_zero, dmg, rowA, rowB, gateA]

end Cert.KernelIdeal.Merge

end
-- ==== Proof.Sigmoid.lean ====
module

public import Idealize.ShloMosaic.Lib.Pointwise
public import Idealize.ShloMosaic.PureOps.Ideal.Laws

@[expose] public section
noncomputable section

namespace Cert.Logistic

open Idealize.ShloMosaic

theorem half : Ideal.ofBits .f32 1056964608#32 = ((1 / 2 : ℝ) : EReal) := by
  simp [Ideal.ofBits, Ideal.ieee, -EReal.coe_mul]; norm_num

/-- Half the hyperbolic tangent of half the argument, plus a half, is the logistic function, on every extended real. -/
theorem tanh_form (x : EReal) :
    Ideal.ofBits .f32 1056964608#32 * Ideal.tanh (Ideal.ofBits .f32 1056964608#32 * x) + Ideal.ofBits .f32 1056964608#32
      = Ideal.div 1 (1 + Ideal.exp (-x)) := by
  show _ = Ideal.logistic x
  rw [half]
  induction x using EReal.rec with
  | bot =>
    rw [EReal.coe_mul_bot_of_pos (by norm_num), Ideal.tanh_bot, Ideal.logistic_bot, show (-1 : EReal) = ((-1 : ℝ) : EReal) by simp,
      ← EReal.coe_mul, ← EReal.coe_add]
    norm_num
  | top =>
    rw [EReal.coe_mul_top_of_pos (by norm_num), Ideal.tanh_top, Ideal.logistic_top, show (1 : EReal) = ((1 : ℝ) : EReal) by simp,
      ← EReal.coe_mul, ← EReal.coe_add]
    norm_num
  | coe r =>
    rw [← EReal.coe_mul, Ideal.tanh_coe, Ideal.logistic_coe, ← EReal.coe_mul, ← EReal.coe_add, EReal.coe_eq_coe_iff]
    have h1 : Real.exp (1 / 2 * r) * Real.exp (-(1 / 2 * r)) = 1 := by rw [← Real.exp_add]; simp
    have h2 : Real.exp (-r) = Real.exp (-(1 / 2 * r)) * Real.exp (-(1 / 2 * r)) := by rw [← Real.exp_add]; congr 1; ring
    have h3 := Real.exp_pos (1 / 2 * r)
    have h4 := Real.exp_pos (-(1 / 2 * r))
    rw [Real.tanh_eq_sinh_div_cosh, Real.sinh_eq, Real.cosh_eq, h2]
    generalize Real.exp (1 / 2 * r) = a at *
    generalize Real.exp (-(1 / 2 * r)) = b at *
    have hab : a + b ≠ 0 := by positivity
    have hbb : 1 + b * b ≠ 0 := by positivity
    field_simp
    nlinarith [h1]

end Cert.Logistic
end
-- ==== Proof.MergeArray.lean ====
module

public import proofs.«01_k».proof.Proof.MergeBlock
public import proofs.«01_k».proof.Proof.Sigmoid
public import proofs.«01_k».proof.Proof.Gen.ReferenceIdeal.Read
public import Idealize.ShloMosaic.Lib.Pipeline.ValueKit
public import Idealize.ShloMosaic.Lib.Pointwise
public import Idealize.ShloMosaic.Lib.Claim

@[expose] public section
set_option maxRecDepth 16384
noncomputable section

namespace Cert.KernelIdeal.Merge

open Idealize.ShloMosaic.ValueIdx Cert.KernelIdeal Cert.KernelIdeal.Gen Idealize.ShloMosaic Idealize.ShloMosaic.TcCoe Idealize.SL.Sem
open Cert.ReferenceIdeal.Read
variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![t.val, 4] ∧ win0_4.index t = ![t.val, 5] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 2] ∧ win0_12.index t = ![t.val, 0] ∧ win0_13.index t = ![t.val, 0] ∧ win0_14.index t = ![t.val, 0]
    ∧ win0_15.index t = ![t.val, 0] ∧ win0_16.index t = ![0, 0] := (by decide +kernel : ∀ t : Fin grid0.N, _)

abbrev A0 (c : Dev nD) : FVec Ideal S4160x1024 .f32 := m ((c : Thread nD τ).loc main_arg0)
abbrev A1 (c : Dev nD) : FVec Ideal S4160x1024 .f32 := m ((c : Thread nD τ).loc main_arg1)
abbrev A2 (c : Dev nD) : FVec Ideal S4160x1024 .f32 := m ((c : Thread nD τ).loc main_arg2)
abbrev A3 (c : Dev nD) : FVec Ideal S4160x6144 .f32 := m ((c : Thread nD τ).loc main_arg3)
abbrev A4 (c : Dev nD) : FVec Ideal S1024x1024 .f32 := m ((c : Thread nD τ).loc main_arg4)
abbrev A5 (c : Dev nD) : FVec Ideal S1024x1024 .f32 := m ((c : Thread nD τ).loc main_arg5)
abbrev A6 (c : Dev nD) : FVec Ideal S1024 .f32 := m ((c : Thread nD τ).loc main_arg6)
abbrev A7 (c : Dev nD) : FVec Ideal S1024x1024 .f32 := m ((c : Thread nD τ).loc main_arg7)

theorem at_dz (c : Dev nD) (t : Fin cfg0.N) (y) : k0_pay1 (k0_pay15 (dmg m c t) (gateA m c t)) (iblk m c 5 t) y
    = val_main_v49 (F := Ideal) (A0 m c) (A3 m c) (A4 m c) (A7 m c) (((cfg0.win 9).blk t).view.emb y) := by
  pointwise [k0_pay1, dmg, rowA, rowB, gateA, k0_pay4, k0_pay5, k0_pay6, k0_pay7, k0_pay8, k0_pay9, k0_pay10, k0_pay11, k0_pay12, k0_pay13, k0_pay15, k0_pay16, val_main_v49, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  blk_point [iblk, V, idx_val t]

theorem final_dz (c : Dev nD) : (dats m 0 c).arrAt 9 (cfgs 0).N = val_main_v49 (F := Ideal) (A0 m c) (A3 m c) (A4 m c) (A7 m c) := by
  refine (dats m 0 c).arrAt_eq_of_covers 9 _ (by decide +kernel) fun t _ y => ?_
  blk_simp
  rw [after0_9, point_dz]
  exact at_dz m c t y

theorem at_ds (c : Dev nD) (t : Fin cfg0.N) (y) : k0_pay2 (k0_pay16 (dmg m c t) (iblk m c 4 t)) (iblk m c 6 t) y
    = val_main_v48 (F := Ideal) (A0 m c) (A3 m c) (A5 m c) (A7 m c) (((cfg0.win 10).blk t).view.emb y) := by
  pointwise [k0_pay2, dmg, rowA, rowB, gateA, k0_pay4, k0_pay5, k0_pay6, k0_pay7, k0_pay8, k0_pay9, k0_pay10, k0_pay11, k0_pay12, k0_pay13, k0_pay15, k0_pay16, val_main_v48, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  blk_point [iblk, V, idx_val t]

theorem final_ds (c : Dev nD) : (dats m 0 c).arrAt 10 (cfgs 0).N = val_main_v48 (F := Ideal) (A0 m c) (A3 m c) (A5 m c) (A7 m c) := by
  refine (dats m 0 c).arrAt_eq_of_covers 10 _ (by decide +kernel) fun t _ y => ?_
  blk_simp
  rw [after0_10, point_ds]
  exact at_ds m c t y

theorem at_dhb (c : Dev nD) (t : Fin cfg0.N) (y) : k0_pay4 (iblk m c 0 t) y
    = val_main_v51 (F := Ideal) (A0 m c) (((cfg0.win 12).blk t).view.emb y) := by
  pointwise [dmg, rowA, rowB, gateA, k0_pay4, k0_pay5, k0_pay6, k0_pay7, k0_pay8, k0_pay9, k0_pay10, k0_pay11, k0_pay12, k0_pay13, k0_pay15, k0_pay16, val_main_v51, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  blk_point [iblk, V, idx_val t]

theorem final_dhb (c : Dev nD) : (dats m 0 c).arrAt 12 (cfgs 0).N = val_main_v51 (F := Ideal) (A0 m c) := by
  refine (dats m 0 c).arrAt_eq_of_covers 12 _ (by decide +kernel) fun t _ y => ?_
  blk_simp
  rw [after0_12, point_dhb]
  exact at_dhb m c t y

theorem at_merged (c : Dev nD) (t : Fin cfg0.N) (y) : k0_pay10 (rowA m c t) (rowB m c t) (gateA m c t) (iblk m c 4 t) y
    = val_main_v52 (F := Ideal) (A1 m c) (A2 m c) (A3 m c) (A4 m c) (A5 m c) (A6 m c) (((cfg0.win 13).blk t).view.emb y) := by
  pointwise [dmg, rowA, rowB, gateA, k0_pay4, k0_pay5, k0_pay6, k0_pay7, k0_pay8, k0_pay9, k0_pay10, k0_pay11, k0_pay12, k0_pay13, k0_pay15, k0_pay16, val_main_v52, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  blk_point [iblk, V, idx_val t]

theorem final_merged (c : Dev nD) : (dats m 0 c).arrAt 13 (cfgs 0).N = val_main_v52 (F := Ideal) (A1 m c) (A2 m c) (A3 m c) (A4 m c) (A5 m c) (A6 m c) := by
  refine (dats m 0 c).arrAt_eq_of_covers 13 _ (by decide +kernel) fun t _ y => ?_
  blk_simp
  rw [after0_13, point_merged]
  exact at_merged m c t y

theorem at_dya (c : Dev nD) (t : Fin cfg0.N) (y) : k0_pay15 (dmg m c t) (gateA m c t) y
    = val_main_v53 (F := Ideal) (A0 m c) (A3 m c) (A7 m c) (((cfg0.win 14).blk t).view.emb y) := by
  pointwise [dmg, rowA, rowB, gateA, k0_pay4, k0_pay5, k0_pay6, k0_pay7, k0_pay8, k0_pay9, k0_pay10, k0_pay11, k0_pay12, k0_pay13, k0_pay15, k0_pay16, val_main_v53, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  blk_point [iblk, V, idx_val t]

theorem final_dya (c : Dev nD) : (dats m 0 c).arrAt 14 (cfgs 0).N = val_main_v53 (F := Ideal) (A0 m c) (A3 m c) (A7 m c) := by
  refine (dats m 0 c).arrAt_eq_of_covers 14 _ (by decide +kernel) fun t _ y => ?_
  blk_simp
  rw [after0_14, point_dya]
  exact at_dya m c t y

theorem at_dyb (c : Dev nD) (t : Fin cfg0.N) (y) : k0_pay16 (dmg m c t) (iblk m c 4 t) y
    = val_main_v54 (F := Ideal) (A0 m c) (A3 m c) (A7 m c) (((cfg0.win 15).blk t).view.emb y) := by
  pointwise [dmg, rowA, rowB, gateA, k0_pay4, k0_pay5, k0_pay6, k0_pay7, k0_pay8, k0_pay9, k0_pay10, k0_pay11, k0_pay12, k0_pay13, k0_pay15, k0_pay16, val_main_v54, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  blk_point [iblk, V, idx_val t]

theorem final_dyb (c : Dev nD) : (dats m 0 c).arrAt 15 (cfgs 0).N = val_main_v54 (F := Ideal) (A0 m c) (A3 m c) (A7 m c) := by
  refine (dats m 0 c).arrAt_eq_of_covers 15 _ (by decide +kernel) fun t _ y => ?_
  blk_simp
  rw [after0_15, point_dyb]
  exact at_dyb m c t y

end Cert.KernelIdeal.Merge
end
-- ==== Proof.MergeMore.lean ====
module

public import proofs.«01_k».proof.Proof.MergeArray

@[expose] public section
set_option maxRecDepth 16384
noncomputable section

namespace Cert.KernelIdeal.Merge

open Idealize.ShloMosaic.ValueIdx Cert.KernelIdeal Cert.KernelIdeal.Gen Idealize.ShloMosaic Idealize.ShloMosaic.TcCoe Idealize.SL.Sem
open Cert.ReferenceIdeal.Read
variable (m : (ℓ : Loc nD τ sig) → Buf (Elt Ideal) ℓ)

theorem zero_at (j) : k0_pay3 (F := Ideal) j = 0 := by pointwise [k0_pay3]

theorem add_at (d g acc j) : k0_pay14 (F := Ideal) d g acc j = acc j + ∑ k : Fin 416, k0_pay13 d g (Idealize.ShloMosaic.ix2 k (j 1)) := by
  pointwise [k0_pay14]

theorem ref_db (a0 a3 a7 j) : val_main_v55 (F := Ideal) a0 a3 a7 j = ∑ k : Fin 4160, val_main_v34 (F := Ideal) a0 a3 a7 (Idealize.ShloMosaic.ix2 k (j 1)) := by
  pointwise [val_main_v55, val_main_v47, val_main_v46, val_main_v45, val_main_cst_9, val_main_cst_10]
  simp

theorem ref_dga (a0 a1 a2 a3 a4 a5 a6 a7) (j : S4160x6144.Idx) (q : Fin 1024) (h : (j 1).val = 4096 + q.val) :
    val_main_v50 (F := Ideal) a0 a1 a2 a3 a4 a5 a6 a7 j = val_main_v39 (F := Ideal) a0 a1 a3 a4 a7 (Idealize.ShloMosaic.ix2 (j 0) q) := by
  pointwise [val_main_v50, val_main_v44]
  have hq := q.isLt
  rw [dif_neg (by omega), dif_neg (by omega), dif_neg (by omega), dif_neg (by omega), dif_pos (by omega)]
  exact congrArg (fun x => val_main_v39 (F := Ideal) a0 a1 a3 a4 a7 (Idealize.ShloMosaic.ix2 (j 0) x)) (Fin.ext (by simp only; omega))

theorem ref_dgb (a0 a1 a2 a3 a4 a5 a6 a7) (j : S4160x6144.Idx) (q : Fin 1024) (h : (j 1).val = 5120 + q.val) :
    val_main_v50 (F := Ideal) a0 a1 a2 a3 a4 a5 a6 a7 j = val_main_v36 (F := Ideal) a0 a2 a3 a5 a6 a7 (Idealize.ShloMosaic.ix2 (j 0) q) := by
  pointwise [val_main_v50, val_main_v44]
  have hq := q.isLt
  rw [dif_neg (by omega), dif_neg (by omega), dif_neg (by omega), dif_neg (by omega), dif_neg (by omega)]
  exact congrArg (fun x => val_main_v36 (F := Ideal) a0 a2 a3 a5 a6 a7 (Idealize.ShloMosaic.ix2 (j 0) x)) (Fin.ext (by simp only; omega))

theorem at_dga (c : Dev nD) (t : Fin cfg0.N) (p : Fin 416) (q : Fin 1024) (r : Fin 4160) (hr : r.val = t.val * 416 + p.val) :
    k0_pay11 (dmg m c t) (rowA m c t) (gateA m c t) (Idealize.ShloMosaic.ix2 p q)
      = val_main_v39 (F := Ideal) (A0 m c) (A1 m c) (A3 m c) (A4 m c) (A7 m c) (Idealize.ShloMosaic.ix2 r q) := by
  pointwise [dmg, rowA, rowB, gateA, k0_pay4, k0_pay5, k0_pay6, k0_pay7, k0_pay8, k0_pay9, k0_pay10, k0_pay11, k0_pay12, k0_pay13, k0_pay15, k0_pay16, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  rw [mul_assoc]
  blk_point [iblk, V, idx_val t]

theorem at_dgb (c : Dev nD) (t : Fin cfg0.N) (p : Fin 416) (q : Fin 1024) (r : Fin 4160) (hr : r.val = t.val * 416 + p.val) :
    k0_pay12 (dmg m c t) (rowB m c t) (iblk m c 4 t) (Idealize.ShloMosaic.ix2 p q)
      = val_main_v36 (F := Ideal) (A0 m c) (A2 m c) (A3 m c) (A5 m c) (A6 m c) (A7 m c) (Idealize.ShloMosaic.ix2 r q) := by
  pointwise [dmg, rowA, rowB, gateA, k0_pay4, k0_pay5, k0_pay6, k0_pay7, k0_pay8, k0_pay9, k0_pay10, k0_pay11, k0_pay12, k0_pay13, k0_pay15, k0_pay16, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  rw [mul_assoc]
  blk_point [iblk, V, idx_val t]

theorem at_dgab (c : Dev nD) (t : Fin cfg0.N) (y) : gatePair (k0_pay11 (dmg m c t) (rowA m c t) (gateA m c t)) (k0_pay12 (dmg m c t) (rowB m c t) (iblk m c 4 t)) y
    = val_main_v50 (F := Ideal) (A0 m c) (A1 m c) (A2 m c) (A3 m c) (A4 m c) (A5 m c) (A6 m c) (A7 m c) (((cfg0.win 11).blk t).view.emb y) := by
  have hj0 : ((((cfg0.win 11).blk t).view.emb y) 0 : ℕ) = t.val * 416 + (y 0).val := by blk_simp [idx_val t]
  have hj1 : ((((cfg0.win 11).blk t).view.emb y) 1 : ℕ) = 4096 + (y 1).val := by blk_simp [idx_val t]
  unfold gatePair
  by_cases h : (y 1).val < 1024
  · rw [dif_pos h, ref_dga _ _ _ _ _ _ _ _ _ ⟨(y 1).val, h⟩ hj1]
    exact at_dga m c t _ _ _ hj0
  · have hy : (y 1).val < 2048 := (y 1).isLt
    rw [dif_neg h, ref_dgb _ _ _ _ _ _ _ _ _ ⟨(y 1).val - 1024, by omega⟩ (hj1.trans (show 4096 + (y 1).val = 5120 + ((y 1).val - 1024) by omega))]
    exact at_dgb m c t _ _ _ hj0

theorem at_db (c : Dev nD) (t : Fin cfg0.N) (p : Fin 416) (q : Fin 1024) (r : Fin 4160) (hr : r.val = t.val * 416 + p.val) :
    k0_pay13 (dmg m c t) (iblk m c 4 t) (Idealize.ShloMosaic.ix2 p q)
      = val_main_v34 (F := Ideal) (A0 m c) (A3 m c) (A7 m c) (Idealize.ShloMosaic.ix2 r q) := by
  pointwise [dmg, rowA, rowB, gateA, k0_pay4, k0_pay5, k0_pay6, k0_pay7, k0_pay8, k0_pay9, k0_pay10, k0_pay11, k0_pay12, k0_pay13, k0_pay15, k0_pay16, val_main_v0, val_main_v1, val_main_v2, val_main_v3, val_main_v4, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v33, val_main_v34, val_main_v35, val_main_v36, val_main_v37, val_main_v38, val_main_v39, val_main_cst, val_main_cst_0, val_main_cst_1, val_main_cst_2, val_main_cst_3, val_main_cst_4]
  try simp only [Logistic.tanh_form]
  blk_point [iblk, V, idx_val t]

theorem final_db (c : Dev nD) : (dats m 0 c).arrAt 16 (cfgs 0).N = val_main_v55 (F := Ideal) (A0 m c) (A3 m c) (A7 m c) := by
  refine (dats m 0 c).arrAt_eq_of_after_last 16 t0_9 (by decide +kernel) _ fun j => ?_
  blk_simp
  rw [after0_16, Pipeline.eq_sum_fin_of_reset_step_apply_last (fun n h => (outsAt0 m c n h).2.2.2.2.2.2.2) 10 (fun _ => 0) _
    (fun t h j => by rw [point_first m c t h, add_at, zero_at])
    (fun t h j => by rw [point_next m c t h, add_at]) (le_of_eq N_0) t0_9 rfl j, zero_add, ref_db]
  refine Fin.sum_mul_add_congr fun s k hl => ?_
  exact at_db m c _ k _ _ rfl

theorem final_dgab (c : Dev nD) : (dats m 0 c).arrAt 11 (cfgs 0).N = fun i => if 2 * 2048 ≤ (i 1 : ℕ) then
    val_main_v50 (F := Ideal) (A0 m c) (A1 m c) (A2 m c) (A3 m c) (A4 m c) (A5 m c) (A6 m c) (A7 m c) i else V m c main_v6_2 i := by
  refine (dats m 0 c).arrAt_eq_of_coversWhere 11 _ (fun β => 2 ≤ β 1) (by decide +kernel) (fun t hf y => ?_)
    (fun j => by blk_simp [Pipeline.Window.cell_apply]; omega)
  blk_simp; rw [after0_11, point_dgab]; exact at_dgab m c t y

end Cert.KernelIdeal.Merge
end
-- ==== Proof.MergeEquation.lean ====
module

public import proofs.«01_k».proof.Defs
public import proofs.«01_k».proof.Proof.MergeMore
public import proofs.«01_k».proof.Proof.Gen.KernelIdeal.Value
public import proofs.«01_k».proof.Proof.Gen.ReferenceIdeal.Run
public import proofs.«01_k».proof.Proof.Gen.On_gate_columns

@[expose] public section
set_option maxRecDepth 16384
noncomputable section

namespace Cert.Merge

open Idealize.ShloMosaic Idealize.SL.Sem

/-- The mask of the stacked gate gradients marks the columns the kernel writes. -/
theorem mask_col (a0 a1 a2 a3 a4 a5 a6 a7) (i : Cert.On_gate_columns.S4160x6144.Idx)
    (h : (Cert.On_gate_columns.fn (F := Ideal) a0 a1 a2 a3 a4 a5 a6 a7).2.2.1 i = 1#1) : 2 * 2048 ≤ (i 1 : ℕ) := by
  have hi : (i 1 : ℕ) < 6144 := (i 1).isLt
  by_contra hn
  have hb : (Cert.On_gate_columns.fn (F := Ideal) a0 a1 a2 a3 a4 a5 a6 a7).2.2.1 i = 0#1 := by
    change BitVec.ofBool ((4096#32).sle (BitVec.ofNat 32 (i 1 : ℕ))) = 0#1
    have : (4096#32).sle (BitVec.ofNat 32 (i 1 : ℕ)) = false := by
      rw [BitVec.sle_eq_decide, decide_eq_false_iff_not, BitVec.toInt_eq_toNat_of_lt (by simp), BitVec.toInt_eq_toNat_of_lt (by simp; omega)]
      simp; omega
    rw [this]; rfl
  rw [hb] at h
  exact absurd h (by decide)

/-- The reference's run ends with its arguments unchanged and every counter at zero. -/
theorem frame_reference : Cert.quiescent_ReferenceIdeal := by
  intro m ρ _
  exact (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- The gradient of the merge, over the reals: kernel and derivative leave the same arrays. -/
theorem algebraic : Cert.algebraic_KernelIdeal_ReferenceIdeal_on_gate_columns := by
  intro m g m' g' _ hagree
  refine ⟨fun c => Cert.ReferenceIdeal.Read.val_main_v49 (F := Ideal) (Cert.KernelIdeal.Merge.A0 m c) (Cert.KernelIdeal.Merge.A3 m c) (Cert.KernelIdeal.Merge.A4 m c) (Cert.KernelIdeal.Merge.A7 m c),
    fun c => Cert.ReferenceIdeal.Read.val_main_v48 (F := Ideal) (Cert.KernelIdeal.Merge.A0 m c) (Cert.KernelIdeal.Merge.A3 m c) (Cert.KernelIdeal.Merge.A5 m c) (Cert.KernelIdeal.Merge.A7 m c),
    fun c => Cert.ReferenceIdeal.Read.val_main_v50 (F := Ideal) (Cert.KernelIdeal.Merge.A0 m c) (Cert.KernelIdeal.Merge.A1 m c) (Cert.KernelIdeal.Merge.A2 m c) (Cert.KernelIdeal.Merge.A3 m c) (Cert.KernelIdeal.Merge.A4 m c) (Cert.KernelIdeal.Merge.A5 m c) (Cert.KernelIdeal.Merge.A6 m c) (Cert.KernelIdeal.Merge.A7 m c),
    fun c => Cert.ReferenceIdeal.Read.val_main_v51 (F := Ideal) (Cert.KernelIdeal.Merge.A0 m c),
    fun c => Cert.ReferenceIdeal.Read.val_main_v52 (F := Ideal) (Cert.KernelIdeal.Merge.A1 m c) (Cert.KernelIdeal.Merge.A2 m c) (Cert.KernelIdeal.Merge.A3 m c) (Cert.KernelIdeal.Merge.A4 m c) (Cert.KernelIdeal.Merge.A5 m c) (Cert.KernelIdeal.Merge.A6 m c),
    fun c => Cert.ReferenceIdeal.Read.val_main_v53 (F := Ideal) (Cert.KernelIdeal.Merge.A0 m c) (Cert.KernelIdeal.Merge.A3 m c) (Cert.KernelIdeal.Merge.A7 m c),
    fun c => Cert.ReferenceIdeal.Read.val_main_v54 (F := Ideal) (Cert.KernelIdeal.Merge.A0 m c) (Cert.KernelIdeal.Merge.A3 m c) (Cert.KernelIdeal.Merge.A7 m c),
    fun c => Cert.ReferenceIdeal.Read.val_main_v55 (F := Ideal) (Cert.KernelIdeal.Merge.A0 m c) (Cert.KernelIdeal.Merge.A3 m c) (Cert.KernelIdeal.Merge.A7 m c), ?_, ?_⟩
  · refine (θ_run Cert.KernelIdeal.defs _ _).mono (fun r h c => ?_) (Cert.KernelIdeal.Value.run_blocks (F := Ideal) m g)
    obtain ⟨h0, h1, h2, h3, h4, h5, h6, h7, hk⟩ := h c
    exact ⟨fun i _ => congrFun (h0.trans (Cert.KernelIdeal.Merge.final_dz m c)) i,
      fun i _ => congrFun (h1.trans (Cert.KernelIdeal.Merge.final_ds m c)) i,
      fun i hi => (congrFun (h2.trans (Cert.KernelIdeal.Merge.final_dgab m c)) i).trans (if_pos (mask_col _ _ _ _ _ _ _ _ i hi)),
      fun i _ => congrFun (h3.trans (Cert.KernelIdeal.Merge.final_dhb m c)) i,
      fun i _ => congrFun (h4.trans (Cert.KernelIdeal.Merge.final_merged m c)) i,
      fun i _ => congrFun (h5.trans (Cert.KernelIdeal.Merge.final_dya m c)) i,
      fun i _ => congrFun (h6.trans (Cert.KernelIdeal.Merge.final_dyb m c)) i,
      fun i _ => congrFun (h7.trans (Cert.KernelIdeal.Merge.final_db m c)) i, hk⟩
  · refine (θ_run Cert.ReferenceIdeal.defs _ _).mono (fun r h c => ?_) (Cert.ReferenceIdeal.Value.run (F := Ideal) m' g')
    obtain ⟨h0, h1, h2, h3, h4, h5, h6, h7, hk⟩ := h c
    obtain ⟨e0, e1, e2, e3, e4, e5, e6, e7⟩ := hagree c
    have f0 := h0.trans (Cert.ReferenceIdeal.Read.val_main_v49_eq (F := Ideal) _ _ _ _)
    rw [e0, e3, e4, e7] at f0
    have f1 := h1.trans (Cert.ReferenceIdeal.Read.val_main_v48_eq (F := Ideal) _ _ _ _)
    rw [e0, e3, e5, e7] at f1
    have f2 := h2.trans (Cert.ReferenceIdeal.Read.val_main_v50_eq (F := Ideal) _ _ _ _ _ _ _ _)
    rw [e0, e1, e2, e3, e4, e5, e6, e7] at f2
    have f3 := h3.trans (Cert.ReferenceIdeal.Read.val_main_v51_eq (F := Ideal) _)
    rw [e0] at f3
    have f4 := h4.trans (Cert.ReferenceIdeal.Read.val_main_v52_eq (F := Ideal) _ _ _ _ _ _)
    rw [e1, e2, e3, e4, e5, e6] at f4
    have f5 := h5.trans (Cert.ReferenceIdeal.Read.val_main_v53_eq (F := Ideal) _ _ _)
    rw [e0, e3, e7] at f5
    have f6 := h6.trans (Cert.ReferenceIdeal.Read.val_main_v54_eq (F := Ideal) _ _ _)
    rw [e0, e3, e7] at f6
    have f7 := h7.trans (Cert.ReferenceIdeal.Read.val_main_v55_eq (F := Ideal) _ _ _)
    rw [e0, e3, e7] at f7
    exact ⟨fun i _ => congrFun f0 i, fun i _ => congrFun f1 i, fun i _ => congrFun f2 i, fun i _ => congrFun f3 i, fun i _ => congrFun f4 i, fun i _ => congrFun f5 i, fun i _ => congrFun f6 i, fun i _ => congrFun f7 i, hk⟩

end Cert.Merge
end
-- ==== Proof.RowNorm.lean ====
module

public import Idealize.ShloMosaic.Lib.Pointwise
public import Idealize.ShloMosaic.PureOps.Ideal.Laws

@[expose] public section
noncomputable section

/-! The gradient of a root-mean-square norm along one row, in the two orders of computing it, over the extended reals and with no condition of finiteness. -/
namespace Cert.RowNorm

open Idealize.ShloMosaic

theorem width : Ideal.ofBits .f32 1149239296#32 = ((1024 : ℝ) : EReal) := by
  simp [Ideal.ofBits, Ideal.ieee, -EReal.coe_mul]; norm_num

theorem minus_half : Ideal.ofBits .f32 3204448256#32 = ((-(1 / 2) : ℝ) : EReal) := by
  simp [Ideal.ofBits, Ideal.ieee, -EReal.coe_mul]; norm_num

theorem tiny : ∃ e : ℝ, 0 < e ∧ Ideal.ofBits .f32 897988541#32 = (e : EReal) := by
  refine ⟨8796093 / 8796093022208, by norm_num, ?_⟩
  simp [Ideal.ofBits, Ideal.ieee, -EReal.coe_mul]; norm_num

/-- The inverse root of the mean square plus the small constant. -/
def inv (s : EReal) : EReal := Ideal.rsqrt (Ideal.div s (Ideal.ofBits .f32 1149239296#32) + Ideal.ofBits .f32 897988541#32)

theorem sq_nonneg (a : EReal) : 0 ≤ a * a := by
  induction a using EReal.rec with
  | bot => simp
  | top => simp
  | coe r => rw [← EReal.coe_mul]; exact_mod_cast mul_self_nonneg r

/-- A sum of squares is infinite, or its inverse root is a positive real whose square undoes the mean. -/
theorem inv_cases (s : EReal) (hs : 0 ≤ s) :
    (inv s = 0 ∧ Ideal.div s (Ideal.ofBits .f32 1149239296#32) + Ideal.ofBits .f32 897988541#32 = ⊤)
      ∨ ∃ r u : ℝ, 0 < r ∧ 0 < u ∧ r * r * u = 1 ∧ inv s = (r : EReal)
          ∧ Ideal.div s (Ideal.ofBits .f32 1149239296#32) + Ideal.ofBits .f32 897988541#32 = (u : EReal) := by
  obtain ⟨e, he, h⟩ := tiny
  unfold inv
  rw [width, h, Ideal.div_coe (by norm_num)]
  induction s using EReal.rec with
  | bot => simp at hs
  | top => left; rw [EReal.top_mul_coe_of_pos (by norm_num), EReal.top_add_coe]; exact ⟨rfl, rfl⟩
  | coe x =>
    right
    have hx : 0 ≤ x := by exact_mod_cast hs
    have hu : 0 < x * (1 / 1024) + e := by positivity
    refine ⟨(Real.sqrt (x * (1 / 1024) + e))⁻¹, x * (1 / 1024) + e, by positivity, hu, ?_, ?_, ?_⟩
    · rw [← mul_inv, Real.mul_self_sqrt hu.le]
      exact inv_mul_cancel₀ hu.ne'
    · rw [← EReal.coe_mul, ← EReal.coe_add, Ideal.rsqrt_coe, if_neg (by linarith), if_neg (by linarith)]
    · rw [← EReal.coe_mul, ← EReal.coe_add]

/-- A positive real moves through a sum. -/
theorem sum_mul_pos {n : ℕ} (f : Fin n → EReal) (r : ℝ) (hr : 0 < r) : ∑ k, f k * (r : EReal) = (∑ k, f k) * (r : EReal) := by
  induction n with
  | zero => simp
  | succ n ih => rw [Fin.sum_univ_succ, Fin.sum_univ_succ, ih, EReal.right_distrib_of_nonneg_of_ne_top (by exact_mod_cast hr.le) (EReal.coe_ne_top r)]

theorem twice (y : EReal) (c : ℝ) : y * ((2 * c : ℝ) : EReal) = y * (c : EReal) + y * (c : EReal) := by
  have h2 : ∀ t : EReal, t * ((2 : ℝ) : EReal) = t + t := by
    intro t
    induction t using EReal.rec with
    | bot => rw [EReal.bot_mul_coe_of_pos (by norm_num)]; simp
    | top => rw [EReal.top_mul_coe_of_pos (by norm_num)]; simp
    | coe r => rw [← EReal.coe_mul, ← EReal.coe_add]; congr 1; ring
  rw [← h2, mul_assoc, ← EReal.coe_mul, mul_comm c 2]

/-- The row's gradient: the inverse root times the difference of the scaled cotangent and the normalised row times its mean overlap, against the derivative of each factor in turn. -/
theorem gradient {n : ℕ} (x y : Fin n → EReal) (a s xq yq : EReal) (hs : 0 ≤ s) :
    a + inv s * (yq - xq * inv s * Ideal.div (∑ k, y k * (x k * inv s)) (Ideal.ofBits .f32 1149239296#32))
      = a + yq * inv s
        + xq * Ideal.div ((∑ k, x k * y k) * (Ideal.ofBits .f32 3204448256#32
            * Ideal.div (inv s) (Ideal.div s (Ideal.ofBits .f32 1149239296#32) + Ideal.ofBits .f32 897988541#32))) (Ideal.ofBits .f32 1149239296#32)
        + Ideal.div ((∑ k, x k * y k) * (Ideal.ofBits .f32 3204448256#32
            * Ideal.div (inv s) (Ideal.div s (Ideal.ofBits .f32 1149239296#32) + Ideal.ofBits .f32 897988541#32))) (Ideal.ofBits .f32 1149239296#32) * xq := by
  obtain ⟨hr, hu⟩ | ⟨r, u, hr, hu, h1, hi, hm⟩ := inv_cases s hs
  · rw [hr, hu]
    have : Ideal.div 0 ⊤ = 0 := by simp [Ideal.div]
    rw [this, width]
    simp [Ideal.div]
  · rw [hi, hm, width, minus_half, Ideal.div_coe (by norm_num), Ideal.div_coe hu.ne', Ideal.div_coe (by norm_num)]
    have hsum : ∑ k, y k * (x k * (r : EReal)) = (∑ k, x k * y k) * (r : EReal) := by
      rw [← sum_mul_pos _ r hr]; exact Finset.sum_congr rfl fun k _ => by rw [← mul_assoc, mul_comm (y k)]
    rw [hsum]
    generalize ∑ k, x k * y k = S
    have hk : (r : EReal) * (yq - xq * r * (S * r * ((1 / 1024 : ℝ) : EReal))) = yq * r + xq * S * ((2 * (-(r * r * r) / 2048) : ℝ) : EReal) := by
      rw [sub_eq_add_neg, EReal.left_distrib_of_nonneg_of_ne_top (by exact_mod_cast hr.le) (EReal.coe_ne_top r), mul_comm (r : EReal) yq]
      congr 1
      rw [show (2 * (-(r * r * r) / 2048) : ℝ) = -(r * (r * (r * (1 / 1024)))) by ring, EReal.coe_neg, mul_neg, mul_neg]
      simp only [EReal.coe_mul]
      ac_rfl
    have ht : xq * (S * (((-(1 / 2) : ℝ) : EReal) * ((r : EReal) * ((1 / u : ℝ) : EReal))) * ((1 / 1024 : ℝ) : EReal))
        = xq * S * ((-(r * r * r) / 2048 : ℝ) : EReal) := by
      have hc : -(r * r * r) / 2048 = -(1 / 2) * (r * (1 / u)) * (1 / 1024) := by
        have : r * r = 1 / u := by field_simp; linarith
        rw [this]; ring
      rw [hc]
      simp only [EReal.coe_mul]
      ac_rfl
    rw [hk, twice, mul_comm _ xq, ht, add_assoc, add_assoc]

end Cert.RowNorm
end
-- ==== Proof.MixRows.lean ====
module

public import proofs.«01_k».proof.Proof.RowNorm
public import proofs.«01_k».proof.Proof.Gen.Kernel2Ideal.Value
public import proofs.«01_k».proof.Proof.Gen.Reference2Ideal.Read
public import Idealize.ShloMosaic.Lib.Pipeline.ValueKit
public import Idealize.ShloMosaic.Lib.Claim

@[expose] public section
set_option maxRecDepth 16384
noncomputable section

namespace Cert.Kernel2Ideal.Mix

open Cert.Kernel2Ideal Cert.Kernel2Ideal.Gen Idealize.ShloMosaic Idealize.ShloMosaic.TcCoe Idealize.SL.Sem
open Cert.Reference2Ideal.Read
variable (m : (ℓ : Loc nD τ sig) → Buf (Elt Ideal) ℓ)

theorem idx_val : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0]
    ∧ win0_7.index t = ![0, 0, 0] := (by decide +kernel : ∀ t : Fin grid0.N, _)

abbrev A0 (c : Dev nD) : FVec Ideal S4160x1024 .f32 := m ((c : Thread nD τ).loc main_arg0)
abbrev A1 (c : Dev nD) : FVec Ideal S1024 .f32 := m ((c : Thread nD τ).loc main_arg1)
abbrev A2 (c : Dev nD) : FVec Ideal S1024x6144 .f32 := m ((c : Thread nD τ).loc main_arg2)
abbrev A4 (c : Dev nD) : FVec Ideal S4160x1024 .f32 := m ((c : Thread nD τ).loc main_arg4)
abbrev A5 (c : Dev nD) : FVec Ideal S4160x6144 .f32 := m ((c : Thread nD τ).loc main_arg5)

/-- The columns of chunk `k` of the projection's cotangent at point `t`. -/
abbrev cols (c : Dev nD) (t : Fin cfg0.N) (o : ℕ) (h : ∀ a, (![0, o] : Fin 2 → ℕ) a + S416x1536.size a ≤ S416x6144.size a) : Vec Ideal S416x1536 .bf16 :=
  View.ld (iblk m c 0 t) (Rect.unit (s := S416x6144) ![0, o] S416x1536.size h)
/-- Chunk `k` of the projection's weight at point `t`. -/
abbrev plane (c : Dev nD) (t : Fin cfg0.N) (o : ℕ) (h : ∀ a, (![o, 0, 0] : Fin 3 → ℕ) a + S1x1024x1536.size a ≤ S4x1024x1536.size a) : Vec Ideal S1x1024x1536 .bf16 :=
  View.ld (iblk m c 4 t) (Rect.unit (s := S4x1024x1536) ![o, 0, 0] S1x1024x1536.size h)

/-- The gradient of the normalised rows at point `t`: the four chunks' products summed. -/
def dn (c : Dev nD) (t : Fin cfg0.N) : FVec Ideal S416x1024 .f32 :=
  k0_pay17 (k0_pay11 (cols m c t 0 (by decide)) (plane m c t 0 (by decide)) (cols m c t 1536 (by decide)) (plane m c t 1 (by decide)))
    (cols m c t 3072 (by decide)) (plane m c t 2 (by decide)) (cols m c t 4608 (by decide)) (plane m c t 3 (by decide))

theorem point_dh (c : Dev nD) (t : Fin cfg0.N) : (outsAt0 m c t.val t.isLt).1 = k0_pay4 (dn m c t) (iblk m c 2 t) (iblk m c 3 t) (iblk m c 1 t) := by
  by_cases h0 : t.val % 10 = 0
  · rw [outsAt0_A m c t h0]; frame_out; rfl
  · rw [outsAt0_B m c t h0]; frame_out; rfl

theorem point_dg_first (c : Dev nD) (t : Fin cfg0.N) (h0 : t.val % 10 = 0) :
    (outsAt0 m c t.val t.isLt).2.1 = k0_pay5 (dn m c t) (iblk m c 2 t) (k0_pay6 (F := Ideal)) := by
  rw [outsAt0_A m c t h0]; frame_out; rfl

theorem point_dg_next (c : Dev nD) (t : Fin cfg0.N) (h0 : ¬t.val % 10 = 0) :
    (outsAt0 m c t.val t.isLt).2.1 = k0_pay5 (dn m c t) (iblk m c 2 t) (outsAt0 m c (t.val - 1) (Nat.lt_of_le_of_lt (Nat.sub_le _ _) t.isLt)).2.1 := by
  rw [outsAt0_B m c t h0]; frame_out; rfl

theorem cols_at (c : Dev nD) (t : Fin cfg0.N) (p : Fin 416) (r : Fin 4160) (hr : r.val = t.val * 416 + p.val) (o : ℕ) (h) (x : Fin 1536) (k : Fin 6144)
    (hk : k.val = o + x.val) : cols m c t o h (ix2 p x) = A5 m c (ix2 r k) := by
  refine (View.ld_unit_apply_of _ _ _ _ _ (ix2 p k) fun a => ?_).trans (by blk_point [iblk, V, idx_val t])
  fin_cases a
  · show p.val = 0 + p.val; omega
  · exact hk

theorem plane_at (c : Dev nD) (t : Fin cfg0.N) (q : Fin 1024) (o : ℕ) (h) (x : Fin 1536) (k : Fin 6144) (ho : o < 4)
    (hk : k.val = o * 1536 + x.val) : plane m c t o h (ix3 0 q x) = A2 m c (ix2 q k) := by
  refine (View.ld_unit_apply_of _ _ _ _ _ (ix3 ⟨o, ho⟩ q x) fun a => ?_).trans (by blk_point [iblk, V, idx_val t])
  fin_cases a
  · show o = o + 0; omega
  · show q.val = 0 + q.val; omega
  · show x.val = 0 + x.val; omega

theorem at_dn (c : Dev nD) (t : Fin cfg0.N) (p : Fin 416) (q : Fin 1024) (r : Fin 4160) (hr : r.val = t.val * 416 + p.val) :
    dn m c t (ix2 p q) = val_main_v24 (F := Ideal) (A2 m c) (A5 m c) (ix2 r q) := by
  pointwise [dn, k0_pay17, k0_pay11, k0_pay8, k0_pay10, k0_pay14, k0_pay16, val_main_v24, val_main_v20]
  refine Eq.trans ?_ ((Fin.sum_univ_four _).symm.trans
    (Fin.sum_mul_add_fin 4 1536 fun l : Fin 6144 => A5 m c (ix2 r l) * A2 m c (ix2 q l)))
  refine congrArg₂ (· + ·) (congrArg₂ (· + ·) (congrArg₂ (· + ·) ?_ ?_) ?_) ?_ <;> refine Finset.sum_congr rfl fun x _ => ?_
  · rw [cols_at m c t p r hr 0 _ x ⟨0 * 1536 + x.val, by omega⟩ (by simp), plane_at m c t q 0 _ x ⟨0 * 1536 + x.val, by omega⟩ (by omega) rfl]; rfl
  · rw [cols_at m c t p r hr 1536 _ x ⟨1 * 1536 + x.val, by omega⟩ (by simp), plane_at m c t q 1 _ x ⟨1 * 1536 + x.val, by omega⟩ (by omega) rfl]; rfl
  · rw [cols_at m c t p r hr 3072 _ x ⟨2 * 1536 + x.val, by omega⟩ (by simp), plane_at m c t q 2 _ x ⟨2 * 1536 + x.val, by omega⟩ (by omega) rfl]; rfl
  · rw [cols_at m c t p r hr 4608 _ x ⟨3 * 1536 + x.val, by omega⟩ (by simp), plane_at m c t q 3 _ x ⟨3 * 1536 + x.val, by omega⟩ (by omega) rfl]; rfl

theorem sum_sq_nonneg (x : Fin 1024 → EReal) : 0 ≤ ∑ k, x k * x k := Finset.sum_nonneg fun k _ => RowNorm.sq_nonneg _

theorem at_dh (c : Dev nD) (t : Fin cfg0.N) (p : Fin 416) (q : Fin 1024) (r : Fin 4160) (hr : r.val = t.val * 416 + p.val) :
    k0_pay4 (dn m c t) (iblk m c 2 t) (iblk m c 3 t) (iblk m c 1 t) (ix2 p q) = val_main_v45 (F := Ideal) (A0 m c) (A1 m c) (A2 m c) (A4 m c) (A5 m c) (ix2 r q) := by
  have h2 : ∀ k : Fin 1024, iblk m c 2 t (ix2 p k) = A0 m c (ix2 r k) := fun k => by blk_point [iblk, V, idx_val t]
  have h1 : iblk m c 1 t (ix2 p q) = A4 m c (ix2 r q) := by blk_point [iblk, V, idx_val t]
  have h3 : ∀ k : Fin 1024, iblk m c 3 t (ix2 0 k) = val_main_v13 (F := Ideal) (A1 m c) (ix2 0 k) := fun k => by pointwise [val_main_v13]; blk_point [iblk, V, idx_val t]
  pointwise [k0_pay4, k0_pay3, k0_pay2, val_main_v45, val_main_v44, val_main_v43, val_main_v42, val_main_v41, val_main_v40, val_main_v39, val_main_v38, val_main_v37, val_main_v36, val_main_v35, val_main_v34, val_main_v33, val_main_v32, val_main_v31, val_main_v29, val_main_v28, val_main_cst_9, val_main_cst_8, val_main_cst_7, val_main_v10, val_main_v9, val_main_v8, val_main_v7, val_main_v6, val_main_v5, val_main_v4, val_main_v3, val_main_v2, val_main_v1, val_main_v0, val_main_cst, val_main_cst_0, val_main_cst_1, val_main_cst_2]
  simp only [at_dn m c t p _ r hr, h1, h2, h3]
  simp only [Fin.sum_univ_one]
  exact RowNorm.gradient (fun k => A0 m c (ix2 r k)) _ _ _ _ _ (sum_sq_nonneg fun k => A0 m c (ix2 r k))

theorem at_dh_idx (c : Dev nD) (t : Fin cfg0.N) (y : S416x1024.Idx) (j : S4160x1024.Idx) (h0 : (j 0).val = t.val * 416 + (y 0).val) (h1 : (j 1).val = (y 1).val) :
    k0_pay4 (dn m c t) (iblk m c 2 t) (iblk m c 3 t) (iblk m c 1 t) y = val_main_v45 (F := Ideal) (A0 m c) (A1 m c) (A2 m c) (A4 m c) (A5 m c) j := by
  have hy : y = ix2 (y 0) (y 1) := funext fun a => by fin_cases a <;> rfl
  have hj : j = ix2 (j 0) (y 1) := funext fun a => by
    fin_cases a
    · rfl
    · exact Fin.ext h1
  rw [hy, hj]
  exact at_dh m c t (y 0) (y 1) (j 0) h0

theorem at_dg (c : Dev nD) (t : Fin cfg0.N) (p : Fin 416) (q : Fin 1024) (r : Fin 4160) (hr : r.val = t.val * 416 + p.val) :
    dn m c t (ix2 p q) * k0_pay3 (F := Ideal) (iblk m c 2 t) (ix2 p q) = val_main_v25 (F := Ideal) (A0 m c) (A2 m c) (A5 m c) (ix2 r q) := by
  rw [at_dn m c t p q r hr]
  pointwise [k0_pay3, k0_pay2, val_main_v25, val_main_v12, val_main_v11, val_main_v7, val_main_v6, val_main_v5, val_main_v4, val_main_v3, val_main_v2, val_main_v1, val_main_v0, val_main_cst, val_main_cst_0, val_main_cst_1]
  rw [mul_comm]
  blk_point [iblk, V, idx_val t]

theorem pay5_at (d x a j) : k0_pay5 (F := Ideal) d x a j = a j + ∑ k : Fin 416, d (ix2 k (j 1)) * k0_pay3 x (ix2 k (j 1)) := by
  pointwise [k0_pay5]

theorem ref_dg (a0 a2 a5 j) : val_main_v46 (F := Ideal) a0 a2 a5 j = ∑ k : Fin 4160, val_main_v25 (F := Ideal) a0 a2 a5 (ix2 k (j 1)) := by
  pointwise [val_main_v46, val_main_v30, val_main_v27, val_main_v26, val_main_cst_5, val_main_cst_6]
  simp

theorem final_dh (c : Dev nD) : (dats m 0 c).arrAt 5 (cfgs 0).N = val_main_v45 (F := Ideal) (A0 m c) (A1 m c) (A2 m c) (A4 m c) (A5 m c) := by
  refine (dats m 0 c).arrAt_eq_of_covers 5 _ (by decide +kernel) fun t _ y => ?_
  have hj0 : ((((cfg0.win 5).blk t).view.emb y) 0 : ℕ) = t.val * 416 + (y 0).val := by blk_simp [idx_val t]
  have hj1 : ((((cfg0.win 5).blk t).view.emb y) 1 : ℕ) = (y 1).val := by blk_simp [idx_val t]
  blk_simp
  rw [after0_5, point_dh]
  exact at_dh_idx m c t y _ hj0 hj1

theorem final_dg (c : Dev nD) : (dats m 0 c).arrAt 6 (cfgs 0).N = val_main_v46 (F := Ideal) (A0 m c) (A2 m c) (A5 m c) := by
  refine (dats m 0 c).arrAt_eq_of_after_last 6 t0_9 (by decide +kernel) _ fun j => ?_
  blk_simp
  rw [after0_6, Pipeline.eq_sum_fin_of_reset_step_apply_last (fun n h => (outsAt0 m c n h).2.1) 10 (fun _ => 0) _
    (fun t h j => by rw [point_dg_first m c t h, pay5_at, show k0_pay6 (F := Ideal) j = 0 by pointwise [k0_pay6]])
    (fun t h j => by rw [point_dg_next m c t h, pay5_at]) (le_of_eq N_0) t0_9 rfl j, zero_add, ref_dg]
  refine Fin.sum_mul_add_congr fun s k hl => ?_
  exact at_dg m c _ k _ _ rfl

end Cert.Kernel2Ideal.Mix
end
-- ==== Proof.MixBias.lean ====
module

public import proofs.«01_k».proof.Proof.MixRows

@[expose] public section
set_option maxRecDepth 16384
noncomputable section

namespace Cert.Kernel2Ideal.Mix

open Cert.Kernel2Ideal Cert.Kernel2Ideal.Gen Idealize.ShloMosaic Idealize.ShloMosaic.TcCoe Idealize.SL.Sem
open Cert.Reference2Ideal.Read
variable (m : (ℓ : Loc nD τ sig) → Buf (Elt Ideal) ℓ)

/-- Stores beneath others that cover an entry do not reach it. -/
theorem canon_buried {Val : EltTy → Type} [∀ e, Nonempty (Val e)] {S : Shape} {e : EltTy} (M : List (View.Piece Val S e)) (y : S.Idx) :
    ∀ L : List (View.Piece Val S e), (∃ p ∈ L, y ∈ p.1.set) → View.canon (L ++ M) y = View.canon L y
  | [], h => by obtain ⟨p, hp, _⟩ := h; exact absurd hp List.not_mem_nil
  | p :: L, h => by
    by_cases hm : y ∈ p.1.set
    · obtain ⟨x, rfl⟩ := p.1.exists_idx_of_mem hm
      exact (View.canon_cons_emb p.1 p.2 (L ++ M) x).trans (View.canon_cons_emb p.1 p.2 L x).symm
    · rw [List.cons_append, View.canon_cons_of_not_mem _ _ hm, View.canon_cons_of_not_mem _ _ hm]
      refine canon_buried M y L ?_
      obtain ⟨q, hq, hy⟩ := h
      rcases List.mem_cons.mp hq with rfl | hq
      · exact absurd hy hm
      · exact ⟨q, hq, hy⟩

abbrev Plane (o : ℕ) := ∀ a, (![o, 0, 0] : Fin 3 → ℕ) a + (![1, 1, 1536] : Fin 3 → ℕ) a ≤ S4x1x1536.size a

/-- A load of one plane does not see a store of another. -/
theorem load_other {sp : Space} (v : View sig .tc sp S4x1x1536 .f32) (o o' : ℕ) (h : Plane o) (h' : Plane o') (w : Vec Ideal S1x1x1536 .f32) (L) (hne : o ≠ o') :
    v.readCov ((⟨Rect.unit (s := S4x1x1536) ![o, 0, 0] ![1, 1, 1536] h, w⟩ : View.Piece (Elt Ideal) S4x1x1536 .f32) :: L)
        (Rect.unit (s := S4x1x1536) ![o', 0, 0] ![1, 1, 1536] h').toLoadRect
      = v.readCov L (Rect.unit (s := S4x1x1536) ![o', 0, 0] ![1, 1, 1536] h').toLoadRect :=
  View.readCov_cons_of_disjoint v _ L _ (Rect.unit_disjoint (inb := h) (inb' := h') 0 (by show o + 1 ≤ o' ∨ o' + 1 ≤ o; omega))

/-- A load of one plane of a buffer stored whole. -/
theorem load_whole {sp : Space} (v : View sig .tc sp S4x1x1536 .f32) (o : ℕ) (h : Plane o) (h0) (w : Vec Ideal S4x1x1536 .f32) :
    v.readCov [(⟨Rect.unit (s := S4x1x1536) ![0, 0, 0] ![4, 1, 1536] h0, w⟩ : View.Piece (Elt Ideal) S4x1x1536 .f32)]
        (Rect.unit (s := S4x1x1536) ![o, 0, 0] ![1, 1, 1536] h).toLoadRect
      = View.ld w (Rect.unit (s := S4x1x1536) ![o, 0, 0] ![1, 1, 1536] h) := by
  rw [View.readCov_eq_canon', View.canon_unit_zero (funext fun a => by fin_cases a <;> rfl)]

/-- What one point adds to the bias gradient: its rows' sum, column by column. -/
def rowsSum (c : Dev nD) (t : Fin cfg0.N) (j : S4x1x1536.Idx) : EReal :=
  ∑ k : Fin 416, (show FVec Ideal S416x6144 .bf16 from iblk m c 0 t) (ix2 k ⟨(j 0).val * 1536 + (j 2).val, by
    have h0 : (j 0).val < 4 := (j 0).isLt
    have h2 : (j 2).val < 1536 := (j 2).isLt
    omega⟩)

/-- The four chunks' sums, stored plane by plane over the old contents. -/
theorem four (c : Dev nD) (t : Fin cfg0.N) (X : Vec Ideal S4x1x1536 .f32) (y : S4x1x1536.Idx) (h0 h1 h2 h3 g0 g1 g2 g3) :
    View.canon [(⟨Rect.unit (s := S4x1x1536) ![3, 0, 0] S1x1x1536.size h3, k0_pay1 (k0_pay18 (cols m c t 4608 g3) (View.ld X (Rect.unit (s := S4x1x1536) ![3, 0, 0] S1x1x1536.size h3)))⟩ : View.Piece (Elt Ideal) S4x1x1536 .f32),
      ⟨Rect.unit (s := S4x1x1536) ![2, 0, 0] S1x1x1536.size h2, k0_pay15 (cols m c t 3072 g2) (View.ld X (Rect.unit (s := S4x1x1536) ![2, 0, 0] S1x1x1536.size h2))⟩,
      ⟨Rect.unit (s := S4x1x1536) ![1, 0, 0] S1x1x1536.size h1, k0_pay13 (k0_pay12 (cols m c t 1536 g1) (View.ld X (Rect.unit (s := S4x1x1536) ![1, 0, 0] S1x1x1536.size h1)))⟩,
      ⟨Rect.unit (s := S4x1x1536) ![0, 0, 0] S1x1x1536.size h0, k0_pay9 (cols m c t 0 g0) (View.ld X (Rect.unit (s := S4x1x1536) ![0, 0, 0] S1x1x1536.size h0))⟩] y
    = X y + rowsSum m c t y := by
  unfold rowsSum
  canon_tiles x h using (View.cover_of_tiledL (s := S4x1x1536) _ S1x1x1536.size (by sl_kernel_rfl) y)
  all_goals (pointwise [k0_pay1, k0_pay18, k0_pay16, k0_pay15, k0_pay14, k0_pay13, k0_pay12, k0_pay10, k0_pay9, k0_pay8]
             refine congrArg₂ (· + ·) (congrArg X (by blk_ext)) (Finset.sum_congr rfl fun k _ => View.ld_unit_apply_of _ _ _ _ _ _ fun a => ?_)
             fin_cases a
             · show k.val = 0 + k.val; omega
             · have e2 : ((![0, 4608] : Fin 2 → ℕ) 1) = 4608 ∧ ((![0, 3072] : Fin 2 → ℕ) 1) = 3072 ∧ ((![0, 1536] : Fin 2 → ℕ) 1) = 1536 ∧ ((![0, 0] : Fin 2 → ℕ) 1) = 0 := ⟨rfl, rfl, rfl, rfl⟩
               simp only [Fin.mk_one, Fin.isValue]; show (y 0).val * 1536 + (y 2).val = _ + (x 2).val; omega)

theorem point_db_next (c : Dev nD) (t : Fin cfg0.N) (h0 : ¬t.val % 10 = 0) (y : S4x1x1536.Idx) :
    (outsAt0 m c t.val t.isLt).2.2 y = (outsAt0 m c (t.val - 1) (Nat.lt_of_le_of_lt (Nat.sub_le _ _) t.isLt)).2.2 y + rowsSum m c t y := by
  rw [outsAt0_B m c t h0]; frame_out
  exact four m c t _ y ..

theorem point_db_first (c : Dev nD) (t : Fin cfg0.N) (h0 : t.val % 10 = 0) (y : S4x1x1536.Idx) :
    (outsAt0 m c t.val t.isLt).2.2 y = 0 + rowsSum m c t y := by
  rw [outsAt0_A m c t h0]; frame_out
  refine (canon_buried [_] y [_, _, _, _] (View.cover_of_tiledL (s := S4x1x1536) _ S1x1x1536.size (by sl_kernel_rfl) y)).trans ?_
  simp (disch := decide) only [load_other, load_whole]
  refine (four m c t _ y ..).trans (congrArg (· + _) ?_)
  pointwise [k0_pay7]

theorem ref_db (a5 j) : val_main_v47 (F := Ideal) a5 j = ∑ k : Fin 4160, a5 (ix2 k ⟨(j 0).val * 1536 + (j 2).val, by
    have h0 : (j 0).val < 4 := (j 0).isLt
    have h2 : (j 2).val < 1536 := (j 2).isLt
    omega⟩) := by
  pointwise [val_main_v47, val_main_v23, val_main_v22, val_main_v21, val_main_v20, val_main_cst_3, val_main_cst_4]
  simp

theorem final_db (c : Dev nD) : (dats m 0 c).arrAt 7 (cfgs 0).N = val_main_v47 (F := Ideal) (A5 m c) := by
  refine (dats m 0 c).arrAt_eq_of_after_last 7 t0_9 (by decide +kernel) _ fun j => ?_
  blk_simp
  rw [after0_7, Pipeline.eq_sum_fin_of_reset_step_apply_last (fun n h => (outsAt0 m c n h).2.2) 10 (fun _ => 0) (fun t j => rowsSum m c t j)
    (fun t h j => point_db_first m c t h j)
    (fun t h j => point_db_next m c t h j) (le_of_eq N_0) t0_9 rfl j, zero_add, ref_db]
  refine Fin.sum_mul_add_congr fun s k hl => ?_
  blk_point [iblk, V, idx_val s]

end Cert.Kernel2Ideal.Mix
end
-- ==== Proof.MixEquation.lean ====
module

public import proofs.«01_k».proof.Defs
public import proofs.«01_k».proof.Proof.MixBias
public import proofs.«01_k».proof.Proof.Gen.Kernel2Ideal.Value
public import proofs.«01_k».proof.Proof.Gen.Reference2Ideal.Run

@[expose] public section
set_option maxRecDepth 16384
noncomputable section

namespace Cert.Mix

open Idealize.ShloMosaic Idealize.SL.Sem

/-- The reference's run ends with its arguments unchanged and every counter at zero. -/
theorem frame_reference : Cert.quiescent_Reference2Ideal := by
  intro m ρ _
  exact (θ_run Cert.Reference2Ideal.defs _ _).mono (fun r h => ⟨fun c => (h c).2.2.2,
      Idealize.ShloMosaic.sem_eq_zero_of_no_sems (by decide) r.2⟩)
    (Cert.Reference2Ideal.Value.run (F := Ideal) m ρ)

/-- The gradient of the projection into the token mixers, over the reals: kernel and derivative leave the same arrays. -/
theorem algebraic : Cert.algebraic_Kernel2Ideal_Reference2Ideal := by
  intro m g m' g' _ hagree
  refine ⟨fun c => Cert.Reference2Ideal.Read.val_main_v45 (F := Ideal) (Cert.Kernel2Ideal.Mix.A0 m c) (Cert.Kernel2Ideal.Mix.A1 m c) (Cert.Kernel2Ideal.Mix.A2 m c) (Cert.Kernel2Ideal.Mix.A4 m c) (Cert.Kernel2Ideal.Mix.A5 m c),
    fun c => Cert.Reference2Ideal.Read.val_main_v46 (F := Ideal) (Cert.Kernel2Ideal.Mix.A0 m c) (Cert.Kernel2Ideal.Mix.A2 m c) (Cert.Kernel2Ideal.Mix.A5 m c),
    fun c => Cert.Reference2Ideal.Read.val_main_v47 (F := Ideal) (Cert.Kernel2Ideal.Mix.A5 m c), ?_, ?_⟩
  · refine (θ_run Cert.Kernel2Ideal.defs _ _).mono (fun r h c => ?_) (Cert.Kernel2Ideal.Value.run_blocks (F := Ideal) m g)
    obtain ⟨h0, h1, h2, hk⟩ := h c
    exact ⟨h0.trans (Cert.Kernel2Ideal.Mix.final_dh m c), h1.trans (Cert.Kernel2Ideal.Mix.final_dg m c), h2.trans (Cert.Kernel2Ideal.Mix.final_db m c), hk⟩
  · refine (θ_run Cert.Reference2Ideal.defs _ _).mono (fun r h c => ?_) (Cert.Reference2Ideal.Value.run (F := Ideal) m' g')
    obtain ⟨h0, h1, h2, hk⟩ := h c
    obtain ⟨e0, e1, e2, e3, e4, e5⟩ := hagree c
    have f0 := h0.trans (Cert.Reference2Ideal.Read.val_main_v45_eq (F := Ideal) _ _)
    rw [e0, e1, e2, e4, e5] at f0
    have f1 := h1.trans (Cert.Reference2Ideal.Read.val_main_v46_eq (F := Ideal) _ _ _)
    rw [e0, e2, e5] at f1
    have f2 := h2.trans (Cert.Reference2Ideal.Read.val_main_v47_eq (F := Ideal) _)
    rw [e5] at f2
    exact ⟨f0, f1, f2, hk⟩

end Cert.Mix
end
-- ==== Proof.Silu.lean ====
module

public import proofs.«01_k».proof.Proof.Sigmoid

@[expose] public section
noncomputable section

/-! The derivative of the SiLU gate in the two orders of computing it. -/
namespace Cert.Silu

open Idealize.ShloMosaic

theorem one : Ideal.ofBits .f32 1065353216#32 = 1 := by
  simp [Ideal.ofBits, Ideal.ieee, -EReal.coe_mul]; norm_num

theorem neg_one : (-1 : EReal) = ((-1 : ℝ) : EReal) := by simp

/-- A real cotangent times the factored derivative is the sum of its two terms, at every gate. -/
theorem gradient (x : ℝ) (g : EReal) :
    (x : EReal) * (Ideal.div 1 (1 + Ideal.exp (-g)) * (1 + g * (1 - Ideal.div 1 (1 + Ideal.exp (-g)))))
      = x * Ideal.div 1 (1 + Ideal.exp (-g))
        + g * x * (Ideal.div 1 (1 + Ideal.exp (-g)) * (1 - Ideal.div 1 (1 + Ideal.exp (-g)))) := by
  show (x : EReal) * (Ideal.logistic g * (1 + g * (1 - Ideal.logistic g))) = x * Ideal.logistic g + g * x * (Ideal.logistic g * (1 - Ideal.logistic g))
  have h11 : (1 : EReal) - 1 = 0 := by
    rw [show (1 : EReal) = ((1 : ℝ) : EReal) by simp, ← EReal.coe_sub]; simp
  induction g using EReal.rec with
  | bot => simp [Ideal.logistic_bot]
  | top => simp [Ideal.logistic_top, h11]
  | coe r =>
    rw [Ideal.logistic_coe, show (1 : EReal) = ((1 : ℝ) : EReal) by simp]
    norm_cast
    ring

end Cert.Silu
end
-- ==== Proof.FfnRows.lean ====
module

public import proofs.«01_k».proof.Proof.Silu
public import proofs.«01_k».proof.Proof.RowNorm
public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section
set_option maxRecDepth 16384
noncomputable section

namespace Cert.Kernel3Ideal.Ffn

open Cert.Kernel3Ideal Cert.Kernel3Ideal.Gen Idealize.ShloMosaic Idealize.ShloMosaic.TcCoe Idealize.SL.Sem
open Cert.Reference3Ideal.Read
variable (m : (ℓ : Loc nD τ sig) → Buf (Elt Ideal) ℓ)

theorem idx_val : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0, 0] ∧ win0_6.index t = ![0, 0, 0]
    ∧ win0_7.index t = ![t.val, 0] ∧ win0_8.index t = ![t.val, 0] ∧ win0_9.index t = ![t.val, 0] ∧ win0_10.index t = ![t.val, 0]
    ∧ win0_11.index t = ![0, 0] := (by decide +kernel : ∀ t : Fin grid0.N, _)

abbrev A0 (c : Dev nD) : FVec Ideal S4160x1024 .f32 := m ((c : Thread nD τ).loc main_arg0)
abbrev A1 (c : Dev nD) : FVec Ideal S1024 .f32 := m ((c : Thread nD τ).loc main_arg1)
abbrev A2 (c : Dev nD) : FVec Ideal S1024x5632 .f32 := m ((c : Thread nD τ).loc main_arg2)
abbrev A3 (c : Dev nD) : FVec Ideal S2816x1024 .f32 := m ((c : Thread nD τ).loc main_arg3)
abbrev A4 (c : Dev nD) : FVec Ideal S4160x1024 .f32 := m ((c : Thread nD τ).loc main_arg4)

variable (c : Dev nD) (t : Fin cfg0.N) (p : Fin 416) (r : Fin 4160)

/-- The saved gate at point `t` is the reference's. -/
theorem gate_at (hr : r.val = t.val * 416 + p.val) (k : Fin 2816) : iblk m c 3 t (ix2 p k) = val_main_v17 (F := Ideal) (A0 m c) (A1 m c) (A2 m c) (ix2 r k) := by
  blk_point [iblk, V, idx_val t]

theorem up_at (hr : r.val = t.val * 416 + p.val) (k : Fin 2816) : iblk m c 4 t (ix2 p k) = val_main_v18 (F := Ideal) (A0 m c) (A1 m c) (A2 m c) (ix2 r k) := by
  blk_point [iblk, V, idx_val t]

theorem down_at (j : Fin 2) (l : Fin 1408) (q : Fin 1024) (k : Fin 2816) (hk : k.val = j.val * 1408 + l.val) :
    iblk m c 6 t (ix3 j l q) = A3 m c (ix2 k q) := by
  blk_point [iblk, V, idx_val t]

theorem weight_at (j : Fin 4) (q : Fin 1024) (l : Fin 1408) (k : Fin 5632) (hk : k.val = j.val * 1408 + l.val) :
    iblk m c 5 t (ix3 j q l) = A2 m c (ix2 q k) := by
  blk_point [iblk, V, idx_val t]

abbrev Cols (o n : ℕ) := ∀ a, (![0, o] : Fin 2 → ℕ) a + (![416, n] : Fin 2 → ℕ) a ≤ S416x2816.size a
abbrev Down (j l n : ℕ) := ∀ a, (![j, l, 0] : Fin 3 → ℕ) a + (![1, n, 1024] : Fin 3 → ℕ) a ≤ S2x1408x1024.size a

theorem gate_ld (hr : r.val = t.val * 416 + p.val) (o n : ℕ) (h : Cols o n) (x : Fin n) (k : Fin 2816) (hk : k.val = o + x.val) :
    View.ld (iblk m c 3 t) (Rect.unit (s := S416x2816) ![0, o] ![416, n] h) (ix2 p x) = val_main_v17 (F := Ideal) (A0 m c) (A1 m c) (A2 m c) (ix2 r k) := by
  refine (View.ld_unit_apply_of _ _ _ _ _ (ix2 p k) fun a => ?_).trans (gate_at m c t p r hr k)
  fin_cases a
  · show p.val = 0 + p.val; omega
  · exact hk

theorem up_ld (hr : r.val = t.val * 416 + p.val) (o n : ℕ) (h : Cols o n) (x : Fin n) (k : Fin 2816) (hk : k.val = o + x.val) :
    View.ld (iblk m c 4 t) (Rect.unit (s := S416x2816) ![0, o] ![416, n] h) (ix2 p x) = val_main_v18 (F := Ideal) (A0 m c) (A1 m c) (A2 m c) (ix2 r k) := by
  refine (View.ld_unit_apply_of _ _ _ _ _ (ix2 p k) fun a => ?_).trans (up_at m c t p r hr k)
  fin_cases a
  · show p.val = 0 + p.val; omega
  · exact hk

theorem down_ld (j l n : ℕ) (h : Down j l n) (x : Fin n) (q : Fin 1024) (k : Fin 2816) (hk : k.val = j * 1408 + (l + x.val)) :
    View.ld (iblk m c 6 t) (Rect.unit (s := S2x1408x1024) ![j, l, 0] ![1, n, 1024] h) (ix3 0 x q) = A3 m c (ix2 k q) := by
  have hj : j + 1 ≤ 2 := h 0
  have hl : l + n ≤ 1408 := h 1
  refine (View.ld_unit_apply_of _ _ _ _ _ (ix3 ⟨j, by omega⟩ ⟨l + x.val, by omega⟩ q) fun a => ?_).trans (down_at m c t _ _ q k hk)
  fin_cases a
  · show j = j + 0; omega
  · rfl
  · show q.val = 0 + q.val; omega

/-- The cotangent of the gated product: half the residual's cotangent through the output weight. -/
theorem product_at (hr : r.val = t.val * 416 + p.val) (k : Fin 2816) :
    val_main_v29 (F := Ideal) (A3 m c) (A4 m c) (ix2 r k) = ∑ q : Fin 1024, k0_pay6 (F := Ideal) (iblk m c 0 t) (ix2 p q) * A3 m c (ix2 k q) := by
  have h : ∀ q, iblk m c 0 t (ix2 p q) = A4 m c (ix2 r q) := fun q => by blk_point [iblk, V, idx_val t]
  pointwise [val_main_v29, val_main_v27, val_main_v26, val_main_v25, val_main_cst_4, k0_pay6]
  simp only [h]

theorem wide_sum (v6 w) (x : Fin 256) : k0_pay17 (F := Ideal) v6 w (ix2 p x) = ∑ q : Fin 1024, v6 (ix2 p q) * w (ix3 0 x q) := by
  pointwise [k0_pay17]

theorem wide_product (hr : r.val = t.val * 416 + p.val) (j l : ℕ) (h : Down j l 256) (x : Fin 256) (k : Fin 2816) (hk : k.val = j * 1408 + (l + x.val)) :
    k0_pay17 (F := Ideal) (k0_pay6 (iblk m c 0 t)) (View.ld (iblk m c 6 t) (Rect.unit (s := S2x1408x1024) ![j, l, 0] ![1, 256, 1024] h)) (ix2 p x)
      = val_main_v29 (F := Ideal) (A3 m c) (A4 m c) (ix2 r k) := by
  rw [product_at m c t p r hr k]
  exact (wide_sum p _ _ x).trans (Finset.sum_congr rfl fun q _ => congrArg (_ * ·) (down_ld m c t j l 256 h x q k hk))

theorem narrow_sum (v6 w) (x : Fin 128) : k0_pay35 (F := Ideal) v6 w (ix2 p x) = ∑ q : Fin 1024, v6 (ix2 p q) * w (ix3 0 x q) := by
  pointwise [k0_pay35]

theorem narrow_product (hr : r.val = t.val * 416 + p.val) (j l : ℕ) (h : Down j l 128) (x : Fin 128) (k : Fin 2816) (hk : k.val = j * 1408 + (l + x.val)) :
    k0_pay35 (F := Ideal) (k0_pay6 (iblk m c 0 t)) (View.ld (iblk m c 6 t) (Rect.unit (s := S2x1408x1024) ![j, l, 0] ![1, 128, 1024] h)) (ix2 p x)
      = val_main_v29 (F := Ideal) (A3 m c) (A4 m c) (ix2 r k) := by
  rw [product_at m c t p r hr k]
  exact (narrow_sum p _ _ x).trans (Finset.sum_congr rfl fun q _ => congrArg (_ * ·) (down_ld m c t j l 128 h x q k hk))

/-- The gradient of the gate, as the kernel computes it from one entry of each factor. -/
def gateStep (d g u : EReal) : EReal :=
  d * u * (Ideal.div 1 (1 + Ideal.exp (-g)) * (1 + g * (1 - Ideal.div 1 (1 + Ideal.exp (-g)))))
def upStep (d g : EReal) : EReal := d * (g * Ideal.div 1 (1 + Ideal.exp (-g)))

theorem wide_gate (v6 w g u) (x : S416x256.Idx) : k0_pay20 (F := Ideal) v6 w g u x = gateStep (k0_pay17 (F := Ideal) v6 w x) (g x) (u x) := by
  pointwise [k0_pay20, k0_pay18, k0_pay19]
  rw [Logistic.tanh_form]; rfl

theorem wide_up (v6 w g) (x : S416x256.Idx) : k0_pay21 (F := Ideal) v6 w g x = upStep (k0_pay17 (F := Ideal) v6 w x) (g x) := by
  pointwise [k0_pay21, k0_pay18, k0_pay19]
  rw [Logistic.tanh_form]; rfl

theorem narrow_gate (v6 w g u) (x : S416x128.Idx) : k0_pay39 (k0_pay38 (F := Ideal) v6 w g u) x = gateStep (k0_pay35 (F := Ideal) v6 w x) (g x) (u x) := by
  pointwise [k0_pay39, k0_pay38, k0_pay36, k0_pay37]
  rw [Logistic.tanh_form]; rfl

theorem narrow_up (v6 w g) (x : S416x128.Idx) :
    k0_pay40 (F := Ideal) (k0_pay35 v6 w) (k0_pay36 g) (k0_pay37 g) x = upStep (k0_pay35 (F := Ideal) v6 w x) (g x) := by
  pointwise [k0_pay40, k0_pay36, k0_pay37]
  rw [Logistic.tanh_form]; rfl

abbrev Real31 := ∀ (r : Fin 4160) (k : Fin 2816), ∃ x : ℝ, val_main_v31 (F := Ideal) (A0 m c) (A1 m c) (A2 m c) (A3 m c) (A4 m c) (ix2 r k) = (x : EReal)

theorem gateStep_at (hX : Real31 m c) (k : Fin 2816) :
    gateStep (val_main_v29 (F := Ideal) (A3 m c) (A4 m c) (ix2 r k)) (val_main_v17 (F := Ideal) (A0 m c) (A1 m c) (A2 m c) (ix2 r k)) (val_main_v18 (F := Ideal) (A0 m c) (A1 m c) (A2 m c) (ix2 r k))
      = val_main_v32 (F := Ideal) (A0 m c) (A1 m c) (A2 m c) (A3 m c) (A4 m c) (ix2 r k) := by
  obtain ⟨x, hx⟩ := hX r k
  rw [val_main_v32_apply]
  rw [gateStep, show val_main_v29 (F := Ideal) (A3 m c) (A4 m c) (ix2 r k) * val_main_v18 (F := Ideal) (A0 m c) (A1 m c) (A2 m c) (ix2 r k) = (x : EReal) from hx, Silu.gradient]
  refine congrArg₂ (· + ·) ?_ ?_
  · show _ = val_main_v31 (F := Ideal) _ _ _ _ _ (ix2 r k) * _
    rw [hx]
    pointwise [val_main_v19_2, val_main_call0_v4, val_main_call0_v3, val_main_call0_v2, val_main_call0_v1, val_main_call0_v0, val_main_call0_cst, val_main_call0_cst_0]
  · show _ = (_ * val_main_v31 (F := Ideal) _ _ _ _ _ (ix2 r k)) * _
    rw [hx]
    pointwise [val_main_v19_1, val_main_call0_v7, val_main_call0_v6, val_main_call0_cst_1, val_main_v19_2, val_main_call0_v4, val_main_call0_v3, val_main_call0_v2, val_main_call0_v1, val_main_call0_v0, val_main_call0_cst, val_main_call0_cst_0]

theorem upStep_at (k : Fin 2816) :
    upStep (val_main_v29 (F := Ideal) (A3 m c) (A4 m c) (ix2 r k)) (val_main_v17 (F := Ideal) (A0 m c) (A1 m c) (A2 m c) (ix2 r k))
      = val_main_v30 (F := Ideal) (A0 m c) (A1 m c) (A2 m c) (A3 m c) (A4 m c) (ix2 r k) := by
  rw [val_main_v30_apply, val_main_v19_0_apply]
  refine (mul_comm _ _).trans (congrArg (fun s => (_ * s) * _) ?_)
  pointwise [val_main_v19_2, val_main_call0_v4, val_main_call0_v3, val_main_call0_v2, val_main_call0_v1, val_main_call0_v0, val_main_call0_cst, val_main_call0_cst_0]

end Cert.Kernel3Ideal.Ffn
end
-- ==== Proof.FfnPieces.lean ====
module

public import proofs.«01_k».proof.Proof.FfnRows

@[expose] public section
set_option maxRecDepth 16384
noncomputable section

namespace Cert.Kernel3Ideal.Ffn

open Cert.Kernel3Ideal Cert.Kernel3Ideal.Gen Idealize.ShloMosaic Idealize.ShloMosaic.TcCoe Idealize.SL.Sem
open Cert.Reference3Ideal.Read
variable (m : (ℓ : Loc nD τ sig) → Buf (Elt Ideal) ℓ) (c : Dev nD) (t : Fin cfg0.N)

/-- Stores that each hold one function's entries leave that function wherever one of them reaches. -/
theorem canon_agree {Val : EltTy → Type} [∀ e, Nonempty (Val e)] {S : Shape} {e : EltTy} (f : S.Idx → Val e) (y : S.Idx) :
    ∀ L : List (View.Piece Val S e), (∀ p ∈ L, ∀ x, p.2 x = f (p.1.emb x)) → (∃ p ∈ L, y ∈ p.1.set) → View.canon L y = f y
  | [], _, h => by obtain ⟨p, hp, _⟩ := h; exact absurd hp List.not_mem_nil
  | p :: L, hf, h => by
    by_cases hm : y ∈ p.1.set
    · obtain ⟨x, rfl⟩ := p.1.exists_idx_of_mem hm
      exact (View.canon_cons_emb p.1 p.2 L x).trans (hf p List.mem_cons_self x)
    · rw [View.canon_cons_of_not_mem _ _ hm]
      refine canon_agree f y L (fun q hq => hf q (List.mem_cons_of_mem _ hq)) ?_
      obtain ⟨q, hq, hy⟩ := h
      rcases List.mem_cons.mp hq with rfl | hq
      · exact absurd hy hm
      · exact ⟨q, hq, hy⟩

/-- The row of the arrays at row `p` of point `t`. -/
def row (p : Fin 416) : Fin 4160 := ⟨t.val * 416 + p.val, by
  have h : t.val < 10 := lt_of_lt_of_eq t.isLt N_0
  omega⟩

/-- The reference's gradients of the gate and of the linear half, on the rows of point `t`. -/
def gradGate (y : S416x2816.Idx) : Elt Ideal .bf16 := val_main_v32 (F := Ideal) (A0 m c) (A1 m c) (A2 m c) (A3 m c) (A4 m c) (ix2 (row t (y 0)) (y 1))
def gradUp (y : S416x2816.Idx) : Elt Ideal .bf16 := val_main_v30 (F := Ideal) (A0 m c) (A1 m c) (A2 m c) (A3 m c) (A4 m c) (ix2 (row t (y 0)) (y 1))

abbrev cot : FVec Ideal S416x1024 .bf16 := k0_pay6 (F := Ideal) (iblk m c 0 t)
abbrev down (j l n : ℕ) (h : Down j l n) := View.ld (iblk m c 6 t) (Rect.unit (s := S2x1408x1024) ![j, l, 0] ![1, n, 1024] h)
abbrev gates (o n : ℕ) (h : Cols o n) := View.ld (iblk m c 3 t) (Rect.unit (s := S416x2816) ![0, o] ![416, n] h)
abbrev ups (o n : ℕ) (h : Cols o n) := View.ld (iblk m c 4 t) (Rect.unit (s := S416x2816) ![0, o] ![416, n] h)

abbrev gateWide (o j l : ℕ) (h : Cols o 256) (h' : Down j l 256) : View.Piece (Elt Ideal) S416x2816 .bf16 :=
  ⟨Rect.unit (s := S416x2816) ![0, o] ![416, 256] h, k0_pay20 (F := Ideal) (cot m c t) (down m c t j l 256 h') (gates m c t o 256 h) (ups m c t o 256 h)⟩
abbrev upWide (o j l : ℕ) (h : Cols o 256) (h' : Down j l 256) : View.Piece (Elt Ideal) S416x2816 .bf16 :=
  ⟨Rect.unit (s := S416x2816) ![0, o] ![416, 256] h, k0_pay21 (F := Ideal) (cot m c t) (down m c t j l 256 h') (gates m c t o 256 h)⟩
abbrev gateNarrow (o j l : ℕ) (h : Cols o 128) (h' : Down j l 128) : View.Piece (Elt Ideal) S416x2816 .bf16 :=
  ⟨Rect.unit (s := S416x2816) ![0, o] ![416, 128] h, k0_pay39 (k0_pay38 (F := Ideal) (cot m c t) (down m c t j l 128 h') (gates m c t o 128 h) (ups m c t o 128 h))⟩
abbrev upNarrow (o j l : ℕ) (h : Cols o 128) (h' : Down j l 128) : View.Piece (Elt Ideal) S416x2816 .bf16 :=
  ⟨Rect.unit (s := S416x2816) ![0, o] ![416, 128] h, k0_pay40 (F := Ideal) (k0_pay35 (cot m c t) (down m c t j l 128 h')) (k0_pay36 (gates m c t o 128 h)) (k0_pay37 (gates m c t o 128 h))⟩

theorem emb_cols (o n : ℕ) (h : Cols o n) (p : Fin 416) (x : Fin n) (hk : o + x.val < 2816) :
    (Rect.unit (s := S416x2816) ![0, o] ![416, n] h).emb (ix2 p x) = ix2 p ⟨o + x.val, hk⟩ := by
  funext a
  refine Fin.ext ((ValueKit.rect_emb_unit_val _ _ _ _ a).trans ?_)
  fin_cases a
  · show 0 + p.val = p.val; omega
  · rfl

theorem mem_cols (o n : ℕ) (h : Cols o n) (y : S416x2816.Idx) (h1 : o ≤ (y 1).val) (h2 : (y 1).val < o + n) :
    y ∈ (Rect.unit (s := S416x2816) ![0, o] ![416, n] h).set := by
  refine Rect.mem_set_unit.mpr fun a => ?_
  fin_cases a
  · exact ⟨Nat.zero_le _, lt_of_lt_of_eq (y 0).isLt (Nat.zero_add 416).symm⟩
  · exact ⟨h1, h2⟩

theorem split (n : ℕ) (x : (⟨2, ![416, n]⟩ : Shape).Idx) : x = ix2 (x 0) (x 1) := funext fun a => by fin_cases a <;> rfl

theorem gateWide_at (hX : Real31 m c) (o j l : ℕ) (h : Cols o 256) (h' : Down j l 256) (ho : o = j * 1408 + l) :
    ∀ x, (gateWide m c t o j l h h').2 x = gradGate m c t ((gateWide m c t o j l h h').1.emb x) := by
  intro x
  have h2 : o + 256 ≤ 2816 := h 1
  obtain ⟨p, x, rfl⟩ : ∃ (p : Fin 416) (q : Fin 256), x = ix2 p q := ⟨x 0, x 1, split 256 x⟩
  have hk : o + x.val < 2816 := by omega
  refine (wide_gate ..).trans (Eq.trans (congrArg₂ (fun s v => gateStep s.1 s.2 v) (congrArg₂ Prod.mk (wide_product m c t p (row t p) rfl j l h' x ⟨o + x.val, hk⟩ (by show o + x.val = j * 1408 + (l + x.val); omega)) (gate_ld m c t p (row t p) rfl o 256 h x ⟨o + x.val, hk⟩ rfl)) (up_ld m c t p (row t p) rfl o 256 h x ⟨o + x.val, hk⟩ rfl)) ?_)
  rw [emb_cols o 256 h p x hk]
  exact gateStep_at m c _ hX _

theorem gateNarrow_at (hX : Real31 m c) (o j l : ℕ) (h : Cols o 128) (h' : Down j l 128) (ho : o = j * 1408 + l) :
    ∀ x, (gateNarrow m c t o j l h h').2 x = gradGate m c t ((gateNarrow m c t o j l h h').1.emb x) := by
  intro x
  have h2 : o + 128 ≤ 2816 := h 1
  obtain ⟨p, x, rfl⟩ : ∃ (p : Fin 416) (q : Fin 128), x = ix2 p q := ⟨x 0, x 1, split 128 x⟩
  have hk : o + x.val < 2816 := by omega
  refine (narrow_gate ..).trans (Eq.trans (congrArg₂ (fun s v => gateStep s.1 s.2 v) (congrArg₂ Prod.mk (narrow_product m c t p (row t p) rfl j l h' x ⟨o + x.val, hk⟩ (by show o + x.val = j * 1408 + (l + x.val); omega)) (gate_ld m c t p (row t p) rfl o 128 h x ⟨o + x.val, hk⟩ rfl)) (up_ld m c t p (row t p) rfl o 128 h x ⟨o + x.val, hk⟩ rfl)) ?_)
  rw [emb_cols o 128 h p x hk]
  exact gateStep_at m c _ hX _

theorem upWide_at (o j l : ℕ) (h : Cols o 256) (h' : Down j l 256) (ho : o = j * 1408 + l) :
    ∀ x, (upWide m c t o j l h h').2 x = gradUp m c t ((upWide m c t o j l h h').1.emb x) := by
  intro x
  have h2 : o + 256 ≤ 2816 := h 1
  obtain ⟨p, x, rfl⟩ : ∃ (p : Fin 416) (q : Fin 256), x = ix2 p q := ⟨x 0, x 1, split 256 x⟩
  have hk : o + x.val < 2816 := by omega
  refine (wide_up ..).trans (Eq.trans (congrArg₂ upStep (wide_product m c t p (row t p) rfl j l h' x ⟨o + x.val, hk⟩ (by show o + x.val = j * 1408 + (l + x.val); omega)) (gate_ld m c t p (row t p) rfl o 256 h x ⟨o + x.val, hk⟩ rfl)) ?_)
  rw [emb_cols o 256 h p x hk]
  exact upStep_at m c _ _

theorem upNarrow_at (o j l : ℕ) (h : Cols o 128) (h' : Down j l 128) (ho : o = j * 1408 + l) :
    ∀ x, (upNarrow m c t o j l h h').2 x = gradUp m c t ((upNarrow m c t o j l h h').1.emb x) := by
  intro x
  have h2 : o + 128 ≤ 2816 := h 1
  obtain ⟨p, x, rfl⟩ : ∃ (p : Fin 416) (q : Fin 128), x = ix2 p q := ⟨x 0, x 1, split 128 x⟩
  have hk : o + x.val < 2816 := by omega
  refine (narrow_up ..).trans (Eq.trans (congrArg₂ upStep (narrow_product m c t p (row t p) rfl j l h' x ⟨o + x.val, hk⟩ (by show o + x.val = j * 1408 + (l + x.val); omega)) (gate_ld m c t p (row t p) rfl o 128 h x ⟨o + x.val, hk⟩ rfl)) ?_)
  rw [emb_cols o 128 h p x hk]
  exact upStep_at m c _ _

abbrev gateHalf0 : List (View.Piece (Elt Ideal) S416x2816 .bf16) :=
  [gateNarrow m c t 1280 0 1280 (by decide) (by decide),
    gateWide m c t 1024 0 1024 (by decide) (by decide),
    gateWide m c t 768 0 768 (by decide) (by decide),
    gateWide m c t 512 0 512 (by decide) (by decide),
    gateWide m c t 256 0 256 (by decide) (by decide),
    gateWide m c t 0 0 0 (by decide) (by decide)]

theorem gateHalf0_at (hX : Real31 m c) : ∀ p ∈ gateHalf0 m c t, ∀ x, p.2 x = gradGate m c t (p.1.emb x) :=
  List.forall_mem_cons.2 ⟨gateNarrow_at m c t hX 1280 0 1280 (by decide) (by decide) rfl,
    List.forall_mem_cons.2 ⟨gateWide_at m c t hX 1024 0 1024 (by decide) (by decide) rfl,
    List.forall_mem_cons.2 ⟨gateWide_at m c t hX 768 0 768 (by decide) (by decide) rfl,
    List.forall_mem_cons.2 ⟨gateWide_at m c t hX 512 0 512 (by decide) (by decide) rfl,
    List.forall_mem_cons.2 ⟨gateWide_at m c t hX 256 0 256 (by decide) (by decide) rfl,
    List.forall_mem_cons.2 ⟨gateWide_at m c t hX 0 0 0 (by decide) (by decide) rfl,
    List.forall_mem_nil _⟩⟩⟩⟩⟩⟩

abbrev gateHalf1 : List (View.Piece (Elt Ideal) S416x2816 .bf16) :=
  [gateNarrow m c t 2688 1 1280 (by decide) (by decide),
    gateWide m c t 2432 1 1024 (by decide) (by decide),
    gateWide m c t 2176 1 768 (by decide) (by decide),
    gateWide m c t 1920 1 512 (by decide) (by decide),
    gateWide m c t 1664 1 256 (by decide) (by decide),
    gateWide m c t 1408 1 0 (by decide) (by decide)]

theorem gateHalf1_at (hX : Real31 m c) : ∀ p ∈ gateHalf1 m c t, ∀ x, p.2 x = gradGate m c t (p.1.emb x) :=
  List.forall_mem_cons.2 ⟨gateNarrow_at m c t hX 2688 1 1280 (by decide) (by decide) rfl,
    List.forall_mem_cons.2 ⟨gateWide_at m c t hX 2432 1 1024 (by decide) (by decide) rfl,
    List.forall_mem_cons.2 ⟨gateWide_at m c t hX 2176 1 768 (by decide) (by decide) rfl,
    List.forall_mem_cons.2 ⟨gateWide_at m c t hX 1920 1 512 (by decide) (by decide) rfl,
    List.forall_mem_cons.2 ⟨gateWide_at m c t hX 1664 1 256 (by decide) (by decide) rfl,
    List.forall_mem_cons.2 ⟨gateWide_at m c t hX 1408 1 0 (by decide) (by decide) rfl,
    List.forall_mem_nil _⟩⟩⟩⟩⟩⟩

abbrev upHalf0 : List (View.Piece (Elt Ideal) S416x2816 .bf16) :=
  [upNarrow m c t 1280 0 1280 (by decide) (by decide),
    upWide m c t 1024 0 1024 (by decide) (by decide),
    upWide m c t 768 0 768 (by decide) (by decide),
    upWide m c t 512 0 512 (by decide) (by decide),
    upWide m c t 256 0 256 (by decide) (by decide),
    upWide m c t 0 0 0 (by decide) (by decide)]

theorem upHalf0_at : ∀ p ∈ upHalf0 m c t, ∀ x, p.2 x = gradUp m c t (p.1.emb x) :=
  List.forall_mem_cons.2 ⟨upNarrow_at m c t 1280 0 1280 (by decide) (by decide) rfl,
    List.forall_mem_cons.2 ⟨upWide_at m c t 1024 0 1024 (by decide) (by decide) rfl,
    List.forall_mem_cons.2 ⟨upWide_at m c t 768 0 768 (by decide) (by decide) rfl,
    List.forall_mem_cons.2 ⟨upWide_at m c t 512 0 512 (by decide) (by decide) rfl,
    List.forall_mem_cons.2 ⟨upWide_at m c t 256 0 256 (by decide) (by decide) rfl,
    List.forall_mem_cons.2 ⟨upWide_at m c t 0 0 0 (by decide) (by decide) rfl,
    List.forall_mem_nil _⟩⟩⟩⟩⟩⟩

abbrev upHalf1 : List (View.Piece (Elt Ideal) S416x2816 .bf16) :=
  [upNarrow m c t 2688 1 1280 (by decide) (by decide),
    upWide m c t 2432 1 1024 (by decide) (by decide),
    upWide m c t 2176 1 768 (by decide) (by decide),
    upWide m c t 1920 1 512 (by decide) (by decide),
    upWide m c t 1664 1 256 (by decide) (by decide),
    upWide m c t 1408 1 0 (by decide) (by decide)]

theorem upHalf1_at : ∀ p ∈ upHalf1 m c t, ∀ x, p.2 x = gradUp m c t (p.1.emb x) :=
  List.forall_mem_cons.2 ⟨upNarrow_at m c t 2688 1 1280 (by decide) (by decide) rfl,
    List.forall_mem_cons.2 ⟨upWide_at m c t 2432 1 1024 (by decide) (by decide) rfl,
    List.forall_mem_cons.2 ⟨upWide_at m c t 2176 1 768 (by decide) (by decide) rfl,
    List.forall_mem_cons.2 ⟨upWide_at m c t 1920 1 512 (by decide) (by decide) rfl,
    List.forall_mem_cons.2 ⟨upWide_at m c t 1664 1 256 (by decide) (by decide) rfl,
    List.forall_mem_cons.2 ⟨upWide_at m c t 1408 1 0 (by decide) (by decide) rfl,
    List.forall_mem_nil _⟩⟩⟩⟩⟩⟩

/-- Six stores, one after the other along the columns, reach all of a half's columns. -/
theorem half_cover (b : ℕ) (y : S416x2816.Idx) (h1 : b ≤ (y 1).val) (h2 : (y 1).val < b + 1408) (p0 p1 p2 p3 p4 p5 : View.Piece (Elt Ideal) S416x2816 .bf16)
    (e0 : ∀ h : (y 1).val < b + 256, y ∈ p0.1.set) (e1 : ∀ (h : b + 256 ≤ (y 1).val) (h' : (y 1).val < b + 512), y ∈ p1.1.set)
    (e2 : ∀ (h : b + 512 ≤ (y 1).val) (h' : (y 1).val < b + 768), y ∈ p2.1.set) (e3 : ∀ (h : b + 768 ≤ (y 1).val) (h' : (y 1).val < b + 1024), y ∈ p3.1.set)
    (e4 : ∀ (h : b + 1024 ≤ (y 1).val) (h' : (y 1).val < b + 1280), y ∈ p4.1.set) (e5 : ∀ (h : b + 1280 ≤ (y 1).val), y ∈ p5.1.set) :
    ∃ p ∈ [p5, p4, p3, p2, p1, p0], y ∈ p.1.set := by
  by_cases g1 : (y 1).val < b + 256
  · exact ⟨p0, by simp, e0 g1⟩
  by_cases g2 : (y 1).val < b + 512
  · exact ⟨p1, by simp, e1 (by omega) g2⟩
  by_cases g3 : (y 1).val < b + 768
  · exact ⟨p2, by simp, e2 (by omega) g3⟩
  by_cases g4 : (y 1).val < b + 1024
  · exact ⟨p3, by simp, e3 (by omega) g4⟩
  by_cases g5 : (y 1).val < b + 1280
  · exact ⟨p4, by simp, e4 (by omega) g5⟩
  · exact ⟨p5, by simp, e5 (by omega)⟩

theorem gateHalf0_cover (y : S416x2816.Idx) (h1 : 0 ≤ (y 1).val) (h2 : (y 1).val < 0 + 1408) : ∃ p ∈ gateHalf0 m c t, y ∈ p.1.set :=
  half_cover 0 y h1 h2 _ _ _ _ _ _ (fun h => mem_cols 0 256 (by decide) y h1 h) (fun h h' => mem_cols 256 256 (by decide) y h h') (fun h h' => mem_cols 512 256 (by decide) y h h')
    (fun h h' => mem_cols 768 256 (by decide) y h h') (fun h h' => mem_cols 1024 256 (by decide) y h h') (fun h => mem_cols 1280 128 (by decide) y h h2)

theorem gateHalf1_cover (y : S416x2816.Idx) (h1 : 1408 ≤ (y 1).val) (h2 : (y 1).val < 1408 + 1408) : ∃ p ∈ gateHalf1 m c t, y ∈ p.1.set :=
  half_cover 1408 y h1 h2 _ _ _ _ _ _ (fun h => mem_cols 1408 256 (by decide) y h1 h) (fun h h' => mem_cols 1664 256 (by decide) y h h') (fun h h' => mem_cols 1920 256 (by decide) y h h')
    (fun h h' => mem_cols 2176 256 (by decide) y h h') (fun h h' => mem_cols 2432 256 (by decide) y h h') (fun h => mem_cols 2688 128 (by decide) y h h2)

theorem upHalf0_cover (y : S416x2816.Idx) (h1 : 0 ≤ (y 1).val) (h2 : (y 1).val < 0 + 1408) : ∃ p ∈ upHalf0 m c t, y ∈ p.1.set :=
  half_cover 0 y h1 h2 _ _ _ _ _ _ (fun h => mem_cols 0 256 (by decide) y h1 h) (fun h h' => mem_cols 256 256 (by decide) y h h') (fun h h' => mem_cols 512 256 (by decide) y h h')
    (fun h h' => mem_cols 768 256 (by decide) y h h') (fun h h' => mem_cols 1024 256 (by decide) y h h') (fun h => mem_cols 1280 128 (by decide) y h h2)

theorem upHalf1_cover (y : S416x2816.Idx) (h1 : 1408 ≤ (y 1).val) (h2 : (y 1).val < 1408 + 1408) : ∃ p ∈ upHalf1 m c t, y ∈ p.1.set :=
  half_cover 1408 y h1 h2 _ _ _ _ _ _ (fun h => mem_cols 1408 256 (by decide) y h1 h) (fun h h' => mem_cols 1664 256 (by decide) y h h') (fun h h' => mem_cols 1920 256 (by decide) y h h')
    (fun h h' => mem_cols 2176 256 (by decide) y h h') (fun h h' => mem_cols 2432 256 (by decide) y h h') (fun h => mem_cols 2688 128 (by decide) y h h2)

end Cert.Kernel3Ideal.Ffn
end
-- ==== Proof.FfnPoints.lean ====
module

public import proofs.«01_k».proof.Proof.FfnPieces

@[expose] public section
set_option maxRecDepth 16384
noncomputable section

namespace Cert.Kernel3Ideal.Ffn

open Cert.Kernel3Ideal Cert.Kernel3Ideal.Gen Idealize.ShloMosaic Idealize.ShloMosaic.TcCoe Idealize.SL.Sem
open Cert.Reference3Ideal.Read
variable (m : (ℓ : Loc nD τ sig) → Buf (Elt Ideal) ℓ) (c : Dev nD) (t : Fin cfg0.N)

/-- One half's columns, read back from the stored gradient. -/
abbrev halfCols (o : ℕ) (h : Cols o 1408) := (Rect.unit (s := S416x2816) ![0, o] ![416, 1408] h).toLoadRect
/-- One quarter of the input weight. -/
abbrev quarter (o : ℕ) (h : ∀ a, (![o, 0, 0] : Fin 3 → ℕ) a + (![1, 1024, 1408] : Fin 3 → ℕ) a ≤ S4x1024x1408.size a) :=
  View.ld (iblk m c 5 t) (Rect.unit (s := S4x1024x1408) ![o, 0, 0] ![1, 1024, 1408] h)

/-- The gradient of the normalised rows at point `t`: the products of the two halves' gate and linear gradients with their quarters of the weight. -/
def dn : FVec Ideal S416x1024 .f32 :=
  k0_pay78 (k0_pay41 ((ms0_8 t).view.readCov (gateHalf0 m c t) (halfCols 0 (by decide))) (quarter m c t 0 (by decide))
      ((ms0_9 t).view.readCov (upHalf0 m c t) (halfCols 0 (by decide))) (quarter m c t 2 (by decide)))
    ((ms0_8 t).view.readCov (gateHalf1 m c t ++ gateHalf0 m c t) (halfCols 1408 (by decide))) (quarter m c t 1 (by decide))
    ((ms0_9 t).view.readCov (upHalf1 m c t ++ upHalf0 m c t) (halfCols 1408 (by decide))) (quarter m c t 3 (by decide))

theorem point_dh : (outsAt0 m c t.val t.isLt).1 = k0_pay4 (iblk m c 0 t) (dn m c t) (iblk m c 1 t) (k0_pay79 (iblk m c 2 t)) := by
  by_cases h0 : t.val % 10 = 0
  · rw [outsAt0_A m c t h0]; frame_out; rfl
  · rw [outsAt0_B m c t h0]; frame_out; rfl

theorem point_gate : (outsAt0 m c t.val t.isLt).2.1 = View.canon (gateHalf1 m c t ++ gateHalf0 m c t) := by
  by_cases h0 : t.val % 10 = 0
  · rw [outsAt0_A m c t h0]; frame_out; rfl
  · rw [outsAt0_B m c t h0]; frame_out; rfl

theorem point_up : (outsAt0 m c t.val t.isLt).2.2.1 = View.canon (upHalf1 m c t ++ upHalf0 m c t) := by
  by_cases h0 : t.val % 10 = 0
  · rw [outsAt0_A m c t h0]; frame_out; rfl
  · rw [outsAt0_B m c t h0]; frame_out; rfl

theorem point_df : (outsAt0 m c t.val t.isLt).2.2.2.1 = k0_pay6 (iblk m c 0 t) := by
  by_cases h0 : t.val % 10 = 0
  · rw [outsAt0_A m c t h0]; frame_out
  · rw [outsAt0_B m c t h0]; frame_out

theorem point_dg_first (h0 : t.val % 10 = 0) :
    (outsAt0 m c t.val t.isLt).2.2.2.2 = k0_pay3 (dn m c t) (iblk m c 1 t) (k0_pay5 (F := Ideal)) := by
  rw [outsAt0_A m c t h0]; frame_out; rfl

theorem point_dg_next (h0 : ¬t.val % 10 = 0) :
    (outsAt0 m c t.val t.isLt).2.2.2.2 = k0_pay3 (dn m c t) (iblk m c 1 t) (outsAt0 m c (t.val - 1) (Nat.lt_of_le_of_lt (Nat.sub_le _ _) t.isLt)).2.2.2.2 := by
  rw [outsAt0_B m c t h0]; frame_out; rfl

end Cert.Kernel3Ideal.Ffn
end
-- ==== Proof.FfnNorm.lean ====
module

public import proofs.«01_k».proof.Proof.FfnPoints

@[expose] public section
set_option maxRecDepth 16384
noncomputable section

namespace Cert.Kernel3Ideal.Ffn

open Cert.Kernel3Ideal Cert.Kernel3Ideal.Gen Idealize.ShloMosaic Idealize.ShloMosaic.TcCoe Idealize.SL.Sem
open Cert.Reference3Ideal.Read
variable (m : (ℓ : Loc nD τ sig) → Buf (Elt Ideal) ℓ) (c : Dev nD) (t : Fin cfg0.N)

/-- A half read back from stores that agree with a function is that function on the half's columns. -/
theorem read_half {sg : RefSig} {sp : Space} (v : View sg .tc sp S416x2816 .bf16) (L : List (View.Piece (Elt Ideal) S416x2816 .bf16)) (f : S416x2816.Idx → Elt Ideal .bf16) (o : ℕ) (h : Cols o 1408)
    (hf : ∀ p ∈ L, ∀ x, p.2 x = f (p.1.emb x)) (hc : ∀ y : S416x2816.Idx, o ≤ (y 1).val → (y 1).val < o + 1408 → ∃ p ∈ L, y ∈ p.1.set)
    (p : Fin 416) (x : Fin 1408) (k : Fin 2816) (hk : k.val = o + x.val) : v.readCov L (halfCols o h) (ix2 p x) = f (ix2 p k) := by
  have h2 : o + x.val < 2816 := hk ▸ k.isLt
  have e : (halfCols o h).idx (ix2 p x) = ix2 p k := (emb_cols o 1408 h p x h2).trans (by rw [show k = ⟨o + x.val, h2⟩ from Fin.ext hk])
  rw [View.readCov_eq_canon']
  show View.canon L ((halfCols o h).idx (ix2 p x)) = _
  rw [e]
  exact canon_agree f _ L hf (hc _ (by show o ≤ k.val; omega) (by show k.val < o + 1408; omega))

theorem mem_left {α : Type} {P : α → Prop} {L M : List α} (h : ∃ p ∈ L, P p) : ∃ p ∈ L ++ M, P p :=
  h.imp fun _ h => ⟨List.mem_append_left _ h.1, h.2⟩
theorem mem_right {α : Type} {P : α → Prop} {L M : List α} (h : ∃ p ∈ M, P p) : ∃ p ∈ L ++ M, P p :=
  h.imp fun _ h => ⟨List.mem_append_right _ h.1, h.2⟩

theorem gate_all (hX : Real31 m c) : ∀ p ∈ gateHalf1 m c t ++ gateHalf0 m c t, ∀ x, p.2 x = gradGate m c t (p.1.emb x) :=
  List.forall_mem_append.2 ⟨gateHalf1_at m c t hX, gateHalf0_at m c t hX⟩
theorem up_all : ∀ p ∈ upHalf1 m c t ++ upHalf0 m c t, ∀ x, p.2 x = gradUp m c t (p.1.emb x) :=
  List.forall_mem_append.2 ⟨upHalf1_at m c t, upHalf0_at m c t⟩

theorem gate_canon (hX : Real31 m c) (y : S416x2816.Idx) : View.canon (gateHalf1 m c t ++ gateHalf0 m c t) y = gradGate m c t y := by
  have h : (y 1).val < 2816 := (y 1).isLt
  refine canon_agree _ y _ (gate_all m c t hX) ?_
  by_cases g : (y 1).val < 1408
  · exact mem_right (gateHalf0_cover m c t y (Nat.zero_le _) (by omega))
  · exact mem_left (gateHalf1_cover m c t y (by omega) (by omega))

theorem up_canon (y : S416x2816.Idx) : View.canon (upHalf1 m c t ++ upHalf0 m c t) y = gradUp m c t y := by
  have h : (y 1).val < 2816 := (y 1).isLt
  refine canon_agree _ y _ (up_all m c t) ?_
  by_cases g : (y 1).val < 1408
  · exact mem_right (upHalf0_cover m c t y (Nat.zero_le _) (by omega))
  · exact mem_left (upHalf1_cover m c t y (by omega) (by omega))

theorem quarter_at (o : ℕ) (h) (ho : o < 4) (q : Fin 1024) (x : Fin 1408) (k : Fin 5632) (hk : k.val = o * 1408 + x.val) :
    quarter m c t o h (ix3 0 q x) = A2 m c (ix2 q k) := by
  refine (View.ld_unit_apply_of _ _ _ _ _ (ix3 ⟨o, ho⟩ q x) fun a => ?_).trans (weight_at m c t _ q x k hk)
  fin_cases a
  · show o = o + 0; omega
  · show q.val = 0 + q.val; omega
  · show x.val = 0 + x.val; omega

theorem four_products (a0 w0 b0 w2 a1 w1 b1 w3) (p : Fin 416) (q : Fin 1024) :
    k0_pay78 (F := Ideal) (k0_pay41 a0 w0 b0 w2) a1 w1 b1 w3 (ix2 p q)
      = ((∑ x : Fin 1408, a0 (ix2 p x) * w0 (ix3 0 q x)) + ∑ x : Fin 1408, b0 (ix2 p x) * w2 (ix3 0 q x))
        + ((∑ x : Fin 1408, a1 (ix2 p x) * w1 (ix3 0 q x)) + ∑ x : Fin 1408, b1 (ix2 p x) * w3 (ix3 0 q x)) := by
  pointwise [k0_pay78, k0_pay41]

theorem ref_dn (r : Fin 4160) (q : Fin 1024) :
    val_main_v34 (F := Ideal) (A0 m c) (A1 m c) (A2 m c) (A3 m c) (A4 m c) (ix2 r q)
      = (∑ k : Fin 2816, val_main_v32 (F := Ideal) (A0 m c) (A1 m c) (A2 m c) (A3 m c) (A4 m c) (ix2 r k) * A2 m c (ix2 q ⟨k.val, by omega⟩))
        + ∑ k : Fin 2816, val_main_v30 (F := Ideal) (A0 m c) (A1 m c) (A2 m c) (A3 m c) (A4 m c) (ix2 r k) * A2 m c (ix2 q ⟨2816 + k.val, by omega⟩) := by
  pointwise [val_main_v34, val_main_v33]

theorem two_halves (f : Fin 2816 → EReal) : ∑ k, f k = (∑ x : Fin 1408, f ⟨0 * 1408 + x.val, by omega⟩) + ∑ x : Fin 1408, f ⟨1 * 1408 + x.val, by omega⟩ :=
  ((Fin.sum_univ_two _).symm.trans (Fin.sum_mul_add_fin 2 1408 f)).symm

theorem at_dn (hX : Real31 m c) (p : Fin 416) (q : Fin 1024) :
    dn m c t (ix2 p q) = val_main_v34 (F := Ideal) (A0 m c) (A1 m c) (A2 m c) (A3 m c) (A4 m c) (ix2 (row t p) q) := by
  refine (four_products .. ).trans (Eq.trans ?_ (ref_dn m c (row t p) q).symm)
  rw [two_halves, two_halves, add_add_add_comm]
  refine congrArg₂ (· + ·) (congrArg₂ (· + ·) ?_ ?_) (congrArg₂ (· + ·) ?_ ?_) <;> refine Finset.sum_congr rfl fun x _ => congrArg₂ (· * ·) ?_ ?_
  · exact read_half _ _ (gradGate m c t) 0 _ (gateHalf0_at m c t hX) (gateHalf0_cover m c t) p x ⟨0 * 1408 + x.val, by omega⟩ (by simp)
  · exact quarter_at m c t 0 _ (by decide) q x _ (by simp)
  · exact read_half _ _ (gradGate m c t) 1408 _ (gate_all m c t hX) (fun y h h' => mem_left (gateHalf1_cover m c t y h h')) p x ⟨1 * 1408 + x.val, by omega⟩ (by simp)
  · exact quarter_at m c t 1 _ (by decide) q x _ (by simp)
  · exact read_half _ _ (gradUp m c t) 0 _ (upHalf0_at m c t) (upHalf0_cover m c t) p x ⟨0 * 1408 + x.val, by omega⟩ (by simp)
  · exact quarter_at m c t 2 _ (by decide) q x _ (by simp)
  · exact read_half _ _ (gradUp m c t) 1408 _ (up_all m c t) (fun y h h' => mem_left (upHalf1_cover m c t y h h')) p x ⟨1 * 1408 + x.val, by omega⟩ (by simp)
  · exact quarter_at m c t 3 _ (by decide) q x _ (by show 2816 + (1 * 1408 + x.val) = 3 * 1408 + x.val; omega)

end Cert.Kernel3Ideal.Ffn
end
-- ==== Proof.Finite.lean ====
module

public import proofs.«01_k».proof.Proof.RowNorm
public import Idealize.ShloMosaic.Lib.Claim
public import Idealize.ShloMosaic.Lib.Pointwise.Select
public import Idealize.ShloMosaic.Lib.ReduceAll

@[expose] public section
noncomputable section

/-! Which extended reals are reals: sums, products, and rows scaled by their inverse root mean square. -/
namespace Cert.Finite

open Idealize.ShloMosaic

def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.add {x y : EReal} : IsReal x → IsReal y → IsReal (x + y)
  | ⟨a, ha⟩, ⟨b, hb⟩ => ⟨a + b, by rw [ha, hb, EReal.coe_add]⟩

theorem IsReal.sum {n : ℕ} {f : Fin n → EReal} (h : ∀ k, IsReal (f k)) : IsReal (∑ k, f k) :=
  Finset.sum_induction f IsReal (fun _ _ => IsReal.add) ⟨0, by simp⟩ fun k _ => h k

/-- Below infinity in magnitude is real. -/
theorem of_abs_lt {x : EReal} (h : max x (-x) < Ideal.ofBits .f32 2139095040#32) : IsReal x := by
  have e : Ideal.ofBits .f32 2139095040#32 = ⊤ := by simp [Ideal.ofBits, Ideal.ieee]
  rw [e] at h
  induction x using EReal.rec with
  | bot => exact absurd h (by simp)
  | top => exact absurd h (by simp)
  | coe r => exact ⟨r, rfl⟩

/-- An array whose entries all compare below infinity in magnitude is real. -/
theorem all_real {s t u : Shape} {axes : List (Fin s.rank)} [Subsingleton t.Idx] (x : FVec Ideal s .f32) (d : Fin u.rank → Fin s.rank) (hb : u.BroadcastsInDim s d)
    (init : u.Idx → BitVec 1) (h : s.ReducesTo axes t) (hu : 0 < u.numel) (j : t.Idx)
    (e : Host.reduce IntOp.andi (cmpf .olt (Host.absf x) (broadcastInDim s d hb (constant u .f32 0x7F800000#32))) init h hu j = 1#1) (i : s.Idx) : IsReal (x i) :=
  of_abs_lt ((Ideal.cmp_olt_eq_one _ _).mp (Host.reduce_andi_all _ init h hu j e i))

/-- An entry times its row's inverse root mean square is real, whatever the row. -/
theorem normalised {n : ℕ} (x : Fin n → EReal) (q : Fin n) : IsReal (x q * RowNorm.inv (∑ k, x k * x k)) := by
  have hs : 0 ≤ ∑ k, x k * x k := Finset.sum_nonneg fun k _ => RowNorm.sq_nonneg _
  obtain ⟨hr, -⟩ | ⟨r, u, -, -, -, hi, hm⟩ := RowNorm.inv_cases _ hs
  · exact ⟨0, by rw [hr]; simp⟩
  · rw [hi]
    refine IsReal.mul ?_ ⟨r, rfl⟩
    have hle : x q * x q ≤ ∑ k, x k * x k := Finset.single_le_sum (f := fun k => x k * x k) (fun k _ => RowNorm.sq_nonneg _) (Finset.mem_univ q)
    have hne : x q * x q ≠ ⊤ := by
      intro ht
      rw [ht, top_le_iff] at hle
      obtain ⟨e, -, he⟩ := RowNorm.tiny
      rw [hle, RowNorm.width, he, Ideal.div_coe (by norm_num), EReal.top_mul_coe_of_pos (by norm_num), EReal.top_add_coe] at hm
      exact EReal.coe_ne_top u hm.symm
    generalize x q = z at hne
    induction z using EReal.rec with
    | bot => exact absurd (by simp) hne
    | top => exact absurd (by simp) hne
    | coe a => exact ⟨a, rfl⟩

end Cert.Finite
end
-- ==== Proof.FfnValues.lean ====
module

public import proofs.«01_k».proof.Proof.FfnNorm
public import proofs.«01_k».proof.Proof.Finite

@[expose] public section
set_option maxRecDepth 16384
noncomputable section

namespace Cert.Kernel3Ideal.Ffn

open Cert.Kernel3Ideal Cert.Kernel3Ideal.Gen Idealize.ShloMosaic Idealize.ShloMosaic.TcCoe Idealize.SL.Sem
open Cert.Reference3Ideal.Read
variable (m : (ℓ : Loc nD τ sig) → Buf (Elt Ideal) ℓ) (c : Dev nD) (t : Fin cfg0.N)

theorem row_at (k : Fin 1024) (p : Fin 416) : iblk m c 1 t (ix2 p k) = A0 m c (ix2 (row t p) k) := by
  have hr : (row t p).val = t.val * 416 + p.val := rfl
  generalize row t p = r at hr
  blk_point [iblk, V, idx_val t]

theorem cot_at (k : Fin 1024) (p : Fin 416) : iblk m c 0 t (ix2 p k) = A4 m c (ix2 (row t p) k) := by
  have hr : (row t p).val = t.val * 416 + p.val := rfl
  generalize row t p = r at hr
  blk_point [iblk, V, idx_val t]

theorem gain_at (k : Fin 1024) : iblk m c 2 t (ix2 0 k) = val_main_v13 (F := Ideal) (A1 m c) (ix2 0 k) := by
  pointwise [val_main_v13]; blk_point [iblk, V, idx_val t]

theorem regroup (a b d e : EReal) : a + b + d + e = a + (b + d + e) := by simp only [add_assoc]

theorem at_dh (hX : Real31 m c) (p : Fin 416) (q : Fin 1024) :
    k0_pay4 (iblk m c 0 t) (dn m c t) (iblk m c 1 t) (k0_pay79 (iblk m c 2 t)) (ix2 p q)
      = val_main_v55 (F := Ideal) (A0 m c) (A1 m c) (A2 m c) (A3 m c) (A4 m c) (ix2 (row t p) q) := by
  pointwise [k0_pay79, k0_pay4, k0_pay2, k0_pay1, val_main_v55, val_main_v54, val_main_v53, val_main_v52, val_main_v51, val_main_v50, val_main_v49, val_main_v48, val_main_v47, val_main_v46, val_main_v45, val_main_v44, val_main_v43, val_main_v42, val_main_v41, val_main_v39, val_main_v38, val_main_v10, val_main_v9, val_main_v8, val_main_v7, val_main_v6, val_main_v5, val_main_v4, val_main_v3, val_main_v2, val_main_v1, val_main_v0, val_main_cst, val_main_cst_0, val_main_cst_1, val_main_cst_2, val_main_cst_7, val_main_cst_8, val_main_cst_9]
  simp only [at_dn m c t hX, row_at m c t, cot_at m c t, gain_at m c t]
  simp only [Fin.sum_univ_one]
  exact (RowNorm.gradient (fun k => A0 m c (ix2 (row t p) k)) _ _ _ _ _ (Finset.sum_nonneg fun k _ => RowNorm.sq_nonneg _)).trans
    (regroup _ _ _ _)

theorem at_dg (hX : Real31 m c) (p : Fin 416) (q : Fin 1024) :
    dn m c t (ix2 p q) * k0_pay2 (F := Ideal) (iblk m c 1 t) (ix2 p q)
      = val_main_v35 (F := Ideal) (A0 m c) (A1 m c) (A2 m c) (A3 m c) (A4 m c) (ix2 (row t p) q) := by
  rw [at_dn m c t hX p q]
  pointwise [k0_pay2, k0_pay1, val_main_v35, val_main_v12, val_main_v11, val_main_v7, val_main_v6, val_main_v5, val_main_v4, val_main_v3, val_main_v2, val_main_v1, val_main_v0, val_main_cst, val_main_cst_0, val_main_cst_1]
  simp only [row_at m c t]
  exact mul_comm _ _

theorem pay3_at (d x a j) : k0_pay3 (F := Ideal) d x a j = a j + ∑ k : Fin 416, d (ix2 k (j 1)) * k0_pay2 x (ix2 k (j 1)) := by
  pointwise [k0_pay3]

theorem ref_dg (a0 a1 a2 a3 a4 j) : val_main_v59 (F := Ideal) a0 a1 a2 a3 a4 j = ∑ k : Fin 4160, val_main_v35 (F := Ideal) a0 a1 a2 a3 a4 (ix2 k (j 1)) := by
  pointwise [val_main_v59, val_main_v40, val_main_v37, val_main_v36, val_main_cst_5, val_main_cst_6]
  simp

/-- An entry of a row block, moved to the array's row. -/
theorem moved {n : ℕ} {f : (⟨2, ![416, n]⟩ : Shape).Idx → EReal} {g : (⟨2, ![4160, n]⟩ : Shape).Idx → EReal}
    (h : ∀ (p : Fin 416) (q : Fin n), f (ix2 p q) = g (ix2 (row t p) q)) (y : (⟨2, ![416, n]⟩ : Shape).Idx) (j : (⟨2, ![4160, n]⟩ : Shape).Idx)
    (h0 : (j 0).val = t.val * 416 + (y 0).val) (h1 : (j 1).val = (y 1).val) : f y = g j := by
  have hj : j = ix2 (row t (y 0)) (y 1) := funext fun a => by
    fin_cases a
    · exact Fin.ext h0
    · exact Fin.ext h1
  rw [split n y, hj]
  exact h _ _

theorem final_dh (hX : Real31 m c) : (dats m 0 c).arrAt 7 (cfgs 0).N = val_main_v55 (F := Ideal) (A0 m c) (A1 m c) (A2 m c) (A3 m c) (A4 m c) := by
  refine (dats m 0 c).arrAt_eq_of_covers 7 _ (by decide +kernel) fun t _ y => ?_
  have hj0 : ((((cfg0.win 7).blk t).view.emb y) 0 : ℕ) = t.val * 416 + (y 0).val := by blk_simp [idx_val t]
  have hj1 : ((((cfg0.win 7).blk t).view.emb y) 1 : ℕ) = (y 1).val := by blk_simp [idx_val t]
  blk_simp
  rw [after0_7, point_dh]
  exact moved t (at_dh m c t hX) y _ hj0 hj1

theorem final_dgate (hX : Real31 m c) : (dats m 0 c).arrAt 8 (cfgs 0).N = val_main_v56 (F := Ideal) (A0 m c) (A1 m c) (A2 m c) (A3 m c) (A4 m c) := by
  refine (dats m 0 c).arrAt_eq_of_covers 8 _ (by decide +kernel) fun t _ y => ?_
  have hj0 : ((((cfg0.win 8).blk t).view.emb y) 0 : ℕ) = t.val * 416 + (y 0).val := by blk_simp [idx_val t]
  have hj1 : ((((cfg0.win 8).blk t).view.emb y) 1 : ℕ) = (y 1).val := by blk_simp [idx_val t]
  blk_simp
  rw [after0_8, point_gate]
  exact moved t (fun p q => gate_canon m c t hX (ix2 p q)) y _ hj0 hj1

theorem final_dup : (dats m 0 c).arrAt 9 (cfgs 0).N = val_main_v57 (F := Ideal) (A0 m c) (A1 m c) (A2 m c) (A3 m c) (A4 m c) := by
  refine (dats m 0 c).arrAt_eq_of_covers 9 _ (by decide +kernel) fun t _ y => ?_
  have hj0 : ((((cfg0.win 9).blk t).view.emb y) 0 : ℕ) = t.val * 416 + (y 0).val := by blk_simp [idx_val t]
  have hj1 : ((((cfg0.win 9).blk t).view.emb y) 1 : ℕ) = (y 1).val := by blk_simp [idx_val t]
  blk_simp
  rw [after0_9, point_up]
  exact moved t (fun p q => up_canon m c t (ix2 p q)) y _ hj0 hj1

theorem at_df (p : Fin 416) (q : Fin 1024) : k0_pay6 (F := Ideal) (iblk m c 0 t) (ix2 p q) = val_main_v58 (F := Ideal) (A4 m c) (ix2 (row t p) q) := by
  pointwise [k0_pay6, val_main_v58, val_main_v27, val_main_v26, val_main_v25, val_main_cst_4]
  simp only [cot_at m c t]

theorem final_df : (dats m 0 c).arrAt 10 (cfgs 0).N = val_main_v58 (F := Ideal) (A4 m c) := by
  refine (dats m 0 c).arrAt_eq_of_covers 10 _ (by decide +kernel) fun t _ y => ?_
  have hj0 : ((((cfg0.win 10).blk t).view.emb y) 0 : ℕ) = t.val * 416 + (y 0).val := by blk_simp [idx_val t]
  have hj1 : ((((cfg0.win 10).blk t).view.emb y) 1 : ℕ) = (y 1).val := by blk_simp [idx_val t]
  blk_simp
  rw [after0_10, point_df]
  exact moved t (at_df m c t) y _ hj0 hj1

theorem final_dg (hX : Real31 m c) : (dats m 0 c).arrAt 11 (cfgs 0).N = val_main_v59 (F := Ideal) (A0 m c) (A1 m c) (A2 m c) (A3 m c) (A4 m c) := by
  refine (dats m 0 c).arrAt_eq_of_after_last 11 t0_9 (by decide +kernel) _ fun j => ?_
  blk_simp
  rw [after0_11, Pipeline.eq_sum_fin_of_reset_step_apply_last (fun n h => (outsAt0 m c n h).2.2.2.2) 10 (fun _ => 0) _
    (fun t h j => by rw [point_dg_first m c t h, pay3_at, show k0_pay5 (F := Ideal) j = 0 by pointwise [k0_pay5]])
    (fun t h j => by rw [point_dg_next m c t h, pay3_at]) (le_of_eq N_0) t0_9 rfl j, zero_add, ref_dg]
  refine Fin.sum_mul_add_congr fun s k hl => ?_
  exact at_dg m c _ hX k _

/-- The cotangent of the gate's value is real when gain, weights and cotangent are. -/
theorem real31 (h1 : ∀ i, Finite.IsReal (A1 m c i)) (h2 : ∀ i, Finite.IsReal (A2 m c i)) (h3 : ∀ i, Finite.IsReal (A3 m c i)) (h4 : ∀ i, Finite.IsReal (A4 m c i)) :
    Real31 m c := by
  intro r k
  show Finite.IsReal (val_main_v31 (F := Ideal) (A0 m c) (A1 m c) (A2 m c) (A3 m c) (A4 m c) (ix2 r k))
  refine Finite.IsReal.mul (x := val_main_v29 (F := Ideal) (A3 m c) (A4 m c) (ix2 r k)) (y := val_main_v18 (F := Ideal) (A0 m c) (A1 m c) (A2 m c) (ix2 r k)) ?_ ?_
  · pointwise [val_main_v29, val_main_v27, val_main_v26, val_main_v25, val_main_cst_4]
    exact Finite.IsReal.sum fun q => (Finite.IsReal.mul ⟨_, Logistic.half⟩ (h4 _)).mul (h3 _)
  · pointwise [val_main_v18, val_main_v16, val_main_v15, val_main_v14, val_main_v13, val_main_v12, val_main_v11, val_main_v7, val_main_v6, val_main_v5, val_main_v4, val_main_v3, val_main_v2, val_main_v1, val_main_v0, val_main_cst, val_main_cst_0, val_main_cst_1]
    exact Finite.IsReal.sum fun q => ((Finite.normalised (fun q => A0 m c (ix2 r q)) q).mul (h1 _)).mul (h2 _)

end Cert.Kernel3Ideal.Ffn
end
-- ==== Proof.FfnEquation.lean ====
module

public import proofs.«01_k».proof.Defs
public import proofs.«01_k».proof.Proof.FfnValues
public import proofs.«01_k».proof.Proof.Gen.Kernel3Ideal.Value
public import proofs.«01_k».proof.Proof.Gen.Reference3Ideal.Run
public import proofs.«01_k».proof.Proof.Gen.Pre_finite3

@[expose] public section
set_option maxRecDepth 16384
noncomputable section

namespace Cert.Ffn

open Idealize.ShloMosaic Idealize.SL.Sem

/-- The reference's run ends with its arguments unchanged and every counter at zero. -/
theorem frame_reference : Cert.quiescent_Reference3Ideal := by
  intro m ρ _
  exact (θ_run Cert.Reference3Ideal.defs _ _).mono (fun r h => ⟨fun c => (h c).2.2.2.2.2,
      Idealize.ShloMosaic.sem_eq_zero_of_no_sems (by decide) r.2⟩)
    (Cert.Reference3Ideal.Value.run (F := Ideal) m ρ)

/-- The precondition read at one array: every entry is real. -/
theorem reals (m : (ℓ : Loc Cert.Kernel3Ideal.nD Cert.Kernel3Ideal.τ Cert.Kernel3Ideal.sig) → Buf (Elt Ideal) ℓ) (hpre : Cert.Pre_Kernel3Ideal_finite3 m) (c : Dev Cert.Kernel3Ideal.nD) :
    Cert.Kernel3Ideal.Ffn.Real31 m c := by
  have h := hpre c
  dsimp only [Cert.Pre_finite3.fn] at h
  obtain ⟨p1, p2, p3, p4⟩ := h
  have j0 : Cert.Pre_finite3.S_.Idx := fun a => a.elim0
  have : Subsingleton Cert.Pre_finite3.S_.Idx := ⟨fun _ _ => funext fun a => a.elim0⟩
  exact Cert.Kernel3Ideal.Ffn.real31 m c (fun i => Finite.all_real _ _ _ _ _ _ j0 (congrFun p1 j0) i)
    (fun i => Finite.all_real _ _ _ _ _ _ j0 (congrFun p2 j0) i) (fun i => Finite.all_real _ _ _ _ _ _ j0 (congrFun p3 j0) i)
    (fun i => Finite.all_real _ _ _ _ _ _ j0 (congrFun p4 j0) i)

/-- The gradient of the second feed-forward block, over the reals: kernel and derivative leave the same arrays. -/
theorem algebraic : Cert.algebraic_Kernel3Ideal_Reference3Ideal_pre_finite3 := by
  intro m g m' g' hpre hagree
  refine ⟨fun c => Cert.Reference3Ideal.Read.val_main_v55 (F := Ideal) (Cert.Kernel3Ideal.Ffn.A0 m c) (Cert.Kernel3Ideal.Ffn.A1 m c) (Cert.Kernel3Ideal.Ffn.A2 m c) (Cert.Kernel3Ideal.Ffn.A3 m c) (Cert.Kernel3Ideal.Ffn.A4 m c),
    fun c => Cert.Reference3Ideal.Read.val_main_v56 (F := Ideal) (Cert.Kernel3Ideal.Ffn.A0 m c) (Cert.Kernel3Ideal.Ffn.A1 m c) (Cert.Kernel3Ideal.Ffn.A2 m c) (Cert.Kernel3Ideal.Ffn.A3 m c) (Cert.Kernel3Ideal.Ffn.A4 m c),
    fun c => Cert.Reference3Ideal.Read.val_main_v57 (F := Ideal) (Cert.Kernel3Ideal.Ffn.A0 m c) (Cert.Kernel3Ideal.Ffn.A1 m c) (Cert.Kernel3Ideal.Ffn.A2 m c) (Cert.Kernel3Ideal.Ffn.A3 m c) (Cert.Kernel3Ideal.Ffn.A4 m c),
    fun c => Cert.Reference3Ideal.Read.val_main_v58 (F := Ideal) (Cert.Kernel3Ideal.Ffn.A4 m c),
    fun c => Cert.Reference3Ideal.Read.val_main_v59 (F := Ideal) (Cert.Kernel3Ideal.Ffn.A0 m c) (Cert.Kernel3Ideal.Ffn.A1 m c) (Cert.Kernel3Ideal.Ffn.A2 m c) (Cert.Kernel3Ideal.Ffn.A3 m c) (Cert.Kernel3Ideal.Ffn.A4 m c), ?_, ?_⟩
  · refine (θ_run Cert.Kernel3Ideal.defs _ _).mono (fun r h c => ?_) (Cert.Kernel3Ideal.Value.run_blocks (F := Ideal) m g)
    obtain ⟨h0, h1, h2, h3, h4, hk⟩ := h c
    have hX := reals m hpre c
    exact ⟨h0.trans (Cert.Kernel3Ideal.Ffn.final_dh m c hX), h1.trans (Cert.Kernel3Ideal.Ffn.final_dgate m c hX), h2.trans (Cert.Kernel3Ideal.Ffn.final_dup m c), h3.trans (Cert.Kernel3Ideal.Ffn.final_df m c), h4.trans (Cert.Kernel3Ideal.Ffn.final_dg m c hX), hk⟩
  · refine (θ_run Cert.Reference3Ideal.defs _ _).mono (fun r h c => ?_) (Cert.Reference3Ideal.Value.run (F := Ideal) m' g')
    obtain ⟨h0, h1, h2, h3, h4, hk⟩ := h c
    obtain ⟨e0, e1, e2, e3, e4⟩ := hagree c
    have f0 := h0.trans (Cert.Reference3Ideal.Read.val_main_v55_eq (F := Ideal) _ _)
    rw [e0, e1, e2, e3, e4] at f0
    have f1 := h1.trans (Cert.Reference3Ideal.Read.val_main_v56_eq (F := Ideal) _ _)
    rw [e0, e1, e2, e3, e4] at f1
    have f2 := h2.trans (Cert.Reference3Ideal.Read.val_main_v57_eq (F := Ideal) _ _ _ _ _)
    rw [e0, e1, e2, e3, e4] at f2
    have f3 := h3.trans (Cert.Reference3Ideal.Read.val_main_v58_eq (F := Ideal) _)
    rw [e4] at f3
    have f4 := h4.trans (Cert.Reference3Ideal.Read.val_main_v59_eq (F := Ideal) _ _)
    rw [e0, e1, e2, e3, e4] at f4
    exact ⟨f0, f1, f2, f3, f4, hk⟩

end Cert.Ffn
end
-- ==== Proof.HeadRows.lean ====
module

public import proofs.«01_k».proof.Proof.FfnNorm
public import proofs.«01_k».proof.Proof.Gen.Kernel4Ideal.Value
public import proofs.«01_k».proof.Proof.Gen.Reference4Ideal.Read

@[expose] public section
set_option maxRecDepth 16384
noncomputable section

namespace Cert.Kernel4Ideal.Head

open Cert.Kernel4Ideal Cert.Kernel4Ideal.Gen Idealize.ShloMosaic Idealize.ShloMosaic.TcCoe Idealize.SL.Sem
open Cert.Reference4Ideal.Read
open Cert.Kernel3Ideal.Ffn (Cols canon_agree emb_cols mem_cols split half_cover)
variable (m : (ℓ : Loc nD τ sig) → Buf (Elt Ideal) ℓ)

theorem idx_val : ∀ t : Fin cfg0.N, win0_0.index t = ![t.val, 0] ∧ win0_1.index t = ![0, 0] ∧ win0_2.index t = ![0, 0, 0]
    ∧ win0_3.index t = ![0, 0, 0] ∧ win0_4.index t = ![0, 0] ∧ win0_5.index t = ![t.val, 0] ∧ win0_6.index t = ![t.val, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] := (by decide +kernel : ∀ t : Fin grid0.N, _)

abbrev A0 (c : Dev nD) : FVec Ideal S4160x1024 .f32 := m ((c : Thread nD τ).loc main_arg0)
abbrev A1 (c : Dev nD) : FVec Ideal S1024 .f32 := m ((c : Thread nD τ).loc main_arg1)
abbrev A2 (c : Dev nD) : FVec Ideal S1024x5632 .f32 := m ((c : Thread nD τ).loc main_arg2)
abbrev A3 (c : Dev nD) : FVec Ideal S2816x1024 .f32 := m ((c : Thread nD τ).loc main_arg3)
abbrev A4 (c : Dev nD) : FVec Ideal S1024 .f32 := m ((c : Thread nD τ).loc main_arg4)
abbrev A5 (c : Dev nD) : FVec Ideal S4096x1024 .f32 := m ((c : Thread nD τ).loc main_arg5)

variable (c : Dev nD) (t : Fin cfg0.N) (p : Fin 416)

/-- The row of the arrays at row `p` of point `t`. -/
def row (p : Fin 416) : Fin 4160 := ⟨t.val * 416 + p.val, by
  have h : t.val < 10 := lt_of_lt_of_eq t.isLt N_0
  omega⟩

theorem row_at (k : Fin 1024) : iblk m c 0 t (ix2 p k) = A0 m c (ix2 (row t p) k) := by
  have hr : (row t p).val = t.val * 416 + p.val := rfl
  generalize row t p = r at hr
  blk_point [iblk, V, idx_val t]

theorem gain_at (k : Fin 1024) : iblk m c 1 t (ix2 0 k) = val_main_v10 (F := Ideal) (A1 m c) (ix2 0 k) := by
  pointwise [val_main_v10]; blk_point [iblk, V, idx_val t]

theorem weight_at (j : Fin 4) (q : Fin 1024) (l : Fin 1408) (k : Fin 5632) (hk : k.val = j.val * 1408 + l.val) :
    iblk m c 2 t (ix3 j q l) = A2 m c (ix2 q k) := by
  blk_point [iblk, V, idx_val t]

theorem down_at (j : Fin 2) (l : Fin 1408) (q : Fin 1024) (k : Fin 2816) (hk : k.val = j.val * 1408 + l.val) :
    iblk m c 3 t (ix3 j l q) = A3 m c (ix2 k q) := by
  blk_point [iblk, V, idx_val t]

/-- The normalised rows of point `t`. -/
abbrev nb : FVec Ideal S416x1024 .bf16 := k0_pay1 (F := Ideal) (iblk m c 0 t) (iblk m c 1 t)

theorem norm_at (k : Fin 1024) : nb m c t (ix2 p k) = val_main_v12 (F := Ideal) (A0 m c) (A1 m c) (ix2 (row t p) k) := by
  pointwise [nb, k0_pay1, val_main_v12, val_main_v11, val_main_v9, val_main_v8, val_main_v7, val_main_v6, val_main_v5, val_main_v4, val_main_v3, val_main_v2, val_main_v1, val_main_v0, val_main_cst, val_main_cst_0, val_main_cst_1]
  simp only [row_at m c t, gain_at m c t]

abbrev Wgt (j l n : ℕ) := ∀ a, (![j, 0, l] : Fin 3 → ℕ) a + (![1, 1024, n] : Fin 3 → ℕ) a ≤ S4x1024x1408.size a

/-- A run of columns of one of the input weight's four parts. -/
abbrev wgt (j l n : ℕ) (h : Wgt j l n) := View.ld (iblk m c 2 t) (Rect.unit (s := S4x1024x1408) ![j, 0, l] ![1, 1024, n] h)

theorem wgt_at (j l n : ℕ) (h : Wgt j l n) (q : Fin 1024) (x : Fin n) (k : Fin 5632) (hk : k.val = j * 1408 + (l + x.val)) :
    wgt m c t j l n h (ix3 0 q x) = A2 m c (ix2 q k) := by
  have hj : j + 1 ≤ 4 := h 0
  have hl : l + n ≤ 1408 := h 2
  refine (View.ld_unit_apply_of _ _ _ _ _ (ix3 ⟨j, by omega⟩ q ⟨l + x.val, by omega⟩) fun a => ?_).trans (weight_at m c t _ q _ k hk)
  fin_cases a
  · show j = j + 0; omega
  · show q.val = 0 + q.val; omega
  · rfl

/-- The input product at one entry. -/
theorem product_at (k : Fin 5632) : val_main_v13 (F := Ideal) (A0 m c) (A1 m c) (A2 m c) (ix2 (row t p) k) = ∑ q : Fin 1024, nb m c t (ix2 p q) * A2 m c (ix2 q k) := by
  simp only [norm_at m c t]
  pointwise [val_main_v13]

theorem wide_sum (v w) (x : Fin 256) : k0_pay8 (F := Ideal) v w (ix2 p x) = ∑ q : Fin 1024, v (ix2 p q) * w (ix3 0 q x) := by
  pointwise [k0_pay8]

theorem narrow_sum (v w) (x : Fin 128) : k0_pay63 (F := Ideal) v w (ix2 p x) = ∑ q : Fin 1024, v (ix2 p q) * w (ix3 0 q x) := by
  pointwise [k0_pay63]

theorem wide_product (j l : ℕ) (h : Wgt j l 256) (x : Fin 256) (k : Fin 5632) (hk : k.val = j * 1408 + (l + x.val)) :
    k0_pay8 (F := Ideal) (nb m c t) (wgt m c t j l 256 h) (ix2 p x) = val_main_v13 (F := Ideal) (A0 m c) (A1 m c) (A2 m c) (ix2 (row t p) k) :=
  (wide_sum p _ _ x).trans ((Finset.sum_congr rfl fun q _ => congrArg (_ * ·) (wgt_at m c t j l 256 h q x k hk)).trans (product_at m c t p k).symm)

theorem narrow_product (j l : ℕ) (h : Wgt j l 128) (x : Fin 128) (k : Fin 5632) (hk : k.val = j * 1408 + (l + x.val)) :
    k0_pay63 (F := Ideal) (nb m c t) (wgt m c t j l 128 h) (ix2 p x) = val_main_v13 (F := Ideal) (A0 m c) (A1 m c) (A2 m c) (ix2 (row t p) k) :=
  (narrow_sum p _ _ x).trans ((Finset.sum_congr rfl fun q _ => congrArg (_ * ·) (wgt_at m c t j l 128 h q x k hk)).trans (product_at m c t p k).symm)

/-- The gated product of one gate and one linear entry. -/
def act (g u : EReal) : EReal := g * Ideal.div 1 (1 + Ideal.exp (-g)) * u

theorem wide_act (v w w') (x : S416x256.Idx) : k0_pay12 (F := Ideal) v w w' x = act (k0_pay8 (F := Ideal) v w x) (k0_pay8 (F := Ideal) v w' x) := by
  have e : k0_pay9 (F := Ideal) v w' x = k0_pay8 (F := Ideal) v w' x := rfl
  pointwise [k0_pay12]
  rw [Logistic.tanh_form, e]; rfl

theorem narrow_act (v w w') (x : S416x128.Idx) : k0_pay67 (F := Ideal) v w w' x = act (k0_pay63 (F := Ideal) v w x) (k0_pay63 (F := Ideal) v w' x) := by
  have e : k0_pay64 (F := Ideal) v w' x = k0_pay63 (F := Ideal) v w' x := rfl
  pointwise [k0_pay67]
  rw [Logistic.tanh_form, e]; rfl

/-- The reference's gate, linear half and gated product, on the rows of point `t`. -/
def gateRef (y : S416x2816.Idx) : Elt Ideal .bf16 := val_main_v77 (F := Ideal) (A0 m c) (A1 m c) (A2 m c) (ix2 (row t (y 0)) (y 1))
def upRef (y : S416x2816.Idx) : Elt Ideal .bf16 := val_main_v78 (F := Ideal) (A0 m c) (A1 m c) (A2 m c) (ix2 (row t (y 0)) (y 1))
def actRef (y : S416x2816.Idx) : Elt Ideal .bf16 := val_main_v79 (F := Ideal) (A0 m c) (A1 m c) (A2 m c) (ix2 (row t (y 0)) (y 1))

theorem gateRef_eq (k : Fin 2816) : gateRef m c t (ix2 p k) = val_main_v13 (F := Ideal) (A0 m c) (A1 m c) (A2 m c) (ix2 (row t p) ⟨k.val, by omega⟩) := by
  show val_main_v77 (F := Ideal) _ _ _ (ix2 (row t p) k) = _
  pointwise [val_main_v77, val_main_v14]

theorem upRef_eq (k : Fin 2816) : upRef m c t (ix2 p k) = val_main_v13 (F := Ideal) (A0 m c) (A1 m c) (A2 m c) (ix2 (row t p) ⟨2816 + k.val, by omega⟩) := by
  show val_main_v78 (F := Ideal) _ _ _ (ix2 (row t p) k) = _
  pointwise [val_main_v78, val_main_v15]

theorem actRef_eq (k : Fin 2816) : actRef m c t (ix2 p k) = act (gateRef m c t (ix2 p k)) (upRef m c t (ix2 p k)) := by
  show val_main_v79 (F := Ideal) _ _ _ (ix2 (row t p) k) = act (val_main_v77 (F := Ideal) _ _ _ (ix2 (row t p) k)) (val_main_v78 (F := Ideal) _ _ _ (ix2 (row t p) k))
  pointwise [val_main_v79, val_main_v78, val_main_v77, val_main_v17, val_main_v16, val_main_call0_v5, val_main_call0_v4, val_main_call0_v3, val_main_call0_v2, val_main_call0_v1, val_main_call0_v0, val_main_call0_cst, val_main_call0_cst_0]
  rfl

end Cert.Kernel4Ideal.Head
end
-- ==== Proof.HeadPieces.lean ====
module

public import proofs.«01_k».proof.Proof.HeadRows

@[expose] public section
set_option maxRecDepth 16384
noncomputable section

namespace Cert.Kernel4Ideal.Head

open Cert.Kernel4Ideal Cert.Kernel4Ideal.Gen Idealize.ShloMosaic Idealize.ShloMosaic.TcCoe Idealize.SL.Sem
open Cert.Reference4Ideal.Read
open Cert.Kernel3Ideal.Ffn (Cols canon_agree emb_cols mem_cols split half_cover halfCols read_half mem_left mem_right two_halves)
variable (m : (ℓ : Loc nD τ sig) → Buf (Elt Ideal) ℓ) (c : Dev nD) (t : Fin cfg0.N)

abbrev Stored := View.Piece (Elt Ideal) S416x2816 .bf16

theorem cols {b l n : ℕ} (hb : b + 1408 ≤ 2816) (hl : l + n ≤ 1408) : Cols (b + l) n := by
  intro a; fin_cases a
  · show 0 + 416 ≤ 416; omega
  · show b + l + n ≤ 2816; omega

theorem parts {j l n : ℕ} (hj : j + 1 ≤ 4) (hl : l + n ≤ 1408) : Wgt j l n := by
  intro a; fin_cases a
  · exact hj
  · show 0 + 1024 ≤ 1024; omega
  · exact hl

/-- Five wide stores and a narrow one, the last first. -/
abbrev half (W : (l : ℕ) → l + 256 ≤ 1408 → Stored) (N : (l : ℕ) → l + 128 ≤ 1408 → Stored) : List Stored :=
  [N 1280 (by decide), W 1024 (by decide), W 768 (by decide), W 512 (by decide), W 256 (by decide), W 0 (by decide)]

theorem half_at {W N} (f : S416x2816.Idx → Elt Ideal .bf16) (hW : ∀ l h x, (W l h : Stored).2 x = f ((W l h).1.emb x))
    (hN : ∀ l h x, (N l h : Stored).2 x = f ((N l h).1.emb x)) : ∀ p ∈ half W N, ∀ x, p.2 x = f (p.1.emb x) :=
  List.forall_mem_cons.2 ⟨hN _ _, List.forall_mem_cons.2 ⟨hW _ _, List.forall_mem_cons.2 ⟨hW _ _, List.forall_mem_cons.2 ⟨hW _ _,
    List.forall_mem_cons.2 ⟨hW _ _, List.forall_mem_cons.2 ⟨hW _ _, List.forall_mem_nil _⟩⟩⟩⟩⟩⟩

theorem half_reach {W N} (b : ℕ) (hW : ∀ l h (y : S416x2816.Idx), b + l ≤ (y 1).val → (y 1).val < b + l + 256 → y ∈ (W l h : Stored).1.set)
    (hN : ∀ l h (y : S416x2816.Idx), b + l ≤ (y 1).val → (y 1).val < b + l + 128 → y ∈ (N l h : Stored).1.set)
    (y : S416x2816.Idx) (h1 : b ≤ (y 1).val) (h2 : (y 1).val < b + 1408) : ∃ p ∈ half W N, y ∈ p.1.set :=
  half_cover b y h1 h2 _ _ _ _ _ _ (fun h => hW 0 _ y (by omega) (by omega)) (fun h h' => hW 256 _ y h (by omega)) (fun h h' => hW 512 _ y h (by omega))
    (fun h h' => hW 768 _ y h (by omega)) (fun h h' => hW 1024 _ y h (by omega)) (fun h => hN 1280 _ y h (by omega))

variable (b j j' : ℕ) (hb : b + 1408 ≤ 2816) (hj : j + 1 ≤ 4) (hj' : j' + 1 ≤ 4)

/-- A run of stored columns: the tile at columns `b + l` of the half that starts at `b`. -/
abbrev wide (v : (l : ℕ) → l + 256 ≤ 1408 → FVec Ideal S416x256 .bf16) (l : ℕ) (h : l + 256 ≤ 1408) : Stored :=
  ⟨Rect.unit (s := S416x2816) ![0, b + l] ![416, 256] (cols hb h), v l h⟩
abbrev narrow (v : (l : ℕ) → l + 128 ≤ 1408 → FVec Ideal S416x128 .bf16) (l : ℕ) (h : l + 128 ≤ 1408) : Stored :=
  ⟨Rect.unit (s := S416x2816) ![0, b + l] ![416, 128] (cols hb h), v l h⟩

abbrev gateHalf : List Stored := half (wide b hb fun l h => k0_pay10 (F := Ideal) (nb m c t) (wgt m c t j l 256 (parts hj h)))
  (narrow b hb fun l h => k0_pay65 (F := Ideal) (nb m c t) (wgt m c t j l 128 (parts hj h)))
abbrev upHalf : List Stored := half (wide b hb fun l h => k0_pay11 (F := Ideal) (nb m c t) (wgt m c t j l 256 (parts hj h)))
  (narrow b hb fun l h => k0_pay66 (F := Ideal) (nb m c t) (wgt m c t j l 128 (parts hj h)))
abbrev actHalf : List Stored := half (wide b hb fun l h => k0_pay12 (F := Ideal) (nb m c t) (wgt m c t j l 256 (parts hj h)) (wgt m c t j' l 256 (parts hj' h)))
  (narrow b hb fun l h => k0_pay67 (F := Ideal) (nb m c t) (wgt m c t j l 128 (parts hj h)) (wgt m c t j' l 128 (parts hj' h)))

/-- A tile agrees with a function once its entries do. -/
theorem tile {n : ℕ} (f : S416x2816.Idx → Elt Ideal .bf16) (l : ℕ) (h : Cols (b + l) n) (v : FVec Ideal ⟨2, ![416, n]⟩ .bf16)
    (hv : ∀ (p : Fin 416) (x : Fin n) (k : Fin 2816), k.val = b + l + x.val → v (ix2 p x) = f (ix2 p k)) :
    ∀ x, v x = f ((Rect.unit (s := S416x2816) ![0, b + l] ![416, n] h).emb x) := by
  intro x
  have h2 : b + l + n ≤ 2816 := h 1
  obtain ⟨p, x, rfl⟩ : ∃ (p : Fin 416) (q : Fin n), x = ix2 p q := ⟨x 0, x 1, split n x⟩
  have hk : b + l + x.val < 2816 := by omega
  rw [emb_cols (b + l) n h p x hk]
  exact hv p x _ rfl

theorem gate_wide (hbj : b = j * 1408) (l h p) (x : Fin 256) (k : Fin 2816) (hk : k.val = b + l + x.val) :
    k0_pay8 (F := Ideal) (nb m c t) (wgt m c t j l 256 h) (ix2 p x) = gateRef m c t (ix2 p k) :=
  (wide_product m c t p j l h x ⟨k.val, by omega⟩ (by show k.val = _; omega)).trans (gateRef_eq m c t p k).symm

theorem gate_narrow (hbj : b = j * 1408) (l h p) (x : Fin 128) (k : Fin 2816) (hk : k.val = b + l + x.val) :
    k0_pay63 (F := Ideal) (nb m c t) (wgt m c t j l 128 h) (ix2 p x) = gateRef m c t (ix2 p k) :=
  (narrow_product m c t p j l h x ⟨k.val, by omega⟩ (by show k.val = _; omega)).trans (gateRef_eq m c t p k).symm

theorem up_wide (hbj : b + 2816 = j * 1408) (l h p) (x : Fin 256) (k : Fin 2816) (hk : k.val = b + l + x.val) :
    k0_pay8 (F := Ideal) (nb m c t) (wgt m c t j l 256 h) (ix2 p x) = upRef m c t (ix2 p k) :=
  (wide_product m c t p j l h x ⟨2816 + k.val, by omega⟩ (by show 2816 + k.val = _; omega)).trans (upRef_eq m c t p k).symm

theorem up_narrow (hbj : b + 2816 = j * 1408) (l h p) (x : Fin 128) (k : Fin 2816) (hk : k.val = b + l + x.val) :
    k0_pay63 (F := Ideal) (nb m c t) (wgt m c t j l 128 h) (ix2 p x) = upRef m c t (ix2 p k) :=
  (narrow_product m c t p j l h x ⟨2816 + k.val, by omega⟩ (by show 2816 + k.val = _; omega)).trans (upRef_eq m c t p k).symm

theorem gateHalf_at (hbj : b = j * 1408) : ∀ p ∈ gateHalf m c t b j hb hj, ∀ x, p.2 x = gateRef m c t (p.1.emb x) :=
  half_at _ (fun l h => tile b _ l (cols hb h) _ fun p x k hk => (show k0_pay10 (F := Ideal) _ _ (ix2 p x) = k0_pay8 (F := Ideal) _ _ (ix2 p x) from rfl).trans (gate_wide m c t b j hbj l _ p x k hk))
    (fun l h => tile b _ l (cols hb h) _ fun p x k hk => (show k0_pay65 (F := Ideal) _ _ (ix2 p x) = k0_pay63 (F := Ideal) _ _ (ix2 p x) from rfl).trans (gate_narrow m c t b j hbj l _ p x k hk))

theorem upHalf_at (hbj : b + 2816 = j * 1408) : ∀ p ∈ upHalf m c t b j hb hj, ∀ x, p.2 x = upRef m c t (p.1.emb x) :=
  half_at _ (fun l h => tile b _ l (cols hb h) _ fun p x k hk => (show k0_pay11 (F := Ideal) _ _ (ix2 p x) = k0_pay8 (F := Ideal) _ _ (ix2 p x) from rfl).trans (up_wide m c t b j hbj l _ p x k hk))
    (fun l h => tile b _ l (cols hb h) _ fun p x k hk => (show k0_pay66 (F := Ideal) _ _ (ix2 p x) = k0_pay63 (F := Ideal) _ _ (ix2 p x) from rfl).trans (up_narrow m c t b j hbj l _ p x k hk))

theorem actHalf_at (hbj : b = j * 1408) (hbj' : b + 2816 = j' * 1408) : ∀ p ∈ actHalf m c t b j j' hb hj hj', ∀ x, p.2 x = actRef m c t (p.1.emb x) :=
  half_at _ (fun l h => tile b _ l (cols hb h) _ fun p x k hk => (wide_act _ _ _ _).trans ((congrArg₂ act (gate_wide m c t b j hbj l _ p x k hk) (up_wide m c t b j' hbj' l _ p x k hk)).trans (actRef_eq m c t p k).symm))
    (fun l h => tile b _ l (cols hb h) _ fun p x k hk => (narrow_act _ _ _ _).trans ((congrArg₂ act (gate_narrow m c t b j hbj l _ p x k hk) (up_narrow m c t b j' hbj' l _ p x k hk)).trans (actRef_eq m c t p k).symm))

theorem wide_mem (v l h) (y : S416x2816.Idx) (h1 : b + l ≤ (y 1).val) (h2 : (y 1).val < b + l + 256) : y ∈ (wide b hb v l h).1.set :=
  mem_cols (b + l) 256 (cols hb h) y h1 h2
theorem narrow_mem (v l h) (y : S416x2816.Idx) (h1 : b + l ≤ (y 1).val) (h2 : (y 1).val < b + l + 128) : y ∈ (narrow b hb v l h).1.set :=
  mem_cols (b + l) 128 (cols hb h) y h1 h2

theorem reach (v v') (y : S416x2816.Idx) (h1 : b ≤ (y 1).val) (h2 : (y 1).val < b + 1408) : ∃ p ∈ half (wide b hb v) (narrow b hb v'), y ∈ p.1.set :=
  half_reach (W := wide b hb v) (N := narrow b hb v') b (wide_mem b hb v) (narrow_mem b hb v') y h1 h2

/-- Two halves of tiles that agree with a function leave that function. -/
theorem both {W N W' N'} (f : S416x2816.Idx → Elt Ideal .bf16)
    (h0 : ∀ p ∈ half W N, ∀ x, p.2 x = f (p.1.emb x)) (h1 : ∀ p ∈ half W' N', ∀ x, p.2 x = f (p.1.emb x))
    (c0 : ∀ y : S416x2816.Idx, 0 ≤ (y 1).val → (y 1).val < 0 + 1408 → ∃ p ∈ half W N, y ∈ p.1.set)
    (c1 : ∀ y : S416x2816.Idx, 1408 ≤ (y 1).val → (y 1).val < 1408 + 1408 → ∃ p ∈ half W' N', y ∈ p.1.set) (y : S416x2816.Idx) :
    View.canon (half W' N' ++ half W N) y = f y := by
  have h : (y 1).val < 2816 := (y 1).isLt
  refine canon_agree _ y _ (List.forall_mem_append.2 ⟨h1, h0⟩) ?_
  by_cases g : (y 1).val < 1408
  · exact mem_right (c0 y (Nat.zero_le _) (by omega))
  · exact mem_left (c1 y (by omega) (by omega))

abbrev gateAll := gateHalf m c t 1408 1 (by decide) (by decide) ++ gateHalf m c t 0 0 (by decide) (by decide)
abbrev upAll := upHalf m c t 1408 3 (by decide) (by decide) ++ upHalf m c t 0 2 (by decide) (by decide)
abbrev act0 := actHalf m c t 0 0 2 (by decide) (by decide) (by decide)
abbrev actAll := actHalf m c t 1408 1 3 (by decide) (by decide) (by decide) ++ act0 m c t

theorem gate_canon : View.canon (gateAll m c t) = gateRef m c t :=
  funext (both _ (gateHalf_at m c t 0 0 (by decide) (by decide) rfl) (gateHalf_at m c t 1408 1 (by decide) (by decide) rfl) (reach 0 (by decide) _ _) (reach 1408 (by decide) _ _))
theorem up_canon : View.canon (upAll m c t) = upRef m c t :=
  funext (both _ (upHalf_at m c t 0 2 (by decide) (by decide) rfl) (upHalf_at m c t 1408 3 (by decide) (by decide) rfl) (reach 0 (by decide) _ _) (reach 1408 (by decide) _ _))
theorem act_canon : View.canon (actAll m c t) = actRef m c t :=
  funext (both _ (actHalf_at m c t 0 0 2 (by decide) (by decide) (by decide) rfl rfl) (actHalf_at m c t 1408 1 3 (by decide) (by decide) (by decide) rfl rfl) (reach 0 (by decide) _ _) (reach 1408 (by decide) _ _))

/-- The gated product's two halves, as the output product reads them back. -/
abbrev read0 := (ms0_11 t).view.readCov (act0 m c t) (halfCols 0 (by decide))
abbrev read1 := (ms0_11 t).view.readCov (actAll m c t) (halfCols 1408 (by decide))

theorem read0_at (p : Fin 416) (x : Fin 1408) (k : Fin 2816) (hk : k.val = 0 + x.val) : read0 m c t (ix2 p x) = actRef m c t (ix2 p k) :=
  read_half _ _ _ 0 _ (actHalf_at m c t 0 0 2 (by decide) (by decide) (by decide) rfl rfl) (reach 0 (by decide) _ _) p x k hk
theorem read1_at (p : Fin 416) (x : Fin 1408) (k : Fin 2816) (hk : k.val = 1408 + x.val) : read1 m c t (ix2 p x) = actRef m c t (ix2 p k) :=
  read_half _ _ _ 1408 _ (List.forall_mem_append.2 ⟨actHalf_at m c t 1408 1 3 (by decide) (by decide) (by decide) rfl rfl, actHalf_at m c t 0 0 2 (by decide) (by decide) (by decide) rfl rfl⟩)
    (fun y h h' => mem_left (reach 1408 (by decide) _ _ y h h')) p x k hk

/-- One half of the output weight. -/
abbrev downHalf (j : ℕ) (h : ∀ a, (![j, 0, 0] : Fin 3 → ℕ) a + (![1, 1408, 1024] : Fin 3 → ℕ) a ≤ S2x1408x1024.size a) :=
  View.ld (iblk m c 3 t) (Rect.unit (s := S2x1408x1024) ![j, 0, 0] ![1, 1408, 1024] h)

theorem downHalf_at (j : ℕ) (h) (hj : j < 2) (x : Fin 1408) (q : Fin 1024) (k : Fin 2816) (hk : k.val = j * 1408 + x.val) :
    downHalf m c t j h (ix3 0 x q) = A3 m c (ix2 k q) := by
  refine (View.ld_unit_apply_of _ _ _ _ _ (ix3 ⟨j, hj⟩ x q) fun a => ?_).trans (down_at m c t _ x q k hk)
  fin_cases a
  · show j = j + 0; omega
  · show x.val = 0 + x.val; omega
  · show q.val = 0 + q.val; omega

/-- The block's output rows at point `t`. -/
def out : FVec Ideal S416x1024 .f32 :=
  k0_pay70 (iblk m c 0 t) (k0_pay34 (read0 m c t) (downHalf m c t 0 (by decide))) (k0_pay68 (read1 m c t)) (k0_pay69 (downHalf m c t 1 (by decide)))

theorem two_products (h a0 w0 a1 w1) (p : Fin 416) (q : Fin 1024) :
    k0_pay70 (F := Ideal) h (k0_pay34 a0 w0) (k0_pay68 a1) (k0_pay69 w1) (ix2 p q)
      = h (ix2 p q) + Ideal.ofBits .f32 0x3F000000#32 * ((∑ x : Fin 1408, a0 (ix2 p x) * w0 (ix3 0 x q)) + ∑ x : Fin 1408, a1 (ix2 p x) * w1 (ix3 0 x q)) := by
  pointwise [k0_pay70, k0_pay34, k0_pay68, k0_pay69]

theorem at_out (p : Fin 416) (q : Fin 1024) :
    out m c t (ix2 p q) = val_main_v21 (F := Ideal) (A0 m c) (A1 m c) (A2 m c) (A3 m c) (ix2 (row t p) q) := by
  have e : val_main_v21 (F := Ideal) (A0 m c) (A1 m c) (A2 m c) (A3 m c) (ix2 (row t p) q)
      = A0 m c (ix2 (row t p) q) + Ideal.ofBits .f32 0x3F000000#32 * ∑ k : Fin 2816, val_main_v17 (F := Ideal) (A0 m c) (A1 m c) (A2 m c) (ix2 (row t p) k) * A3 m c (ix2 k q) := by
    pointwise [val_main_v21, val_main_v20, val_main_v19, val_main_v18, val_main_cst_2]
  have ea : ∀ k, val_main_v17 (F := Ideal) (A0 m c) (A1 m c) (A2 m c) (ix2 (row t p) k) = actRef m c t (ix2 p k) := fun k => by
    show _ = val_main_v79 (F := Ideal) _ _ _ (ix2 (row t p) k)
    pointwise [val_main_v79]
  refine (two_products ..).trans (Eq.trans ?_ e.symm)
  simp only [ea]
  rw [two_halves, row_at m c t]
  refine congrArg (_ + _ * ·) (congrArg₂ (· + ·) ?_ ?_) <;> refine Finset.sum_congr rfl fun x _ => congrArg₂ (· * ·) ?_ ?_
  · exact read0_at m c t p x _ (by simp)
  · exact downHalf_at m c t 0 _ (by decide) x q _ rfl
  · exact read1_at m c t p x _ (by simp)
  · exact downHalf_at m c t 1 _ (by decide) x q _ rfl

end Cert.Kernel4Ideal.Head
end
-- ==== Proof.HeadPoints.lean ====
module

public import proofs.«01_k».proof.Proof.HeadPieces

@[expose] public section
set_option maxRecDepth 16384
noncomputable section

namespace Cert.Kernel4Ideal.Head

open Cert.Kernel4Ideal Cert.Kernel4Ideal.Gen Idealize.ShloMosaic Idealize.ShloMosaic.TcCoe Idealize.SL.Sem
variable (m : (ℓ : Loc nD τ sig) → Buf (Elt Ideal) ℓ) (c : Dev nD) (t : Fin cfg0.N)

/-- The error rows at point `t`: the normalised output times the gain, less the target, and zero outside the rows the loss counts. -/
def err : FVec Ideal S416x1024 .f32 :=
  k0_pay74 (BitVec.ofNat 32 (grid0.coords t 0).val) (iblk m c 0 t) (k0_pay34 (read0 m c t) (downHalf m c t 0 (by decide))) (k0_pay68 (read1 m c t)) (k0_pay69 (downHalf m c t 1 (by decide)))
    (iblk m c 4 t) (iblk m c 5 t)

/-- The squared errors of point `t`. -/
def squares : FVec Ideal S1x416x1024 .f32 :=
  k0_pay76 (BitVec.ofNat 32 (grid0.coords t 0).val) (iblk m c 0 t) (k0_pay34 (read0 m c t) (downHalf m c t 0 (by decide))) (k0_pay68 (read1 m c t)) (k0_pay69 (downHalf m c t 1 (by decide)))
    (iblk m c 4 t) (iblk m c 5 t)

theorem point_dh : (outsAt0 m c t.val t.isLt).1 = k0_pay81 (out m c t) (k0_pay73 (iblk m c 4 t)) (err m c t) := by
  by_cases h0 : t.val % 10 = 0
  · rw [outsAt0_A m c t h0]; frame_out; rfl
  · rw [outsAt0_B m c t h0]; frame_out; rfl

theorem point_loss_first (h0 : t.val % 10 = 0) : (outsAt0 m c t.val t.isLt).2.1 = k0_pay77 (k0_pay75 (k0_pay71 (F := Ideal))) (squares m c t) := by
  rw [outsAt0_A m c t h0]; frame_out; rfl

theorem point_loss_next (h0 : ¬t.val % 10 = 0) :
    (outsAt0 m c t.val t.isLt).2.1 = k0_pay77 (k0_pay75 (outsAt0 m c (t.val - 1) (Nat.lt_of_le_of_lt (Nat.sub_le _ _) t.isLt)).2.1) (squares m c t) := by
  rw [outsAt0_B m c t h0]; frame_out; rfl

theorem point_dg_first (h0 : t.val % 10 = 0) : (outsAt0 m c t.val t.isLt).2.2.1 = k0_pay82 (out m c t) (err m c t) (k0_pay72 (F := Ideal)) := by
  rw [outsAt0_A m c t h0]; frame_out; rfl

theorem point_dg_next (h0 : ¬t.val % 10 = 0) :
    (outsAt0 m c t.val t.isLt).2.2.1 = k0_pay82 (out m c t) (err m c t) (outsAt0 m c (t.val - 1) (Nat.lt_of_le_of_lt (Nat.sub_le _ _) t.isLt)).2.2.1 := by
  rw [outsAt0_B m c t h0]; frame_out; rfl

theorem point_gate : (outsAt0 m c t.val t.isLt).2.2.2.1 = View.canon (gateAll m c t) := by
  by_cases h0 : t.val % 10 = 0
  · rw [outsAt0_A m c t h0]; frame_out; rfl
  · rw [outsAt0_B m c t h0]; frame_out; rfl

theorem point_up : (outsAt0 m c t.val t.isLt).2.2.2.2.1 = View.canon (upAll m c t) := by
  by_cases h0 : t.val % 10 = 0
  · rw [outsAt0_A m c t h0]; frame_out; rfl
  · rw [outsAt0_B m c t h0]; frame_out; rfl

theorem point_act : (outsAt0 m c t.val t.isLt).2.2.2.2.2.1 = View.canon (actAll m c t) := by
  by_cases h0 : t.val % 10 = 0
  · rw [outsAt0_A m c t h0]; frame_out; rfl
  · rw [outsAt0_B m c t h0]; frame_out; rfl

theorem point_norm : (outsAt0 m c t.val t.isLt).2.2.2.2.2.2 = nb m c t := by
  by_cases h0 : t.val % 10 = 0
  · rw [outsAt0_A m c t h0]; frame_out
  · rw [outsAt0_B m c t h0]; frame_out

end Cert.Kernel4Ideal.Head
end
-- ==== Proof.HeadNorm.lean ====
module

public import proofs.«01_k».proof.Proof.HeadPoints

@[expose] public section
set_option maxRecDepth 16384
noncomputable section

namespace Cert.Kernel4Ideal.Head

open Cert.Kernel4Ideal Cert.Kernel4Ideal.Gen Idealize.ShloMosaic Idealize.ShloMosaic.TcCoe Idealize.SL.Sem
open Cert.Reference4Ideal.Read
variable (m : (ℓ : Loc nD τ sig) → Buf (Elt Ideal) ℓ) (c : Dev nD) (t : Fin cfg0.N)

theorem last_gain_at (k : Fin 1024) : iblk m c 4 t (ix2 0 k) = val_main_v35 (F := Ideal) (A4 m c) (ix2 0 k) := by
  pointwise [val_main_v35]; blk_point [iblk, V, idx_val t]

/-- The target laid out over all rows. -/
def padded : FVec Ideal S4160x1024 .f32 :=
  pad S4160x1024 ![16, 0] ![48, 0] ![0, 0] (A5 m c) (constant S_ .f32 0x00000000#32 : FVec Ideal S_ .f32) pads_S4096x1024_S4160x1024_16480_000 h_S_

theorem padded_at (r : Fin 4160) (k : Fin 1024) : padded m c (ix2 r k) = if h : 16 ≤ r.val ∧ r.val - 16 < 4096 then A5 m c (ix2 ⟨r.val - 16, h.2⟩ k) else 0 := by
  pointwise [padded]

theorem padded_read : V m c main_v3 = padded m c := by
  entry_read
  rfl

theorem target_at (p : Fin 416) (k : Fin 1024) : iblk m c 5 t (ix2 p k) = padded m c (ix2 (row t p) k) := by
  have hr : (row t p).val = t.val * 416 + p.val := rfl
  change V m c main_v3 ((win0_5.blk t).view.emb (ix2 p k)) = _
  rw [padded_read]
  refine congrArg (padded m c) (funext fun a => Fin.ext ?_)
  fin_cases a <;> blk_simp [idx_val t] <;> rfl

/-- The rows the loss counts, as the kernel's comparison of row numbers finds them. -/
theorem mask_val : ∀ (t : Fin grid0.N) (p : Fin 416),
    IntOp.andi (IntOp.cmpi CmpIPredicate.sge (IntOp.addi (Scalar.muli (BitVec.ofNat 32 (grid0.coords t 0).val) 416#32) (BitVec.ofNat 32 p.val)) 16#32)
        (IntOp.cmpi CmpIPredicate.slt (IntOp.addi (Scalar.muli (BitVec.ofNat 32 (grid0.coords t 0).val) 416#32) (BitVec.ofNat 32 p.val)) 4112#32)
      = if 16 ≤ t.val * 416 + p.val ∧ t.val * 416 + p.val - 16 < 4096 then 1#1 else 0#1 := by decide +kernel

theorem pay74_at (b : BitVec 32) (h a a' w' g x) (p : Fin 416) (q : Fin 1024) :
    k0_pay74 (F := Ideal) b h a a' w' g x (ix2 p q)
      = Scalar.select (IntOp.andi (IntOp.cmpi CmpIPredicate.sge (IntOp.addi (Scalar.muli b 416#32) (BitVec.ofNat 32 p.val)) 16#32)
          (IntOp.cmpi CmpIPredicate.slt (IntOp.addi (Scalar.muli b 416#32) (BitVec.ofNat 32 p.val)) 4112#32))
        (k0_pay70 (F := Ideal) h a a' w' (ix2 p q) * RowNorm.inv (∑ k : Fin 1024, k0_pay70 (F := Ideal) h a a' w' (ix2 p k) * k0_pay70 (F := Ideal) h a a' w' (ix2 p k)) * g (ix2 0 q) - x (ix2 p q)) 0 := by
  pointwise [k0_pay74, k0_pay73]
  rfl

/-- The reference's error at a row, zero outside the rows the loss counts. -/
def refErr (r : Fin 4160) (q : Fin 1024) : EReal :=
  if h : 16 ≤ r.val ∧ r.val - 16 < 4096 then val_main_v39 (F := Ideal) (A0 m c) (A1 m c) (A2 m c) (A3 m c) (A4 m c) (A5 m c) (ix2 ⟨r.val - 16, h.2⟩ q) else 0

theorem v39_at (s : Fin 4096) (r : Fin 4160) (hr : r.val = 16 + s.val) (q : Fin 1024) :
    val_main_v39 (F := Ideal) (A0 m c) (A1 m c) (A2 m c) (A3 m c) (A4 m c) (A5 m c) (ix2 s q)
      = val_main_v21 (F := Ideal) (A0 m c) (A1 m c) (A2 m c) (A3 m c) (ix2 r q)
          * RowNorm.inv (∑ k : Fin 1024, val_main_v21 (F := Ideal) (A0 m c) (A1 m c) (A2 m c) (A3 m c) (ix2 r k) * val_main_v21 (F := Ideal) (A0 m c) (A1 m c) (A2 m c) (A3 m c) (ix2 r k))
          * val_main_v35 (F := Ideal) (A4 m c) (ix2 0 q) - A5 m c (ix2 s q) := by
  obtain rfl : r = ⟨16 + s.val, by clear hr; omega⟩ := Fin.ext hr
  pointwise [val_main_v39, val_main_v38, val_main_v37, val_main_v36, val_main_v34, val_main_v33, val_main_v29, val_main_v28, val_main_v27, val_main_v26, val_main_v25, val_main_v24, val_main_v23, val_main_v22, val_main_cst_3, val_main_cst_4, val_main_cst_5]
  rfl

theorem err_at (p : Fin 416) (q : Fin 1024) : err m c t (ix2 p q) = refErr m c (row t p) q := by
  have ho := fun k => at_out m c t p k
  rw [err, pay74_at, mask_val t p, refErr]
  by_cases h : 16 ≤ t.val * 416 + p.val ∧ t.val * 416 + p.val - 16 < 4096
  · rw [if_pos h, dif_pos (show 16 ≤ (row t p).val ∧ (row t p).val - 16 < 4096 from h), target_at m c t p q, padded_at m c (row t p) q, dif_pos (show 16 ≤ (row t p).val ∧ (row t p).val - 16 < 4096 from h), last_gain_at m c t q]
    refine Eq.trans ?_ (v39_at m c ⟨(row t p).val - 16, h.2⟩ (row t p) (by show _ = 16 + (t.val * 416 + p.val - 16); show t.val * 416 + p.val = _; omega) q).symm
    simp only [← ho]
    rfl
  · rw [if_neg h, dif_neg (show ¬(16 ≤ (row t p).val ∧ (row t p).val - 16 < 4096) from h)]
    rfl

theorem one_half : Ideal.ofBits .f32 0x3F000000#32 = ((1 / 2 : ℝ) : EReal) := by
  simp [Ideal.ofBits, Ideal.ieee, -EReal.coe_mul]; norm_num
theorem share : Ideal.ofBits .f32 0x3A800000#32 = ((1 / 1024 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

/-- Half the mean's derivative of a square is the entry over the width. -/
theorem scale (e : EReal) : Ideal.div (Ideal.ofBits .f32 0x3F000000#32) (Ideal.ofBits .f32 1149239296#32) * (Ideal.ofBits .f32 0x40000000#32 * e)
    = e * Ideal.ofBits .f32 0x3A800000#32 := by
  rw [one_half, share, two, RowNorm.width, Ideal.div_coe (by norm_num), mul_comm e, ← mul_assoc, ← EReal.coe_mul, ← EReal.coe_mul]
  congr 2; norm_num

theorem grad_at (r : Fin 4160) (q : Fin 1024) :
    val_main_v54 (F := Ideal) (A0 m c) (A1 m c) (A2 m c) (A3 m c) (A4 m c) (A5 m c) (ix2 r q) = refErr m c r q * Ideal.ofBits .f32 0x3A800000#32 := by
  rw [refErr]
  pointwise [val_main_v54, val_main_v53, val_main_v52, val_main_v51, val_main_v50, val_main_v49, val_main_v48, val_main_v42, val_main_v41, val_main_cst_7, val_main_cst_12, val_main_cst_13, val_main_cst_14, val_main_cst_15]
  by_cases h : 16 ≤ r.val ∧ r.val - 16 < 4096
  · rw [dif_pos h, dif_pos h]; exact scale _
  · rw [dif_neg h, dif_neg h, zero_mul]

end Cert.Kernel4Ideal.Head
end
-- ==== Proof.HeadFinals.lean ====
module

public import proofs.«01_k».proof.Proof.HeadNorm
public import proofs.«01_k».proof.Proof.FfnValues

@[expose] public section
set_option maxRecDepth 16384
noncomputable section

namespace Cert.Kernel4Ideal.Head

open Cert.Kernel4Ideal Cert.Kernel4Ideal.Gen Idealize.ShloMosaic Idealize.ShloMosaic.TcCoe Idealize.SL.Sem
open Cert.Reference4Ideal.Read
variable (m : (ℓ : Loc nD τ sig) → Buf (Elt Ideal) ℓ) (c : Dev nD) (t : Fin cfg0.N)

theorem at_dh (p : Fin 416) (q : Fin 1024) :
    k0_pay81 (out m c t) (k0_pay73 (iblk m c 4 t)) (err m c t) (ix2 p q)
      = val_main_v74 (F := Ideal) (A0 m c) (A1 m c) (A2 m c) (A3 m c) (A4 m c) (A5 m c) (ix2 (row t p) q) := by
  pointwise [k0_pay81, k0_pay80, k0_pay79, k0_pay78, k0_pay73, val_main_v74, val_main_v73, val_main_v72, val_main_v71, val_main_v70, val_main_v69, val_main_v68, val_main_v67, val_main_v66, val_main_v65, val_main_v64, val_main_v63, val_main_v62, val_main_v61, val_main_v59, val_main_v58, val_main_v34, val_main_v33, val_main_v32, val_main_v31, val_main_v30, val_main_v29, val_main_v28, val_main_v27, val_main_v26, val_main_v25, val_main_v24, val_main_v23, val_main_v22, val_main_cst_3, val_main_cst_4, val_main_cst_5, val_main_cst_6, val_main_cst_18, val_main_cst_19, val_main_cst_20]
  simp only [at_out m c t, err_at m c t, grad_at m c, last_gain_at m c t]
  simp only [Fin.sum_univ_one]
  exact (zero_add _).symm.trans ((RowNorm.gradient (fun k => val_main_v21 (F := Ideal) (A0 m c) (A1 m c) (A2 m c) (A3 m c) (ix2 (row t p) k))
    (fun k => refErr m c (row t p) k * Ideal.ofBits .f32 0x3A800000#32 * val_main_v35 (F := Ideal) (A4 m c) (ix2 0 k)) 0 _ _ _
    (Finset.sum_nonneg fun k _ => RowNorm.sq_nonneg _)).trans (congrArg₂ (· + ·) (congrArg₂ (· + ·) (zero_add _) rfl) rfl))

theorem at_dg (p : Fin 416) (q : Fin 1024) : err m c t (ix2 p q) * Ideal.ofBits .f32 0x3A800000#32 * k0_pay80 (F := Ideal) (out m c t) (ix2 p q)
    = val_main_v55 (F := Ideal) (A0 m c) (A1 m c) (A2 m c) (A3 m c) (A4 m c) (A5 m c) (ix2 (row t p) q) := by
  rw [err_at m c t p q, ← grad_at]
  pointwise [k0_pay80, k0_pay79, k0_pay78, val_main_v55, val_main_v34, val_main_v33, val_main_v29, val_main_v28, val_main_v27, val_main_v26, val_main_v25, val_main_v24, val_main_v23, val_main_v22, val_main_cst_3, val_main_cst_4, val_main_cst_5]
  simp only [at_out m c t]
  exact mul_comm _ _

theorem pay82_at (o e a j) : k0_pay82 (F := Ideal) o e a j = a j + ∑ k : Fin 416, e (ix2 k (j 1)) * Ideal.ofBits .f32 0x3A800000#32 * k0_pay80 o (ix2 k (j 1)) := by
  pointwise [k0_pay82, k0_pay78]

theorem ref_dg (a0 a1 a2 a3 a4 a5 j) : val_main_v76 (F := Ideal) a0 a1 a2 a3 a4 a5 j = ∑ k : Fin 4160, val_main_v55 (F := Ideal) a0 a1 a2 a3 a4 a5 (ix2 k (j 1)) := by
  pointwise [val_main_v76, val_main_v60, val_main_v57, val_main_v56, val_main_cst_16, val_main_cst_17]
  simp

/-- The squared error of a row. -/
def rowErr (r : Fin 4160) : EReal := ∑ q : Fin 1024, refErr m c r q * refErr m c r q

theorem pay77_at (l s j) : k0_pay77 (F := Ideal) (k0_pay75 l) s j = l j + (Ideal.ofBits .f32 0x3F000000#32 * ∑ p : Fin 416, ∑ q : Fin 1024, s (ix3 0 p q)) * Ideal.ofBits .f32 0x3A800000#32 := by
  pointwise [k0_pay77, k0_pay75]

theorem squares_at (p : Fin 416) (q : Fin 1024) : squares m c t (ix3 0 p q) = refErr m c (row t p) q * refErr m c (row t p) q := by
  rw [← err_at m c t p q, squares]
  pointwise [k0_pay76]
  rfl

/-- What one point adds to the loss. -/
theorem part_at : (Ideal.ofBits .f32 0x3F000000#32 * ∑ p : Fin 416, ∑ q : Fin 1024, squares m c t (ix3 0 p q)) * Ideal.ofBits .f32 0x3A800000#32
    = ∑ p : Fin 416, rowErr m c (row t p) * ((1 / 2048 : ℝ) : EReal) := by
  simp only [squares_at m c t]
  rw [RowNorm.sum_mul_pos _ _ (by norm_num), one_half, share, mul_comm, ← mul_assoc, ← EReal.coe_mul, mul_comm]
  exact congrArg _ (congrArg _ (by norm_num))

theorem outside (r : Fin 4160) (h : ¬(16 ≤ r.val ∧ r.val - 16 < 4096)) : rowErr m c r = 0 := by
  simp only [rowErr, refErr, dif_neg h, mul_zero, Finset.sum_const_zero]

/-- The rows the loss does not count add nothing. -/
theorem counted : ∑ r : Fin 4160, rowErr m c r = ∑ s : Fin 4096, rowErr m c ⟨16 + s.val, by omega⟩ := by
  have h := Fin.sum_univ_add (a := 16) (b := 4144) (rowErr m c)
  have h' := Fin.sum_univ_add (a := 4096) (b := 48) fun k : Fin 4144 => rowErr m c (Fin.natAdd 16 k)
  refine h.trans ?_
  rw [Finset.sum_eq_zero (fun k _ => outside m c _ (by simp only [Fin.val_castAdd]; omega)), zero_add]
  refine h'.trans ?_
  rw [Finset.sum_eq_zero (s := Finset.univ (α := Fin 48)) (fun k _ => outside m c _ (by simp only [Fin.val_natAdd]; omega)), add_zero]
  rfl

theorem ref_loss (j) : val_main_v75 (F := Ideal) (A0 m c) (A1 m c) (A2 m c) (A3 m c) (A4 m c) (A5 m c) j = (∑ r : Fin 4160, rowErr m c r) * ((1 / 2048 : ℝ) : EReal) := by
  rw [counted]
  pointwise [val_main_v75, val_main_v47, val_main_v46, val_main_v45, val_main_v44, val_main_v43, val_main_v40, val_main_cst_8, val_main_cst_9, val_main_cst_10, val_main_cst_11]
  rw [RowNorm.width, one_half]
  simp only [Ideal.div_coe (show (1024 : ℝ) ≠ 0 by norm_num)]
  rw [RowNorm.sum_mul_pos _ _ (by norm_num), mul_comm, mul_assoc, ← EReal.coe_mul]
  refine congrArg₂ (· * ·) (Finset.sum_congr rfl fun s _ => Finset.sum_congr rfl fun q _ => ?_) (congrArg _ (by norm_num))
  have hs : 16 ≤ (⟨16 + s.val, by omega⟩ : Fin 4160).val ∧ (⟨16 + s.val, by omega⟩ : Fin 4160).val - 16 < 4096 := ⟨by show 16 ≤ 16 + s.val; omega, by show 16 + s.val - 16 < 4096; omega⟩
  have e : (⟨(⟨16 + s.val, by omega⟩ : Fin 4160).val - 16, hs.2⟩ : Fin 4096) = s := Fin.ext (by show 16 + s.val - 16 = s.val; omega)
  rw [refErr, dif_pos hs, e]

/-- A row of a block, moved to the array's row. -/
theorem moved {n : ℕ} {f : (⟨2, ![416, n]⟩ : Shape).Idx → EReal} {g : (⟨2, ![4160, n]⟩ : Shape).Idx → EReal}
    (h : ∀ (p : Fin 416) (q : Fin n), f (ix2 p q) = g (ix2 (row t p) q)) :
    ∀ (y : (⟨2, ![416, n]⟩ : Shape).Idx) (j : (⟨2, ![4160, n]⟩ : Shape).Idx), (j 0).val = t.val * 416 + (y 0).val → (j 1).val = (y 1).val → f y = g j :=
  Cert.Kernel3Ideal.Ffn.moved ⟨t.val, t.isLt⟩ h

theorem final_dh : (dats m 0 c).arrAt 6 (cfgs 0).N = val_main_v74 (F := Ideal) (A0 m c) (A1 m c) (A2 m c) (A3 m c) (A4 m c) (A5 m c) := by
  refine (dats m 0 c).arrAt_eq_of_covers 6 _ (by decide +kernel) fun t _ y => ?_
  have hj0 : ((((cfg0.win 6).blk t).view.emb y) 0 : ℕ) = t.val * 416 + (y 0).val := by blk_simp [idx_val t]
  have hj1 : ((((cfg0.win 6).blk t).view.emb y) 1 : ℕ) = (y 1).val := by blk_simp [idx_val t]
  blk_simp
  rw [after0_6, point_dh]
  exact moved t (at_dh m c t) y _ hj0 hj1

theorem final_gate : (dats m 0 c).arrAt 9 (cfgs 0).N = val_main_v77 (F := Ideal) (A0 m c) (A1 m c) (A2 m c) := by
  refine (dats m 0 c).arrAt_eq_of_covers 9 _ (by decide +kernel) fun t _ y => ?_
  have hj0 : ((((cfg0.win 9).blk t).view.emb y) 0 : ℕ) = t.val * 416 + (y 0).val := by blk_simp [idx_val t]
  have hj1 : ((((cfg0.win 9).blk t).view.emb y) 1 : ℕ) = (y 1).val := by blk_simp [idx_val t]
  blk_simp
  rw [after0_9, point_gate]
  exact moved t (fun p q => congrFun (gate_canon m c t) (ix2 p q)) y _ hj0 hj1

theorem final_up : (dats m 0 c).arrAt 10 (cfgs 0).N = val_main_v78 (F := Ideal) (A0 m c) (A1 m c) (A2 m c) := by
  refine (dats m 0 c).arrAt_eq_of_covers 10 _ (by decide +kernel) fun t _ y => ?_
  have hj0 : ((((cfg0.win 10).blk t).view.emb y) 0 : ℕ) = t.val * 416 + (y 0).val := by blk_simp [idx_val t]
  have hj1 : ((((cfg0.win 10).blk t).view.emb y) 1 : ℕ) = (y 1).val := by blk_simp [idx_val t]
  blk_simp
  rw [after0_10, point_up]
  exact moved t (fun p q => congrFun (up_canon m c t) (ix2 p q)) y _ hj0 hj1

theorem final_act : (dats m 0 c).arrAt 11 (cfgs 0).N = val_main_v79 (F := Ideal) (A0 m c) (A1 m c) (A2 m c) := by
  refine (dats m 0 c).arrAt_eq_of_covers 11 _ (by decide +kernel) fun t _ y => ?_
  have hj0 : ((((cfg0.win 11).blk t).view.emb y) 0 : ℕ) = t.val * 416 + (y 0).val := by blk_simp [idx_val t]
  have hj1 : ((((cfg0.win 11).blk t).view.emb y) 1 : ℕ) = (y 1).val := by blk_simp [idx_val t]
  blk_simp
  rw [after0_11, point_act]
  exact moved t (fun p q => congrFun (act_canon m c t) (ix2 p q)) y _ hj0 hj1

theorem final_norm : (dats m 0 c).arrAt 12 (cfgs 0).N = val_main_v80 (F := Ideal) (A0 m c) (A1 m c) := by
  refine (dats m 0 c).arrAt_eq_of_covers 12 _ (by decide +kernel) fun t _ y => ?_
  have hj0 : ((((cfg0.win 12).blk t).view.emb y) 0 : ℕ) = t.val * 416 + (y 0).val := by blk_simp [idx_val t]
  have hj1 : ((((cfg0.win 12).blk t).view.emb y) 1 : ℕ) = (y 1).val := by blk_simp [idx_val t]
  blk_simp
  rw [after0_12, point_norm]
  exact moved t (fun p q => norm_at m c t p q) y _ hj0 hj1

theorem final_loss : (dats m 0 c).arrAt 7 (cfgs 0).N = val_main_v75 (F := Ideal) (A0 m c) (A1 m c) (A2 m c) (A3 m c) (A4 m c) (A5 m c) := by
  refine (dats m 0 c).arrAt_eq_of_after_last 7 t0_9 (by decide +kernel) _ fun j => ?_
  blk_simp
  rw [after0_7, Pipeline.eq_sum_fin_of_reset_step_apply_last (fun n h => (outsAt0 m c n h).2.1) 10 (fun _ => 0) _
    (fun t h j => by rw [point_loss_first m c t h, pay77_at, part_at, show k0_pay71 (F := Ideal) j = 0 by pointwise [k0_pay71]])
    (fun t h j => by rw [point_loss_next m c t h, pay77_at, part_at]) (le_of_eq N_0) t0_9 rfl j, zero_add, ref_loss, ← RowNorm.sum_mul_pos _ _ (by norm_num)]
  exact Fin.sum_mul_add_congr fun s k hl => rfl

theorem final_dg : (dats m 0 c).arrAt 8 (cfgs 0).N = val_main_v76 (F := Ideal) (A0 m c) (A1 m c) (A2 m c) (A3 m c) (A4 m c) (A5 m c) := by
  refine (dats m 0 c).arrAt_eq_of_after_last 8 t0_9 (by decide +kernel) _ fun j => ?_
  blk_simp
  rw [after0_8, Pipeline.eq_sum_fin_of_reset_step_apply_last (fun n h => (outsAt0 m c n h).2.2.1) 10 (fun _ => 0) _
    (fun t h j => by rw [point_dg_first m c t h, pay82_at, show k0_pay72 (F := Ideal) j = 0 by pointwise [k0_pay72]])
    (fun t h j => by rw [point_dg_next m c t h, pay82_at]) (le_of_eq N_0) t0_9 rfl j, zero_add, ref_dg]
  exact Fin.sum_mul_add_congr fun s k hl => at_dg m c _ k _

end Cert.Kernel4Ideal.Head
end
-- ==== Proof.HeadEquation.lean ====
module

public import proofs.«01_k».proof.Defs
public import proofs.«01_k».proof.Proof.HeadFinals
public import proofs.«01_k».proof.Proof.Gen.Kernel4Ideal.Value
public import proofs.«01_k».proof.Proof.Gen.Reference4Ideal.Run

@[expose] public section
set_option maxRecDepth 16384
noncomputable section

namespace Cert.Head

open Idealize.ShloMosaic Idealize.SL.Sem

/-- The reference's run ends with its arguments unchanged and every counter at zero. -/
theorem frame_reference : Cert.quiescent_Reference4Ideal := by
  intro m ρ _
  exact (θ_run Cert.Reference4Ideal.defs _ _).mono (fun r h => ⟨fun c => (h c).2.2.2.2.2.2.2,
      Idealize.ShloMosaic.sem_eq_zero_of_no_sems (by decide) r.2⟩)
    (Cert.Reference4Ideal.Value.run (F := Ideal) m ρ)

/-- The second feed-forward block forward, the loss and the loss's gradient, over the reals: kernel and derivative leave the same arrays. -/
theorem algebraic : Cert.algebraic_Kernel4Ideal_Reference4Ideal := by
  intro m g m' g' _ hagree
  refine ⟨fun c => Cert.Reference4Ideal.Read.val_main_v75 (F := Ideal) (Cert.Kernel4Ideal.Head.A0 m c) (Cert.Kernel4Ideal.Head.A1 m c) (Cert.Kernel4Ideal.Head.A2 m c) (Cert.Kernel4Ideal.Head.A3 m c) (Cert.Kernel4Ideal.Head.A4 m c) (Cert.Kernel4Ideal.Head.A5 m c),
    fun c => Cert.Reference4Ideal.Read.val_main_v74 (F := Ideal) (Cert.Kernel4Ideal.Head.A0 m c) (Cert.Kernel4Ideal.Head.A1 m c) (Cert.Kernel4Ideal.Head.A2 m c) (Cert.Kernel4Ideal.Head.A3 m c) (Cert.Kernel4Ideal.Head.A4 m c) (Cert.Kernel4Ideal.Head.A5 m c),
    fun c => Cert.Reference4Ideal.Read.val_main_v76 (F := Ideal) (Cert.Kernel4Ideal.Head.A0 m c) (Cert.Kernel4Ideal.Head.A1 m c) (Cert.Kernel4Ideal.Head.A2 m c) (Cert.Kernel4Ideal.Head.A3 m c) (Cert.Kernel4Ideal.Head.A4 m c) (Cert.Kernel4Ideal.Head.A5 m c),
    fun c => Cert.Reference4Ideal.Read.val_main_v77 (F := Ideal) (Cert.Kernel4Ideal.Head.A0 m c) (Cert.Kernel4Ideal.Head.A1 m c) (Cert.Kernel4Ideal.Head.A2 m c),
    fun c => Cert.Reference4Ideal.Read.val_main_v78 (F := Ideal) (Cert.Kernel4Ideal.Head.A0 m c) (Cert.Kernel4Ideal.Head.A1 m c) (Cert.Kernel4Ideal.Head.A2 m c),
    fun c => Cert.Reference4Ideal.Read.val_main_v79 (F := Ideal) (Cert.Kernel4Ideal.Head.A0 m c) (Cert.Kernel4Ideal.Head.A1 m c) (Cert.Kernel4Ideal.Head.A2 m c),
    fun c => Cert.Reference4Ideal.Read.val_main_v80 (F := Ideal) (Cert.Kernel4Ideal.Head.A0 m c) (Cert.Kernel4Ideal.Head.A1 m c), ?_, ?_⟩
  · refine (θ_run Cert.Kernel4Ideal.defs _ _).mono (fun r h c => ?_) (Cert.Kernel4Ideal.Value.run_blocks (F := Ideal) m g)
    obtain ⟨h0, h1, h2, h3, h4, h5, h6, hk⟩ := h c
    exact ⟨h1.trans (Cert.Kernel4Ideal.Head.final_loss m c), h0.trans (Cert.Kernel4Ideal.Head.final_dh m c), h2.trans (Cert.Kernel4Ideal.Head.final_dg m c), h3.trans (Cert.Kernel4Ideal.Head.final_gate m c), h4.trans (Cert.Kernel4Ideal.Head.final_up m c), h5.trans (Cert.Kernel4Ideal.Head.final_act m c), h6.trans (Cert.Kernel4Ideal.Head.final_norm m c), hk⟩
  · refine (θ_run Cert.Reference4Ideal.defs _ _).mono (fun r h c => ?_) (Cert.Reference4Ideal.Value.run (F := Ideal) m' g')
    obtain ⟨h0, h1, h2, h3, h4, h5, h6, hk⟩ := h c
    obtain ⟨e0, e1, e2, e3, e4, e5⟩ := hagree c
    have f0 := h0.trans (Cert.Reference4Ideal.Read.val_main_v75_eq (F := Ideal) _ _)
    rw [e0, e1, e2, e3, e4, e5] at f0
    have f1 := h1.trans (Cert.Reference4Ideal.Read.val_main_v74_eq (F := Ideal) _ _)
    rw [e0, e1, e2, e3, e4, e5] at f1
    have f2 := h2.trans (Cert.Reference4Ideal.Read.val_main_v76_eq (F := Ideal) _ _)
    rw [e0, e1, e2, e3, e4, e5] at f2
    have f3 := h3.trans (Cert.Reference4Ideal.Read.val_main_v77_eq (F := Ideal) _ _ _)
    rw [e0, e1, e2] at f3
    have f4 := h4.trans (Cert.Reference4Ideal.Read.val_main_v78_eq (F := Ideal) _ _ _)
    rw [e0, e1, e2] at f4
    have f5 := h5.trans (Cert.Reference4Ideal.Read.val_main_v79_eq (F := Ideal) _ _ _)
    rw [e0, e1, e2] at f5
    have f6 := h6.trans (Cert.Reference4Ideal.Read.val_main_v80_eq (F := Ideal) _ _)
    rw [e0, e1] at f6
    exact ⟨f0, f1, f2, f3, f4, f5, f6, hk⟩

end Cert.Head
end
-- ==== Proof.CopyBody.lean ====
module

public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.Routed
public import Idealize.ShloMosaic.Lib.Exec

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

/-- The result the body writes itself, and the buffer it copies from. -/
abbrev gxM : Memref sig .tc .hbm S4096x1024 .f32 := Memref.whole main_v24_5
abbrev stM : Memref sig .tc .vmem S416x1024 .f32 := Memref.whole cc0_scratch0
/-- The contents of each. -/
abbrev GxBuf (F : FTy → Type) (c : Dev nD) : Type := Buf (Elt F) (gxM.view.loc (c : Thread nD τ))
abbrev StBuf (F : FTy → Type) (c : Dev nD) : Type := Buf (Elt F) (stM.view.loc (c : Thread nD τ))
abbrev gxPt (c : Dev nD) (f : GxBuf F c) : sProp 𝕄 := gxM.view.loc (c : Thread nD τ) ↦{fullShare} f
abbrev stPt (c : Dev nD) (f : StBuf F c) : sProp 𝕄 := stM.view.loc (c : Thread nD τ) ↦{fullShare} f
/-- The point is the first one. -/
abbrev first (i : grid0.Coords) : Prop := (Scalar.cmpi .ne (Scalar.extui (Scalar.cmpi .eq (BitVec.ofNat 32 (i 0).val) 0#32)) 0#32) = 1#1
/-- One copy on its way: the result's contents once it has landed, the copied buffer's as it was left. -/
abbrev flying (c : Dev nD) (N : ℕ) (f : GxBuf F c) (g : StBuf F c) : sProp 𝕄 :=
  Transfers.Flight (countersEmb (U := UC sig nD τ)) (c : Thread nD τ) (SemLoc.dma 20) () N iprop(gxPt c f ∗ stPt c g)

/-- The stores of one point: into the five outputs' blocks and into the buffer the copies read. -/
structure Stores (F : FTy → Type) where
  dh : List (View.Piece (Elt F) S416x1024 .f32)
  dgate : List (View.Piece (Elt F) S416x2816 .bf16)
  dup : List (View.Piece (Elt F) S416x2816 .bf16)
  df : List (View.Piece (Elt F) S416x1024 .bf16)
  dg : List (View.Piece (Elt F) S1x1024 .f32)
  stage : List (View.Piece (Elt F) S416x1024 .f32)
/-- What they leave there. -/
structure Outs (F : FTy → Type) where
  dh : Vec F S416x1024 .f32
  dgate : Vec F S416x2816 .bf16
  dup : Vec F S416x2816 .bf16
  df : Vec F S416x1024 .bf16
  dg : Vec F S1x1024 .f32
  stage : Vec F S416x1024 .f32
def Stores.outs (s : Stores F) : Outs F :=
  ⟨View.canon s.dh, View.canon s.dgate, View.canon s.dup, View.canon s.df, View.canon s.dg, View.canon s.stage⟩
/-- They fill each of them. -/
structure Stores.Cover (s : Stores F) : Prop where
  dh : ∀ y, ∃ p ∈ s.dh, y ∈ p.1.set
  dgate : ∀ y, ∃ p ∈ s.dgate, y ∈ p.1.set
  dup : ∀ y, ∃ p ∈ s.dup, y ∈ p.1.set
  df : ∀ y, ∃ p ∈ s.df, y ∈ p.1.set
  dg : ∀ y, ∃ p ∈ s.dg, y ∈ p.1.set
  stage : ∀ y, ∃ p ∈ s.stage, y ∈ p.1.set

/-- Something held beside a copy on its way can be delivered with it. -/
theorem Flight_frame {c : Thread nD τ} {sm : SemLoc sig} {N : ℕ} {D R : sProp 𝕄} :
    iprop(Transfers.Flight (countersEmb (U := UC sig nD τ)) c sm () N D ∗ R) ⊢ Transfers.Flight (countersEmb (U := UC sig nD τ)) c sm () N iprop(D ∗ R) := by
  unfold Transfers.Flight
  iintro ⟨⟨⟨%R₀, HR₀, %hcap, %hpeek⟩, Hcred⟩, HR⟩
  isplitl [HR₀ HR]
  · iexists iprop(R₀ ∗ R)
    isplitl [HR₀ HR]; · isplitl [HR₀] <;> iassumption
    isplit
    · ipureintro
      intro K
      iintro ⟨⟨HR₀, HR⟩, HK⟩
      iapply hcap
      isplitl [HR₀]; · iexact HR₀
      iintro ⟨Hv, HD⟩
      iapply HK
      isplitl [Hv]; · iexact Hv
      isplitl [HD] <;> iassumption
    · ipureintro
      intro K
      iintro ⟨⟨HR₀, HR⟩, HK⟩
      iapply hpeek
      isplitl [HR₀]; · iexact HR₀
      iintro HR₀
      iapply HK
      isplitl [HR₀] <;> iassumption
  · iexact Hcred

/-- A copy on its way with the rows it does not touch beside it is a copy that delivers both buffers whole. -/
theorem flying_of_windows (c : Dev nD) (N : ℕ) (f : GxBuf F c) (g : StBuf F c) (I : Finset _) (J : Finset _) :
    iprop((stM.view.loc (c : Thread nD τ) ↦[Finset.univ \ J]{fullShare} g) ∗ (gxM.view.loc (c : Thread nD τ) ↦[Finset.univ \ I]{fullShare} f)
      ∗ Transfers.Flight (countersEmb (U := UC sig nD τ)) (c : Thread nD τ) (SemLoc.dma 20) () N
          iprop((gxM.view.loc (c : Thread nD τ) ↦[I]{fullShare} f) ∗ (stM.view.loc (c : Thread nD τ) ↦[J]{fullShare} g)))
      ⊢ flying c N f g := by
  refine BIBase.Entails.trans ?_ (Transfers.Flight_mono (countersEmb (U := UC sig nD τ)) (c : Thread nD τ) (D := iprop(((gxM.view.loc (c : Thread nD τ) ↦[I]{fullShare} f) ∗ (stM.view.loc (c : Thread nD τ) ↦[J]{fullShare} g))
    ∗ ((gxM.view.loc (c : Thread nD τ) ↦[Finset.univ \ I]{fullShare} f) ∗ (stM.view.loc (c : Thread nD τ) ↦[Finset.univ \ J]{fullShare} g)))) ?_)
  · iintro ⟨Hs, Hg, Hf⟩
    iapply Flight_frame
    isplitl [Hf]; · iexact Hf
    isplitl [Hg] <;> iassumption
  · iintro ⟨⟨Hg, Hs⟩, Hg', Hs'⟩
    isplitl [Hg Hg']
    · iapply (pointsTo_split_subset (Finset.subset_univ I)).2
      isplitl [Hg] <;> iassumption
    · iapply (pointsTo_split_subset (Finset.subset_univ J)).2
      isplitl [Hs] <;> iassumption

/-- The same where the result was lent whole. -/
theorem flying_of_window (c : Dev nD) (N : ℕ) (f : GxBuf F c) (g : StBuf F c) (J : Finset _) :
    iprop((stM.view.loc (c : Thread nD τ) ↦[Finset.univ \ J]{fullShare} g)
      ∗ Transfers.Flight (countersEmb (U := UC sig nD τ)) (c : Thread nD τ) (SemLoc.dma 20) () N
          iprop(gxPt c f ∗ (stM.view.loc (c : Thread nD τ) ↦[J]{fullShare} g)))
      ⊢ flying c N f g := by
  refine BIBase.Entails.trans ?_ (Transfers.Flight_mono (countersEmb (U := UC sig nD τ)) (c : Thread nD τ)
    (D := iprop((gxPt c f ∗ (stM.view.loc (c : Thread nD τ) ↦[J]{fullShare} g)) ∗ (stM.view.loc (c : Thread nD τ) ↦[Finset.univ \ J]{fullShare} g))) ?_)
  · iintro ⟨Hs, Hf⟩
    iapply Flight_frame
    isplitl [Hf] <;> iassumption
  · iintro ⟨⟨Hg, Hs⟩, Hs'⟩
    isplitl [Hg]; · iexact Hg
    iapply (pointsTo_split_subset (Finset.subset_univ J)).2
    isplitl [Hs] <;> iassumption

/-- The rows of the result that the first point's copy fills, those another point's fills, and the last point's. -/
abbrev gxTop : Memref sig .tc .hbm S400x1024 .f32 := gxM.slice (Rect.unit (s := S4096x1024) ![0, 0] S400x1024.size inb_S4096x1024_S400x1024_0_0) (fun _ => rfl)
abbrev gxMid (i : grid0.Coords) (h : k0_cond5 i = 1#1) : Memref sig .tc .hbm S416x1024 .f32 :=
  gxM.slice (Rect.unit (s := S4096x1024) (k0_off2 i) S416x1024.size (k0_off2_inb i h)) (fun _ => rfl)
abbrev gxEnd : Memref sig .tc .hbm S368x1024 .f32 := gxM.slice (Rect.unit (s := S4096x1024) ![3728, 0] S368x1024.size inb_S4096x1024_S368x1024_3728_0) (fun _ => rfl)
/-- The copied rows, in the same three cases. -/
abbrev stTop : Memref sig .tc .vmem S400x1024 .f32 := stM.slice (Rect.unit (s := S416x1024) ![16, 0] S400x1024.size inb_S416x1024_S400x1024_16_0) (fun _ => rfl)
abbrev stMid : Memref sig .tc .vmem S416x1024 .f32 := stM.slice (Rect.unit (s := S416x1024) ![0, 0] S416x1024.size inb_S416x1024_S416x1024_0_0) (fun _ => rfl)
abbrev stEnd : Memref sig .tc .vmem S368x1024 .f32 := stM.slice (Rect.unit (s := S416x1024) ![0, 0] S368x1024.size inb_S416x1024_S368x1024_0_0) (fun _ => rfl)
/-- What the result holds once each copy has landed. -/
abbrev landTop (c : Dev nD) (f : GxBuf F c) (g : StBuf F c) : GxBuf F c := View.write (Elt F) gxTop.view f (ReadAs.same.apply (stTop.view.read (Elt F) g)) Finset.univ
abbrev landMid (c : Dev nD) (i : grid0.Coords) (h : k0_cond5 i = 1#1) (f : GxBuf F c) (g : StBuf F c) : GxBuf F c :=
  View.write (Elt F) (gxMid i h).view f (ReadAs.same.apply (stMid.view.read (Elt F) g)) Finset.univ
abbrev landEnd (c : Dev nD) (f : GxBuf F c) (g : StBuf F c) : GxBuf F c := View.write (Elt F) gxEnd.view f (ReadAs.same.apply (stEnd.view.read (Elt F) g)) Finset.univ

variable (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x2816 .bf16) (harg4 : arg4.IsWhole) (arg5 : Memref sig .tc .vmem S416x2816 .bf16) (harg5 : arg5.IsWhole) (arg6 : Memref sig .tc .vmem S4x1024x1408 .bf16) (harg6 : arg6.IsWhole) (arg7 : Memref sig .tc .vmem S2x1408x1024 .bf16) (harg7 : arg7.IsWhole) (arg8 : Memref sig .tc .vmem S416x1024 .f32) (harg8 : arg8.IsWhole) (arg9 : Memref sig .tc .vmem S416x2816 .bf16) (harg9 : arg9.IsWhole) (arg10 : Memref sig .tc .vmem S416x2816 .bf16) (harg10 : arg10.IsWhole) (arg11 : Memref sig .tc .vmem S416x1024 .bf16) (harg11 : arg11.IsWhole) (arg12 : Memref sig .tc .vmem S1x1024 .f32) (harg12 : arg12.IsWhole)
  (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16)

/-- The body at one point, from what it is given (`p12` the running gradient's buffer, `pre` the two buffers of the copies and their cell)
    to the stores it makes (`L7` … `L11`) and what it leaves of the copies (`post`). -/
def Body (p12 pre : sProp 𝕄) (L7 : List (View.Piece (Elt F) S416x1024 .f32)) (L8 : List (View.Piece (Elt F) S416x2816 .bf16)) (L9 : List (View.Piece (Elt F) S416x2816 .bf16)) (L10 : List (View.Piece (Elt F) S416x1024 .bf16)) (L11 : List (View.Piece (Elt F) S1x1024 .f32)) (post : sProp 𝕄) : Prop :=
  ∀ (W : Waits sig Unit) (K : PUnit → sProp 𝕄),
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ p12 ∗ pre ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ post ∗ (∃ W', owes (c : Thread nD τ) 0 W')) -∗ K ⟨⟩))
    ⊢ wp frame (wpE (defs₀ (F := F)) Variants.none c none) Set.univ
        (cc0_ffn1_bwd i arg1 harg1 arg2 harg2 arg3 harg3 arg4 harg4 arg5 harg5 arg6 harg6 arg7 harg7 arg8 harg8 arg9 harg9 arg10 harg10 arg11 harg11 arg12 harg12 gxM (Memref.isWhole_whole _) stM (Memref.isWhole_whole _) cc0_scratch1) K

end Cert.Kernel5Ideal.Copy

end
-- ==== Proof.CopyFirst.lean ====
module

public import proofs.«01_k».proof.Proof.CopyBody

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x2816 .bf16) (harg4 : arg4.IsWhole) (arg5 : Memref sig .tc .vmem S416x2816 .bf16) (harg5 : arg5.IsWhole) (arg6 : Memref sig .tc .vmem S4x1024x1408 .bf16) (harg6 : arg6.IsWhole) (arg7 : Memref sig .tc .vmem S2x1408x1024 .bf16) (harg7 : arg7.IsWhole) (arg8 : Memref sig .tc .vmem S416x1024 .f32) (harg8 : arg8.IsWhole) (arg9 : Memref sig .tc .vmem S416x2816 .bf16) (harg9 : arg9.IsWhole) (arg10 : Memref sig .tc .vmem S416x2816 .bf16) (harg10 : arg10.IsWhole) (arg11 : Memref sig .tc .vmem S416x1024 .bf16) (harg11 : arg11.IsWhole) (arg12 : Memref sig .tc .vmem S1x1024 .f32) (harg12 : arg12.IsWhole)
  (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16)

set_option maxHeartbeats 4000000

/-- The first point: the running gradient starts from zero, and the rows from 16 on are copied out. -/
def runFirst (hc1 : first i) (hc2 : ¬k0_cond2 i = 1#1) (hc3 : ¬k0_cond3 i = 1#1) (hc4 : k0_cond4 i = 1#1) (hc5 : ¬k0_cond5 i = 1#1) (hc6 : ¬k0_cond6 i = 1#1) :
    Σ' (L7 : List (View.Piece (Elt F) S416x1024 .f32)) (L8 : List (View.Piece (Elt F) S416x2816 .bf16)) (L9 : List (View.Piece (Elt F) S416x2816 .bf16)) (L10 : List (View.Piece (Elt F) S416x1024 .bf16)) (L14 : List (View.Piece (Elt F) S416x1024 .f32)), { L11 : List (View.Piece (Elt F) S1x1024 .f32) //
      ∀ (fg : GxBuf F c) (fs : StBuf F c), Body c i arg1 harg1 arg2 harg2 arg3 harg3 arg4 harg4 arg5 harg5 arg6 harg6 arg7 harg7 arg8 harg8 arg9 harg9 arg10 harg10 arg11 harg11 arg12 harg12 x0 x1 x2 x3 x4 x5 x6 iprop(∃ d, owns (c : Thread nD τ) arg12 fullShare d) iprop(gxPt c fg ∗ stPt c fs ∗ semVal ((c : Thread nD τ), SemLoc.dma 20) 0) L7 L8 L9 L10 L11 (flying c 51200 (landTop c fg (stM.view.writes (Elt F) fs L14)) (stM.view.writes (Elt F) fs L14)) } := by
  refine ⟨?_, ?_, ?_, ?_, ?_, ?_, fun fg fs W K => ?run⟩
  case run =>
    simp only [cc0_ffn1_bwd_eq_skeleton]; unfold cc0_ffn1_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨Hfl_dst, Hfl_src, Hfl⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc1 | sl_exact hc2 | sl_exact hc3 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [Hfl Hfl_src]
    · iapply flying_of_window
      isplitl [Hfl_src]; · iexact Hfl_src
      iexact Hfl
    iexists _; iexact HW

/-- The stores of that run. -/
def storesFirst (hc1 : first i) (hc2 : ¬k0_cond2 i = 1#1) (hc3 : ¬k0_cond3 i = 1#1) (hc4 : k0_cond4 i = 1#1) (hc5 : ¬k0_cond5 i = 1#1) (hc6 : ¬k0_cond6 i = 1#1) : Stores F :=
  let r := runFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6
  ⟨r.1, r.2.1, r.2.2.1, r.2.2.2.1, r.2.2.2.2.2.1, r.2.2.2.2.1⟩

theorem storesFirst_ok (hc1 : first i) (hc2 : ¬k0_cond2 i = 1#1) (hc3 : ¬k0_cond3 i = 1#1) (hc4 : k0_cond4 i = 1#1) (hc5 : ¬k0_cond5 i = 1#1) (hc6 : ¬k0_cond6 i = 1#1) : (storesFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6).Cover :=
  ⟨fun y => View.cover_of_tiledL (storesFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6).dh S416x1024.size (by sl_kernel_rfl) y,
   fun y => View.cover_of_tiledBy (storesFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6).dgate ![416, 128] (by sl_kernel_rfl) y,
   fun y => View.cover_of_tiledBy (storesFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6).dup ![416, 128] (by sl_kernel_rfl) y,
   fun y => View.cover_of_tiledL (storesFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6).df S416x1024.size (by sl_kernel_rfl) y,
   fun y => View.cover_of_tiledL (storesFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6).dg S1x1024.size (by sl_kernel_rfl) y,
   fun y => View.cover_of_tiledL (storesFirst c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6).stage S416x1024.size (by sl_kernel_rfl) y⟩

end Cert.Kernel5Ideal.Copy

end
-- ==== Proof.CopySecond.lean ====
module

public import proofs.«01_k».proof.Proof.CopyBody

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x2816 .bf16) (harg4 : arg4.IsWhole) (arg5 : Memref sig .tc .vmem S416x2816 .bf16) (harg5 : arg5.IsWhole) (arg6 : Memref sig .tc .vmem S4x1024x1408 .bf16) (harg6 : arg6.IsWhole) (arg7 : Memref sig .tc .vmem S2x1408x1024 .bf16) (harg7 : arg7.IsWhole) (arg8 : Memref sig .tc .vmem S416x1024 .f32) (harg8 : arg8.IsWhole) (arg9 : Memref sig .tc .vmem S416x2816 .bf16) (harg9 : arg9.IsWhole) (arg10 : Memref sig .tc .vmem S416x2816 .bf16) (harg10 : arg10.IsWhole) (arg11 : Memref sig .tc .vmem S416x1024 .bf16) (harg11 : arg11.IsWhole) (arg12 : Memref sig .tc .vmem S1x1024 .f32) (harg12 : arg12.IsWhole)
  (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16)

set_option maxHeartbeats 4000000

/-- The second point: the first point's copy is waited for, and the next rows are copied out. -/
def runSecond (hc1 : ¬first i) (hc2 : k0_cond2 i = 1#1) (hc3 : ¬k0_cond3 i = 1#1) (hc4 : ¬k0_cond4 i = 1#1) (hc5 : k0_cond5 i = 1#1) (hc6 : ¬k0_cond6 i = 1#1) (xo : Vec F S1x1024 .f32) :
    Σ' (L7 : List (View.Piece (Elt F) S416x1024 .f32)) (L8 : List (View.Piece (Elt F) S416x2816 .bf16)) (L9 : List (View.Piece (Elt F) S416x2816 .bf16)) (L10 : List (View.Piece (Elt F) S416x1024 .bf16)) (L14 : List (View.Piece (Elt F) S416x1024 .f32)), { L11 : List (View.Piece (Elt F) S1x1024 .f32) //
      ∀ (fg : GxBuf F c) (fs : StBuf F c), Body c i arg1 harg1 arg2 harg2 arg3 harg3 arg4 harg4 arg5 harg5 arg6 harg6 arg7 harg7 arg8 harg8 arg9 harg9 arg10 harg10 arg11 harg11 arg12 harg12 x0 x1 x2 x3 x4 x5 x6 (owns (c : Thread nD τ) arg12 fullShare xo) (flying c 51200 fg fs) L7 L8 L9 L10 L11 (flying c 53248 (landMid c i hc5 fg (stM.view.writes (Elt F) fs L14)) (stM.view.writes (Elt F) fs L14)) } := by
  refine ⟨?_, ?_, ?_, ?_, ?_, ?_, fun fg fs W K => ?run⟩
  case run =>
    simp only [cc0_ffn1_bwd_eq_skeleton]; unfold cc0_ffn1_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hfl, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hf11
    sl_exec (disch := first | sl_exact hc1 | sl_exact hc2 | sl_exact hc3 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [Hfl Hfl_src Hfl_dst]
    · iapply flying_of_windows
      isplitl [Hfl_src]; · iexact Hfl_src
      isplitl [Hfl_dst]; · iexact Hfl_dst
      iexact Hfl
    iexists _; iexact HW

/-- The stores of that run. -/
def storesSecond (hc1 : ¬first i) (hc2 : k0_cond2 i = 1#1) (hc3 : ¬k0_cond3 i = 1#1) (hc4 : ¬k0_cond4 i = 1#1) (hc5 : k0_cond5 i = 1#1) (hc6 : ¬k0_cond6 i = 1#1) (xo : Vec F S1x1024 .f32) : Stores F :=
  let r := runSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo
  ⟨r.1, r.2.1, r.2.2.1, r.2.2.2.1, r.2.2.2.2.2.1, r.2.2.2.2.1⟩

theorem storesSecond_ok (hc1 : ¬first i) (hc2 : k0_cond2 i = 1#1) (hc3 : ¬k0_cond3 i = 1#1) (hc4 : ¬k0_cond4 i = 1#1) (hc5 : k0_cond5 i = 1#1) (hc6 : ¬k0_cond6 i = 1#1) (xo : Vec F S1x1024 .f32) : (storesSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).Cover :=
  ⟨fun y => View.cover_of_tiledL (storesSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dh S416x1024.size (by sl_kernel_rfl) y,
   fun y => View.cover_of_tiledBy (storesSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dgate ![416, 128] (by sl_kernel_rfl) y,
   fun y => View.cover_of_tiledBy (storesSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dup ![416, 128] (by sl_kernel_rfl) y,
   fun y => View.cover_of_tiledL (storesSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).df S416x1024.size (by sl_kernel_rfl) y,
   fun y => View.cover_of_tiledL (storesSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dg S1x1024.size (by sl_kernel_rfl) y,
   fun y => View.cover_of_tiledL (storesSecond c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).stage S416x1024.size (by sl_kernel_rfl) y⟩

end Cert.Kernel5Ideal.Copy

end
-- ==== Proof.CopyMid.lean ====
module

public import proofs.«01_k».proof.Proof.CopyBody

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x2816 .bf16) (harg4 : arg4.IsWhole) (arg5 : Memref sig .tc .vmem S416x2816 .bf16) (harg5 : arg5.IsWhole) (arg6 : Memref sig .tc .vmem S4x1024x1408 .bf16) (harg6 : arg6.IsWhole) (arg7 : Memref sig .tc .vmem S2x1408x1024 .bf16) (harg7 : arg7.IsWhole) (arg8 : Memref sig .tc .vmem S416x1024 .f32) (harg8 : arg8.IsWhole) (arg9 : Memref sig .tc .vmem S416x2816 .bf16) (harg9 : arg9.IsWhole) (arg10 : Memref sig .tc .vmem S416x2816 .bf16) (harg10 : arg10.IsWhole) (arg11 : Memref sig .tc .vmem S416x1024 .bf16) (harg11 : arg11.IsWhole) (arg12 : Memref sig .tc .vmem S1x1024 .f32) (harg12 : arg12.IsWhole)
  (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16)

set_option maxHeartbeats 4000000

/-- A later point but the last: the copy of the point before is waited for, and the next rows are copied out. -/
def runMid (hc1 : ¬first i) (hc2 : ¬k0_cond2 i = 1#1) (hc3 : k0_cond3 i = 1#1) (hc4 : ¬k0_cond4 i = 1#1) (hc5 : k0_cond5 i = 1#1) (hc6 : ¬k0_cond6 i = 1#1) (xo : Vec F S1x1024 .f32) :
    Σ' (L7 : List (View.Piece (Elt F) S416x1024 .f32)) (L8 : List (View.Piece (Elt F) S416x2816 .bf16)) (L9 : List (View.Piece (Elt F) S416x2816 .bf16)) (L10 : List (View.Piece (Elt F) S416x1024 .bf16)) (L14 : List (View.Piece (Elt F) S416x1024 .f32)), { L11 : List (View.Piece (Elt F) S1x1024 .f32) //
      ∀ (fg : GxBuf F c) (fs : StBuf F c), Body c i arg1 harg1 arg2 harg2 arg3 harg3 arg4 harg4 arg5 harg5 arg6 harg6 arg7 harg7 arg8 harg8 arg9 harg9 arg10 harg10 arg11 harg11 arg12 harg12 x0 x1 x2 x3 x4 x5 x6 (owns (c : Thread nD τ) arg12 fullShare xo) (flying c 53248 fg fs) L7 L8 L9 L10 L11 (flying c 53248 (landMid c i hc5 fg (stM.view.writes (Elt F) fs L14)) (stM.view.writes (Elt F) fs L14)) } := by
  refine ⟨?_, ?_, ?_, ?_, ?_, ?_, fun fg fs W K => ?run⟩
  case run =>
    simp only [cc0_ffn1_bwd_eq_skeleton]; unfold cc0_ffn1_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hfl, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hf11
    sl_exec (disch := first | sl_exact hc1 | sl_exact hc2 | sl_exact hc3 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [Hfl Hfl_src Hfl_dst]
    · iapply flying_of_windows
      isplitl [Hfl_src]; · iexact Hfl_src
      isplitl [Hfl_dst]; · iexact Hfl_dst
      iexact Hfl
    iexists _; iexact HW

/-- The stores of that run. -/
def storesMid (hc1 : ¬first i) (hc2 : ¬k0_cond2 i = 1#1) (hc3 : k0_cond3 i = 1#1) (hc4 : ¬k0_cond4 i = 1#1) (hc5 : k0_cond5 i = 1#1) (hc6 : ¬k0_cond6 i = 1#1) (xo : Vec F S1x1024 .f32) : Stores F :=
  let r := runMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo
  ⟨r.1, r.2.1, r.2.2.1, r.2.2.2.1, r.2.2.2.2.2.1, r.2.2.2.2.1⟩

theorem storesMid_ok (hc1 : ¬first i) (hc2 : ¬k0_cond2 i = 1#1) (hc3 : k0_cond3 i = 1#1) (hc4 : ¬k0_cond4 i = 1#1) (hc5 : k0_cond5 i = 1#1) (hc6 : ¬k0_cond6 i = 1#1) (xo : Vec F S1x1024 .f32) : (storesMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).Cover :=
  ⟨fun y => View.cover_of_tiledL (storesMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dh S416x1024.size (by sl_kernel_rfl) y,
   fun y => View.cover_of_tiledBy (storesMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dgate ![416, 128] (by sl_kernel_rfl) y,
   fun y => View.cover_of_tiledBy (storesMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dup ![416, 128] (by sl_kernel_rfl) y,
   fun y => View.cover_of_tiledL (storesMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).df S416x1024.size (by sl_kernel_rfl) y,
   fun y => View.cover_of_tiledL (storesMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dg S1x1024.size (by sl_kernel_rfl) y,
   fun y => View.cover_of_tiledL (storesMid c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).stage S416x1024.size (by sl_kernel_rfl) y⟩

end Cert.Kernel5Ideal.Copy

end
-- ==== Proof.CopyLast.lean ====
module

public import proofs.«01_k».proof.Proof.CopyBody

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S1x1024 .f32) (harg3 : arg3.IsWhole) (arg4 : Memref sig .tc .vmem S416x2816 .bf16) (harg4 : arg4.IsWhole) (arg5 : Memref sig .tc .vmem S416x2816 .bf16) (harg5 : arg5.IsWhole) (arg6 : Memref sig .tc .vmem S4x1024x1408 .bf16) (harg6 : arg6.IsWhole) (arg7 : Memref sig .tc .vmem S2x1408x1024 .bf16) (harg7 : arg7.IsWhole) (arg8 : Memref sig .tc .vmem S416x1024 .f32) (harg8 : arg8.IsWhole) (arg9 : Memref sig .tc .vmem S416x2816 .bf16) (harg9 : arg9.IsWhole) (arg10 : Memref sig .tc .vmem S416x2816 .bf16) (harg10 : arg10.IsWhole) (arg11 : Memref sig .tc .vmem S416x1024 .bf16) (harg11 : arg11.IsWhole) (arg12 : Memref sig .tc .vmem S1x1024 .f32) (harg12 : arg12.IsWhole)
  (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16)

set_option maxHeartbeats 4000000

/-- The last point: both the copy before and its own are waited for. -/
def runLast (hc1 : ¬first i) (hc2 : ¬k0_cond2 i = 1#1) (hc3 : k0_cond3 i = 1#1) (hc4 : ¬k0_cond4 i = 1#1) (hc5 : ¬k0_cond5 i = 1#1) (hc6 : k0_cond6 i = 1#1) (xo : Vec F S1x1024 .f32) :
    Σ' (L7 : List (View.Piece (Elt F) S416x1024 .f32)) (L8 : List (View.Piece (Elt F) S416x2816 .bf16)) (L9 : List (View.Piece (Elt F) S416x2816 .bf16)) (L10 : List (View.Piece (Elt F) S416x1024 .bf16)) (L14 : List (View.Piece (Elt F) S416x1024 .f32)), { L11 : List (View.Piece (Elt F) S1x1024 .f32) //
      ∀ (fg : GxBuf F c) (fs : StBuf F c), Body c i arg1 harg1 arg2 harg2 arg3 harg3 arg4 harg4 arg5 harg5 arg6 harg6 arg7 harg7 arg8 harg8 arg9 harg9 arg10 harg10 arg11 harg11 arg12 harg12 x0 x1 x2 x3 x4 x5 x6 (owns (c : Thread nD τ) arg12 fullShare xo) (flying c 53248 fg fs) L7 L8 L9 L10 L11 iprop(stPt c (stM.view.writes (Elt F) fs L14) ∗ gxPt c (landEnd c fg (stM.view.writes (Elt F) fs L14)) ∗ semVal ((c : Thread nD τ), SemLoc.dma 20) 0) } := by
  refine ⟨?_, ?_, ?_, ?_, ?_, ?_, fun fg fs W K => ?run⟩
  case run =>
    simp only [cc0_ffn1_bwd_eq_skeleton]; unfold cc0_ffn1_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, Hfl, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg12.eq_unread hf11
    sl_exec (disch := first | sl_exact hc1 | sl_exact hc2 | sl_exact hc3 | sl_exact hc4 | sl_exact hc5 | sl_exact hc6)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [Hfl_src Hfl_dst Hfl]
    · isplitl [Hfl_src]; · iexact Hfl_src
      isplitl [Hfl_dst]; · iexact Hfl_dst
      iexact Hfl
    iexists _; iexact HW

/-- The stores of that run. -/
def storesLast (hc1 : ¬first i) (hc2 : ¬k0_cond2 i = 1#1) (hc3 : k0_cond3 i = 1#1) (hc4 : ¬k0_cond4 i = 1#1) (hc5 : ¬k0_cond5 i = 1#1) (hc6 : k0_cond6 i = 1#1) (xo : Vec F S1x1024 .f32) : Stores F :=
  let r := runLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo
  ⟨r.1, r.2.1, r.2.2.1, r.2.2.2.1, r.2.2.2.2.2.1, r.2.2.2.2.1⟩

theorem storesLast_ok (hc1 : ¬first i) (hc2 : ¬k0_cond2 i = 1#1) (hc3 : k0_cond3 i = 1#1) (hc4 : ¬k0_cond4 i = 1#1) (hc5 : ¬k0_cond5 i = 1#1) (hc6 : k0_cond6 i = 1#1) (xo : Vec F S1x1024 .f32) : (storesLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).Cover :=
  ⟨fun y => View.cover_of_tiledL (storesLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dh S416x1024.size (by sl_kernel_rfl) y,
   fun y => View.cover_of_tiledBy (storesLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dgate ![416, 128] (by sl_kernel_rfl) y,
   fun y => View.cover_of_tiledBy (storesLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dup ![416, 128] (by sl_kernel_rfl) y,
   fun y => View.cover_of_tiledL (storesLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).df S416x1024.size (by sl_kernel_rfl) y,
   fun y => View.cover_of_tiledL (storesLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).dg S1x1024.size (by sl_kernel_rfl) y,
   fun y => View.cover_of_tiledL (storesLast c i arg1 harg1 arg2 harg2 arg3 harg3 arg4 harg4 arg5 harg5 arg6 harg6 arg7 harg7 arg8 harg8 arg9 harg9 arg10 harg10 arg11 harg11 arg12 harg12 x0 x1 x2 x3 x4 x5 x6 hc1 hc2 hc3 hc4 hc5 hc6 xo).stage S416x1024.size (by sl_kernel_rfl) y⟩

end Cert.Kernel5Ideal.Copy

end
-- ==== Proof.CopyPoints.lean ====
module

public import proofs.«01_k».proof.Proof.CopyFirst
public import proofs.«01_k».proof.Proof.CopySecond
public import proofs.«01_k».proof.Proof.CopyMid
public import proofs.«01_k».proof.Proof.CopyLast

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (m : (ℓ : Loc nD τ sig) → Buf (Elt F) ℓ)

theorem cond1 : ∀ t : Fin grid0.N, first (grid0.coords t) ↔ t.val = 0 := by decide +kernel
theorem cond2 : ∀ t : Fin grid0.N, k0_cond2 (grid0.coords t) = 1#1 ↔ t.val = 1 := by decide +kernel
theorem cond3 : ∀ t : Fin grid0.N, k0_cond3 (grid0.coords t) = 1#1 ↔ 1 < t.val := by decide +kernel
theorem cond4 : ∀ t : Fin grid0.N, k0_cond4 (grid0.coords t) = 1#1 ↔ t.val = 0 := by decide +kernel
theorem cond5 : ∀ t : Fin grid0.N, k0_cond5 (grid0.coords t) = 1#1 ↔ 0 < t.val ∧ t.val < 9 := by decide +kernel
theorem cond6 : ∀ t : Fin grid0.N, k0_cond6 (grid0.coords t) = 1#1 ↔ t.val = 9 := by decide +kernel
/-- Where a middle point's rows of the result begin. -/
theorem off_row : ∀ t : Fin grid0.N, 0 < t.val → k0_off2 (grid0.coords t) 0 + 16 = 416 * t.val := by decide +kernel
theorem off_col : ∀ t : Fin grid0.N, k0_off2 (grid0.coords t) 1 = 0 := by decide +kernel
theorem lt_ten (t : Fin cfg0.N) : t.val < 10 := lt_of_lt_of_eq t.isLt (show cfg0.N = 10 from N_0)

/-- The stores of the first point, over its seven blocks. -/
def firstAt (c : Dev nD) (t : Fin cfg0.N) (h0 : t.val = 0) (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16) : Stores F :=
  storesFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) x0 x1 x2 x3 x4 x5 x6 (cond1 t |>.mpr h0) (mt (cond2 t).mp (by omega)) (mt (cond3 t).mp (by omega)) ((cond4 t).mpr h0) (mt (cond5 t).mp (by omega)) (mt (cond6 t).mp (by omega))
/-- The stores of a later point, over its seven blocks and the running gradient `xo`. -/
def laterAt (c : Dev nD) (t : Fin cfg0.N) (h0 : ¬t.val = 0) (x0 : Vec F S416x1024 .f32) (x1 : Vec F S416x1024 .f32) (x2 : Vec F S1x1024 .f32) (x3 : Vec F S416x2816 .bf16) (x4 : Vec F S416x2816 .bf16) (x5 : Vec F S4x1024x1408 .bf16) (x6 : Vec F S2x1408x1024 .bf16) (xo : Vec F S1x1024 .f32) : Stores F :=
  if h1 : t.val = 1 then storesSecond c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) x0 x1 x2 x3 x4 x5 x6 (mt (cond1 t).mp (by omega)) ((cond2 t).mpr h1) (mt (cond3 t).mp (by omega)) (mt (cond4 t).mp (by omega)) ((cond5 t).mpr (by omega)) (mt (cond6 t).mp (by omega)) xo
  else if h9 : t.val = 9 then storesLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) x0 x1 x2 x3 x4 x5 x6 (mt (cond1 t).mp (by omega)) (mt (cond2 t).mp (by omega)) ((cond3 t).mpr (by omega)) (mt (cond4 t).mp (by omega)) (mt (cond5 t).mp (by omega)) ((cond6 t).mpr h9) xo
  else storesMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) x0 x1 x2 x3 x4 x5 x6 (mt (cond1 t).mp (by have := lt_ten t; omega)) (mt (cond2 t).mp (by have := lt_ten t; omega)) ((cond3 t).mpr (by have := lt_ten t; omega)) (mt (cond4 t).mp (by have := lt_ten t; omega)) ((cond5 t).mpr (by have := lt_ten t; omega)) (mt (cond6 t).mp (by have := lt_ten t; omega)) xo

abbrev pointFirst (c : Dev nD) (t : Fin cfg0.N) (h0 : t.val = 0) : Stores F := firstAt c t h0 (iblk m c 0 t) (iblk m c 1 t) (iblk m c 2 t) (iblk m c 3 t) (iblk m c 4 t) (iblk m c 5 t) (iblk m c 6 t)
abbrev pointLater (c : Dev nD) (t : Fin cfg0.N) (h0 : ¬t.val = 0) (xo : Vec F S1x1024 .f32) : Stores F := laterAt c t h0 (iblk m c 0 t) (iblk m c 1 t) (iblk m c 2 t) (iblk m c 3 t) (iblk m c 4 t) (iblk m c 5 t) (iblk m c 6 t) xo

/-- What every point leaves: each over the running gradient of the point before. -/
def outsAt0 (c : Dev nD) : (n : ℕ) → n < cfg0.N → Outs F
  | 0, hn => (pointFirst m c ⟨0, hn⟩ rfl).outs
  | n + 1, hn => (pointLater m c ⟨n + 1, hn⟩ (Nat.succ_ne_zero n) (outsAt0 c n (Nat.lt_of_succ_lt hn)).dg).outs

/-- The running gradient that point `t` finds. -/
abbrev prev (c : Dev nD) (t : Fin cfg0.N) : Vec F S1x1024 .f32 := (outsAt0 m c (t.val - 1) (Nat.lt_of_le_of_lt (Nat.sub_le _ _) t.isLt)).dg

theorem outsAt0_first (c : Dev nD) (t : Fin cfg0.N) (h0 : t.val = 0) : outsAt0 m c t.val t.isLt = (pointFirst m c t h0).outs := by
  obtain ⟨n, hn⟩ := t
  cases n with
  | zero => exact rfl
  | succ n => exact absurd h0 (Nat.succ_ne_zero n)
theorem outsAt0_later (c : Dev nD) (t : Fin cfg0.N) (h0 : ¬t.val = 0) : outsAt0 m c t.val t.isLt = (pointLater m c t h0 (prev m c t)).outs := by
  obtain ⟨n, hn⟩ := t
  cases n with
  | zero => exact absurd rfl h0
  | succ n => exact rfl

theorem pointFirst_ok (c : Dev nD) (t : Fin cfg0.N) (h0 : t.val = 0) : (pointFirst m c t h0).Cover := storesFirst_ok _ _ _ _ _ _ _ _ _ _ _ _ _ _ _ _ _ _ _ _ _ _ _ _ _ _ _ _ _ _ _ _ _ _ _ _ _ _ _
theorem pointLater_ok (c : Dev nD) (t : Fin cfg0.N) (h0 : ¬t.val = 0) (xo : Vec F S1x1024 .f32) : (pointLater m c t h0 xo).Cover := by
  unfold pointLater laterAt
  split
  · exact storesSecond_ok _ _ _ _ _ _ _ _ _ _ _ _ _ _ _ _ _ _ _ _ _ _ _ _ _ _ _ _ _ _ _ _ _ _ _ _ _ _ _ _
  split
  · exact storesLast_ok _ _ _ _ _ _ _ _ _ _ _ _ _ _ _ _ _ _ _ _ _ _ _ _ _ _ _ _ _ _ _ _ _ _ _ _ _ _ _ _
  · exact storesMid_ok _ _ _ _ _ _ _ _ _ _ _ _ _ _ _ _ _ _ _ _ _ _ _ _ _ _ _ _ _ _ _ _ _ _ _ _ _ _ _ _

end Cert.Kernel5Ideal.Copy

end
-- ==== Proof.CopyBlocks.lean ====
module

public import proofs.«01_k».proof.Proof.CopyPoints
public import proofs.«01_k».proof.Proof.FfnValues

@[expose] public section
set_option maxRecDepth 16384
noncomputable section

namespace Cert.Kernel5Ideal.Copy

open Cert.Kernel5Ideal Cert.Kernel5Ideal.Gen Idealize.ShloMosaic Idealize.ShloMosaic.TcCoe Idealize.SL.Sem
open Cert.Reference3Ideal.Read
variable (m : (ℓ : Loc nD τ sig) → Buf (Elt Ideal) ℓ)

theorem idx_val : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0, 0] ∧ win0_6.index t = ![0, 0, 0]
    ∧ win0_7.index t = ![t.val, 0] ∧ win0_8.index t = ![t.val, 0] ∧ win0_9.index t = ![t.val, 0] ∧ win0_10.index t = ![t.val, 0]
    ∧ win0_11.index t = ![0, 0] := (by decide +kernel : ∀ t : Fin grid0.N, _)

abbrev B0 (c : Dev nD) : FVec Ideal S4160x1024 .f32 := m ((c : Thread nD τ).loc main_arg0)
abbrev B1 (c : Dev nD) : FVec Ideal S1024 .f32 := m ((c : Thread nD τ).loc main_arg1)
abbrev B2 (c : Dev nD) : FVec Ideal S1024x5632 .f32 := m ((c : Thread nD τ).loc main_arg2)
abbrev B3 (c : Dev nD) : FVec Ideal S2816x1024 .f32 := m ((c : Thread nD τ).loc main_arg3)
abbrev B4 (c : Dev nD) : FVec Ideal S4160x1024 .f32 := m ((c : Thread nD τ).loc main_arg4)

/-- Memories of the two calls that hold the same arguments. -/
structure Same (m₃ : (ℓ : Loc Cert.Kernel3Ideal.nD Cert.Kernel3Ideal.τ Cert.Kernel3Ideal.sig) → Buf (Elt Ideal) ℓ) (c : Dev nD) : Prop where
  h0 : B0 m c = Cert.Kernel3Ideal.Ffn.A0 m₃ c
  h1 : B1 m c = Cert.Kernel3Ideal.Ffn.A1 m₃ c
  h2 : B2 m c = Cert.Kernel3Ideal.Ffn.A2 m₃ c
  h3 : B3 m c = Cert.Kernel3Ideal.Ffn.A3 m₃ c
  h4 : B4 m c = Cert.Kernel3Ideal.Ffn.A4 m₃ c

variable (c : Dev nD) (t : Fin cfg0.N) (p : Fin 416) (r : Fin 4160)

theorem cot_at (hr : r.val = t.val * 416 + p.val) (k : Fin 1024) : iblk m c 0 t (ix2 p k) = B4 m c (ix2 r k) := by
  blk_point [iblk, V, idx_val t]
theorem row_at (hr : r.val = t.val * 416 + p.val) (k : Fin 1024) : iblk m c 1 t (ix2 p k) = B0 m c (ix2 r k) := by
  blk_point [iblk, V, idx_val t]
theorem gain_at (k : Fin 1024) : iblk m c 2 t (ix2 0 k) = val_main_v13 (F := Ideal) (B1 m c) (ix2 0 k) := by
  pointwise [val_main_v13]; blk_point [iblk, V, idx_val t]
theorem gate_at (hr : r.val = t.val * 416 + p.val) (k : Fin 2816) : iblk m c 3 t (ix2 p k) = val_main_v17 (F := Ideal) (B0 m c) (B1 m c) (B2 m c) (ix2 r k) := by
  blk_point [iblk, V, idx_val t]
theorem up_at (hr : r.val = t.val * 416 + p.val) (k : Fin 2816) : iblk m c 4 t (ix2 p k) = val_main_v18 (F := Ideal) (B0 m c) (B1 m c) (B2 m c) (ix2 r k) := by
  blk_point [iblk, V, idx_val t]
theorem weight_at (j : Fin 4) (q : Fin 1024) (l : Fin 1408) (k : Fin 5632) (hk : k.val = j.val * 1408 + l.val) :
    iblk m c 5 t (ix3 j q l) = B2 m c (ix2 q k) := by
  blk_point [iblk, V, idx_val t]
theorem down_at (j : Fin 2) (l : Fin 1408) (q : Fin 1024) (k : Fin 2816) (hk : k.val = j.val * 1408 + l.val) :
    iblk m c 6 t (ix3 j l q) = B3 m c (ix2 k q) := by
  blk_point [iblk, V, idx_val t]

/-- The same point of the other call's grid. -/
abbrev pt : Fin Cert.Kernel3Ideal.cfg0.N := ⟨t.val, t.isLt⟩

theorem eq2 {a b : ℕ} {e : EltTy} {f g : (⟨2, ![a, b]⟩ : Shape).Idx → Elt Ideal e} (h : ∀ i j, f (ix2 i j) = g (ix2 i j)) : f = g :=
  funext fun x => by
    rw [show x = ix2 (x 0) (x 1) from funext fun a => by fin_cases a <;> rfl]
    exact h _ _
theorem eq3 {a b d : ℕ} {e : EltTy} {f g : (⟨3, ![a, b, d]⟩ : Shape).Idx → Elt Ideal e} (h : ∀ i j k, f (ix3 i j k) = g (ix3 i j k)) : f = g :=
  funext fun x => by
    rw [show x = ix3 (x 0) (x 1) (x 2) from funext fun a => by fin_cases a <;> rfl]
    exact h _ _ _

variable {m} {m₃ : (ℓ : Loc Cert.Kernel3Ideal.nD Cert.Kernel3Ideal.τ Cert.Kernel3Ideal.sig) → Buf (Elt Ideal) ℓ} {c} (h : Same m m₃ c)
include h

theorem blk0 : iblk m c 0 t = Cert.Kernel3Ideal.Gen.iblk m₃ c 0 (pt t) :=
  eq2 (a := 416) (b := 1024) fun p k => (cot_at m c t p (Cert.Kernel3Ideal.Ffn.row (pt t) p) rfl k).trans ((congrFun h.h4 _).trans (Cert.Kernel3Ideal.Ffn.cot_at m₃ c (pt t) k p).symm)
theorem blk1 : iblk m c 1 t = Cert.Kernel3Ideal.Gen.iblk m₃ c 1 (pt t) :=
  eq2 (a := 416) (b := 1024) fun p k => (row_at m c t p (Cert.Kernel3Ideal.Ffn.row (pt t) p) rfl k).trans ((congrFun h.h0 _).trans (Cert.Kernel3Ideal.Ffn.row_at m₃ c (pt t) k p).symm)
theorem blk2 : iblk m c 2 t = Cert.Kernel3Ideal.Gen.iblk m₃ c 2 (pt t) :=
  eq2 (a := 1) (b := 1024) fun p k => by
    obtain rfl : p = 0 := Subsingleton.elim _ _
    exact (gain_at m c t k).trans ((congrArg (fun a => val_main_v13 (F := Ideal) a (ix2 0 k)) h.h1).trans (Cert.Kernel3Ideal.Ffn.gain_at m₃ c (pt t) k).symm)
theorem blk3 : iblk m c 3 t = Cert.Kernel3Ideal.Gen.iblk m₃ c 3 (pt t) :=
  eq2 (a := 416) (b := 2816) fun p k => (gate_at m c t p (Cert.Kernel3Ideal.Ffn.row (pt t) p) rfl k).trans (Eq.trans (by rw [h.h0, h.h1, h.h2]) (Cert.Kernel3Ideal.Ffn.gate_at m₃ c (pt t) p _ rfl k).symm)
theorem blk4 : iblk m c 4 t = Cert.Kernel3Ideal.Gen.iblk m₃ c 4 (pt t) :=
  eq2 (a := 416) (b := 2816) fun p k => (up_at m c t p (Cert.Kernel3Ideal.Ffn.row (pt t) p) rfl k).trans (Eq.trans (by rw [h.h0, h.h1, h.h2]) (Cert.Kernel3Ideal.Ffn.up_at m₃ c (pt t) p _ rfl k).symm)
theorem blk5 : iblk m c 5 t = Cert.Kernel3Ideal.Gen.iblk m₃ c 5 (pt t) :=
  eq3 (a := 4) (b := 1024) (d := 1408) fun j q l => (weight_at m c t j q l ⟨j.val * 1408 + l.val, by omega⟩ rfl).trans ((congrFun h.h2 _).trans (Cert.Kernel3Ideal.Ffn.weight_at m₃ c (pt t) j q l _ rfl).symm)
theorem blk6 : iblk m c 6 t = Cert.Kernel3Ideal.Gen.iblk m₃ c 6 (pt t) :=
  eq3 (a := 2) (b := 1408) (d := 1024) fun j l q => (down_at m c t j l q ⟨j.val * 1408 + l.val, by omega⟩ rfl).trans ((congrFun h.h3 _).trans (Cert.Kernel3Ideal.Ffn.down_at m₃ c (pt t) j l q _ rfl).symm)

end Cert.Kernel5Ideal.Copy
end
-- ==== Proof.CopyOuts.lean ====
module

public import proofs.«01_k».proof.Proof.CopyBlocks
public import Idealize.ShloMosaic.Lib.Pipeline.ValueKit

@[expose] public section
set_option maxRecDepth 16384
noncomputable section

namespace Cert.Kernel5Ideal.Copy

open Cert.Kernel5Ideal Cert.Kernel5Ideal.Gen Idealize.ShloMosaic Idealize.ShloMosaic.TcCoe Idealize.SL.Sem
open Cert.Kernel3Ideal.Ffn (gateHalf0 gateHalf1 upHalf0 upHalf1 halfCols quarter)
variable {m : (ℓ : Loc nD τ sig) → Buf (Elt Ideal) ℓ}
variable {c : Dev nD} (t : Fin cfg0.N)

variable {m₃ : (ℓ : Loc Cert.Kernel3Ideal.nD Cert.Kernel3Ideal.τ Cert.Kernel3Ideal.sig) → Buf (Elt Ideal) ℓ}

open Cert.Kernel3Ideal.Gen (k0_pay3 k0_pay4 k0_pay5 k0_pay6 k0_pay41 k0_pay78 k0_pay79)

theorem seven {β : Type} {a b c d e f g : Type} (φ : a → b → c → d → e → f → g → β) {x0 y0 : a} {x1 y1 : b} {x2 y2 : c} {x3 y3 : d} {x4 y4 : e} {x5 y5 : f} {x6 y6 : g}
    (h0 : x0 = y0) (h1 : x1 = y1) (h2 : x2 = y2) (h3 : x3 = y3) (h4 : x4 = y4) (h5 : x5 = y5) (h6 : x6 = y6) : φ x0 x1 x2 x3 x4 x5 x6 = φ y0 y1 y2 y3 y4 y5 y6 := by
  subst h0 h1 h2 h3 h4 h5 h6; rfl

theorem first_eq (h : Same m m₃ c) (h0 : t.val = 0) : pointFirst m c t h0 = firstAt c t h0 (Cert.Kernel3Ideal.Gen.iblk m₃ c 0 (pt t)) (Cert.Kernel3Ideal.Gen.iblk m₃ c 1 (pt t)) (Cert.Kernel3Ideal.Gen.iblk m₃ c 2 (pt t)) (Cert.Kernel3Ideal.Gen.iblk m₃ c 3 (pt t)) (Cert.Kernel3Ideal.Gen.iblk m₃ c 4 (pt t)) (Cert.Kernel3Ideal.Gen.iblk m₃ c 5 (pt t)) (Cert.Kernel3Ideal.Gen.iblk m₃ c 6 (pt t)) :=
  seven (firstAt c t h0) (blk0 t h) (blk1 t h) (blk2 t h) (blk3 t h) (blk4 t h) (blk5 t h) (blk6 t h)
theorem later_eq (h : Same m m₃ c) (h0 : ¬t.val = 0) (xo) : pointLater m c t h0 xo = laterAt c t h0 (Cert.Kernel3Ideal.Gen.iblk m₃ c 0 (pt t)) (Cert.Kernel3Ideal.Gen.iblk m₃ c 1 (pt t)) (Cert.Kernel3Ideal.Gen.iblk m₃ c 2 (pt t)) (Cert.Kernel3Ideal.Gen.iblk m₃ c 3 (pt t)) (Cert.Kernel3Ideal.Gen.iblk m₃ c 4 (pt t)) (Cert.Kernel3Ideal.Gen.iblk m₃ c 5 (pt t)) (Cert.Kernel3Ideal.Gen.iblk m₃ c 6 (pt t)) xo :=
  seven (fun x0 x1 x2 x3 x4 x5 x6 => laterAt c t h0 x0 x1 x2 x3 x4 x5 x6 xo) (blk0 t h) (blk1 t h) (blk2 t h) (blk3 t h) (blk4 t h) (blk5 t h) (blk6 t h)

/-- The gradient of the normalised rows at point `t`, its halves read back through this call's buffers. -/
def dn (m₃ : (ℓ : Loc Cert.Kernel3Ideal.nD Cert.Kernel3Ideal.τ Cert.Kernel3Ideal.sig) → Buf (Elt Ideal) ℓ) (c : Dev nD) (t : Fin cfg0.N) : FVec Ideal S416x1024 .f32 :=
  k0_pay78 (k0_pay41 ((st0_8 t).view.readCov (gateHalf0 m₃ c (pt t)) (halfCols 0 (by decide))) (quarter m₃ c (pt t) 0 (by decide))
      ((st0_9 t).view.readCov (upHalf0 m₃ c (pt t)) (halfCols 0 (by decide))) (quarter m₃ c (pt t) 2 (by decide)))
    ((st0_8 t).view.readCov (gateHalf1 m₃ c (pt t) ++ gateHalf0 m₃ c (pt t)) (halfCols 1408 (by decide))) (quarter m₃ c (pt t) 1 (by decide))
    ((st0_9 t).view.readCov (upHalf1 m₃ c (pt t) ++ upHalf0 m₃ c (pt t)) (halfCols 1408 (by decide))) (quarter m₃ c (pt t) 3 (by decide))

theorem dn_eq : dn m₃ c t = Cert.Kernel3Ideal.Ffn.dn m₃ c (pt t) := by
  unfold dn Cert.Kernel3Ideal.Ffn.dn
  simp only [View.readCov_eq_canon']
  rfl

theorem point_dgate (h : Same m m₃ c) : (outsAt0 m c t.val t.isLt).dgate = View.canon (gateHalf1 m₃ c (pt t) ++ gateHalf0 m₃ c (pt t)) := by
  by_cases h0 : t.val = 0
  · rw [outsAt0_first m c t h0, first_eq t h h0]
    unfold Stores.outs firstAt storesFirst
    dsimp only
    frame_out
    rfl
  · rw [outsAt0_later m c t h0, later_eq t h h0]
    unfold Stores.outs laterAt storesSecond storesMid storesLast
    split
    · dsimp only; frame_out; rfl
    split <;> (dsimp only; frame_out; rfl)

theorem point_dup (h : Same m m₃ c) : (outsAt0 m c t.val t.isLt).dup = View.canon (upHalf1 m₃ c (pt t) ++ upHalf0 m₃ c (pt t)) := by
  by_cases h0 : t.val = 0
  · rw [outsAt0_first m c t h0, first_eq t h h0]
    unfold Stores.outs firstAt storesFirst
    dsimp only
    frame_out
    rfl
  · rw [outsAt0_later m c t h0, later_eq t h h0]
    unfold Stores.outs laterAt storesSecond storesMid storesLast
    split
    · dsimp only; frame_out; rfl
    split <;> (dsimp only; frame_out; rfl)

theorem point_df (h : Same m m₃ c) : (outsAt0 m c t.val t.isLt).df = k0_pay6 (F := Ideal) (Cert.Kernel3Ideal.Gen.iblk m₃ c 0 (pt t)) := by
  by_cases h0 : t.val = 0
  · rw [outsAt0_first m c t h0, first_eq t h h0]
    unfold Stores.outs firstAt storesFirst
    dsimp only
    frame_out
    rfl
  · rw [outsAt0_later m c t h0, later_eq t h h0]
    unfold Stores.outs laterAt storesSecond storesMid storesLast
    split
    · dsimp only; frame_out; rfl
    split <;> (dsimp only; frame_out; rfl)

theorem point_dh (h : Same m m₃ c) : (outsAt0 m c t.val t.isLt).dh = k0_pay4 (Cert.Kernel3Ideal.Gen.iblk m₃ c 0 (pt t)) (dn m₃ c t) (Cert.Kernel3Ideal.Gen.iblk m₃ c 1 (pt t)) (k0_pay79 (Cert.Kernel3Ideal.Gen.iblk m₃ c 2 (pt t))) := by
  by_cases h0 : t.val = 0
  · rw [outsAt0_first m c t h0, first_eq t h h0]
    unfold Stores.outs firstAt storesFirst
    dsimp only
    frame_out
    rfl
  · rw [outsAt0_later m c t h0, later_eq t h h0]
    unfold Stores.outs laterAt storesSecond storesMid storesLast
    split
    · dsimp only; frame_out; rfl
    split <;> (dsimp only; frame_out; rfl)

theorem stored (v : FVec Ideal S416x1024 .f32) : Cert.Kernel5Ideal.Gen.k0_pay1 v = v := funext fun x => by
  pointwise [Cert.Kernel5Ideal.Gen.k0_pay1]

set_option maxHeartbeats 1000000 in
theorem point_stage (h : Same m m₃ c) : (outsAt0 m c t.val t.isLt).stage = k0_pay4 (Cert.Kernel3Ideal.Gen.iblk m₃ c 0 (pt t)) (dn m₃ c t) (Cert.Kernel3Ideal.Gen.iblk m₃ c 1 (pt t)) (k0_pay79 (Cert.Kernel3Ideal.Gen.iblk m₃ c 2 (pt t))) := by
  by_cases h0 : t.val = 0
  · rw [outsAt0_first m c t h0, first_eq t h h0]
    unfold Stores.outs firstAt storesFirst
    dsimp only
    frame_out [stored]
    rfl
  · rw [outsAt0_later m c t h0, later_eq t h h0]
    unfold Stores.outs laterAt storesSecond storesMid storesLast
    split
    · dsimp only; frame_out [stored]; rfl
    split <;> (dsimp only; frame_out [stored]; rfl)

theorem point_dg_first (h : Same m m₃ c) (h0 : t.val = 0) : (outsAt0 m c t.val t.isLt).dg = k0_pay3 (dn m₃ c t) (Cert.Kernel3Ideal.Gen.iblk m₃ c 1 (pt t)) (k0_pay5 (F := Ideal)) := by
  rw [outsAt0_first m c t h0, first_eq t h h0]
  unfold Stores.outs firstAt storesFirst
  dsimp only
  frame_out
  rfl

theorem point_dg_next (h : Same m m₃ c) (h0 : ¬t.val = 0) : (outsAt0 m c t.val t.isLt).dg = k0_pay3 (dn m₃ c t) (Cert.Kernel3Ideal.Gen.iblk m₃ c 1 (pt t)) (prev m c t) := by
  rw [outsAt0_later m c t h0, later_eq t h h0]
  unfold Stores.outs laterAt storesSecond storesMid storesLast
  split
  · dsimp only; frame_out; rfl
  split <;> (dsimp only; frame_out; rfl)

end Cert.Kernel5Ideal.Copy
end
-- ==== Proof.CopyLand.lean ====
module

public import proofs.«01_k».proof.Proof.CopyPoints
public import Idealize.ShloMosaic.Lib.ValueIdxCore
public import Idealize.ShloMosaic.Lib.Pointwise.Index
public import Idealize.ShloMosaic.Lib.WritesUnit

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (m : (ℓ : Loc nD τ sig) → Buf (Elt F) ℓ)

/-- The result the copies build: row `r` is row `(r + 16) % 416` of what point `(r + 16) / 416` leaves in the copied buffer. -/
def result (c : Dev nD) : GxBuf F c := fun (y : S4096x1024.Idx) =>
  (outsAt0 m c (((y 0).val + 16) / 416) (by have h := Idealize.ShloMosaic.ValueIdx.idx2_lt0 y; have hN : cfg0.N = 10 := N_0; omega)).stage
    (Idealize.ShloMosaic.ix2 ⟨((y 0).val + 16) % 416, Nat.mod_lt _ (by decide)⟩ (y 1))

theorem result_at (c : Dev nD) (t : Fin cfg0.N) (y : S4096x1024.Idx) (z : S416x1024.Idx) (h0 : (y 0).val + 16 = 416 * t.val + (z 0).val) (h1 : (y 1).val = (z 1).val) :
    result m c y = (outsAt0 m c t.val t.isLt).stage z := by
  have hz : (z 0).val < 416 := (z 0).isLt
  have ht : ((y 0).val + 16) / 416 = t.val := by omega
  unfold result
  simp only [ht]
  refine congrArg _ (funext fun a => ?_)
  refine Fin.ext ?_
  match a with
  | ⟨0, _⟩ => show ((y 0).val + 16) % 416 = (z 0).val; omega
  | ⟨1, _⟩ => exact h1

/-- The rows that the copies of the points before `p` fill are right. -/
def good (c : Dev nD) (p : ℕ) (f : GxBuf F c) : Prop := ∀ y : S4096x1024.Idx, (y 0).val + 16 < 416 * p → f y = result m c y

theorem good_zero (c : Dev nD) (f : GxBuf F c) : good m c 0 f := fun _ h => absurd h (by omega)
theorem good_last (c : Dev nD) (f : GxBuf F c) (h : good m c 10 f) : f = result m c :=
  funext fun (y : S4096x1024.Idx) => h y (by have h := Idealize.ShloMosaic.ValueIdx.idx2_lt0 y; omega)

/-- A copy of point `t`'s rows makes the rows of the points up to `t` right. -/
theorem landed (c : Dev nD) (t : Fin cfg0.N) (f : GxBuf F c) (g : StBuf F c) {sz : Fin 2 → ℕ} (o q : Fin 2 → ℕ)
    (ho : ∀ a, o a + sz a ≤ S4096x1024.size a) (hq : ∀ a, q a + sz a ≤ S416x1024.size a) (hoq : o 0 + 16 = 416 * t.val + q 0) (ho1 : o 1 = 0) (hq1 : q 1 = 0)
    (hs1 : sz 1 = 1024) (h00 : o 0 = 0 ∨ q 0 = 0) (hend : ∀ r, r < 4096 → r + 16 < 416 * (t.val + 1) → r < o 0 + sz 0)
    (hg : ∀ z : S416x1024.Idx, g z = (outsAt0 m c t.val t.isLt).stage z) (hf : good m c t.val f) :
    good m c (t.val + 1) (View.write (Elt F) (gxM.slice (Rect.unit (s := S4096x1024) o sz ho) (fun _ => rfl)).view f
      (ReadAs.same.apply ((stM.slice (Rect.unit (s := S416x1024) q sz hq) (fun _ => rfl)).view.read (Elt F) g)) Finset.univ) := by
  intro y hy
  have hy0 := Idealize.ShloMosaic.ValueIdx.idx2_lt0 y
  have hy1 := Idealize.ShloMosaic.ValueIdx.idx2_lt1 y
  by_cases h : o 0 ≤ (y 0).val
  · have hr := hend _ hy0 hy
    have hin : ∀ a, o a ≤ (y a).val ∧ (y a).val < o a + sz a := fun a => by
      match a with
      | ⟨0, _⟩ => exact ⟨h, hr⟩
      | ⟨1, _⟩ => exact ⟨by have : o 1 = 0 := ho1; show o 1 ≤ _; omega, by show (y 1).val < o 1 + sz 1; omega⟩
    have hx : (Rect.unit (s := S4096x1024) o sz ho).emb (Rect.unitLocal (s := S4096x1024) y hin) = y := funext fun a => Fin.ext (by
      have := (hin a).1
      show o a + 1 * ((y a).val - o a) = (y a).val
      omega)
    have hw := View.write_emb_of_mem (v := (gxM.slice (Rect.unit (s := S4096x1024) o sz ho) (fun _ => rfl)).view) (Val := Elt F) f
      (ReadAs.same.apply ((stM.slice (Rect.unit (s := S416x1024) q sz hq) (fun _ => rfl)).view.read (Elt F) g)) (x := Rect.unitLocal (s := S4096x1024) y hin) (Finset.mem_univ _)
    rw [show (gxM.slice (Rect.unit (s := S4096x1024) o sz ho) (fun _ => rfl)).view.emb (Rect.unitLocal (s := S4096x1024) y hin) = y from hx] at hw
    refine hw.trans ?_
    refine (show _ = g ((Rect.unit (s := S416x1024) q sz hq).emb (Rect.unitLocal (s := S4096x1024) y hin)) from rfl).trans ((hg _).trans (result_at m c t y _ ?_ ?_).symm)
    · show (y 0).val + 16 = 416 * t.val + (q 0 + 1 * ((y 0).val - o 0)); omega
    · show (y 1).val = q 1 + 1 * ((y 1).val - o 1); omega
  · refine (View.write_of_not_mem _ _ _ fun hm => ?_).trans (hf y (by omega))
    obtain ⟨x, -, hx⟩ := Finset.mem_map.mp hm
    have h0 : (y 0).val = o 0 + 1 * (x 0).val := by rw [← hx]; rfl
    omega

end Cert.Kernel5Ideal.Copy

end
-- ==== Proof.CopyBefore.lean ====
module

public import proofs.«01_k».proof.Proof.CopyLand

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (m : (ℓ : Loc nD τ sig) → Buf (Elt F) ℓ) (ρ : Dev nD → PrngReg)

/-- The copies' two buffers and their cell at position `p`: at rest before the first point and after the last, else one copy is on its way. -/
def held (c : Dev nD) (p : ℕ) (f : GxBuf F c) (g : StBuf F c) : sProp 𝕄 :=
  if p = 0 ∨ p = 10 then iprop(gxPt c f ∗ stPt c g ∗ semVal ((c : Thread nD τ), SemLoc.dma 20) 0)
  else if p = 1 then flying c 51200 f g else flying c 53248 f g

/-- What passes from point to point. -/
def carried (c : Dev nD) (p : ℕ) : sProp 𝕄 := iprop((∃ f g, ⌜good m c p f⌝ ∗ held c p f g) ∗ ∃ r, prngReg c r)

def dats (_ : Fin 1) (c : Dev nD) : Dat τ (Elt F) Unit ℕ (UC sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).dh
    | ⟨8, _⟩ => (outsAt0 m c t.val t.isLt).dgate
    | ⟨9, _⟩ => (outsAt0 m c t.val t.isLt).dup
    | ⟨10, _⟩ => (outsAt0 m c t.val t.isLt).df
    | ⟨11, _⟩ => (outsAt0 m c t.val t.isLt).dg
  Φ p := carried m c p.val
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).dh := by dsimp only [dats]
theorem after0_8 (c : Dev nD) (t : Fin cfg0.N) : (dats m 0 c).after 8 t = (outsAt0 m c t.val t.isLt).dgate := by dsimp only [dats]
theorem after0_9 (c : Dev nD) (t : Fin cfg0.N) : (dats m 0 c).after 9 t = (outsAt0 m c t.val t.isLt).dup := by dsimp only [dats]
theorem after0_10 (c : Dev nD) (t : Fin cfg0.N) : (dats m 0 c).after 10 t = (outsAt0 m c t.val t.isLt).df := by dsimp only [dats]
theorem after0_11 (c : Dev nD) (t : Fin cfg0.N) : (dats m 0 c).after 11 t = (outsAt0 m c t.val t.isLt).dg := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_11 (c : Dev nD) (t : Fin cfg0.N) (h0 : ¬t.val = 0) (d) : (dats m 0 c).before 11 t d = prev m c t := by
  have hN := lt_ten t
  rw [Dat.before_out_kept _ 11 rfl t (by omega) (Bool.eq_false_iff.mpr fun h => by have := (flush0_11 _).mp h; dsimp only at this; omega)
    (fun _ => rfl) (fun _ _ => rfl)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- A buffer covered by the stores holds what they leave. -/
theorem covered {S : Shape} {e : EltTy} (c : Dev nD) (M : Memref sig .tc .vmem S e) (L : List (View.Piece (Elt F) S e)) (h : ∀ y, ∃ p ∈ L, y ∈ p.1.set) :
    iprop(∃ f, M.view.loc (c : Thread nD τ) ↦[M.view.set]{fullShare} M.view.writes (Elt F) f L) ⊢@{sProp 𝕄} owns (c : Thread nD τ) M fullShare (View.canon L) := by
  iintro ⟨%f, H⟩
  unfold owns; iexists _; isplitr
  swap; · iexact H
  ipureintro; exact View.read_writes_eq_canon _ _ _ h

/-- The body at a point, from its run: `s` its stores, `p12` what it needs of the running gradient's buffer, and for whatever the copies' buffers hold,
    what it takes of them and leaves of them. -/
theorem sound_of (c : Dev nD) (t : Fin cfg0.N) (s : Stores F) (hs : outsAt0 m c t.val t.isLt = s.outs) (hc : s.Cover) (p12 : sProp 𝕄)
    (h12 : ∀ d, owns (c : Thread nD τ) (st0_11 t) fullShare ((dats m 0 c).before 11 t d) ⊢ p12)
    (H : ∀ f g, good m c t.val f → ∃ pre post, Body c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) p12 pre s.dh s.dgate s.dup s.df s.dg post
      ∧ (held c t.val f g ⊢ pre) ∧ ∃ f', good m c (t.val + 1) f' ∧ (post ⊢ held c (t.val + 1) f' (stM.view.writes (Elt F) g s.stage))) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = carried m c (t.val + 1) from rfl, show (dats m 0 c).Φ t.castSucc = carried m c t.val from rfl,
    after0_0, after0_1, after0_2, after0_3, after0_4, after0_5, after0_6, after0_7, after0_8, after0_9, after0_10, after0_11, hs]
  unfold Dat.owesAt Pipeline.owesWithin carried
  rw [show (dats m 0 c).owed t.castSucc = 0 from rfl, show (dats m 0 c).owed t.succ = 0 from rfl]
  iintro ⟨⟨⟨%f, %g, %hf, Hh⟩, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain ⟨pre, post, hB, hpre, f', hf', hpost⟩ := H f g hf
  iapply (hB W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iapply (h12 d11); iexact H11
  isplitl [Hh]; · iapply hpre; iexact Hh
  isplitl [HW]; · iexact HW
  iintro ⟨H0, H1, H2, H3, H4, H5, H6, H7, H8, H9, H10, H11, Hp, ⟨%W', HW'⟩⟩
  isplitl [Hp Hg]
  · isplitl [Hp]
    · iexists f', _
      isplitr; · ipureintro; exact hf'
      iapply hpost; iexact Hp
    iexact Hg
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (covered c (st0_7 t) s.dh hc.dh); iexact H7
  isplitl [H8]; · iapply (covered c (st0_8 t) s.dgate hc.dgate); iexact H8
  isplitl [H9]; · iapply (covered c (st0_9 t) s.dup hc.dup); iexact H9
  isplitl [H10]; · iapply (covered c (st0_10 t) s.df hc.df); iexact H10
  iapply (covered c (st0_11 t) s.dg hc.dg); iexact H11

end Cert.Kernel5Ideal.Copy

end
-- ==== Proof.CopyFinals.lean ====
module

public import proofs.«01_k».proof.Proof.CopyOuts
public import proofs.«01_k».proof.Proof.CopyBefore
public import proofs.«01_k».proof.Proof.Gen.Reference5Ideal.Read

@[expose] public section
set_option maxRecDepth 16384
noncomputable section

namespace Cert.Kernel5Ideal.Copy

open Cert.Kernel5Ideal Cert.Kernel5Ideal.Gen Idealize.ShloMosaic Idealize.ShloMosaic.TcCoe Idealize.SL.Sem
open Cert.Reference3Ideal.Read
open Cert.Kernel3Ideal.Ffn (A0 A1 A2 A3 A4 Real31 moved at_dh at_dg at_df gate_canon up_canon pay3_at ref_dg row)
variable {m : (ℓ : Loc nD τ sig) → Buf (Elt Ideal) ℓ} {c : Dev nD}
variable {m₃ : (ℓ : Loc Cert.Kernel3Ideal.nD Cert.Kernel3Ideal.τ Cert.Kernel3Ideal.sig) → Buf (Elt Ideal) ℓ} (h : Same m m₃ c)
include h

theorem dh_at (hX : Real31 m₃ c) (t : Fin cfg0.N) (p : Fin 416) (q : Fin 1024) : (outsAt0 m c t.val t.isLt).dh (ix2 p q) = val_main_v55 (F := Ideal) (A0 m₃ c) (A1 m₃ c) (A2 m₃ c) (A3 m₃ c) (A4 m₃ c) (ix2 (row (pt t) p) q) := by
  rw [point_dh t h, dn_eq]
  exact at_dh m₃ c (pt t) hX p q

theorem stage_at (hX : Real31 m₃ c) (t : Fin cfg0.N) (p : Fin 416) (q : Fin 1024) : (outsAt0 m c t.val t.isLt).stage (ix2 p q) = val_main_v55 (F := Ideal) (A0 m₃ c) (A1 m₃ c) (A2 m₃ c) (A3 m₃ c) (A4 m₃ c) (ix2 (row (pt t) p) q) := by
  rw [point_stage t h, dn_eq]
  exact at_dh m₃ c (pt t) hX p q

theorem final_dh (hX : Real31 m₃ c) : (dats m 0 c).arrAt 7 (cfgs 0).N = val_main_v55 (F := Ideal) (A0 m₃ c) (A1 m₃ c) (A2 m₃ c) (A3 m₃ c) (A4 m₃ c) := by
  refine (dats m 0 c).arrAt_eq_of_covers 7 _ (by decide +kernel) fun t _ y => ?_
  have hj0 : ((((cfg0.win 7).blk t).view.emb y) 0 : ℕ) = t.val * 416 + (y 0).val := by blk_simp [idx_val t]
  have hj1 : ((((cfg0.win 7).blk t).view.emb y) 1 : ℕ) = (y 1).val := by blk_simp [idx_val t]
  blk_simp
  rw [after0_7]
  exact moved (pt t) (dh_at h hX t) y _ hj0 hj1

theorem final_dgate (hX : Real31 m₃ c) : (dats m 0 c).arrAt 8 (cfgs 0).N = val_main_v56 (F := Ideal) (A0 m₃ c) (A1 m₃ c) (A2 m₃ c) (A3 m₃ c) (A4 m₃ c) := by
  refine (dats m 0 c).arrAt_eq_of_covers 8 _ (by decide +kernel) fun t _ y => ?_
  have hj0 : ((((cfg0.win 8).blk t).view.emb y) 0 : ℕ) = t.val * 416 + (y 0).val := by blk_simp [idx_val t]
  have hj1 : ((((cfg0.win 8).blk t).view.emb y) 1 : ℕ) = (y 1).val := by blk_simp [idx_val t]
  blk_simp
  rw [after0_8, point_dgate t h]
  exact moved (pt t) (fun p q => gate_canon m₃ c (pt t) hX (ix2 p q)) y _ hj0 hj1

theorem final_dup : (dats m 0 c).arrAt 9 (cfgs 0).N = val_main_v57 (F := Ideal) (A0 m₃ c) (A1 m₃ c) (A2 m₃ c) (A3 m₃ c) (A4 m₃ c) := by
  refine (dats m 0 c).arrAt_eq_of_covers 9 _ (by decide +kernel) fun t _ y => ?_
  have hj0 : ((((cfg0.win 9).blk t).view.emb y) 0 : ℕ) = t.val * 416 + (y 0).val := by blk_simp [idx_val t]
  have hj1 : ((((cfg0.win 9).blk t).view.emb y) 1 : ℕ) = (y 1).val := by blk_simp [idx_val t]
  blk_simp
  rw [after0_9, point_dup t h]
  exact moved (pt t) (fun p q => up_canon m₃ c (pt t) (ix2 p q)) y _ hj0 hj1

theorem final_df : (dats m 0 c).arrAt 10 (cfgs 0).N = val_main_v58 (F := Ideal) (A4 m₃ c) := by
  refine (dats m 0 c).arrAt_eq_of_covers 10 _ (by decide +kernel) fun t _ y => ?_
  have hj0 : ((((cfg0.win 10).blk t).view.emb y) 0 : ℕ) = t.val * 416 + (y 0).val := by blk_simp [idx_val t]
  have hj1 : ((((cfg0.win 10).blk t).view.emb y) 1 : ℕ) = (y 1).val := by blk_simp [idx_val t]
  blk_simp
  rw [after0_10, point_df t h]
  exact moved (pt t) (at_df m₃ c (pt t)) y _ hj0 hj1

theorem final_dg (hX : Real31 m₃ c) : (dats m 0 c).arrAt 11 (cfgs 0).N = val_main_v59 (F := Ideal) (A0 m₃ c) (A1 m₃ c) (A2 m₃ c) (A3 m₃ c) (A4 m₃ c) := by
  refine (dats m 0 c).arrAt_eq_of_after_last 11 t0_9 (by decide +kernel) _ fun j => ?_
  blk_simp
  rw [after0_11, Pipeline.eq_sum_fin_of_reset_step_apply_last (fun n h => (outsAt0 m c n h).dg) 10 (fun _ => 0) _
    (fun t g j => by rw [point_dg_first t h (by have := lt_ten t; omega), dn_eq, pay3_at, show Cert.Kernel3Ideal.Gen.k0_pay5 (F := Ideal) j = 0 by pointwise [Cert.Kernel3Ideal.Gen.k0_pay5]])
    (fun t g j => by rw [point_dg_next t h (by have := lt_ten t; omega), dn_eq, pay3_at]) (le_of_eq N_0) t0_9 rfl j, zero_add, ref_dg]
  refine Fin.sum_mul_add_congr fun s k hl => ?_
  exact at_dg m₃ c _ hX k _

/-- What the copies build is the gradient's rows from 16 on. -/
theorem final_result (hX : Real31 m₃ c) : result m c = Cert.Reference5Ideal.Read.val_main_v60 (F := Ideal) (A0 m₃ c) (A1 m₃ c) (A2 m₃ c) (A3 m₃ c) (A4 m₃ c) := by
  funext (y : S4096x1024.Idx)
  have hy := Idealize.ShloMosaic.ValueIdx.idx2_lt0 y
  have hN : cfg0.N = 10 := N_0
  let t : Fin cfg0.N := ⟨((y 0).val + 16) / 416, by omega⟩
  let p : Fin 416 := ⟨((y 0).val + 16) % 416, Nat.mod_lt _ (by decide)⟩
  refine (result_at m c t y (ix2 p (y 1)) (by show (y 0).val + 16 = 416 * (((y 0).val + 16) / 416) + ((y 0).val + 16) % 416; omega) rfl).trans ((stage_at h hX t p (y 1)).trans ?_)
  obtain ⟨r, q, rfl⟩ : ∃ (r : Fin 4096) (q : Fin 1024), y = ix2 r q := ⟨y 0, y 1, funext fun a => by fin_cases a <;> rfl⟩
  have hr : row (pt t) p = ⟨16 + r.val, by omega⟩ := Fin.ext (by show (r.val + 16) / 416 * 416 + (r.val + 16) % 416 = 16 + r.val; omega)
  rw [hr]
  pointwise [Cert.Reference5Ideal.Read.val_main_v60]
  rfl

end Cert.Kernel5Ideal.Copy
end
-- ==== Proof.CopySound.lean ====
module

public import proofs.«01_k».proof.Proof.CopyBefore

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (m : (ℓ : Loc nD τ sig) → Buf (Elt F) ℓ) (ρ : Dev nD → PrngReg)

theorem held_rest (c : Dev nD) {p : ℕ} (h : p = 0 ∨ p = 10) (f : GxBuf F c) (g : StBuf F c) :
    held c p f g = iprop(gxPt c f ∗ stPt c g ∗ semVal ((c : Thread nD τ), SemLoc.dma 20) 0) := by unfold held; rw [if_pos h]
theorem held_second (c : Dev nD) (f : GxBuf F c) (g : StBuf F c) : held c 1 f g = flying c 51200 f g := by
  unfold held; rw [if_neg (by decide), if_pos rfl]
theorem held_later (c : Dev nD) {p : ℕ} (h : 1 < p) (h' : p < 10) (f : GxBuf F c) (g : StBuf F c) : held c p f g = flying c 53248 f g := by
  unfold held; rw [if_neg (by omega), if_neg (by omega)]

theorem Stores.Cover.of_eq {s s' : Stores F} (h : s = s') (hc : s.Cover) : s'.Cover := h ▸ hc

/-- What a point stores in the copied buffer is what is said of it. -/
theorem staged (c : Dev nD) (t : Fin cfg0.N) (s : Stores F) (hs : outsAt0 m c t.val t.isLt = s.outs) (hc : s.Cover) (g : StBuf F c) (z : S416x1024.Idx) :
    stM.view.writes (Elt F) g s.stage z = (outsAt0 m c t.val t.isLt).stage z := by
  rw [hs]; exact congrFun (View.read_writes_eq_canon stM.view g s.stage hc.stage) z

/-- A middle point's copy. -/
theorem landed_mid (c : Dev nD) (t : Fin cfg0.N) (h0 : 0 < t.val) (h5 : k0_cond5 (grid0.coords t) = 1#1) (f : GxBuf F c) (g : StBuf F c)
    (hg : ∀ z : S416x1024.Idx, g z = (outsAt0 m c t.val t.isLt).stage z) (hf : good m c t.val f) : good m c (t.val + 1) (landMid c (grid0.coords t) h5 f g) :=
  landed m c t f g (k0_off2 (grid0.coords t)) ![0, 0] _ _ (off_row t h0) (off_col t) rfl rfl (Or.inr rfl)
    (fun r _ h => by have := off_row t h0; show r < _ + 416; omega) hg hf

theorem sound_first (c : Dev nD) (t : Fin cfg0.N) (h0 : t.val = 0) :
    bodyPre m c t ⊢ wp frame (wpE (defs₀ (F := F)) Variants.none c none) Set.univ (bodyAt0 t) (fun _ => bodyPost m c t) := by
  have hs := outsAt0_first m c t h0
  have hc := pointFirst_ok m c t h0
  refine sound_of m c t _ hs hc iprop(∃ d, owns (c : Thread nD τ) (st0_11 t) fullShare d) (fun d => by iintro H; iexists _; iexact H) fun f g hf => ?_
  have hl := landed m c t f _ ![0, 0] ![16, 0] inb_S4096x1024_S400x1024_0_0 inb_S416x1024_S400x1024_16_0 (by rw [h0]; rfl) rfl rfl rfl (Or.inl rfl) (fun r _ h => by rw [h0] at h; show r < 0 + 400; omega) (staged m c t _ hs hc g) hf
  refine ⟨iprop(gxPt c f ∗ stPt c g ∗ semVal ((c : Thread nD τ), SemLoc.dma 20) 0), _, (runFirst c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (cond1 t |>.mpr h0) (mt (cond2 t).mp (by have := lt_ten t; omega)) (mt (cond3 t).mp (by have := lt_ten t; omega)) ((cond4 t).mpr h0) (mt (cond5 t).mp (by have := lt_ten t; omega)) (mt (cond6 t).mp (by have := lt_ten t; omega))).2.2.2.2.2.2 f g, ?_, _, hl, ?_⟩
  · rw [held_rest c (Or.inl h0)]
  · rw [show t.val + 1 = 1 from by omega, held_second]
    exact .rfl

theorem sound_second (c : Dev nD) (t : Fin cfg0.N) (h0 : ¬t.val = 0) (h1 : t.val = 1) :
    bodyPre m c t ⊢ wp frame (wpE (defs₀ (F := F)) Variants.none c none) Set.univ (bodyAt0 t) (fun _ => bodyPost m c t) := by
  have hs := (outsAt0_later m c t h0).trans (congrArg Stores.outs (dif_pos h1))
  have hc := Stores.Cover.of_eq (dif_pos h1) (pointLater_ok m c t h0 (prev m c t))
  refine sound_of m c t _ hs hc (owns (c : Thread nD τ) (st0_11 t) fullShare (prev m c t)) (fun d => by rw [before0_11 m c t h0]) fun f g hf => ?_
  have hl := landed_mid m c t (by omega) ((cond5 t).mpr (by omega)) f _ (staged m c t _ hs hc g) hf
  refine ⟨flying c 51200 f g, _, (runSecond c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (mt (cond1 t).mp (by have := lt_ten t; omega)) ((cond2 t).mpr h1) (mt (cond3 t).mp (by have := lt_ten t; omega)) (mt (cond4 t).mp (by have := lt_ten t; omega)) ((cond5 t).mpr (by have := lt_ten t; omega)) (mt (cond6 t).mp (by have := lt_ten t; omega)) (prev m c t)).2.2.2.2.2.2 f g, ?_, _, hl, ?_⟩
  · rw [h1, held_second]
  · rw [held_later c (by omega) (by omega)]
    exact .rfl

theorem sound_last (c : Dev nD) (t : Fin cfg0.N) (h0 : ¬t.val = 0) (h1 : ¬t.val = 1) (h9 : t.val = 9) :
    bodyPre m c t ⊢ wp frame (wpE (defs₀ (F := F)) Variants.none c none) Set.univ (bodyAt0 t) (fun _ => bodyPost m c t) := by
  have he := (dif_neg h1 : pointLater m c t h0 (prev m c t) = _).trans (dif_pos h9)
  have hs := (outsAt0_later m c t h0).trans (congrArg Stores.outs he)
  have hc := Stores.Cover.of_eq he (pointLater_ok m c t h0 (prev m c t))
  refine sound_of m c t _ hs hc (owns (c : Thread nD τ) (st0_11 t) fullShare (prev m c t)) (fun d => by rw [before0_11 m c t h0]) fun f g hf => ?_
  have hl := landed m c t f _ ![3728, 0] ![0, 0] inb_S4096x1024_S368x1024_3728_0 inb_S416x1024_S368x1024_0_0 (by rw [h9]; rfl) rfl rfl rfl (Or.inr rfl) (fun r hr h => by show r < 3728 + 368; omega) (staged m c t _ hs hc g) hf
  refine ⟨flying c 53248 f g, _, (runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (mt (cond1 t).mp (by have := lt_ten t; omega)) (mt (cond2 t).mp (by have := lt_ten t; omega)) ((cond3 t).mpr (by have := lt_ten t; omega)) (mt (cond4 t).mp (by have := lt_ten t; omega)) (mt (cond5 t).mp (by have := lt_ten t; omega)) ((cond6 t).mpr h9) (prev m c t)).2.2.2.2.2.2 f g, ?_, _, hl, ?_⟩
  · rw [held_later c (by omega) (by omega)]
  · rw [held_rest c (Or.inr (by omega))]
    iintro ⟨Hs, Hg, Hv⟩
    isplitl [Hg]; · iexact Hg
    isplitl [Hs]; · iexact Hs
    iexact Hv

theorem sound_mid (c : Dev nD) (t : Fin cfg0.N) (h0 : ¬t.val = 0) (h1 : ¬t.val = 1) (h9 : ¬t.val = 9) :
    bodyPre m c t ⊢ wp frame (wpE (defs₀ (F := F)) Variants.none c none) Set.univ (bodyAt0 t) (fun _ => bodyPost m c t) := by
  have hN := lt_ten t
  have he := (dif_neg h1 : pointLater m c t h0 (prev m c t) = _).trans (dif_neg h9)
  have hs := (outsAt0_later m c t h0).trans (congrArg Stores.outs he)
  have hc := Stores.Cover.of_eq he (pointLater_ok m c t h0 (prev m c t))
  refine sound_of m c t _ hs hc (owns (c : Thread nD τ) (st0_11 t) fullShare (prev m c t)) (fun d => by rw [before0_11 m c t h0]) fun f g hf => ?_
  have hl := landed_mid m c t (by omega) ((cond5 t).mpr (by omega)) f _ (staged m c t _ hs hc g) hf
  refine ⟨flying c 53248 f g, _, (runMid c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (iblk m c 0 t) (iblk m c 1 t) (iblk m c 2 t) (iblk m c 3 t) (iblk m c 4 t) (iblk m c 5 t) (iblk m c 6 t) (mt (cond1 t).mp (by have := lt_ten t; omega)) (mt (cond2 t).mp (by have := lt_ten t; omega)) ((cond3 t).mpr (by have := lt_ten t; omega)) (mt (cond4 t).mp (by have := lt_ten t; omega)) ((cond5 t).mpr (by have := lt_ten t; omega)) (mt (cond6 t).mp (by have := lt_ten t; omega)) (prev m c t)).2.2.2.2.2.2 f g, ?_, _, hl, ?_⟩
  · rw [held_later c (by omega) (by omega)]
  · rw [held_later c (by omega) (by omega)]
    exact .rfl

theorem sound_body (c : Dev nD) (t : Fin cfg0.N) :
    bodyPre m c t ⊢ wp frame (wpE (defs₀ (F := F)) Variants.none c none) Set.univ (bodyAt0 t) (fun _ => bodyPost m c t) :=
  if h0 : t.val = 0 then sound_first m c t h0 else if h1 : t.val = 1 then sound_second m c t h0 h1
  else if h9 : t.val = 9 then sound_last m c t h0 h1 h9 else sound_mid m c t h0 h1 h9

end Cert.Kernel5Ideal.Copy

end
-- ==== Proof.CopyFrame.lean ====
module

public import proofs.«01_k».proof.Proof.CopySound
public import Idealize.ShloMosaic.Lib.Pipeline.Routed

@[expose] public section

set_option maxRecDepth 16384

noncomputable section

namespace Cert.Kernel5Ideal.Copy

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UC)

variable {F : FTy → Type} [FloatOps F]

local notation "𝕄" => MT nD τ sig Unit (Elt F) ℕ (UC sig nD τ) ℕ

variable (m : (ℓ : Loc nD τ sig) → Buf (Elt F) ℓ) (ρ : Dev nD → PrngReg)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The cell of the copies. -/
abbrev osem0 : Fin 1 → SemLoc sig := fun j => (![SemLoc.dma 20]) j
theorem ownSemFacts0 : Pipeline.OwnSemFacts spec0 osem0 := by decide
/-- The buffer the copies fill, and what every buffer of that kind holds at the end. -/
abbrev R0 : Finset (Ref sig .tc) := {main_v24_5}
def Y (c : Dev nD) : (b : Ref sig .tc) → Buf (Elt F) ((c : Thread nD τ).loc b) := Function.update (V m c) main_v24_5 (result m c)

set_option maxHeartbeats 800000 in
theorem hmain : Pipeline.HMain (Ix := Unit) (Name := ℕ) (U := UC sig nD τ) (Lvl := ℕ) cfgs 0 defs₀ Variants.none m (main (F := F)) (V m) :=
  Pipeline.hmain_prefix cfgs 0 defs₀ Variants.none m main hostOps0 hostOps0_sub hostOps0_fresh main_chain

theorem cell_eq (c : Dev nD) : (Pipeline.ownSems0 (Ix := Unit) (Name := ℕ) (U := UC sig nD τ) (Lvl := ℕ) (Val := Elt F) osem0 c : sProp 𝕄) = semVal ((c : Thread nD τ), SemLoc.dma 20) 0 := by
  rw [Pipeline.ownSems0_eq_of_list c osem0 [0] (by decide) (by decide)]; rfl

theorem enter (c : Dev nD) : Pipeline.Ends spec0 osem0 R0 c (V m c) ⊢ (dats m 0 c).Φ 0 := by
  rw [show (dats m 0 c).Φ 0 = carried m c 0 from rfl]
  unfold Pipeline.Ends carried
  rw [Pipeline.routed_singleton, cell_eq, scopedRest0_eq]
  iintro ⟨Hg, Hq, ⟨%g, Hs⟩, Hp⟩
  isplitr [Hp]
  · iexists (V m c main_v24_5), g
    isplitr; · ipureintro; exact good_zero m c _
    rw [held_rest c (Or.inl rfl)]
    isplitl [Hg]; · iexact Hg
    isplitl [Hs]; · iexact Hs
    iexact Hq
  iexact Hp

theorem leave (c : Dev nD) : (dats m 0 c).Φ (Fin.last cfg0.N) ⊢ Pipeline.Ends spec0 osem0 R0 c (Y m c) := by
  rw [show (dats m 0 c).Φ (Fin.last cfg0.N) = carried m c 10 from rfl]
  unfold Pipeline.Ends carried
  rw [Pipeline.routed_singleton, cell_eq, scopedRest0_eq,
    show Y m c main_v24_5 = result m c from Function.update_self _ _ _]
  iintro ⟨⟨%f, %g, %hf, Hh⟩, Hp⟩
  obtain rfl := good_last m c f hf
  ihave H := (show held c 10 (result m c) g ⊢ iprop(gxPt c (result m c) ∗ stPt c g ∗ semVal ((c : Thread nD τ), SemLoc.dma 20) 0) by rw [held_rest c (Or.inr rfl)]) $$ Hh
  icases H with ⟨Hg, Hs, Hq⟩
  isplitl [Hg]; · iexact Hg
  isplitl [Hq]; · iexact Hq
  isplitl [Hs]; · iexists g; iexact Hs
  iexact Hp

set_option backward.isDefEq.respectTransparency.types false in
/-- The whole program's run, at any float values. -/
theorem run_main : θ_run defs (onTc (τ := τ) (main (F := F))) (s₀ m ρ) (fun r => Pipeline.RoutedPost cfgs (dats m) 0 R0 (V m) (Y m) r ∧ r.2.sem = fun _ => 0) :=
  Pipeline.θ_run_frame_routed (Q' := _) (hQ' := fun _ h => h) cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain m) (hA := A_eq m) (R := R0) (hR := by decide) (Y := Y m)
    (hin := enter m) (hout := leave m)

/-- The arguments end as they began. -/
theorem arguments (r : PUnit × MemSt nD τ sig (Elt F)) (h : Pipeline.RoutedPost cfgs (dats m) 0 R0 (V m) (Y m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 1).trans (((dats m 0 c).arrAt_in 1 rfl _).trans ((A_eq m c 1).trans (V_main_arg0 m c))),
    ((h c).2.2 main_arg1 (Finset.mem_sdiff.mpr ⟨Pipeline.mem_restRefs_of _ (by decide) (by decide), by decide⟩)).trans (V_main_arg1 m c),
    ((h c).2.2 main_arg2 (Finset.mem_sdiff.mpr ⟨Pipeline.mem_restRefs_of _ (by decide) (by decide), by decide⟩)).trans (V_main_arg2 m c),
    ((h c).2.2 main_arg3 (Finset.mem_sdiff.mpr ⟨Pipeline.mem_restRefs_of _ (by decide) (by decide), by decide⟩)).trans (V_main_arg3 m c),
    ((h c).1 0).trans (((dats m 0 c).arrAt_in 0 rfl _).trans ((A_eq m c 0).trans (V_main_arg4 m c)))⟩

/-- So they do in every run, and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨arguments m r h.1, h.2⟩) (run_main m ρ)

end Cert.Kernel5Ideal.Copy

end
-- ==== Proof.CopyEquation.lean ====
module

public import proofs.«01_k».proof.Defs
public import proofs.«01_k».proof.Proof.CopyFinals
public import proofs.«01_k».proof.Proof.CopyFrame
public import proofs.«01_k».proof.Proof.Gen.Reference5Ideal.Run
public import proofs.«01_k».proof.Proof.Gen.Kernel5
public import proofs.«01_k».proof.Proof.Gen.Pre_finite3

@[expose] public section
set_option maxRecDepth 16384
noncomputable section

namespace Cert.Kernel5Ideal.Copy

open Cert.Kernel5Ideal Cert.Kernel5Ideal.Gen Idealize.ShloMosaic Idealize.ShloMosaic.TcCoe Idealize.SL.Sem
open Cert.Kernel3Ideal.Ffn (A0 A1 A2 A3 A4 Real31)

/-- The first feed-forward block's gradient, at the float words. -/
theorem frame_kernel : Cert.quiescent_Kernel5 := by
  intro m ρ _
  have h := (θ_run Cert.Kernel5Ideal.defs _ _).mono (fun _ h => h) (frame (F := Bits) m ρ)
  refine cast ?_ h
  sl_kernel_rfl

/-- The same over the reals. -/
theorem frame_ideal : Cert.quiescent_Kernel5Ideal := fun m ρ _ => frame (F := Ideal) m ρ

theorem frame_reference : Cert.quiescent_Reference5Ideal := by
  intro m ρ _
  exact (θ_run Cert.Reference5Ideal.defs _ _).mono (fun r h => ⟨fun c => (h c).2.2.2.2.2.2,
      Idealize.ShloMosaic.sem_eq_zero_of_no_sems (by decide) r.2⟩)
    (Cert.Reference5Ideal.Value.run (F := Ideal) m ρ)

variable (m : (ℓ : Loc nD τ sig) → Buf (Elt Ideal) ℓ) (c : Dev nD)

open Classical in
/-- A memory of the second block's gradient that holds this call's arguments. -/
def mem : (ℓ : Loc Cert.Kernel3Ideal.nD Cert.Kernel3Ideal.τ Cert.Kernel3Ideal.sig) → Buf (Elt Ideal) ℓ :=
  Function.update (Function.update (Function.update (Function.update (Function.update (fun _ _ => Classical.arbitrary _)
    ((c : Thread Cert.Kernel3Ideal.nD Cert.Kernel3Ideal.τ).loc Cert.Kernel3Ideal.main_arg0) (B0 m c))
    ((c : Thread Cert.Kernel3Ideal.nD Cert.Kernel3Ideal.τ).loc Cert.Kernel3Ideal.main_arg1) (B1 m c))
    ((c : Thread Cert.Kernel3Ideal.nD Cert.Kernel3Ideal.τ).loc Cert.Kernel3Ideal.main_arg2) (B2 m c))
    ((c : Thread Cert.Kernel3Ideal.nD Cert.Kernel3Ideal.τ).loc Cert.Kernel3Ideal.main_arg3) (B3 m c))
    ((c : Thread Cert.Kernel3Ideal.nD Cert.Kernel3Ideal.τ).loc Cert.Kernel3Ideal.main_arg4) (B4 m c)

theorem away {a b : Ref Cert.Kernel3Ideal.sig .tc} (h : a.idx.val ≠ b.idx.val) :
    (c : Thread Cert.Kernel3Ideal.nD Cert.Kernel3Ideal.τ).loc a ≠ (c : Thread Cert.Kernel3Ideal.nD Cert.Kernel3Ideal.τ).loc b :=
  fun e => h (congrArg (fun ℓ : Loc Cert.Kernel3Ideal.nD Cert.Kernel3Ideal.τ Cert.Kernel3Ideal.sig => ℓ.2.idx.val) e)

theorem same : Same m (mem m c) c where
  h0 := by
    unfold A0 mem
    rw [Function.update_of_ne (away c (by decide)), Function.update_of_ne (away c (by decide)), Function.update_of_ne (away c (by decide)), Function.update_of_ne (away c (by decide)), Function.update_self]
  h1 := by
    unfold A1 mem
    rw [Function.update_of_ne (away c (by decide)), Function.update_of_ne (away c (by decide)), Function.update_of_ne (away c (by decide)), Function.update_self]
  h2 := by
    unfold A2 mem
    rw [Function.update_of_ne (away c (by decide)), Function.update_of_ne (away c (by decide)), Function.update_self]
  h3 := by
    unfold A3 mem
    rw [Function.update_of_ne (away c (by decide)), Function.update_self]
  h4 := by
    unfold A4 mem
    rw [Function.update_self]

theorem reals (hpre : Cert.Pre_Kernel5Ideal_finite3 m) : Real31 (mem m c) c := by
  have h := hpre c
  dsimp only [Cert.Pre_finite3.fn] at h
  obtain ⟨p1, p2, p3, p4⟩ := h
  have j0 : Cert.Pre_finite3.S_.Idx := fun a => a.elim0
  have : Subsingleton Cert.Pre_finite3.S_.Idx := ⟨fun _ _ => funext fun a => a.elim0⟩
  have s := same m c
  exact Cert.Kernel3Ideal.Ffn.real31 (mem m c) c (fun i => s.h1 ▸ Finite.all_real _ _ _ _ _ _ j0 (congrFun p1 j0) i)
    (fun i => s.h2 ▸ Finite.all_real _ _ _ _ _ _ j0 (congrFun p2 j0) i) (fun i => s.h3 ▸ Finite.all_real _ _ _ _ _ _ j0 (congrFun p3 j0) i)
    (fun i => s.h4 ▸ Finite.all_real _ _ _ _ _ _ j0 (congrFun p4 j0) i)

/-- The gradient of the first feed-forward block with its copied rows, over the reals: kernel and derivative leave the same arrays. -/
theorem algebraic : Cert.algebraic_Kernel5Ideal_Reference5Ideal_pre_finite3 := by
  intro m g m' g' hpre hagree
  refine ⟨fun c => Cert.Reference5Ideal.Read.val_main_v55 (F := Ideal) (A0 (mem m c) c) (A1 (mem m c) c) (A2 (mem m c) c) (A3 (mem m c) c) (A4 (mem m c) c),
    fun c => Cert.Reference5Ideal.Read.val_main_v56 (F := Ideal) (A0 (mem m c) c) (A1 (mem m c) c) (A2 (mem m c) c) (A3 (mem m c) c) (A4 (mem m c) c),
    fun c => Cert.Reference5Ideal.Read.val_main_v57 (F := Ideal) (A0 (mem m c) c) (A1 (mem m c) c) (A2 (mem m c) c) (A3 (mem m c) c) (A4 (mem m c) c),
    fun c => Cert.Reference5Ideal.Read.val_main_v58 (F := Ideal) (A4 (mem m c) c),
    fun c => Cert.Reference5Ideal.Read.val_main_v59 (F := Ideal) (A0 (mem m c) c) (A1 (mem m c) c) (A2 (mem m c) c) (A3 (mem m c) c) (A4 (mem m c) c),
    fun c => Cert.Reference5Ideal.Read.val_main_v60 (F := Ideal) (A0 (mem m c) c) (A1 (mem m c) c) (A2 (mem m c) c) (A3 (mem m c) c) (A4 (mem m c) c), ?_, ?_⟩
  · refine (θ_run Cert.Kernel5Ideal.defs _ _).mono (fun r h c => ?_) (run_main (F := Ideal) m g)
    obtain ⟨hr, -⟩ := h
    have hX := reals m c hpre
    have s := same m c
    exact ⟨((hr c).1 7).trans (final_dh s hX), ((hr c).1 8).trans (final_dgate s hX), ((hr c).1 9).trans (final_dup s), ((hr c).1 10).trans (final_df s),
      ((hr c).1 11).trans (final_dg s hX), ((hr c).2.1 main_v24_5 (Finset.mem_singleton_self _)).trans ((Function.update_self _ _ _).trans (final_result s hX)), arguments m r hr c⟩
  · refine (θ_run Cert.Reference5Ideal.defs _ _).mono (fun r h c => ?_) (Cert.Reference5Ideal.Value.run (F := Ideal) m' g')
    obtain ⟨h0, h1, h2, h3, h4, h5, hk⟩ := h c
    obtain ⟨e0, e1, e2, e3, e4⟩ := hagree c
    have s := same m c
    replace e0 := e0.trans s.h0
    replace e1 := e1.trans s.h1
    replace e2 := e2.trans s.h2
    replace e3 := e3.trans s.h3
    replace e4 := e4.trans s.h4
    have f0 := h0.trans (Cert.Reference5Ideal.Read.val_main_v55_eq (F := Ideal) _ _)
    rw [e0, e1, e2, e3, e4] at f0
    have f1 := h1.trans (Cert.Reference5Ideal.Read.val_main_v56_eq (F := Ideal) _ _)
    rw [e0, e1, e2, e3, e4] at f1
    have f2 := h2.trans (Cert.Reference5Ideal.Read.val_main_v57_eq (F := Ideal) _ _ _ _ _)
    rw [e0, e1, e2, e3, e4] at f2
    have f3 := h3.trans (Cert.Reference5Ideal.Read.val_main_v58_eq (F := Ideal) _)
    rw [e4] at f3
    have f4 := h4.trans (Cert.Reference5Ideal.Read.val_main_v59_eq (F := Ideal) _ _)
    rw [e0, e1, e2, e3, e4] at f4
    have f5 := h5.trans (Cert.Reference5Ideal.Read.val_main_v60_eq (F := Ideal) _ _)
    rw [e0, e1, e2, e3, e4] at f5
    exact ⟨f0, f1, f2, f3, f4, f5, hk⟩

end Cert.Kernel5Ideal.Copy
end
-- ==== Proof.Lift.lean ====
module

public import proofs.«01_k».proof.Proof.RowNorm
public import proofs.«01_k».proof.Proof.Gen.Kernel6Ideal.Value
public import proofs.«01_k».proof.Proof.Gen.Reference6Ideal.Read
public import Idealize.ShloMosaic.Lib.Pipeline.ValueKit
public import Idealize.ShloMosaic.Lib.Claim

@[expose] public section
set_option maxRecDepth 16384
noncomputable section

namespace Cert.Kernel6Ideal.Lift

open Cert.Kernel6Ideal Cert.Kernel6Ideal.Gen Idealize.ShloMosaic Idealize.ShloMosaic.TcCoe Idealize.SL.Sem
open Cert.Reference6Ideal.Read
variable (m : (ℓ : Loc nD τ sig) → Buf (Elt Ideal) ℓ) (c : Dev nD) (t : Fin cfg0.N)

theorem idx_val : ∀ t : Fin cfg0.N, win0_0.index t = ![t.val, 0] ∧ win0_1.index t = ![0, 0] ∧ win0_2.index t = ![0, 0, 0]
    ∧ win0_3.index t = ![0, 0] ∧ win0_4.index t = ![t.val, 0] ∧ win0_5.index t = ![t.val, 0] := (by decide +kernel : ∀ t : Fin grid0.N, _)

abbrev A0 : FVec Ideal S4160x1024 .f32 := m ((c : Thread nD τ).loc main_arg0)
abbrev A1 : FVec Ideal S1024 .f32 := m ((c : Thread nD τ).loc main_arg1)
abbrev A2 : FVec Ideal S1024x6144 .f32 := m ((c : Thread nD τ).loc main_arg2)
abbrev A3 : FVec Ideal S6144 .f32 := m ((c : Thread nD τ).loc main_arg3)

/-- The normalised rows of point `t`. -/
abbrev rows : FVec Ideal S416x1024 .bf16 := k0_pay3 (F := Ideal) (iblk m c 0 t) (iblk m c 1 t)

abbrev Plane (j : ℕ) := ∀ a, (![j, 0, 0] : Fin 3 → ℕ) a + S1x1024x1536.size a ≤ S4x1024x1536.size a
abbrev Span (o : ℕ) := ∀ a, (![0, o] : Fin 2 → ℕ) a + S1x1536.size a ≤ S1x6144.size a
/-- Quarter `j` of the weight, and the bias over its columns. -/
abbrev quarter (j : ℕ) (h : Plane j) : Vec Ideal S1x1024x1536 .bf16 :=
  View.ld (iblk m c 2 t) (Rect.unit (s := S4x1024x1536) ![j, 0, 0] S1x1024x1536.size h)
abbrev shift (o : ℕ) (h : Span o) : Vec Ideal S1x1536 .f32 :=
  View.ld (iblk m c 3 t) (Rect.unit (s := S1x6144) ![0, o] S1x1536.size h)

abbrev Fits (o : ℕ) := ∀ a, (![0, o] : Fin 2 → ℕ) a + S416x1536.size a ≤ S416x6144.size a

/-- The store of one quarter of the columns. -/
abbrev quarterStore (j o : ℕ) (hj : Plane j) (hb : Span o) (ho : Fits o) : View.Piece (Elt Ideal) S416x6144 .f32 :=
  ⟨Rect.unit (s := S416x6144) ![0, o] S416x1536.size ho, k0_pay1 (rows m c t) (quarter m c t j hj) (shift m c t o hb)⟩

theorem point_norm : (dats m 0 c).after 5 t = rows m c t := by
  rw [after0_5]
  frame_out

/-- The four stores of the projection, the last first. -/
abbrev stores : List (View.Piece (Elt Ideal) S416x6144 .f32) := [quarterStore m c t 3 4608 (by decide) (by decide) (by decide),
    quarterStore m c t 2 3072 (by decide) (by decide) (by decide), quarterStore m c t 1 1536 (by decide) (by decide) (by decide),
    quarterStore m c t 0 0 (by decide) (by decide) (by decide)]

theorem point_proj : (dats m 0 c).after 4 t = View.canon (stores m c t) := by
  rw [after0_4]
  unfold_out out0_4
  frame_out
  rfl

theorem norm_at (p : Fin 416) (k : Fin 1024) (r : Fin 4160) (hr : r.val = t.val * 416 + p.val) :
    rows m c t (ix2 p k) = val_main_v12 (F := Ideal) (A0 m c) (A1 m c) (ix2 r k) := by
  have h0 : ∀ k : Fin 1024, iblk m c 0 t (ix2 p k) = A0 m c (ix2 r k) := fun k => by blk_point [iblk, V, idx_val t]
  have h1 : iblk m c 1 t (ix2 0 k) = val_main_v10 (F := Ideal) (A1 m c) (ix2 0 k) := by pointwise [val_main_v10]; blk_point [iblk, V, idx_val t]
  pointwise [rows, k0_pay3, val_main_v12, val_main_v11, val_main_v9, val_main_v8, val_main_v7, val_main_v6, val_main_v5, val_main_v4, val_main_v3, val_main_v2, val_main_v1, val_main_v0, val_main_cst, val_main_cst_0, val_main_cst_1]
  simp only [h0, h1]

theorem sum_at (v w b) (p : Fin 416) (x : Fin 1536) :
    k0_pay1 (F := Ideal) v w b (ix2 p x) = (∑ q : Fin 1024, v (ix2 p q) * w (ix3 0 q x)) + b (ix2 0 x) := by
  pointwise [k0_pay1]

theorem quarter_at (j : ℕ) (h) (q : Fin 1024) (x : Fin 1536) (k : Fin 6144) (hk : k.val = j * 1536 + x.val) :
    quarter m c t j h (ix3 0 q x) = A2 m c (ix2 q k) := by
  have hj : j + 1 ≤ 4 := h 0
  refine (View.ld_unit_apply_of _ _ _ _ _ (ix3 ⟨j, by omega⟩ q x) fun a => ?_).trans (by blk_point [iblk, V, idx_val t])
  fin_cases a
  · show j = j + 0; omega
  · show q.val = 0 + q.val; omega
  · show x.val = 0 + x.val; omega

theorem shift_at (o : ℕ) (h) (x : Fin 1536) (k : Fin 6144) (hk : k.val = o + x.val) :
    shift m c t o h (ix2 0 x) = val_main_v14 (F := Ideal) (A3 m c) (ix2 0 k) := by
  have e : iblk m c 3 t (ix2 0 k) = val_main_v14 (F := Ideal) (A3 m c) (ix2 0 k) := by pointwise [val_main_v14]; blk_point [iblk, V, idx_val t]
  refine (View.ld_unit_apply_of _ _ _ _ _ (ix2 0 k) fun a => ?_).trans e
  fin_cases a
  · rfl
  · exact hk

/-- One entry of the projection, from the quarter its column lies in. -/
theorem quarter_value (j o : ℕ) (hj hb) (ho : o = j * 1536) (p : Fin 416) (x : Fin 1536) (r : Fin 4160) (hr : r.val = t.val * 416 + p.val)
    (k : Fin 6144) (hk : k.val = o + x.val) :
    k0_pay1 (rows m c t) (quarter m c t j hj) (shift m c t o hb) (ix2 p x)
      = val_main_v16 (F := Ideal) (A0 m c) (A1 m c) (A2 m c) (A3 m c) (ix2 r k) := by
  rw [sum_at, shift_at m c t o hb x k hk]
  pointwise [val_main_v16, val_main_v15, val_main_v13]
  exact congrArg (· + _) (Finset.sum_congr rfl fun q _ => congrArg₂ (· * ·) (norm_at m c t p q r hr) (quarter_at m c t j hj q x k (by omega)))

/-- The reference's projection on the rows of point `t`. -/
def wanted (y : S416x6144.Idx) : Elt Ideal .f32 :=
  val_main_v16 (F := Ideal) (A0 m c) (A1 m c) (A2 m c) (A3 m c) (ix2 ⟨t.val * 416 + (y 0).val, by
    have h : t.val < 10 := lt_of_lt_of_eq t.isLt N_0
    have h' : (y 0).val < 416 := (y 0).isLt
    omega⟩ (y 1))

theorem store_value (j o : ℕ) (hj hb ho) (e : o = j * 1536) (x) :
    (quarterStore m c t j o hj hb ho).2 x = wanted m c t ((quarterStore m c t j o hj hb ho).1.emb x) := by
  have e0 : (((quarterStore m c t j o hj hb ho).1.emb x) 0 : ℕ) = (x 0 : ℕ) := by
    rw [Rect.emb_apply]; show 0 + 1 * (x 0 : ℕ) = _; omega
  have e1 : (((quarterStore m c t j o hj hb ho).1.emb x) 1 : ℕ) = o + (x 1 : ℕ) := by
    rw [Rect.emb_apply]; show o + 1 * (x 1 : ℕ) = _; omega
  have hx : x = ix2 (x 0) (x 1) := funext fun a => by fin_cases a <;> rfl
  refine (congrArg (k0_pay1 (rows m c t) (quarter m c t j hj) (shift m c t o hb)) hx).trans ?_
  exact quarter_value m c t j o hj hb e (x 0) (x 1) _ (by show t.val * 416 + _ = _; rw [e0]) _ e1

theorem four {P : View.Piece (Elt Ideal) S416x6144 .f32 → Prop} {a b d e : View.Piece (Elt Ideal) S416x6144 .f32} (ha : P a) (hb : P b) (hd : P d) (he : P e) :
    ∀ p ∈ [a, b, d, e], P p :=
  List.forall_mem_cons.2 ⟨ha, List.forall_mem_cons.2 ⟨hb, List.forall_mem_cons.2 ⟨hd, List.forall_mem_cons.2 ⟨he, List.forall_mem_nil _⟩⟩⟩⟩

/-- A store leaves the reference's entries. -/
def Right (p : View.Piece (Elt Ideal) S416x6144 .f32) : Prop := ∀ x, p.2 x = wanted m c t (p.1.emb x)

theorem stores_value : ∀ p ∈ stores m c t, Right m c t p :=
  four (store_value m c t 3 4608 _ _ _ rfl) (store_value m c t 2 3072 _ _ _ rfl) (store_value m c t 1 1536 _ _ _ rfl) (store_value m c t 0 0 _ _ _ rfl)

theorem proj_value (y : S416x6144.Idx) : View.canon (stores m c t) y = wanted m c t y :=
  View.canon_apply_of_pieces (wanted m c t) (stores m c t) (stores_value m c t) y (cover0_4 _ _ _ _ y)

theorem proj_at (p : Fin 416) (k : Fin 6144) (r : Fin 4160) (hr : r.val = t.val * 416 + p.val) :
    View.canon (stores m c t) (ix2 p k) = val_main_v16 (F := Ideal) (A0 m c) (A1 m c) (A2 m c) (A3 m c) (ix2 r k) := by
  have e : ∀ h, (⟨t.val * 416 + p.val, h⟩ : Fin 4160) = r := fun _ => Fin.ext hr.symm
  rw [proj_value, ← e (hr ▸ r.isLt)]
  rfl

/-- A row of a block, moved to the array's row. -/
theorem moved {n : ℕ} {f : (⟨2, ![416, n]⟩ : Shape).Idx → EReal} {g : (⟨2, ![4160, n]⟩ : Shape).Idx → EReal}
    (h : ∀ (p : Fin 416) (q : Fin n) (r : Fin 4160), r.val = t.val * 416 + p.val → f (ix2 p q) = g (ix2 r q))
    (y : (⟨2, ![416, n]⟩ : Shape).Idx) (j : (⟨2, ![4160, n]⟩ : Shape).Idx) (h0 : (j 0).val = t.val * 416 + (y 0).val) (h1 : (j 1).val = (y 1).val) : f y = g j := by
  rw [show y = ix2 (y 0) (y 1) from funext fun a => by fin_cases a <;> rfl,
    show j = ix2 (j 0) (y 1) from funext fun a => by
      fin_cases a
      · rfl
      · exact Fin.ext h1]
  exact h (y 0) (y 1) (j 0) h0

theorem final_proj : (dats m 0 c).arrAt 4 (cfgs 0).N = val_main_v16 (F := Ideal) (A0 m c) (A1 m c) (A2 m c) (A3 m c) := by
  refine (dats m 0 c).arrAt_eq_of_covers 4 _ (by decide +kernel) fun t _ y => ?_
  have hj0 : ((((cfg0.win 4).blk t).view.emb y) 0 : ℕ) = t.val * 416 + (y 0).val := by blk_simp [idx_val t]
  have hj1 : ((((cfg0.win 4).blk t).view.emb y) 1 : ℕ) = (y 1).val := by blk_simp [idx_val t]
  blk_simp
  rw [point_proj]
  exact moved t (proj_at m c t) y _ hj0 hj1

theorem final_norm : (dats m 0 c).arrAt 5 (cfgs 0).N = val_main_v17 (F := Ideal) (A0 m c) (A1 m c) := by
  refine (dats m 0 c).arrAt_eq_of_covers 5 _ (by decide +kernel) fun t _ y => ?_
  have hj0 : ((((cfg0.win 5).blk t).view.emb y) 0 : ℕ) = t.val * 416 + (y 0).val := by blk_simp [idx_val t]
  have hj1 : ((((cfg0.win 5).blk t).view.emb y) 1 : ℕ) = (y 1).val := by blk_simp [idx_val t]
  blk_simp
  rw [point_norm]
  exact moved t (norm_at m c t) y _ hj0 hj1

end Cert.Kernel6Ideal.Lift
end
-- ==== Proof.LiftEquation.lean ====
module

public import proofs.«01_k».proof.Defs
public import proofs.«01_k».proof.Proof.Lift
public import proofs.«01_k».proof.Proof.Gen.Kernel6Ideal.Value
public import proofs.«01_k».proof.Proof.Gen.Reference6Ideal.Run

@[expose] public section
set_option maxRecDepth 16384
noncomputable section

namespace Cert.Lift

open Idealize.ShloMosaic Idealize.SL.Sem

/-- The reference's run ends with its arguments unchanged and every counter at zero. -/
theorem frame_reference : Cert.quiescent_Reference6Ideal := by
  intro m ρ _
  exact (θ_run Cert.Reference6Ideal.defs _ _).mono (fun r h => ⟨fun c => (h c).2.2,
      Idealize.ShloMosaic.sem_eq_zero_of_no_sems (by decide) r.2⟩)
    (Cert.Reference6Ideal.Value.run (F := Ideal) m ρ)

/-- The projection into the token mixers, over the reals: kernel and reference leave the same arrays. -/
theorem algebraic : Cert.algebraic_Kernel6Ideal_Reference6Ideal := by
  intro m g m' g' _ hagree
  refine ⟨fun c => Cert.Reference6Ideal.Read.val_main_v16 (F := Ideal) (Cert.Kernel6Ideal.Lift.A0 m c) (Cert.Kernel6Ideal.Lift.A1 m c) (Cert.Kernel6Ideal.Lift.A2 m c) (Cert.Kernel6Ideal.Lift.A3 m c),
    fun c => Cert.Reference6Ideal.Read.val_main_v17 (F := Ideal) (Cert.Kernel6Ideal.Lift.A0 m c) (Cert.Kernel6Ideal.Lift.A1 m c), ?_, ?_⟩
  · refine (θ_run Cert.Kernel6Ideal.defs _ _).mono (fun r h c => ?_) (Cert.Kernel6Ideal.Value.run_blocks (F := Ideal) m g)
    obtain ⟨h0, h1, hk⟩ := h c
    exact ⟨h0.trans (Cert.Kernel6Ideal.Lift.final_proj m c), h1.trans (Cert.Kernel6Ideal.Lift.final_norm m c), hk⟩
  · refine (θ_run Cert.Reference6Ideal.defs _ _).mono (fun r h c => ?_) (Cert.Reference6Ideal.Value.run (F := Ideal) m' g')
    obtain ⟨h0, h1, hk⟩ := h c
    obtain ⟨e0, e1, e2, e3⟩ := hagree c
    have f0 := h0.trans (Cert.Reference6Ideal.Read.val_main_v16_eq (F := Ideal) _ _ _ _)
    rw [e0, e1, e2, e3] at f0
    have f1 := h1.trans (Cert.Reference6Ideal.Read.val_main_v17_eq (F := Ideal) _ _)
    rw [e0, e1] at f1
    exact ⟨f0, f1, hk⟩

end Cert.Lift
end
-- ==== Proof.Join.lean ====
module

public import proofs.«01_k».proof.Proof.Sigmoid
public import proofs.«01_k».proof.Proof.Gen.Kernel7Ideal.Value
public import proofs.«01_k».proof.Proof.Gen.Reference7Ideal.Read
public import Idealize.ShloMosaic.Lib.Pipeline.ValueKit
public import Idealize.ShloMosaic.Lib.Claim

@[expose] public section
set_option maxRecDepth 16384
noncomputable section

namespace Cert.Kernel7Ideal.Join

open Cert.Kernel7Ideal Cert.Kernel7Ideal.Gen Idealize.ShloMosaic Idealize.ShloMosaic.TcCoe Idealize.SL.Sem
open Cert.Reference7Ideal.Read
variable (m : (ℓ : Loc nD τ sig) → Buf (Elt Ideal) ℓ) (c : Dev nD) (t : Fin cfg0.N)

theorem idx_val : ∀ t : Fin cfg0.N, win0_0.index t = ![t.val, 0] ∧ win0_1.index t = ![t.val, 0] ∧ win0_2.index t = ![t.val, 0]
    ∧ win0_3.index t = ![t.val, 4] ∧ win0_4.index t = ![t.val, 5] ∧ win0_5.index t = ![0, 0] ∧ win0_6.index t = ![0, 0]
    ∧ win0_7.index t = ![0, 0] ∧ win0_8.index t = ![0, 0] ∧ win0_9.index t = ![t.val, 0] := (by decide +kernel : ∀ t : Fin grid0.N, _)

abbrev A0 : FVec Ideal S4160x1024 .f32 := m ((c : Thread nD τ).loc main_arg0)
abbrev A1 : FVec Ideal S4160x1024 .f32 := m ((c : Thread nD τ).loc main_arg1)
abbrev A2 : FVec Ideal S4160x1024 .f32 := m ((c : Thread nD τ).loc main_arg2)
abbrev A3 : FVec Ideal S4160x6144 .f32 := m ((c : Thread nD τ).loc main_arg3)
abbrev A4 : FVec Ideal S1024x1024 .f32 := m ((c : Thread nD τ).loc main_arg4)
abbrev A5 : FVec Ideal S1024x1024 .f32 := m ((c : Thread nD τ).loc main_arg5)
abbrev A6 : FVec Ideal S1024 .f32 := m ((c : Thread nD τ).loc main_arg6)
abbrev A7 : FVec Ideal S1024x1024 .f32 := m ((c : Thread nD τ).loc main_arg7)

/-- The gated sum of the two branches on the rows of point `t`. -/
def mixed : FVec Ideal S416x1024 .bf16 :=
  k0_pay2 (iblk m c 1 t) (iblk m c 5 t) (iblk m c 2 t) (iblk m c 6 t) (iblk m c 7 t) (iblk m c 3 t) (iblk m c 4 t)

theorem point : (dats m 0 c).after 9 t = k0_pay1 (iblk m c 0 t) (mixed m c t) (iblk m c 8 t) := by
  rw [after0_9]
  frame_out
  rfl

theorem mixed_at (p : Fin 416) (l : Fin 1024) (r : Fin 4160) (hr : r.val = t.val * 416 + p.val) :
    mixed m c t (ix2 p l) = val_main_v25 (F := Ideal) (A1 m c) (A2 m c) (A3 m c) (A4 m c) (A5 m c) (A6 m c) (ix2 r l) := by
  have h1 : ∀ k : Fin 1024, iblk m c 1 t (ix2 p k) = A1 m c (ix2 r k) := fun k => by blk_point [iblk, V, idx_val t]
  have h2 : ∀ k : Fin 1024, iblk m c 2 t (ix2 p k) = A2 m c (ix2 r k) := fun k => by blk_point [iblk, V, idx_val t]
  have h5 : ∀ k : Fin 1024, iblk m c 5 t (ix2 k l) = A4 m c (ix2 k l) := fun k => by blk_point [iblk, V, idx_val t]
  have h6 : ∀ k : Fin 1024, iblk m c 6 t (ix2 k l) = A5 m c (ix2 k l) := fun k => by blk_point [iblk, V, idx_val t]
  have h7 : iblk m c 7 t (ix2 0 l) = val_main_v2 (F := Ideal) (A6 m c) (ix2 0 l) := by pointwise [val_main_v2]; blk_point [iblk, V, idx_val t]
  have h3 : iblk m c 3 t (ix2 p l) = val_main_v9 (F := Ideal) (A3 m c) (ix2 r l) := by pointwise [val_main_v9]; blk_point [iblk, V, idx_val t]
  have h4 : iblk m c 4 t (ix2 p l) = val_main_v10 (F := Ideal) (A3 m c) (ix2 r l) := by pointwise [val_main_v10]; blk_point [iblk, V, idx_val t]
  pointwise [mixed, k0_pay2, val_main_v25, val_main_v24, val_main_v23, val_main_v22, val_main_cst_2, val_main_v21, val_main_v20, val_main_cst_1, val_main_v19, val_main_v18, val_main_v17, val_main_v16, val_main_v15, val_main_cst_0, val_main_v14, val_main_v13, val_main_cst, val_main_v12, val_main_v11, val_main_v4, val_main_v3, val_main_v1, val_main_v0]
  simp only [h1, h2, h5, h6, h7, h3, h4, Logistic.tanh_form]

theorem at_out (p : Fin 416) (q : Fin 1024) (r : Fin 4160) (hr : r.val = t.val * 416 + p.val) :
    k0_pay1 (iblk m c 0 t) (mixed m c t) (iblk m c 8 t) (ix2 p q)
      = val_main_v27 (F := Ideal) (A0 m c) (A1 m c) (A2 m c) (A3 m c) (A4 m c) (A5 m c) (A6 m c) (A7 m c) (ix2 r q) := by
  have h0 : iblk m c 0 t (ix2 p q) = A0 m c (ix2 r q) := by blk_point [iblk, V, idx_val t]
  have h8 : ∀ k : Fin 1024, iblk m c 8 t (ix2 k q) = A7 m c (ix2 k q) := fun k => by blk_point [iblk, V, idx_val t]
  pointwise [k0_pay1, val_main_v27, val_main_v26]
  simp only [h0, h8, mixed_at m c t p _ r hr]

theorem final_out : (dats m 0 c).arrAt 9 (cfgs 0).N
    = val_main_v27 (F := Ideal) (A0 m c) (A1 m c) (A2 m c) (A3 m c) (A4 m c) (A5 m c) (A6 m c) (A7 m c) := by
  refine (dats m 0 c).arrAt_eq_of_covers 9 _ (by decide +kernel) fun t _ y => ?_
  have hj0 : ((((cfg0.win 9).blk t).view.emb y) 0 : ℕ) = t.val * 416 + (y 0).val := by blk_simp [idx_val t]
  have hj1 : ((((cfg0.win 9).blk t).view.emb y) 1 : ℕ) = (y 1).val := by blk_simp [idx_val t]
  blk_simp
  rw [point]
  generalize ((cfg0.win 9).blk t).view.emb y = j at *
  rw [show y = ix2 (y 0) (y 1) from funext fun a => by fin_cases a <;> rfl,
    show j = ix2 (j 0) (y 1) from funext fun a => by
      fin_cases a
      · rfl
      · exact Fin.ext hj1]
  exact at_out m c t (y 0) (y 1) (j 0) hj0

end Cert.Kernel7Ideal.Join
end
-- ==== Proof.JoinEquation.lean ====
module

public import proofs.«01_k».proof.Defs
public import proofs.«01_k».proof.Proof.Join
public import proofs.«01_k».proof.Proof.Gen.Kernel7Ideal.Value
public import proofs.«01_k».proof.Proof.Gen.Reference7Ideal.Run

@[expose] public section
set_option maxRecDepth 16384
noncomputable section

namespace Cert.Join

open Idealize.ShloMosaic Idealize.SL.Sem

/-- The reference's run ends with its arguments unchanged and every counter at zero. -/
theorem frame_reference : Cert.quiescent_Reference7Ideal := by
  intro m ρ _
  exact (θ_run Cert.Reference7Ideal.defs _ _).mono (fun r h => ⟨fun c => (h c).2,
      Idealize.ShloMosaic.sem_eq_zero_of_no_sems (by decide) r.2⟩)
    (Cert.Reference7Ideal.Value.run (F := Ideal) m ρ)

/-- The gated merge of the two branches, over the reals: kernel and reference leave the same array. -/
theorem algebraic : Cert.algebraic_Kernel7Ideal_Reference7Ideal := by
  intro m g m' g' _ hagree
  refine ⟨fun c => Cert.Reference7Ideal.Read.val_main_v27 (F := Ideal) (Cert.Kernel7Ideal.Join.A0 m c) (Cert.Kernel7Ideal.Join.A1 m c) (Cert.Kernel7Ideal.Join.A2 m c) (Cert.Kernel7Ideal.Join.A3 m c) (Cert.Kernel7Ideal.Join.A4 m c) (Cert.Kernel7Ideal.Join.A5 m c) (Cert.Kernel7Ideal.Join.A6 m c) (Cert.Kernel7Ideal.Join.A7 m c), ?_, ?_⟩
  · refine (θ_run Cert.Kernel7Ideal.defs _ _).mono (fun r h c => ?_) (Cert.Kernel7Ideal.Value.run_blocks (F := Ideal) m g)
    obtain ⟨h0, hk⟩ := h c
    exact ⟨h0.trans (Cert.Kernel7Ideal.Join.final_out m c), hk⟩
  · refine (θ_run Cert.Reference7Ideal.defs _ _).mono (fun r h c => ?_) (Cert.Reference7Ideal.Value.run (F := Ideal) m' g')
    obtain ⟨h0, hk⟩ := h c
    obtain ⟨e0, e1, e2, e3, e4, e5, e6, e7⟩ := hagree c
    have f0 := h0.trans (Cert.Reference7Ideal.Read.val_main_v27_eq (F := Ideal) _ _ _ _ _ _ _ _)
    rw [e0, e1, e2, e3, e4, e5, e6, e7] at f0
    exact ⟨f0, hk⟩

end Cert.Join
end
-- ==== Proof.Held.lean ====
/- A buffer at some contents: what a run that says nothing of contents holds of a staging or scratch buffer, and its two ways
   of being met in a launch. -/
module

public import Idealize.ShloMosaic.Lib.Pipeline.FrameBody
public import Idealize.ShloMosaic.Lib.Tactic

@[expose] public section

set_option maxRecDepth 16384

noncomputable section

namespace Cert.Held

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {U : Type} [URA U]

local notation "𝕄" => MT nD τ sig Unit Val ℕ U ℕ

/-- A memref of the core, whole, at some contents. -/
def anyAt (c : Dev nD) {sp : Space} {s : Shape} {e : EltTy} (r : Memref sig .tc sp s e) : sProp 𝕄 :=
  iprop(∃ f, r.view.loc (c : Thread nD τ) ↦[r.view.set]{fullShare} f)

theorem anyAt_of_owns (c : Dev nD) {sp : Space} {s : Shape} {e : EltTy} (r : Memref sig .tc sp s e) (X : s.Idx → Val e) :
    (owns (c : Thread nD τ) r fullShare X : sProp 𝕄) ⊢ anyAt c r := by
  unfold owns anyAt
  iintro ⟨%f, -, H⟩
  iexists f; iexact H

theorem owns_of_anyAt (c : Dev nD) {sp : Space} {s : Shape} {e : EltTy} (r : Memref sig .tc sp s e) :
    anyAt c r ⊢ (iprop(∃ X, ⌜True⌝ ∗ owns (c : Thread nD τ) r fullShare X) : sProp 𝕄) := by
  unfold owns anyAt
  iintro ⟨%f, H⟩
  iexists r.view.read Val f
  isplitr; · ipureintro; trivial
  iexists f
  isplitr; · ipureintro; rfl
  iexact H

theorem anyAt_whole (c : Dev nD) (b : Ref sig .tc) :
    (anyAt c (Memref.whole b) : sProp 𝕄) = iprop(∃ f : Buf Val ((c : Thread nD τ).loc b), ((c : Thread nD τ).loc b) ↦{fullShare} f) := by
  unfold anyAt; simp only [Memref.view_whole, View.set_whole]

end Cert.Held

end
-- ==== Proof.RecurLoops.lean ====
/- The two loops of `rnn_bwd`, the gradient of the gated linear recurrence with its gates, its short convolution and the GELU gate.
   Nothing is said of what the buffers hold: each stands at some contents throughout. -/
module

public import proofs.«01_k».proof.Proof.Held
public import proofs.«01_k».proof.Proof.Gen.Kernel9Ideal.Skeleton
public import proofs.«01_k».proof.Proof.Gen.Kernel9Ideal.Loops

@[expose] public section

set_option maxRecDepth 16384

noncomputable section

namespace Cert.Kernel9Ideal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel9Ideal Cert.Kernel9Ideal.Gen Cert.Held

variable {F : FTy → Type} [FloatOps F]

local notation "𝕄" => MT nD τ sig Unit (Elt F) ℕ (UR sig nD τ) ℕ

/-- The buffers both loops write: the multipliers and the values of the recurrence. -/
def lanes (c : Dev nD) (m g : Memref sig .tc .vmem S8x416x128 .f32) : sProp 𝕄 :=
  iprop(anyAt c m ∗ anyAt c g)

set_option sl_exec.squeezeSlice true in
/-- The chain along the rows, eight rows a trip. -/
@[sl_loop, instance_reducible] def chain (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S416x1024 .f32) (harg3 : arg3.IsWhole) (arg4 : Memref sig .tc .vmem S8x1024 .f32) (harg4 : arg4.IsWhole) (arg5 : Memref sig .tc .vmem S416x1024 .f32) (harg5 : arg5.IsWhole) (arg6 : Memref sig .tc .vmem S8x1024 .f32) (harg6 : arg6.IsWhole) (arg7 : Memref sig .tc .vmem S416x1024 .f32) (harg7 : arg7.IsWhole) (arg8 : Memref sig .tc .hbm S4160x6144 .bf16) (harg8 : arg8.IsWhole) (arg9 : Memref sig .tc .vmem S4x1024 .f32) (harg9 : arg9.IsWhole) (arg10 : Memref sig .tc .vmem S4x256x256 .bf16) (harg10 : arg10.IsWhole) (arg11 : Memref sig .tc .vmem S4x416x1024 .f32) (harg11 : arg11.IsWhole) (arg12 : Memref sig .tc .vmem S4x256x256 .bf16) (harg12 : arg12.IsWhole) (arg13 : Memref sig .tc .vmem S1x1024 .f32) (harg13 : arg13.IsWhole) (arg14 : Memref sig .tc .vmem S416x2048 .bf16) (harg14 : arg14.IsWhole) (arg15 : Memref sig .tc .vmem S4x4x64x256 .bf16) (harg15 : arg15.IsWhole) (arg16 : Memref sig .tc .vmem S4x4x64x256 .bf16) (harg16 : arg16.IsWhole) (arg17 : Memref sig .tc .vmem S4x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S424x1024 .f32) (harg24 : arg24.IsWhole) (arg25 : Memref sig .tc .vmem S424x1024 .f32) (harg25 : arg25.IsWhole) (arg26 : Memref sig .tc .vmem S8x416x128 .f32) (harg26 : arg26.IsWhole) (arg27 : Memref sig .tc .vmem S8x416x128 .f32) (harg27 : arg27.IsWhole) (arg28 : Memref sig .tc .vmem S4x256x256 .f32) (harg28 : arg28.IsWhole) (arg29 : Memref sig .tc .vmem S4x256x256 .f32) (harg29 : arg29.IsWhole) (arg30 : Memref sig .tc .vmem S1x1024 .f32) (harg30 : arg30.IsWhole) (v122 : FVec F S416x1024 .f32) (v135 : FVec F S416x128 .f32) (v136 : Vec F S1x416x128 .f32) (init : FVec F S8x1024 .f32 × FVec F S8x1024 .f32) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v122 v135 v136 init where
  inv := fun _ _ => lanes c arg26 arg27
  step := fun k acc => by
    unfold lanes anyAt
    iintro ⟨⟨%f, Hm⟩, ⟨%g, Hg⟩⟩
    unfold k0_t1_body
    sl_exec_parts
    sl_step
    sl_close

set_option sl_exec.squeezeSlice true in
/-- The entering states added, eight rows a trip. -/
@[sl_loop, instance_reducible] def entries (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S416x1024 .f32) (harg3 : arg3.IsWhole) (arg4 : Memref sig .tc .vmem S8x1024 .f32) (harg4 : arg4.IsWhole) (arg5 : Memref sig .tc .vmem S416x1024 .f32) (harg5 : arg5.IsWhole) (arg6 : Memref sig .tc .vmem S8x1024 .f32) (harg6 : arg6.IsWhole) (arg7 : Memref sig .tc .vmem S416x1024 .f32) (harg7 : arg7.IsWhole) (arg8 : Memref sig .tc .hbm S4160x6144 .bf16) (harg8 : arg8.IsWhole) (arg9 : Memref sig .tc .vmem S4x1024 .f32) (harg9 : arg9.IsWhole) (arg10 : Memref sig .tc .vmem S4x256x256 .bf16) (harg10 : arg10.IsWhole) (arg11 : Memref sig .tc .vmem S4x416x1024 .f32) (harg11 : arg11.IsWhole) (arg12 : Memref sig .tc .vmem S4x256x256 .bf16) (harg12 : arg12.IsWhole) (arg13 : Memref sig .tc .vmem S1x1024 .f32) (harg13 : arg13.IsWhole) (arg14 : Memref sig .tc .vmem S416x2048 .bf16) (harg14 : arg14.IsWhole) (arg15 : Memref sig .tc .vmem S4x4x64x256 .bf16) (harg15 : arg15.IsWhole) (arg16 : Memref sig .tc .vmem S4x4x64x256 .bf16) (harg16 : arg16.IsWhole) (arg17 : Memref sig .tc .vmem S4x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S424x1024 .f32) (harg24 : arg24.IsWhole) (arg25 : Memref sig .tc .vmem S424x1024 .f32) (harg25 : arg25.IsWhole) (arg26 : Memref sig .tc .vmem S8x416x128 .f32) (harg26 : arg26.IsWhole) (arg27 : Memref sig .tc .vmem S8x416x128 .f32) (harg27 : arg27.IsWhole) (arg28 : Memref sig .tc .vmem S4x256x256 .f32) (harg28 : arg28.IsWhole) (arg29 : Memref sig .tc .vmem S4x256x256 .f32) (harg29 : arg29.IsWhole) (arg30 : Memref sig .tc .vmem S1x1024 .f32) (harg30 : arg30.IsWhole) (v155 : Vec F S1x1024 .f32) (v159_0 : FVec F S8x1024 .f32) (v159_1 : FVec F S8x1024 .f32) (v163 : FVec F S1x1024 .f32) (v167 : FVec F S1x1024 .f32) (v171 : FVec F S1x1024 .f32) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v155 v159_0 v159_1 v163 v167 v171 where
  inv := fun _ _ => lanes c arg26 arg27
  step := fun k acc => by
    unfold lanes anyAt
    iintro ⟨⟨%f, Hm⟩, ⟨%g, Hg⟩⟩
    unfold k0_t2_body
    sl_exec_parts
    sl_step
    sl_close

end Cert.Kernel9Ideal.Recur

end
-- ==== Proof.RecurBody.lean ====
/- The body of `rnn_bwd`: from any contents of its buffers it runs, for any float values. -/
module

public import proofs.«01_k».proof.Proof.RecurLoops

@[expose] public section

set_option maxRecDepth 16384

noncomputable section

namespace Cert.Kernel9Ideal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel9Ideal Cert.Kernel9Ideal.Gen Cert.Held

variable {F : FTy → Type} [FloatOps F]

local notation "𝕄" => MT nD τ sig Unit (Elt F) ℕ (UR sig nD τ) ℕ

/-- What the body holds: each staging and scratch buffer at some contents. -/
def held (c : Dev nD) (arg1 : Memref sig .tc .vmem S416x1024 .f32) (arg2 : Memref sig .tc .vmem S416x1024 .f32) (arg3 : Memref sig .tc .vmem S416x1024 .f32) (arg4 : Memref sig .tc .vmem S8x1024 .f32) (arg5 : Memref sig .tc .vmem S416x1024 .f32) (arg6 : Memref sig .tc .vmem S8x1024 .f32) (arg7 : Memref sig .tc .vmem S416x1024 .f32) (arg9 : Memref sig .tc .vmem S4x1024 .f32) (arg10 : Memref sig .tc .vmem S4x256x256 .bf16) (arg11 : Memref sig .tc .vmem S4x416x1024 .f32) (arg12 : Memref sig .tc .vmem S4x256x256 .bf16) (arg13 : Memref sig .tc .vmem S1x1024 .f32) (arg14 : Memref sig .tc .vmem S416x2048 .bf16) (arg15 : Memref sig .tc .vmem S4x4x64x256 .bf16) (arg16 : Memref sig .tc .vmem S4x4x64x256 .bf16) (arg17 : Memref sig .tc .vmem S4x1024 .f32) (arg18 : Memref sig .tc .vmem S1x1024 .f32) (arg19 : Memref sig .tc .vmem S1x1024 .f32) (arg20 : Memref sig .tc .vmem S1x1024 .f32) (arg21 : Memref sig .tc .vmem S1x1024 .f32) (arg22 : Memref sig .tc .vmem S1x1024 .f32) (arg23 : Memref sig .tc .vmem S1x1024 .f32) (arg24 : Memref sig .tc .vmem S424x1024 .f32) (arg25 : Memref sig .tc .vmem S424x1024 .f32) (arg26 : Memref sig .tc .vmem S8x416x128 .f32) (arg27 : Memref sig .tc .vmem S8x416x128 .f32) (arg28 : Memref sig .tc .vmem S4x256x256 .f32) (arg29 : Memref sig .tc .vmem S4x256x256 .f32) (arg30 : Memref sig .tc .vmem S1x1024 .f32) : sProp 𝕄 :=
  iprop(anyAt c arg1 ∗ anyAt c arg2 ∗ anyAt c arg3 ∗ anyAt c arg4 ∗ anyAt c arg5 ∗ anyAt c arg6 ∗ anyAt c arg7 ∗ anyAt c arg9 ∗ anyAt c arg10 ∗ anyAt c arg11 ∗ anyAt c arg12 ∗ anyAt c arg13 ∗ anyAt c arg14 ∗ anyAt c arg15 ∗ anyAt c arg16 ∗ anyAt c arg17 ∗ anyAt c arg18 ∗ anyAt c arg19 ∗ anyAt c arg20 ∗ anyAt c arg21 ∗ anyAt c arg22 ∗ anyAt c arg23 ∗ anyAt c arg24 ∗ anyAt c arg25 ∗ anyAt c arg26 ∗ anyAt c arg27 ∗ anyAt c arg28 ∗ anyAt c arg29 ∗ anyAt c arg30)

set_option sl_exec.squeezeSlice true in
set_option maxHeartbeats 4000000 in
/-- The body from any contents, its conditionals both ways. -/
theorem body_run (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S416x1024 .f32) (harg3 : arg3.IsWhole) (arg4 : Memref sig .tc .vmem S8x1024 .f32) (harg4 : arg4.IsWhole) (arg5 : Memref sig .tc .vmem S416x1024 .f32) (harg5 : arg5.IsWhole) (arg6 : Memref sig .tc .vmem S8x1024 .f32) (harg6 : arg6.IsWhole) (arg7 : Memref sig .tc .vmem S416x1024 .f32) (harg7 : arg7.IsWhole) (arg8 : Memref sig .tc .hbm S4160x6144 .bf16) (harg8 : arg8.IsWhole) (arg9 : Memref sig .tc .vmem S4x1024 .f32) (harg9 : arg9.IsWhole) (arg10 : Memref sig .tc .vmem S4x256x256 .bf16) (harg10 : arg10.IsWhole) (arg11 : Memref sig .tc .vmem S4x416x1024 .f32) (harg11 : arg11.IsWhole) (arg12 : Memref sig .tc .vmem S4x256x256 .bf16) (harg12 : arg12.IsWhole) (arg13 : Memref sig .tc .vmem S1x1024 .f32) (harg13 : arg13.IsWhole) (arg14 : Memref sig .tc .vmem S416x2048 .bf16) (harg14 : arg14.IsWhole) (arg15 : Memref sig .tc .vmem S4x4x64x256 .bf16) (harg15 : arg15.IsWhole) (arg16 : Memref sig .tc .vmem S4x4x64x256 .bf16) (harg16 : arg16.IsWhole) (arg17 : Memref sig .tc .vmem S4x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1x1024 .f32) (harg22 : arg22.IsWhole) (arg23 : Memref sig .tc .vmem S1x1024 .f32) (harg23 : arg23.IsWhole) (arg24 : Memref sig .tc .vmem S424x1024 .f32) (harg24 : arg24.IsWhole) (arg25 : Memref sig .tc .vmem S424x1024 .f32) (harg25 : arg25.IsWhole) (arg26 : Memref sig .tc .vmem S8x416x128 .f32) (harg26 : arg26.IsWhole) (arg27 : Memref sig .tc .vmem S8x416x128 .f32) (harg27 : arg27.IsWhole) (arg28 : Memref sig .tc .vmem S4x256x256 .f32) (harg28 : arg28.IsWhole) (arg29 : Memref sig .tc .vmem S4x256x256 .f32) (harg29 : arg29.IsWhole) (arg30 : Memref sig .tc .vmem S1x1024 .f32) (harg30 : arg30.IsWhole) :
    held (F := F) c arg1 arg2 arg3 arg4 arg5 arg6 arg7 arg9 arg10 arg11 arg12 arg13 arg14 arg15 arg16 arg17 arg18 arg19 arg20 arg21 arg22 arg23 arg24 arg25 arg26 arg27 arg28 arg29 arg30 ⊢ wp frame (wpE (defs₀ (F := F)) Variants.none (c : Thread nD τ) none) Set.univ
      (cc0_rnn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) (fun _ => held (F := F) c arg1 arg2 arg3 arg4 arg5 arg6 arg7 arg9 arg10 arg11 arg12 arg13 arg14 arg15 arg16 arg17 arg18 arg19 arg20 arg21 arg22 arg23 arg24 arg25 arg26 arg27 arg28 arg29 arg30) := by
  unfold held anyAt
  iintro ⟨⟨%f1, H1⟩, ⟨%f2, H2⟩, ⟨%f3, H3⟩, ⟨%f4, H4⟩, ⟨%f5, H5⟩, ⟨%f6, H6⟩, ⟨%f7, H7⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩⟩
  simp only [cc0_rnn_bwd_eq_skeleton]; unfold cc0_rnn_bwd_skel
  sl_exec_parts
  sl_step
  sl_close

end Cert.Kernel9Ideal.Recur

end
-- ==== Proof.RecurFrame.lean ====
/- The launch of `rnn_bwd` over its ten grid points: it runs, gives its arguments back unchanged and leaves every counter at zero.
   The run is for any float values, and both frames come from it. -/
module

public import proofs.«01_k».proof.Defs
public import proofs.«01_k».proof.Proof.RecurBody
public import proofs.«01_k».proof.Proof.Gen.Kernel9
public import proofs.«01_k».proof.Proof.Gen.Kernel9Ideal
public import proofs.«01_k».proof.Proof.Gen.Kernel9Ideal.Launch
public import proofs.«01_k».proof.Proof.Gen.Kernel9Ideal.Points
public import proofs.«01_k».proof.Proof.Gen.Kernel9Ideal.Frame
public import Idealize.ShloMosaic.Adequacy
public import Idealize.ShloMosaic.Init

@[expose] public section

set_option maxRecDepth 16384

noncomputable section

namespace Cert.Kernel9Ideal.Recur

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel9Ideal Cert.Kernel9Ideal.Gen Cert.Held

variable {F : FTy → Type} [FloatOps F]

local notation "𝕄" => MT nD τ sig Unit (Elt F) ℕ (UR sig nD τ) ℕ

/-- The staging buffers at a grid point, one by one. -/
theorem staged_eq (c : Dev nD) (t : Fin cfg0.N) :
    (bigSep Finset.univ fun w : Fin cfg0.W => anyAt c ((cfg0.win w).stage (cfg0.slots t w)) : sProp 𝕄)
      = iprop(anyAt c (st0_0 t) ∗ anyAt c (st0_1 t) ∗ anyAt c (st0_2 t) ∗ anyAt c (st0_3 t) ∗ anyAt c (st0_4 t) ∗ anyAt c (st0_5 t) ∗ anyAt c (st0_6 t) ∗ anyAt c (st0_7 t) ∗ anyAt c (st0_8 t) ∗ anyAt c (st0_9 t) ∗ anyAt c (st0_10 t) ∗ anyAt c (st0_11 t) ∗ anyAt c (st0_12 t) ∗ anyAt c (st0_13 t) ∗ anyAt c (st0_14 t) ∗ anyAt c (st0_15 t) ∗ anyAt c (st0_16 t) ∗ anyAt c (st0_17 t) ∗ anyAt c (st0_18 t) ∗ anyAt c (st0_19 t)) :=
  bigSep_W0 _

/-- The scratch buffers, one by one. -/
theorem scratch_eq (c : Dev nD) :
    (Pipeline.scopedRest (Ix := Unit) (Name := ℕ) (U := UR sig nD τ) (Lvl := ℕ) (Val := Elt F) spec0 c : sProp 𝕄)
      = iprop(anyAt c (Memref.whole cc0_scratch0) ∗ anyAt c (Memref.whole cc0_scratch1) ∗ anyAt c (Memref.whole cc0_scratch2) ∗ anyAt c (Memref.whole cc0_scratch3) ∗ anyAt c (Memref.whole cc0_scratch4) ∗ anyAt c (Memref.whole cc0_scratch5) ∗ anyAt c (Memref.whole cc0_scratch6) ∗ anyAt c (Memref.whole cc0_scratch7) ∗ anyAt c (Memref.whole cc0_scratch8)) := by
  rw [scopedRest0_eq]; simp only [anyAt_whole]

theorem defs₀_row (t : Fin cfg0.N) : defs₀ (F := F) .tc cfg0.body (cfg0.bodyArgs t (cfg0.slots t)) = bodyAt0 t := by
  unfold defs₀; rw [Defs.onTc_tc]

set_option maxHeartbeats 4000000 in
/-- A grid point from any contents of its staging buffers and of the scratch. -/
theorem point_run (c : Dev nD) (t : Fin cfg0.N) :
    (iprop((bigSep Finset.univ fun w : Fin cfg0.W => anyAt c ((cfg0.win w).stage (cfg0.slots t w))) ∗ Pipeline.scopedRest (Ix := Unit) (Name := ℕ) (U := UR sig nD τ) (Lvl := ℕ) (Val := Elt F) spec0 c) : sProp 𝕄)
      ⊢ wp frame (wpE (defs₀ (F := F)) Variants.none (c : Thread nD τ) none) Set.univ (bodyAt0 t)
        (fun _ => iprop((bigSep Finset.univ fun w : Fin cfg0.W => anyAt c ((cfg0.win w).stage (cfg0.slots t w))) ∗ Pipeline.scopedRest (Ix := Unit) (Name := ℕ) (U := UR sig nD τ) (Lvl := ℕ) (Val := Elt F) spec0 c)) := by
  rw [staged_eq, scratch_eq]
  refine .trans ?_ ((body_run c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _).trans (wp_mono _ _ _ fun _ => ?_))
  · unfold held
    iintro ⟨⟨W0, W1, W2, W3, W4, W5, W6, W7, W8, W9, W10, W11, W12, W13, W14, W15, W16, W17, W18, W19⟩, ⟨S0, S1, S2, S3, S4, S5, S6, S7, S8⟩⟩
    sl_close
  · unfold held
    iintro ⟨W0, W1, W2, W3, W4, W5, W6, W7, W8, W9, W10, W11, W12, W13, W14, W15, W16, W17, W18, W19, S0, S1, S2, S3, S4, S5, S6, S7, S8⟩
    sl_close

section Launch
variable (m : (ℓ : Loc nD τ sig) → Buf (Elt F) ℓ) (ρ : Dev nD → PrngReg)

/-- What the launch is told of the call: nothing of what a point leaves. -/
def loose (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem point (c : Dev nD) : (loose m c).BodyObligation defs₀ Variants.none () Set.univ := by
  intro t Y _
  rw [defs₀_row]
  refine .trans ?_ ((sep_mono (point_run c t) .rfl).trans ((wp_frame_r _ _ _
    (R := iprop((∃ r, prngReg c r) ∗ (loose m c).owesAt () t.castSucc))).trans (wp_mono _ _ _ fun _ => ?_)))
  · refine (sep_mono .rfl (sep_mono .rfl (bigSep_mono fun w _ => anyAt_of_owns c _ _))).trans ?_
    show iprop(Pipeline.ΦA spec0 c ∗ _ ∗ _) ⊢ _
    unfold Pipeline.ΦA
    iintro ⟨⟨Hs, Hr⟩, Ho, Hb⟩
    isplitl [Hs Hb]
    · isplitl [Hb]
      · iexact Hb
      · iexact Hs
    · isplitl [Hr]
      · iexact Hr
      · iexact Ho
  · refine .trans ?_ (sep_mono .rfl (sep_mono .rfl (bigSep_mono fun w _ => owns_of_anyAt c _)))
    show _ ⊢ iprop(Pipeline.ΦA spec0 c ∗ _ ∗ _)
    unfold Pipeline.ΦA
    iintro ⟨⟨Hb, Hs⟩, ⟨Hr, Ho⟩⟩
    isplitl [Hs Hr]
    · isplitl [Hs]
      · iexact Hs
      · iexact Hr
    · isplitl [Ho]
      · iexact Ho
      · iexact Hb

set_option maxHeartbeats 4000000 in
set_option backward.isDefEq.respectTransparency.types false in
/-- The call runs, and its arguments are as they were. -/
theorem run_main :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ ⟨h, hs⟩ => ⟨fun c => ⟨(h.arr_in c 6 rfl).trans (V_main_arg0 m c),
      (h.arr_in c 7 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      (h.arr_in c 0 rfl).trans (V_main_arg8 m c),
      ((h c).2 main_arg9 (Pipeline.mem_restRefs_of main_arg9 (by decide) (by decide))).trans (V_main_arg9 m c)⟩, hs⟩)
    (Pipeline.RDat.θ_run_frame_track_shared cfgs 0 launch₀0 defs₀ Variants.none (loose m) m ρ main (point m)
      (fun _ _ _ => rfl) (fun _ _ => rfl) (V m) (hmain m Variants.none) (fun _ _ => rfl) (fun _ => .rfl) (fun _ => .rfl)
      (Q' := fun r => RDat.FramePost cfg0 (loose m) (V m) r ∧ r.2.sem = fun _ => 0) (fun _ h => h))

end Launch

/-- The frame of the call as idealized. -/
theorem frame_ideal : Cert.quiescent_Kernel9Ideal := fun m ρ _ => run_main (F := Ideal) m ρ

/-- The frame of the call as printed. -/
theorem frame_kernel : Cert.quiescent_Kernel9 := by
  intro m ρ _
  refine cast ?_ (run_main (F := Bits) m ρ)
  sl_kernel_rfl

end Cert.Kernel9Ideal.Recur

end
-- ==== Proof.ScanLoops.lean ====
/- The two loops of `rnn_fwd`, the gated linear recurrence forward. Nothing is said of what the buffers hold: each stands at some
   contents throughout. -/
module

public import proofs.«01_k».proof.Proof.Held
public import proofs.«01_k».proof.Proof.Gen.Kernel10Ideal.Skeleton
public import proofs.«01_k».proof.Proof.Gen.Kernel10Ideal.Loops

@[expose] public section

set_option maxRecDepth 16384

noncomputable section

namespace Cert.Kernel10Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel10Ideal Cert.Kernel10Ideal.Gen Cert.Held

variable {F : FTy → Type} [FloatOps F]

local notation "𝕄" => MT nD τ sig Unit (Elt F) ℕ (UR sig nD τ) ℕ

/-- The buffers both loops write: the multipliers and the values of the recurrence. -/
def lanes (c : Dev nD) (m g : Memref sig .tc .vmem S8x416x128 .f32) : sProp 𝕄 :=
  iprop(anyAt c m ∗ anyAt c g)

set_option sl_exec.squeezeSlice true in
/-- The chain along the rows, eight rows a trip. -/
@[sl_loop, instance_reducible] def chain (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S416x1024 .f32) (harg10 : arg10.IsWhole) (arg11 : Memref sig .tc .vmem S416x1024 .f32) (harg11 : arg11.IsWhole) (arg12 : Memref sig .tc .vmem S416x1024 .bf16) (harg12 : arg12.IsWhole) (arg13 : Memref sig .tc .vmem S4x416x1024 .f32) (harg13 : arg13.IsWhole) (arg14 : Memref sig .tc .vmem S424x1024 .f32) (harg14 : arg14.IsWhole) (arg15 : Memref sig .tc .vmem S1x1024 .f32) (harg15 : arg15.IsWhole) (arg16 : Memref sig .tc .vmem S8x416x128 .f32) (harg16 : arg16.IsWhole) (arg17 : Memref sig .tc .vmem S8x416x128 .f32) (harg17 : arg17.IsWhole) (v189 : FVec F S416x1024 .f32) (v206 : FVec F S416x128 .f32) (init : FVec F S8x1024 .f32 × FVec F S8x1024 .f32) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v189 v206 init where
  inv := fun _ _ => lanes c arg16 arg17
  step := fun k acc => by
    unfold lanes anyAt
    iintro ⟨⟨%f, Hm⟩, ⟨%g, Hg⟩⟩
    unfold k0_t1_body
    sl_exec_parts
    sl_step
    sl_close

set_option sl_exec.squeezeSlice true in
/-- The entering states added, eight rows a trip. -/
@[sl_loop, instance_reducible] def entries (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S416x1024 .f32) (harg10 : arg10.IsWhole) (arg11 : Memref sig .tc .vmem S416x1024 .f32) (harg11 : arg11.IsWhole) (arg12 : Memref sig .tc .vmem S416x1024 .bf16) (harg12 : arg12.IsWhole) (arg13 : Memref sig .tc .vmem S4x416x1024 .f32) (harg13 : arg13.IsWhole) (arg14 : Memref sig .tc .vmem S424x1024 .f32) (harg14 : arg14.IsWhole) (arg15 : Memref sig .tc .vmem S1x1024 .f32) (harg15 : arg15.IsWhole) (arg16 : Memref sig .tc .vmem S8x416x128 .f32) (harg16 : arg16.IsWhole) (arg17 : Memref sig .tc .vmem S8x416x128 .f32) (harg17 : arg17.IsWhole) (v222 : Vec F S1x1024 .f32) (v226_0 : FVec F S8x1024 .f32) (v226_1 : FVec F S8x1024 .f32) (v230 : FVec F S1x1024 .f32) (v234 : FVec F S1x1024 .f32) (v238 : FVec F S1x1024 .f32) (v242 : FVec F S1x1024 .f32) (v243 : FVec F S1x1024 .f32) (v244 : FVec F S1x1024 .f32) :
    LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v222 v226_0 v226_1 v230 v234 v238 v242 v243 v244 where
  inv := fun _ _ => lanes c arg16 arg17
  step := fun k acc => by
    unfold lanes anyAt
    iintro ⟨⟨%f, Hm⟩, ⟨%g, Hg⟩⟩
    unfold k0_t2_body
    sl_exec_parts
    sl_step
    sl_close

end Cert.Kernel10Ideal.Scan

end
-- ==== Proof.ScanBody.lean ====
/- The body of `rnn_fwd`: from any contents of its buffers it runs, for any float values. -/
module

public import proofs.«01_k».proof.Proof.ScanLoops

@[expose] public section

set_option maxRecDepth 16384

noncomputable section

namespace Cert.Kernel10Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel10Ideal Cert.Kernel10Ideal.Gen Cert.Held

variable {F : FTy → Type} [FloatOps F]

local notation "𝕄" => MT nD τ sig Unit (Elt F) ℕ (UR sig nD τ) ℕ

/-- What the body holds: each staging and scratch buffer at some contents. -/
def held (c : Dev nD) (arg1 : Memref sig .tc .vmem S416x1024 .f32) (arg2 : Memref sig .tc .vmem S416x1024 .f32) (arg3 : Memref sig .tc .vmem S4x1024 .f32) (arg4 : Memref sig .tc .vmem S1x1024 .f32) (arg5 : Memref sig .tc .vmem S4x256x256 .bf16) (arg6 : Memref sig .tc .vmem S1x1024 .f32) (arg7 : Memref sig .tc .vmem S4x256x256 .bf16) (arg8 : Memref sig .tc .vmem S1x1024 .f32) (arg9 : Memref sig .tc .vmem S1x1024 .f32) (arg10 : Memref sig .tc .vmem S416x1024 .f32) (arg11 : Memref sig .tc .vmem S416x1024 .f32) (arg12 : Memref sig .tc .vmem S416x1024 .bf16) (arg13 : Memref sig .tc .vmem S4x416x1024 .f32) (arg14 : Memref sig .tc .vmem S424x1024 .f32) (arg15 : Memref sig .tc .vmem S1x1024 .f32) (arg16 : Memref sig .tc .vmem S8x416x128 .f32) (arg17 : Memref sig .tc .vmem S8x416x128 .f32) : sProp 𝕄 :=
  iprop(anyAt c arg1 ∗ anyAt c arg2 ∗ anyAt c arg3 ∗ anyAt c arg4 ∗ anyAt c arg5 ∗ anyAt c arg6 ∗ anyAt c arg7 ∗ anyAt c arg8 ∗ anyAt c arg9 ∗ anyAt c arg10 ∗ anyAt c arg11 ∗ anyAt c arg12 ∗ anyAt c arg13 ∗ anyAt c arg14 ∗ anyAt c arg15 ∗ anyAt c arg16 ∗ anyAt c arg17)

set_option sl_exec.squeezeSlice true in
set_option maxHeartbeats 4000000 in
/-- The body from any contents, its conditionals both ways. -/
theorem body_run (c : Dev nD) (i : grid0.Coords) (arg1 : Memref sig .tc .vmem S416x1024 .f32) (harg1 : arg1.IsWhole) (arg2 : Memref sig .tc .vmem S416x1024 .f32) (harg2 : arg2.IsWhole) (arg3 : Memref sig .tc .vmem S4x1024 .f32) (harg3 : arg3.IsWhole) (arg4 : Memref sig .tc .vmem S1x1024 .f32) (harg4 : arg4.IsWhole) (arg5 : Memref sig .tc .vmem S4x256x256 .bf16) (harg5 : arg5.IsWhole) (arg6 : Memref sig .tc .vmem S1x1024 .f32) (harg6 : arg6.IsWhole) (arg7 : Memref sig .tc .vmem S4x256x256 .bf16) (harg7 : arg7.IsWhole) (arg8 : Memref sig .tc .vmem S1x1024 .f32) (harg8 : arg8.IsWhole) (arg9 : Memref sig .tc .vmem S1x1024 .f32) (harg9 : arg9.IsWhole) (arg10 : Memref sig .tc .vmem S416x1024 .f32) (harg10 : arg10.IsWhole) (arg11 : Memref sig .tc .vmem S416x1024 .f32) (harg11 : arg11.IsWhole) (arg12 : Memref sig .tc .vmem S416x1024 .bf16) (harg12 : arg12.IsWhole) (arg13 : Memref sig .tc .vmem S4x416x1024 .f32) (harg13 : arg13.IsWhole) (arg14 : Memref sig .tc .vmem S424x1024 .f32) (harg14 : arg14.IsWhole) (arg15 : Memref sig .tc .vmem S1x1024 .f32) (harg15 : arg15.IsWhole) (arg16 : Memref sig .tc .vmem S8x416x128 .f32) (harg16 : arg16.IsWhole) (arg17 : Memref sig .tc .vmem S8x416x128 .f32) (harg17 : arg17.IsWhole) :
    held (F := F) c arg1 arg2 arg3 arg4 arg5 arg6 arg7 arg8 arg9 arg10 arg11 arg12 arg13 arg14 arg15 arg16 arg17 ⊢ wp frame (wpE (defs₀ (F := F)) Variants.none (c : Thread nD τ) none) Set.univ
      (cc0_rnn_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) (fun _ => held (F := F) c arg1 arg2 arg3 arg4 arg5 arg6 arg7 arg8 arg9 arg10 arg11 arg12 arg13 arg14 arg15 arg16 arg17) := by
  unfold held anyAt
  iintro ⟨⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩⟩
  simp only [cc0_rnn_fwd_eq_skeleton]; unfold cc0_rnn_fwd_skel
  sl_exec_parts
  sl_step
  sl_close

end Cert.Kernel10Ideal.Scan

end
-- ==== Proof.ScanFrame.lean ====
/- The launch of `rnn_fwd` over its ten grid points, its frame at any float values, and the two frames claimed. -/
module

public import proofs.«01_k».proof.Defs
public import proofs.«01_k».proof.Proof.ScanBody
public import proofs.«01_k».proof.Proof.Gen.Kernel10
public import proofs.«01_k».proof.Proof.Gen.Kernel10Ideal
public import proofs.«01_k».proof.Proof.Gen.Kernel10Ideal.Launch
public import proofs.«01_k».proof.Proof.Gen.Kernel10Ideal.Points
public import proofs.«01_k».proof.Proof.Gen.Kernel10Ideal.Frame
public import Idealize.ShloMosaic.Adequacy
public import Idealize.ShloMosaic.Init

@[expose] public section

set_option maxRecDepth 16384

noncomputable section

namespace Cert.Kernel10Ideal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Cfg Window)
open Cert.Kernel10Ideal Cert.Kernel10Ideal.Gen Cert.Held

variable {F : FTy → Type} [FloatOps F]

local notation "𝕄" => MT nD τ sig Unit (Elt F) ℕ (UR sig nD τ) ℕ

/-- The staging buffers at a grid point, one by one. -/
theorem staged_eq (c : Dev nD) (t : Fin cfg0.N) :
    (bigSep Finset.univ fun w : Fin cfg0.W => anyAt c ((cfg0.win w).stage (cfg0.slots t w)) : sProp 𝕄)
      = iprop(anyAt c (st0_0 t) ∗ anyAt c (st0_1 t) ∗ anyAt c (st0_2 t) ∗ anyAt c (st0_3 t) ∗ anyAt c (st0_4 t) ∗ anyAt c (st0_5 t) ∗ anyAt c (st0_6 t) ∗ anyAt c (st0_7 t) ∗ anyAt c (st0_8 t) ∗ anyAt c (st0_9 t) ∗ anyAt c (st0_10 t) ∗ anyAt c (st0_11 t) ∗ anyAt c (st0_12 t)) :=
  bigSep_W0 _

/-- The scratch buffers, one by one. -/
theorem scratch_eq (c : Dev nD) :
    (Pipeline.scopedRest (Ix := Unit) (Name := ℕ) (U := UR sig nD τ) (Lvl := ℕ) (Val := Elt F) spec0 c : sProp 𝕄)
      = iprop(anyAt c (Memref.whole cc0_scratch0) ∗ anyAt c (Memref.whole cc0_scratch1) ∗ anyAt c (Memref.whole cc0_scratch2) ∗ anyAt c (Memref.whole cc0_scratch3)) := by
  rw [scopedRest0_eq]; simp only [anyAt_whole]

theorem defs₀_row (t : Fin cfg0.N) : defs₀ (F := F) .tc cfg0.body (cfg0.bodyArgs t (cfg0.slots t)) = bodyAt0 t := by
  unfold defs₀; rw [Defs.onTc_tc]

set_option maxHeartbeats 4000000 in
/-- A grid point from any contents of its staging buffers and of the scratch. -/
theorem point_run (c : Dev nD) (t : Fin cfg0.N) :
    (iprop((bigSep Finset.univ fun w : Fin cfg0.W => anyAt c ((cfg0.win w).stage (cfg0.slots t w))) ∗ Pipeline.scopedRest (Ix := Unit) (Name := ℕ) (U := UR sig nD τ) (Lvl := ℕ) (Val := Elt F) spec0 c) : sProp 𝕄)
      ⊢ wp frame (wpE (defs₀ (F := F)) Variants.none (c : Thread nD τ) none) Set.univ (bodyAt0 t)
        (fun _ => iprop((bigSep Finset.univ fun w : Fin cfg0.W => anyAt c ((cfg0.win w).stage (cfg0.slots t w))) ∗ Pipeline.scopedRest (Ix := Unit) (Name := ℕ) (U := UR sig nD τ) (Lvl := ℕ) (Val := Elt F) spec0 c)) := by
  rw [staged_eq, scratch_eq]
  refine .trans ?_ ((body_run c (grid0.coords t) _ _ _ _ _ _ _ _ _ _ _ _ _ _ _ _ _ _ _ _ _ _ _ _ _ _ _ _ _ _ _ _ _ _).trans (wp_mono _ _ _ fun _ => ?_))
  · unfold held
    iintro ⟨⟨W0, W1, W2, W3, W4, W5, W6, W7, W8, W9, W10, W11, W12⟩, ⟨S0, S1, S2, S3⟩⟩
    sl_close
  · unfold held
    iintro ⟨W0, W1, W2, W3, W4, W5, W6, W7, W8, W9, W10, W11, W12, S0, S1, S2, S3⟩
    sl_close

section Launch
variable (m : (ℓ : Loc nD τ sig) → Buf (Elt F) ℓ) (ρ : Dev nD → PrngReg)

/-- What the launch is told of the call: nothing of what a point leaves. -/
def loose (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

theorem point (c : Dev nD) : (loose m c).BodyObligation defs₀ Variants.none () Set.univ := by
  intro t Y _
  rw [defs₀_row]
  refine .trans ?_ ((sep_mono (point_run c t) .rfl).trans ((wp_frame_r _ _ _
    (R := iprop((∃ r, prngReg c r) ∗ (loose m c).owesAt () t.castSucc))).trans (wp_mono _ _ _ fun _ => ?_)))
  · refine (sep_mono .rfl (sep_mono .rfl (bigSep_mono fun w _ => anyAt_of_owns c _ _))).trans ?_
    show iprop(Pipeline.ΦA spec0 c ∗ _ ∗ _) ⊢ _
    unfold Pipeline.ΦA
    iintro ⟨⟨Hs, Hr⟩, Ho, Hb⟩
    isplitl [Hs Hb]
    · isplitl [Hb]
      · iexact Hb
      · iexact Hs
    · isplitl [Hr]
      · iexact Hr
      · iexact Ho
  · refine .trans ?_ (sep_mono .rfl (sep_mono .rfl (bigSep_mono fun w _ => owns_of_anyAt c _)))
    show _ ⊢ iprop(Pipeline.ΦA spec0 c ∗ _ ∗ _)
    unfold Pipeline.ΦA
    iintro ⟨⟨Hb, Hs⟩, ⟨Hr, Ho⟩⟩
    isplitl [Hs Hr]
    · isplitl [Hs]
      · iexact Hs
      · iexact Hr
    · isplitl [Ho]
      · iexact Ho
      · iexact Hb

set_option maxHeartbeats 4000000 in
set_option backward.isDefEq.respectTransparency.types false in
/-- The call runs, and its arguments are as they were. -/
theorem run_main :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ ⟨h, hs⟩ => ⟨fun c => ⟨(h.arr_in c 1 rfl).trans (V_main_arg0 m c),
      (h.arr_in c 2 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩, hs⟩)
    (Pipeline.RDat.θ_run_frame_track_shared cfgs 0 launch₀0 defs₀ Variants.none (loose m) m ρ main (point m)
      (fun _ _ _ => rfl) (fun _ _ => rfl) (V m) (hmain m Variants.none) (fun _ _ => rfl) (fun _ => .rfl) (fun _ => .rfl)
      (Q' := fun r => RDat.FramePost cfg0 (loose m) (V m) r ∧ r.2.sem = fun _ => 0) (fun _ h => h))

end Launch

/-- The frame of the call as idealized. -/
theorem frame_ideal : Cert.quiescent_Kernel10Ideal := fun m ρ _ => run_main (F := Ideal) m ρ

/-- The frame of the call as printed. -/
theorem frame_kernel : Cert.quiescent_Kernel10 := by
  intro m ρ _
  refine cast ?_ (run_main (F := Bits) m ρ)
  sl_kernel_rfl

end Cert.Kernel10Ideal.Scan

end
-- ==== Proof.Gate.lean ====
module

public import proofs.«01_k».proof.Proof.HeadFinals
public import proofs.«01_k».proof.Proof.Gen.Kernel8Ideal.Value
public import proofs.«01_k».proof.Proof.Gen.Reference8Ideal.Read

@[expose] public section
set_option maxRecDepth 16384
noncomputable section

/-! The first feed-forward block's call computes what the second's computes before its loss, so its blocks are read through a memory of that program that holds this one's arguments. -/
namespace Cert.Kernel8Ideal.Gate

open Cert.Kernel8Ideal Cert.Kernel8Ideal.Gen Idealize.ShloMosaic Idealize.ShloMosaic.TcCoe Idealize.SL.Sem
variable (m : (ℓ : Loc nD τ sig) → Buf (Elt Ideal) ℓ) (c : Dev nD)

theorem idx_val : ∀ t : Fin cfg0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0] ∧ win0_6.index t = ![t.val, 0]
    ∧ win0_7.index t = ![t.val, 0] ∧ win0_8.index t = ![t.val, 0] := (by decide +kernel : ∀ t : Fin grid0.N, _)

abbrev A0 : FVec Ideal S4160x1024 .f32 := m ((c : Thread nD τ).loc main_arg0)
abbrev A1 : FVec Ideal S1024 .f32 := m ((c : Thread nD τ).loc main_arg1)
abbrev A2 : FVec Ideal S1024x5632 .f32 := m ((c : Thread nD τ).loc main_arg2)
abbrev A3 : FVec Ideal S2816x1024 .f32 := m ((c : Thread nD τ).loc main_arg3)

abbrev place (r : Ref Cert.Kernel4Ideal.sig .tc) : Loc Cert.Kernel4Ideal.nD Cert.Kernel4Ideal.τ Cert.Kernel4Ideal.sig :=
  (c : Thread Cert.Kernel4Ideal.nD Cert.Kernel4Ideal.τ).loc r

/-- The second block's memory with the first block's arguments in its first four. -/
def lent : (ℓ : Loc Cert.Kernel4Ideal.nD Cert.Kernel4Ideal.τ Cert.Kernel4Ideal.sig) → Buf (Elt Ideal) ℓ :=
  Function.update (Function.update (Function.update (Function.update (fun _ _ => default) (place c Cert.Kernel4Ideal.main_arg3) (A3 m c))
    (place c Cert.Kernel4Ideal.main_arg2) (A2 m c)) (place c Cert.Kernel4Ideal.main_arg1) (A1 m c)) (place c Cert.Kernel4Ideal.main_arg0) (A0 m c)

theorem apart {r s : Ref Cert.Kernel4Ideal.sig .tc} (h : ∀ c : Dev nD, (place c r).2.idx.val ≠ (place c s).2.idx.val) : place c r ≠ place c s :=
  fun e => h c (congrArg (fun ℓ => ℓ.2.idx.val) e)

theorem lent_0 : Cert.Kernel4Ideal.Head.A0 (lent m c) c = A0 m c := Function.update_self ..
theorem lent_1 : Cert.Kernel4Ideal.Head.A1 (lent m c) c = A1 m c :=
  (Function.update_of_ne (apart c (by decide)) ..).trans (Function.update_self ..)
theorem lent_2 : Cert.Kernel4Ideal.Head.A2 (lent m c) c = A2 m c :=
  (Function.update_of_ne (apart c (by decide)) ..).trans ((Function.update_of_ne (apart c (by decide)) ..).trans (Function.update_self ..))
theorem lent_3 : Cert.Kernel4Ideal.Head.A3 (lent m c) c = A3 m c :=
  (Function.update_of_ne (apart c (by decide)) ..).trans ((Function.update_of_ne (apart c (by decide)) ..).trans
    ((Function.update_of_ne (apart c (by decide)) ..).trans (Function.update_self ..)))

variable (t : Fin cfg0.N)

/-- The same grid point of the second block's call. -/
abbrev twin : Fin Cert.Kernel4Ideal.cfg0.N := ⟨t.val, t.isLt⟩

theorem row_at (p : Fin 416) (k : Fin 1024) : iblk m c 0 t (ix2 p k) = A0 m c (ix2 (Cert.Kernel4Ideal.Head.row (twin t) p) k) := by
  have hr : (Cert.Kernel4Ideal.Head.row (twin t) p).val = t.val * 416 + p.val := rfl
  generalize Cert.Kernel4Ideal.Head.row (twin t) p = r at hr
  blk_point [iblk, V, idx_val t]

theorem gain_at (k : Fin 1024) : iblk m c 1 t (ix2 0 k) = Cert.Reference4Ideal.Read.val_main_v10 (F := Ideal) (A1 m c) (ix2 0 k) := by
  pointwise [Cert.Reference4Ideal.Read.val_main_v10]; blk_point [iblk, V, idx_val t]

theorem weight_at (j : Fin 4) (q : Fin 1024) (l : Fin 1408) (k : Fin 5632) (hk : k.val = j.val * 1408 + l.val) :
    iblk m c 2 t (ix3 j q l) = A2 m c (ix2 q k) := by
  blk_point [iblk, V, idx_val t]

theorem down_at (j : Fin 2) (l : Fin 1408) (q : Fin 1024) (k : Fin 2816) (hk : k.val = j.val * 1408 + l.val) :
    iblk m c 3 t (ix3 j l q) = A3 m c (ix2 k q) := by
  blk_point [iblk, V, idx_val t]

abbrev X0 : FVec Ideal Cert.Kernel4Ideal.S416x1024 .f32 := Cert.Kernel4Ideal.Gen.iblk (lent m c) c 0 (twin t)
abbrev X1 : FVec Ideal Cert.Kernel4Ideal.S1x1024 .f32 := Cert.Kernel4Ideal.Gen.iblk (lent m c) c 1 (twin t)
abbrev X2 : FVec Ideal Cert.Kernel4Ideal.S4x1024x1408 .bf16 := Cert.Kernel4Ideal.Gen.iblk (lent m c) c 2 (twin t)
abbrev X3 : FVec Ideal Cert.Kernel4Ideal.S2x1408x1024 .bf16 := Cert.Kernel4Ideal.Gen.iblk (lent m c) c 3 (twin t)

theorem pairs {a b : ℕ} (y : (⟨2, ![a, b]⟩ : Shape).Idx) : y = ix2 (y 0) (y 1) := funext fun d => by fin_cases d <;> rfl
theorem triples {a b d : ℕ} (y : (⟨3, ![a, b, d]⟩ : Shape).Idx) : y = ix3 (y 0) (y 1) (y 2) := funext fun d => by fin_cases d <;> rfl

theorem same_0 : iblk m c 0 t = X0 m c t := funext fun y => by
  obtain ⟨p, q, rfl⟩ : ∃ (p : Fin 416) (q : Fin 1024), y = ix2 p q := ⟨_, _, pairs y⟩
  exact (row_at m c t p q).trans ((Cert.Kernel4Ideal.Head.row_at (lent m c) c (twin t) p q).trans (congrFun (lent_0 m c) _)).symm

theorem same_1 : iblk m c 1 t = X1 m c t := funext fun y => by
  obtain ⟨p, q, rfl⟩ : ∃ (p : Fin 1) (q : Fin 1024), y = ix2 p q := ⟨_, _, pairs y⟩
  obtain rfl : p = 0 := Subsingleton.elim _ _
  exact (gain_at m c t q).trans ((Cert.Kernel4Ideal.Head.gain_at (lent m c) c (twin t) q).trans
    (congrArg (fun a => Cert.Reference4Ideal.Read.val_main_v10 (F := Ideal) a (ix2 0 q)) (lent_1 m c))).symm

theorem same_2 : iblk m c 2 t = X2 m c t := funext fun y => by
  obtain ⟨j, q, l, rfl⟩ : ∃ (j : Fin 4) (q : Fin 1024) (l : Fin 1408), y = ix3 j q l := ⟨_, _, _, triples y⟩
  exact (weight_at m c t j q l ⟨j.val * 1408 + l.val, by omega⟩ rfl).trans
    ((Cert.Kernel4Ideal.Head.weight_at (lent m c) c (twin t) j q l ⟨j.val * 1408 + l.val, by omega⟩ rfl).trans (congrFun (lent_2 m c) _)).symm

theorem same_3 : iblk m c 3 t = X3 m c t := funext fun y => by
  obtain ⟨j, l, q, rfl⟩ : ∃ (j : Fin 2) (l : Fin 1408) (q : Fin 1024), y = ix3 j l q := ⟨_, _, _, triples y⟩
  exact (down_at m c t j l q ⟨j.val * 1408 + l.val, by omega⟩ rfl).trans
    ((Cert.Kernel4Ideal.Head.down_at (lent m c) c (twin t) j l q ⟨j.val * 1408 + l.val, by omega⟩ rfl).trans (congrFun (lent_3 m c) _)).symm

open Cert.Kernel4Ideal.Head (Stored half wide narrow parts cols Wgt reach)
open Cert.Kernel3Ideal.Ffn (halfCols)
open Cert.Kernel4Ideal (S4x1024x1408 S2x1408x1024)

/-- The columns of a half that one weight part gives, and those that two parts give together. -/
abbrev one (n : FVec Ideal Cert.Kernel4Ideal.S416x1024 .bf16) (x2 : FVec Ideal S4x1024x1408 .bf16) (b j : ℕ) (hb : b + 1408 ≤ 2816) (hj : j + 1 ≤ 4)
    (f : FVec Ideal Cert.Kernel4Ideal.S416x1024 .bf16 → Vec Ideal Cert.Kernel4Ideal.S1x1024x256 .bf16 → FVec Ideal Cert.Kernel4Ideal.S416x256 .bf16)
    (g : FVec Ideal Cert.Kernel4Ideal.S416x1024 .bf16 → Vec Ideal Cert.Kernel4Ideal.S1x1024x128 .bf16 → FVec Ideal Cert.Kernel4Ideal.S416x128 .bf16) : List Stored :=
  half (wide b hb fun l h => f n (View.ld x2 (Rect.unit (s := S4x1024x1408) ![j, 0, l] ![1, 1024, 256] (parts hj h))))
    (narrow b hb fun l h => g n (View.ld x2 (Rect.unit (s := S4x1024x1408) ![j, 0, l] ![1, 1024, 128] (parts hj h))))
abbrev two (n : FVec Ideal Cert.Kernel4Ideal.S416x1024 .bf16) (x2 : FVec Ideal S4x1024x1408 .bf16) (b j j' : ℕ) (hb : b + 1408 ≤ 2816) (hj : j + 1 ≤ 4) (hj' : j' + 1 ≤ 4) : List Stored :=
  half (wide b hb fun l h => Cert.Kernel4Ideal.Gen.k0_pay12 n (View.ld x2 (Rect.unit (s := S4x1024x1408) ![j, 0, l] ![1, 1024, 256] (parts hj h)))
      (View.ld x2 (Rect.unit (s := S4x1024x1408) ![j', 0, l] ![1, 1024, 256] (parts hj' h))))
    (narrow b hb fun l h => Cert.Kernel4Ideal.Gen.k0_pay67 n (View.ld x2 (Rect.unit (s := S4x1024x1408) ![j, 0, l] ![1, 1024, 128] (parts hj h)))
      (View.ld x2 (Rect.unit (s := S4x1024x1408) ![j', 0, l] ![1, 1024, 128] (parts hj' h))))

abbrev gates (n x2) := one n x2 1408 1 (by decide) (by decide) Cert.Kernel4Ideal.Gen.k0_pay10 Cert.Kernel4Ideal.Gen.k0_pay65
  ++ one n x2 0 0 (by decide) (by decide) Cert.Kernel4Ideal.Gen.k0_pay10 Cert.Kernel4Ideal.Gen.k0_pay65
abbrev ups (n x2) := one n x2 1408 3 (by decide) (by decide) Cert.Kernel4Ideal.Gen.k0_pay11 Cert.Kernel4Ideal.Gen.k0_pay66
  ++ one n x2 0 2 (by decide) (by decide) Cert.Kernel4Ideal.Gen.k0_pay11 Cert.Kernel4Ideal.Gen.k0_pay66
abbrev firsts (n x2) := two n x2 0 0 2 (by decide) (by decide) (by decide)
abbrev acts (n x2) := two n x2 1408 1 3 (by decide) (by decide) (by decide) ++ firsts n x2

abbrev normed : FVec Ideal Cert.Kernel4Ideal.S416x1024 .bf16 := Cert.Kernel4Ideal.Gen.k0_pay1 (F := Ideal) (iblk m c 0 t) (iblk m c 1 t)
abbrev weights : FVec Ideal S4x1024x1408 .bf16 := iblk m c 2 t
abbrev down (j : ℕ) (h : ∀ a, (![j, 0, 0] : Fin 3 → ℕ) a + (![1, 1408, 1024] : Fin 3 → ℕ) a ≤ S2x1408x1024.size a) (x : Vec Ideal S2x1408x1024 .bf16) :=
  View.ld x (Rect.unit (s := S2x1408x1024) ![j, 0, 0] ![1, 1408, 1024] h)

theorem point_gate : (outsAt0 m c t).2.1 = View.canon (gates (normed m c t) (weights m c t)) := by
  unfold outsAt0; frame_out; rfl
theorem point_up : (outsAt0 m c t).2.2.1 = View.canon (ups (normed m c t) (weights m c t)) := by
  unfold outsAt0; frame_out; rfl
theorem point_act : (outsAt0 m c t).2.2.2.1 = View.canon (acts (normed m c t) (weights m c t)) := by
  unfold outsAt0; frame_out; rfl
theorem point_norm : (outsAt0 m c t).2.2.2.2 = normed m c t := by
  unfold outsAt0; frame_out; rfl
theorem point_out : (outsAt0 m c t).1 = Cert.Kernel4Ideal.Gen.k0_pay70 (iblk m c 0 t)
    (Cert.Kernel4Ideal.Gen.k0_pay34 ((ms0_7 t).view.readCov (firsts (normed m c t) (weights m c t)) (halfCols 0 (by decide))) (down 0 (by decide) (iblk m c 3 t)))
    (Cert.Kernel4Ideal.Gen.k0_pay68 ((ms0_7 t).view.readCov (acts (normed m c t) (weights m c t)) (halfCols 1408 (by decide))))
    (Cert.Kernel4Ideal.Gen.k0_pay69 (down 1 (by decide) (iblk m c 3 t))) := by
  unfold outsAt0; frame_out; rfl

theorem same_norm : normed m c t = Cert.Kernel4Ideal.Head.nb (lent m c) c (twin t) :=
  congrArg₂ (fun x y => Cert.Kernel4Ideal.Gen.k0_pay1 (F := Ideal) x y) (same_0 m c t) (same_1 m c t)

/-- What is made of the normalized rows and the weight blocks is made of the second block's. -/
theorem made {α : Type} (f : FVec Ideal Cert.Kernel4Ideal.S416x1024 .bf16 → FVec Ideal S4x1024x1408 .bf16 → α) :
    f (normed m c t) (weights m c t) = f (Cert.Kernel4Ideal.Head.nb (lent m c) c (twin t)) (X2 m c t) := congrArg₂ f (same_norm m c t) (same_2 m c t)

theorem carried {α : Type} (f : FVec Ideal S4160x1024 .f32 → FVec Ideal S1024 .f32 → FVec Ideal S1024x5632 .f32 → FVec Ideal S2816x1024 .f32 → α) :
    f (Cert.Kernel4Ideal.Head.A0 (lent m c) c) (Cert.Kernel4Ideal.Head.A1 (lent m c) c) (Cert.Kernel4Ideal.Head.A2 (lent m c) c) (Cert.Kernel4Ideal.Head.A3 (lent m c) c)
      = f (A0 m c) (A1 m c) (A2 m c) (A3 m c) := by
  rw [lent_0, lent_1, lent_2, lent_3]

variable (p : Fin 416)

theorem gate_at (q : Fin 2816) : (outsAt0 m c t).2.1 (ix2 p q)
    = Cert.Reference4Ideal.Read.val_main_v77 (F := Ideal) (A0 m c) (A1 m c) (A2 m c) (ix2 (Cert.Kernel4Ideal.Head.row (twin t) p) q) :=
  (congrFun ((point_gate m c t).trans ((made m c t fun n x => View.canon (gates n x)).trans (Cert.Kernel4Ideal.Head.gate_canon (lent m c) c (twin t)))) (ix2 p q)).trans
    (carried m c fun a b d _ => Cert.Reference4Ideal.Read.val_main_v77 (F := Ideal) a b d (ix2 (Cert.Kernel4Ideal.Head.row (twin t) p) q))

theorem up_at (q : Fin 2816) : (outsAt0 m c t).2.2.1 (ix2 p q)
    = Cert.Reference4Ideal.Read.val_main_v78 (F := Ideal) (A0 m c) (A1 m c) (A2 m c) (ix2 (Cert.Kernel4Ideal.Head.row (twin t) p) q) :=
  (congrFun ((point_up m c t).trans ((made m c t fun n x => View.canon (ups n x)).trans (Cert.Kernel4Ideal.Head.up_canon (lent m c) c (twin t)))) (ix2 p q)).trans
    (carried m c fun a b d _ => Cert.Reference4Ideal.Read.val_main_v78 (F := Ideal) a b d (ix2 (Cert.Kernel4Ideal.Head.row (twin t) p) q))

theorem act_at (q : Fin 2816) : (outsAt0 m c t).2.2.2.1 (ix2 p q)
    = Cert.Reference4Ideal.Read.val_main_v79 (F := Ideal) (A0 m c) (A1 m c) (A2 m c) (ix2 (Cert.Kernel4Ideal.Head.row (twin t) p) q) :=
  (congrFun ((point_act m c t).trans ((made m c t fun n x => View.canon (acts n x)).trans (Cert.Kernel4Ideal.Head.act_canon (lent m c) c (twin t)))) (ix2 p q)).trans
    (carried m c fun a b d _ => Cert.Reference4Ideal.Read.val_main_v79 (F := Ideal) a b d (ix2 (Cert.Kernel4Ideal.Head.row (twin t) p) q))

theorem norm_at (q : Fin 1024) : (outsAt0 m c t).2.2.2.2 (ix2 p q)
    = Cert.Reference4Ideal.Read.val_main_v12 (F := Ideal) (A0 m c) (A1 m c) (ix2 (Cert.Kernel4Ideal.Head.row (twin t) p) q) :=
  (congrFun ((point_norm m c t).trans (same_norm m c t)) (ix2 p q)).trans ((Cert.Kernel4Ideal.Head.norm_at (lent m c) c (twin t) p q).trans
    (carried m c fun a b _ _ => Cert.Reference4Ideal.Read.val_main_v12 (F := Ideal) a b (ix2 (Cert.Kernel4Ideal.Head.row (twin t) p) q)))

/-- Both buffers hold the same pieces, so they read alike. -/
theorem read_as (L : List Stored) (o : ℕ) (h) : (ms0_7 t).view.readCov L (halfCols o h) = (Cert.Kernel4Ideal.Gen.ms0_11 (twin t)).view.readCov L (halfCols o h) := by
  rw [View.readCov_eq_canon', View.readCov_eq_canon']

theorem sums (h r0 d0 r1 d1) {h' r0' d0' r1' d1'} (e : h = h') (e0 : r0 = r0') (f0 : d0 = d0') (e1 : r1 = r1') (f1 : d1 = d1') :
    Cert.Kernel4Ideal.Gen.k0_pay70 (F := Ideal) h (Cert.Kernel4Ideal.Gen.k0_pay34 r0 d0) (Cert.Kernel4Ideal.Gen.k0_pay68 r1) (Cert.Kernel4Ideal.Gen.k0_pay69 d1)
      = Cert.Kernel4Ideal.Gen.k0_pay70 (F := Ideal) h' (Cert.Kernel4Ideal.Gen.k0_pay34 r0' d0') (Cert.Kernel4Ideal.Gen.k0_pay68 r1') (Cert.Kernel4Ideal.Gen.k0_pay69 d1') := by
  subst e e0 f0 e1 f1; rfl

theorem out_at (q : Fin 1024) : (outsAt0 m c t).1 (ix2 p q)
    = Cert.Reference4Ideal.Read.val_main_v21 (F := Ideal) (A0 m c) (A1 m c) (A2 m c) (A3 m c) (ix2 (Cert.Kernel4Ideal.Head.row (twin t) p) q) := by
  refine (congrFun ((point_out m c t).trans (sums _ _ _ _ _ (same_0 m c t) ?_ (congrArg (down 0 (by decide)) (same_3 m c t)) ?_ (congrArg (down 1 (by decide)) (same_3 m c t)))) (ix2 p q)).trans
    ((Cert.Kernel4Ideal.Head.at_out (lent m c) c (twin t) p q).trans
      (carried m c fun a b d e => Cert.Reference4Ideal.Read.val_main_v21 (F := Ideal) a b d e (ix2 (Cert.Kernel4Ideal.Head.row (twin t) p) q)))
  · exact (read_as t _ _ _).trans (made m c t fun n x => (Cert.Kernel4Ideal.Gen.ms0_11 (twin t)).view.readCov (firsts n x) (halfCols 0 (by decide)))
  · exact (read_as t _ _ _).trans (made m c t fun n x => (Cert.Kernel4Ideal.Gen.ms0_11 (twin t)).view.readCov (acts n x) (halfCols 1408 (by decide)))

theorem final_out : (dats m 0 c).arrAt 4 (cfgs 0).N = Cert.Reference8Ideal.Read.val_main_v21 (F := Ideal) (A0 m c) (A1 m c) (A2 m c) (A3 m c) := by
  refine (dats m 0 c).arrAt_eq_of_covers 4 _ (by decide +kernel) fun t _ y => ?_
  have hj0 : ((((cfg0.win 4).blk t).view.emb y) 0 : ℕ) = t.val * 416 + (y 0).val := by blk_simp [idx_val t]
  have hj1 : ((((cfg0.win 4).blk t).view.emb y) 1 : ℕ) = (y 1).val := by blk_simp [idx_val t]
  blk_simp
  rw [after0_4]
  exact Cert.Kernel4Ideal.Head.moved (twin t) (g := Cert.Reference8Ideal.Read.val_main_v21 (F := Ideal) (A0 m c) (A1 m c) (A2 m c) (A3 m c)) (out_at m c t) y _ hj0 hj1

theorem final_gate : (dats m 0 c).arrAt 5 (cfgs 0).N = Cert.Reference8Ideal.Read.val_main_v22 (F := Ideal) (A0 m c) (A1 m c) (A2 m c) := by
  refine (dats m 0 c).arrAt_eq_of_covers 5 _ (by decide +kernel) fun t _ y => ?_
  have hj0 : ((((cfg0.win 5).blk t).view.emb y) 0 : ℕ) = t.val * 416 + (y 0).val := by blk_simp [idx_val t]
  have hj1 : ((((cfg0.win 5).blk t).view.emb y) 1 : ℕ) = (y 1).val := by blk_simp [idx_val t]
  blk_simp
  rw [after0_5]
  exact Cert.Kernel4Ideal.Head.moved (twin t) (g := Cert.Reference8Ideal.Read.val_main_v22 (F := Ideal) (A0 m c) (A1 m c) (A2 m c)) (gate_at m c t) y _ hj0 hj1

theorem final_up : (dats m 0 c).arrAt 6 (cfgs 0).N = Cert.Reference8Ideal.Read.val_main_v23 (F := Ideal) (A0 m c) (A1 m c) (A2 m c) := by
  refine (dats m 0 c).arrAt_eq_of_covers 6 _ (by decide +kernel) fun t _ y => ?_
  have hj0 : ((((cfg0.win 6).blk t).view.emb y) 0 : ℕ) = t.val * 416 + (y 0).val := by blk_simp [idx_val t]
  have hj1 : ((((cfg0.win 6).blk t).view.emb y) 1 : ℕ) = (y 1).val := by blk_simp [idx_val t]
  blk_simp
  rw [after0_6]
  exact Cert.Kernel4Ideal.Head.moved (twin t) (g := Cert.Reference8Ideal.Read.val_main_v23 (F := Ideal) (A0 m c) (A1 m c) (A2 m c)) (up_at m c t) y _ hj0 hj1

theorem final_act : (dats m 0 c).arrAt 7 (cfgs 0).N = Cert.Reference8Ideal.Read.val_main_v24 (F := Ideal) (A0 m c) (A1 m c) (A2 m c) := by
  refine (dats m 0 c).arrAt_eq_of_covers 7 _ (by decide +kernel) fun t _ y => ?_
  have hj0 : ((((cfg0.win 7).blk t).view.emb y) 0 : ℕ) = t.val * 416 + (y 0).val := by blk_simp [idx_val t]
  have hj1 : ((((cfg0.win 7).blk t).view.emb y) 1 : ℕ) = (y 1).val := by blk_simp [idx_val t]
  blk_simp
  rw [after0_7]
  exact Cert.Kernel4Ideal.Head.moved (twin t) (g := Cert.Reference8Ideal.Read.val_main_v24 (F := Ideal) (A0 m c) (A1 m c) (A2 m c)) (act_at m c t) y _ hj0 hj1

theorem final_norm : (dats m 0 c).arrAt 8 (cfgs 0).N = Cert.Reference8Ideal.Read.val_main_v25 (F := Ideal) (A0 m c) (A1 m c) := by
  refine (dats m 0 c).arrAt_eq_of_covers 8 _ (by decide +kernel) fun t _ y => ?_
  have hj0 : ((((cfg0.win 8).blk t).view.emb y) 0 : ℕ) = t.val * 416 + (y 0).val := by blk_simp [idx_val t]
  have hj1 : ((((cfg0.win 8).blk t).view.emb y) 1 : ℕ) = (y 1).val := by blk_simp [idx_val t]
  blk_simp
  rw [after0_8]
  exact Cert.Kernel4Ideal.Head.moved (twin t) (g := Cert.Reference8Ideal.Read.val_main_v25 (F := Ideal) (A0 m c) (A1 m c)) (norm_at m c t) y _ hj0 hj1

end Cert.Kernel8Ideal.Gate
end
-- ==== Proof.GateEquation.lean ====
module

public import proofs.«01_k».proof.Defs
public import proofs.«01_k».proof.Proof.Gate
public import proofs.«01_k».proof.Proof.Gen.Kernel8Ideal.Value
public import proofs.«01_k».proof.Proof.Gen.Reference8Ideal.Run

@[expose] public section
set_option maxRecDepth 16384
noncomputable section

namespace Cert.Gate

open Idealize.ShloMosaic Idealize.SL.Sem

/-- The reference's run ends with its arguments unchanged and every counter at zero. -/
theorem frame_reference : Cert.quiescent_Reference8Ideal := by
  intro m ρ _
  exact (θ_run Cert.Reference8Ideal.defs _ _).mono (fun r h => ⟨fun c => (h c).2.2.2.2.2,
      Idealize.ShloMosaic.sem_eq_zero_of_no_sems (by decide) r.2⟩)
    (Cert.Reference8Ideal.Value.run (F := Ideal) m ρ)

/-- Every result of the call is the same result of the feed-forward block written plainly. -/
theorem algebraic : Cert.algebraic_Kernel8Ideal_Reference8Ideal := by
  intro m g m' g' _ hagree
  refine ⟨fun c => Cert.Reference8Ideal.Read.val_main_v21 (F := Ideal) (Cert.Kernel8Ideal.Gate.A0 m c) (Cert.Kernel8Ideal.Gate.A1 m c) (Cert.Kernel8Ideal.Gate.A2 m c) (Cert.Kernel8Ideal.Gate.A3 m c),
    fun c => Cert.Reference8Ideal.Read.val_main_v22 (F := Ideal) (Cert.Kernel8Ideal.Gate.A0 m c) (Cert.Kernel8Ideal.Gate.A1 m c) (Cert.Kernel8Ideal.Gate.A2 m c),
    fun c => Cert.Reference8Ideal.Read.val_main_v23 (F := Ideal) (Cert.Kernel8Ideal.Gate.A0 m c) (Cert.Kernel8Ideal.Gate.A1 m c) (Cert.Kernel8Ideal.Gate.A2 m c),
    fun c => Cert.Reference8Ideal.Read.val_main_v24 (F := Ideal) (Cert.Kernel8Ideal.Gate.A0 m c) (Cert.Kernel8Ideal.Gate.A1 m c) (Cert.Kernel8Ideal.Gate.A2 m c),
    fun c => Cert.Reference8Ideal.Read.val_main_v25 (F := Ideal) (Cert.Kernel8Ideal.Gate.A0 m c) (Cert.Kernel8Ideal.Gate.A1 m c), ?_, ?_⟩
  · refine (θ_run Cert.Kernel8Ideal.defs _ _).mono (fun r h c => ?_) (Cert.Kernel8Ideal.Value.run_blocks (F := Ideal) m g)
    obtain ⟨h0, h1, h2, h3, h4, hk⟩ := h c
    exact ⟨h0.trans (Cert.Kernel8Ideal.Gate.final_out m c), h1.trans (Cert.Kernel8Ideal.Gate.final_gate m c), h2.trans (Cert.Kernel8Ideal.Gate.final_up m c), h3.trans (Cert.Kernel8Ideal.Gate.final_act m c), h4.trans (Cert.Kernel8Ideal.Gate.final_norm m c), hk⟩
  · refine (θ_run Cert.Reference8Ideal.defs _ _).mono (fun r h c => ?_) (Cert.Reference8Ideal.Value.run (F := Ideal) m' g')
    obtain ⟨h0, h1, h2, h3, h4, hk⟩ := h c
    obtain ⟨e0, e1, e2, e3⟩ := hagree c
    have f0 := h0.trans (Cert.Reference8Ideal.Read.val_main_v21_eq (F := Ideal) _ _ _ _)
    rw [e0, e1, e2, e3] at f0
    have f1 := h1.trans (Cert.Reference8Ideal.Read.val_main_v22_eq (F := Ideal) _ _ _)
    rw [e0, e1, e2] at f1
    have f2 := h2.trans (Cert.Reference8Ideal.Read.val_main_v23_eq (F := Ideal) _ _ _)
    rw [e0, e1, e2] at f2
    have f3 := h3.trans (Cert.Reference8Ideal.Read.val_main_v24_eq (F := Ideal) _ _ _)
    rw [e0, e1, e2] at f3
    have f4 := h4.trans (Cert.Reference8Ideal.Read.val_main_v25_eq (F := Ideal) _ _)
    rw [e0, e1] at f4
    exact ⟨f0, f1, f2, f3, f4, hk⟩

end Cert.Gate
end
-- ==== Proof.DwIn.lean ====
module

public import proofs.«01_k».proof.Proof.Gen.Kernel11Ideal.Value
public import proofs.«01_k».proof.Proof.Gen.Reference11Ideal.Run
public import Idealize.ShloMosaic.Lib.Pipeline.ValueKit
public import Idealize.ShloMosaic.Lib.Claim

@[expose] public section
set_option maxRecDepth 16384
noncomputable section

/-! The gradient of the input projection's weight: each of its four column blocks is summed over two halves of the rows. -/
namespace Cert.Kernel11Ideal.DwIn

open Cert.Kernel11Ideal Cert.Kernel11Ideal.Gen Idealize.ShloMosaic Idealize.ShloMosaic.TcCoe Idealize.SL.Sem
variable (m : (ℓ : Loc nD τ sig) → Buf (Elt Ideal) ℓ) (c : Dev nD)

abbrev A0 : FVec Ideal S4160x1024 .f32 := m ((c : Thread nD τ).loc main_arg0)
abbrev A3 : FVec Ideal S4160x6144 .f32 := m ((c : Thread nD τ).loc main_arg3)

theorem idx_val : ∀ t : Fin cfg0.N, win0_0.index t = ![t.val % 2, 0] ∧ win0_1.index t = ![t.val % 2, t.val / 2]
    ∧ win0_2.index t = ![t.val / 2, 0, 0] := (by decide +kernel : ∀ t : Fin grid0.N, _)

/-- One entry of the gradient: the rows' products summed. -/
def entry (a : FVec Ideal S4160x1024 .f32) (b : FVec Ideal S4160x6144 .f32) (p : Fin 1024) (q : Fin 6144) : EReal :=
  ∑ k : Fin 4160, a (ix2 k p) * b (ix2 k q)

/-- What the reference's run leaves, entry by entry. -/
theorem ref_at (a : FVec Ideal Cert.Reference11Ideal.S4160x1024 .f32) (b : FVec Ideal Cert.Reference11Ideal.S4160x6144 .f32) (s : Fin 4) (p : Fin 1024) (x : Fin 1536) (q : Fin 6144)
    (hq : q.val = s.val * 1536 + x.val) :
    (truncf .bf16 (transpose Cert.Reference11Ideal.S4x1024x1536 [1, 0, 2] (shapeCast _ (transpose Cert.Reference11Ideal.S1024x6144 [1, 0]
      (Host.dotGeneral Cert.Reference11Ideal.dot_S4160x6144_S4160x1024_S6144x1024_0_0_1_1_n_n none b a)
      Cert.Reference11Ideal.Gen.transposes_S6144x1024_S1024x6144_1_0) Cert.Reference11Ideal.Gen.shapeCasts_S1024x6144_S1024x4x1536)
      Cert.Reference11Ideal.Gen.transposes_S1024x4x1536_S4x1024x1536_1_0_2) Cert.Reference11Ideal.Gen.bitsLt_bf16_f32 : FVec Ideal Cert.Reference11Ideal.S4x1024x1536 .bf16) (ix3 s p x)
      = entry a b p q := by
  unfold entry
  pointwise []
  refine Finset.sum_congr rfl fun k _ => ?_
  rw [mul_comm, show (⟨s.val * 1536 + x.val, hq ▸ q.isLt⟩ : Fin 6144) = q from Fin.ext hq.symm]

theorem pay2_at (v a b) (p : Fin 1024) (x : Fin 1536) :
    k0_pay2 (F := Ideal) v a b (ix2 p x) = v (ix2 p x) + ∑ k : Fin 2080, a (ix2 k p) * b (ix2 k x) := by
  pointwise [k0_pay2]

theorem pay3_at (v) (s : Fin 1) (p : Fin 1024) (x : Fin 1536) : k0_pay3 (F := Ideal) v (ix3 s p x) = v (ix2 p x) := by
  pointwise [k0_pay3]

theorem first (t : Fin cfg0.N) (h : t.val % 2 = 0) :
    (outsAt0 m c t.val t.isLt).2 = k0_pay2 (k0_pay1 (F := Ideal)) (iblk m c 0 t) (iblk m c 1 t) := by
  rw [outsAt0_A m c t h (by omega)]; frame_out

theorem second (t : Fin cfg0.N) (h : t.val % 2 = 1) :
    (outsAt0 m c t.val t.isLt).1 = k0_pay3 (k0_pay2 (outsAt0 m c (t.val - 1) (Nat.lt_of_le_of_lt (Nat.sub_le _ _) t.isLt)).2 (iblk m c 0 t) (iblk m c 1 t)) := by
  rw [outsAt0_B m c t (by omega) h]; frame_out
  exact congrArg (fun v => k0_pay3 (k0_pay2 v (iblk m c 0 t) (iblk m c 1 t))) (Memref.IsWhole.read_unread (Memref.isWhole_whole cc0_scratch0) _)

theorem left_at (t : Fin cfg0.N) (k : Fin 2080) (p : Fin 1024) (r : Fin 4160) (hr : r.val = t.val % 2 * 2080 + k.val) :
    iblk m c 0 t (ix2 k p) = A0 m c (ix2 r p) := by blk_point [iblk, V, idx_val t]

theorem right_at (t : Fin cfg0.N) (k : Fin 2080) (x : Fin 1536) (r : Fin 4160) (q : Fin 6144) (hr : r.val = t.val % 2 * 2080 + k.val)
    (hq : q.val = t.val / 2 * 1536 + x.val) :
    iblk m c 1 t (ix2 k x) = A3 m c (ix2 r q) := by blk_point [iblk, V, idx_val t]

/-- What a point leaves to be written back: both halves of the rows. -/
theorem block (t : Fin cfg0.N) (h : t.val % 2 = 1) (s : Fin 1) (p : Fin 1024) (x : Fin 1536) (q : Fin 6144) (hq : q.val = t.val / 2 * 1536 + x.val) :
    (outsAt0 m c t.val t.isLt).1 (ix3 s p x) = entry (A0 m c) (A3 m c) p q := by
  have e := first m c ⟨t.val - 1, Nat.lt_of_le_of_lt (Nat.sub_le _ _) t.isLt⟩ (by show (t.val - 1) % 2 = 0; omega)
  rw [second m c t h, pay3_at, pay2_at, show (outsAt0 m c (t.val - 1) _).2 = _ from e, pay2_at, show k0_pay1 (F := Ideal) (ix2 p x) = 0 by pointwise [k0_pay1], zero_add]
  unfold entry
  refine Eq.trans ?_ ((Fin.sum_univ_two _).symm.trans (Fin.sum_mul_add_fin 2 2080 fun l : Fin 4160 => A0 m c (ix2 l p) * A3 m c (ix2 l q)))
  refine congrArg₂ (· + ·) ?_ ?_ <;> refine Finset.sum_congr rfl fun k _ => ?_
  · rw [left_at m c _ k p ⟨0 * 2080 + k.val, by omega⟩ (by show _ = (t.val - 1) % 2 * 2080 + k.val; simp; omega),
      right_at m c _ k x ⟨0 * 2080 + k.val, by omega⟩ q (by show _ = (t.val - 1) % 2 * 2080 + k.val; simp; omega) (by show _ = (t.val - 1) / 2 * 1536 + x.val; omega)]
    rfl
  · rw [left_at m c t k p ⟨1 * 2080 + k.val, by omega⟩ (by show 1 * 2080 + k.val = t.val % 2 * 2080 + k.val; omega),
      right_at m c t k x ⟨1 * 2080 + k.val, by omega⟩ q (by show 1 * 2080 + k.val = t.val % 2 * 2080 + k.val; omega) hq]
    rfl

theorem final (W : FVec Ideal S4x1024x1536 .bf16)
    (hW : ∀ (s : Fin 4) (p : Fin 1024) (x : Fin 1536) (q : Fin 6144), q.val = s.val * 1536 + x.val → W (ix3 s p x) = entry (A0 m c) (A3 m c) p q) :
    (dats m 0 c).arrAt 2 cfg0.N = W := by
  refine (dats m 0 c).arrAt_eq_of_covers 2 _ (by decide +kernel) fun t hf y => ?_
  have ht : t.val % 2 = 1 := (flush0_2 t).mp hf
  have hN : t.val < 8 := lt_of_lt_of_eq t.isLt N_0
  have h0 : ((((cfg0.win 2).blk t).view.emb y) 0 : ℕ) = t.val / 2 + (y 0).val := by blk_simp [idx_val t]
  have h1 : ((((cfg0.win 2).blk t).view.emb y) 1 : ℕ) = (y 1).val := by blk_simp [idx_val t]
  have h2 : ((((cfg0.win 2).blk t).view.emb y) 2 : ℕ) = (y 2).val := by blk_simp [idx_val t]
  blk_simp
  rw [after0_2]
  have hy : (y : S1x1024x1536.Idx) = ix3 (y 0) (y 1) (y 2) := funext fun a => by fin_cases a <;> rfl
  have hj : ((cfg0.win 2).blk t).view.emb y = ix3 (((cfg0.win 2).blk t).view.emb y 0) (y 1) (y 2) := funext fun a => by
    fin_cases a
    · rfl
    · exact Fin.ext h1
    · exact Fin.ext h2
  have h0' : (y 0).val < 1 := (y 0).isLt
  have h2' : (y 2).val < 1536 := (y 2).isLt
  refine (congrArg (outsAt0 m c t.val t.isLt).1 hy).trans (Eq.trans ?_ (congrArg W hj).symm)
  exact (block m c t ht (y 0) (y 1) (y 2) ⟨t.val / 2 * 1536 + (y 2).val, by omega⟩ rfl).trans
    (hW _ _ _ _ (by rw [h0]; show t.val / 2 * 1536 + (y 2).val = _; omega)).symm

end Cert.Kernel11Ideal.DwIn
end
-- ==== Proof.DwInEquation.lean ====
module

public import proofs.«01_k».proof.Defs
public import proofs.«01_k».proof.Proof.DwIn

@[expose] public section
set_option maxRecDepth 16384
noncomputable section

namespace Cert.DwIn

open Idealize.ShloMosaic Idealize.SL.Sem

/-- The reference's run ends with its arguments unchanged and every counter at zero. -/
theorem frame_reference : Cert.quiescent_Reference11Ideal := by
  intro m ρ _
  exact (θ_run Cert.Reference11Ideal.defs _ _).mono (fun r h => ⟨fun c => (h c).2,
      Idealize.ShloMosaic.sem_eq_zero_of_no_sems (by decide) r.2⟩)
    (Cert.Reference11Ideal.Value.run (F := Ideal) m ρ)

/-- The gradient of the input projection's weight, over the reals: kernel and derivative leave the same array. -/
theorem algebraic : Cert.algebraic_Kernel11Ideal_Reference11Ideal := by
  intro m g m' g' _ hagree
  refine ⟨fun c => (Cert.Kernel11Ideal.Gen.dats m 0 c).arrAt 2 Cert.Kernel11Ideal.cfg0.N, Cert.Kernel11Ideal.Value.run_blocks (F := Ideal) m g, ?_⟩
  refine (θ_run Cert.Reference11Ideal.defs _ _).mono (fun r h c => ⟨(h c).1.trans (Eq.symm ?_), (h c).2⟩) (Cert.Reference11Ideal.Value.run (F := Ideal) m' g')
  obtain ⟨e0, e1, e2, e3⟩ := hagree c
  refine Cert.Kernel11Ideal.DwIn.final m c _ fun s p x q hq => ?_
  rw [Cert.Kernel11Ideal.DwIn.ref_at _ _ s p x q hq, e0, e3]

end Cert.DwIn
end
-- ==== Proof.Step.lean ====
module

public import proofs.«01_k».proof.Proof.Gen.Kernel12Ideal.Frame
public import proofs.«01_k».proof.Proof.Gen.Reference12Ideal.Read
public import Idealize.ShloMosaic.Lib.Pipeline.Value
public import Idealize.ShloMosaic.Lib.Pipeline.ValueKit
public import Idealize.ShloMosaic.Lib.Claim

@[expose] public section
set_option maxRecDepth 16384
noncomputable section

namespace Cert.Kernel12Ideal.Step

open Cert.Kernel12Ideal Cert.Kernel12Ideal.Gen Idealize.ShloMosaic Idealize.ShloMosaic.TcCoe Idealize.SL.Sem
open Cert.Reference12Ideal.Read

theorem ok {F : FTy → Type} [FloatOps F] (m : (ℓ : Loc nD τ sig) → Buf (Elt F) ℓ) : Ok m := trivial

variable (m : (ℓ : Loc nD τ sig) → Buf (Elt Ideal) ℓ) (c : Dev nD)

abbrev A0 : FVec Ideal S1024x1536 .f32 := m ((c : Thread nD τ).loc main_arg0)
abbrev A1 : FVec Ideal S512x1536 .f32 := m ((c : Thread nD τ).loc main_arg1)
abbrev A2 : FVec Ideal S512x1536 .f32 := m ((c : Thread nD τ).loc main_arg2)
abbrev A3 : FVec Ideal S1024x1536 .f32 := m ((c : Thread nD τ).loc main_arg3)
abbrev A4 : FVec Ideal S1024x1536 .f32 := m ((c : Thread nD τ).loc main_arg4)
abbrev A5 : Vec Ideal S_ .i32 := m ((c : Thread nD τ).loc main_arg5)

/-- The word that says which half of the rows is this device's, as the body reads it. -/
def word : Elt Ideal .i32 :=
  View.readAt (Elt Ideal) (View.whole main_v2) (Rect.unit (s := S2) ![1] ![1] inb_S2_S1_1).toLoadRect (tbl m 0) (Shape.Idx.first (by decide))

theorem table : (V m c main_v2 : Vec Ideal S2 .i32) = concatenate S2 0 [⟨S1, broadcastInDim S1 ![] bcast_S_S1 (constantI S_ 32 0#32)⟩,
    ⟨S1, broadcastInDim S1 ![] bcast_S_S1 (A5 m c)⟩] concatenates_S1_S1_S2_d0 := by
  show StableHlo.after hostOps0 _ _ = _
  simp only [hostOps0, List.flatten_cons, List.flatten_nil, List.append_nil, List.cons_append, List.nil_append]
  after_results

theorem word_eq : word m = A5 m c (fun a => a.elim0) := by
  obtain rfl : c = 0 := Subsingleton.elim _ _
  have h : word m = (V m 0 main_v2 : Vec Ideal S2 .i32) (ix1 1) := by
    unfold word tbl
    refine congrArg (V m 0 main_v2 : Vec Ideal S2 .i32) (funext fun a => ?_)
    fin_cases a; rfl
  rw [h, table]
  pointwise
  exact congrArg (A5 m 0) (funext fun a => a.elim0)

theorem idx_val (a) (t : Fin (cfg0 (F := Ideal) a).N) : ((cfg0 a).win 0).index t = ![t.val, 0] ∧ ((cfg0 a).win 1).index t = ![t.val % 2, 0]
    ∧ ((cfg0 a).win 2).index t = ![t.val % 2, 0] ∧ ((cfg0 a).win 3).index t = ![t.val, 0] ∧ ((cfg0 a).win 4).index t = ![t.val, 0]
    ∧ ((cfg0 a).win 5).index t = ![t.val, 0] ∧ ((cfg0 a).win 6).index t = ![t.val, 0] ∧ ((cfg0 a).win 7).index t = ![t.val, 0]
    ∧ ((cfg0 a).win 8).index t = ![t.val, 0] := by
  have h : ∀ t : Fin grid0.N, cc0_transform_0 (grid0.coords t) = ![t.val, 0] ∧ cc0_transform_1 (grid0.coords t) = ![t.val % 2, 0] :=
    by decide +kernel
  exact ⟨(h t).1, (h t).2, (h t).2, (h t).1, (h t).1, (h t).1, (h t).1, (h t).1, (h t).1⟩

theorem mem_of {sig : RefSig} {z : Space} {s : Shape} {e : EltTy} (v : View sig .tc z s e) (x : s.Idx) (i : v.ty.Idx) (h : v.emb x = i) : i ∈ v.set :=
  h ▸ v.emb_mem_set x

theorem eq_swap (a b : BitVec 32) : Scalar.cmpi .eq a b = IntOp.cmpi .eq b a := by
  exact congrArg BitVec.ofBool (Bool.beq_comm (a := a) (b := b))

variable (t : Fin (cfgM m (ok m)).N)

theorem point_g : (dats m (ok m) 0 c).after 5 t = k0_pay1 (grid0.coords t) (word m) (iblk m (ok m) c 1 t) (iblk m (ok m) c 2 t) := by
  rw [after0_5]
  frame_out
  exact congr (congrArg (k0_pay1 (grid0.coords t) (word m)) ((hs0_1 m (ok m) t).read_unread _)) ((hs0_2 m (ok m) t).read_unread _)

theorem point_d : (dats m (ok m) 0 c).after 6 t = k0_pay4 (grid0.coords t) (word m) (iblk m (ok m) c 1 t) (iblk m (ok m) c 2 t) (iblk m (ok m) c 0 t) (iblk m (ok m) c 3 t) (iblk m (ok m) c 4 t) := by
  rw [after0_6]
  frame_out
  exact congr (congr (congr (congr (congrArg (k0_pay4 (grid0.coords t) (word m)) ((hs0_1 m (ok m) t).read_unread _)) ((hs0_2 m (ok m) t).read_unread _)) ((hs0_0 m (ok m) t).read_unread _)) ((hs0_3 m (ok m) t).read_unread _)) ((hs0_4 m (ok m) t).read_unread _)

theorem point_m : (dats m (ok m) 0 c).after 7 t = k0_pay2 (grid0.coords t) (word m) (iblk m (ok m) c 1 t) (iblk m (ok m) c 2 t) (iblk m (ok m) c 3 t) := by
  rw [after0_7]
  frame_out
  exact congr (congr (congrArg (k0_pay2 (grid0.coords t) (word m)) ((hs0_1 m (ok m) t).read_unread _)) ((hs0_2 m (ok m) t).read_unread _)) ((hs0_3 m (ok m) t).read_unread _)

theorem point_v : (dats m (ok m) 0 c).after 8 t = k0_pay3 (grid0.coords t) (word m) (iblk m (ok m) c 1 t) (iblk m (ok m) c 2 t) (iblk m (ok m) c 4 t) := by
  rw [after0_8]
  frame_out
  exact congr (congr (congrArg (k0_pay3 (grid0.coords t) (word m)) ((hs0_1 m (ok m) t).read_unread _)) ((hs0_2 m (ok m) t).read_unread _)) ((hs0_4 m (ok m) t).read_unread _)

variable (p : Fin 256) (q : Fin 1536) (r : Fin 1024) (hr : r.val = t.val * 256 + p.val)
include hr

theorem w_at : iblk m (ok m) c 0 t (ix2 p q) = A0 m c (ix2 r q) := by blk_point [iblk, V, idx_val _ t]
theorem m_at : iblk m (ok m) c 3 t (ix2 p q) = A3 m c (ix2 r q) := by blk_point [iblk, V, idx_val _ t]
theorem v_at : iblk m (ok m) c 4 t (ix2 p q) = A4 m c (ix2 r q) := by blk_point [iblk, V, idx_val _ t]

omit hr in
theorem mine_at (h : Fin 512) (hh : h.val = t.val % 2 * 256 + p.val) : iblk m (ok m) c 1 t (ix2 p q) = A1 m c (ix2 h q) := by
  blk_point [iblk, V, idx_val _ t]
omit hr in
theorem theirs_at (h : Fin 512) (hh : h.val = t.val % 2 * 256 + p.val) : iblk m (ok m) c 2 t (ix2 p q) = A2 m c (ix2 h q) := by
  blk_point [iblk, V, idx_val _ t]

/-- One entry of the whole gradient, the two halves in the order the word says. -/
theorem g_at : k0_pay1 (grid0.coords t) (word m) (iblk m (ok m) c 1 t) (iblk m (ok m) c 2 t) (ix2 p q)
    = val_main_v4 (F := Ideal) (A1 m c) (A2 m c) (A5 m c) (ix2 r q) := by
  have hc : ((grid0.coords t) 0).val = t.val / 2 := (by decide +kernel : ∀ t : Fin grid0.N, ((grid0.coords t) 0).val = t.val / 2) t
  have ht : t.val < 4 := t.isLt
  have hp := p.isLt
  rw [word_eq m c]
  by_cases h2 : t.val < 2
  · have e := mine_at m c t p q ⟨r.val, by omega⟩ (by simp only; omega)
    have e' := theirs_at m c t p q ⟨r.val, by omega⟩ (by simp only; omega)
    have hi : ((grid0.coords t) 0).val = 0 := by omega
    pointwise [k0_pay1, val_main_v4, val_main_v1, val_main_v3, val_main_v0, val_main_v2, val_main_c, val_main_c_0]
    rw [dif_pos (by omega), e, e', hi, eq_swap]
    congr
  · have e := mine_at m c t p q ⟨r.val - 512, by omega⟩ (by simp only; omega)
    have e' := theirs_at m c t p q ⟨r.val - 512, by omega⟩ (by simp only; omega)
    have hi : ((grid0.coords t) 0).val = 1 := by omega
    pointwise [k0_pay1, val_main_v4, val_main_v1, val_main_v3, val_main_v0, val_main_v2, val_main_c, val_main_c_0]
    rw [dif_neg (by omega), e, e', hi, eq_swap]
    congr

/-- The running mean of the gradient, one entry. -/
theorem mean_at : k0_pay2 (grid0.coords t) (word m) (iblk m (ok m) c 1 t) (iblk m (ok m) c 2 t) (iblk m (ok m) c 3 t) (ix2 p q)
    = val_main_v9 (F := Ideal) (A1 m c) (A2 m c) (A3 m c) (A5 m c) (ix2 r q) := by
  have eg := g_at m c t p q r hr
  have em := m_at m c t p q r hr
  rw [val_main_v9_apply, val_main_v6_apply, val_main_v8_apply, ← eg, ← em]
  rfl

/-- The running mean of its square, one entry. -/
theorem square_at : k0_pay3 (grid0.coords t) (word m) (iblk m (ok m) c 1 t) (iblk m (ok m) c 2 t) (iblk m (ok m) c 4 t) (ix2 p q)
    = val_main_v15 (F := Ideal) (A1 m c) (A2 m c) (A4 m c) (A5 m c) (ix2 r q) := by
  have eg := g_at m c t p q r hr
  have em := v_at m c t p q r hr
  rw [val_main_v15_apply, val_main_v11_apply, val_main_v14_apply, val_main_v12_apply, ← eg, ← em]
  rfl

/-- The step itself, one entry. -/
theorem step_at : k0_pay4 (grid0.coords t) (word m) (iblk m (ok m) c 1 t) (iblk m (ok m) c 2 t) (iblk m (ok m) c 0 t) (iblk m (ok m) c 3 t) (iblk m (ok m) c 4 t) (ix2 p q)
    = val_main_v28 (F := Ideal) (A0 m c) (A1 m c) (A2 m c) (A3 m c) (A4 m c) (A5 m c) (ix2 r q) := by
  have em := mean_at m c t p q r hr
  have ev := square_at m c t p q r hr
  have ew := w_at m c t p q r hr
  rw [val_main_v28_apply, val_main_v26_apply, val_main_v23_apply, val_main_v17_apply, val_main_v22_apply, val_main_v20_apply,
    val_main_v19_apply, val_main_v25_apply, ← em, ← ev, ← ew]
  rfl

omit hr

theorem emb_5 (t : Fin (cfgM m (ok m)).N) (y : S256x1536.Idx) (hb : t.val * 256 + (y 0).val < 1024) :
    ((((cfgM m (ok m)).win 5).blk t).view.emb y : S1024x1536.Idx) = ix2 (⟨t.val * 256 + (y 0).val, hb⟩ : Fin 1024) (y 1) := funext fun a => by
  fin_cases a
  · refine Fin.ext ?_
    blk_simp [idx_val _ t]
    rfl
  · refine Fin.ext ?_
    blk_simp [idx_val _ t]
    rfl

theorem grad : (dats m (ok m) 0 c).arrAt 5 (cfgM m (ok m)).N = val_main_v4 (F := Ideal) (A1 m c) (A2 m c) (A5 m c) := by
  refine (dats m (ok m) 0 c).arrAt_eq_of_emb 5 _ (fun t _ (y : S256x1536.Idx) => ?_) fun (i : S1024x1536.Idx) => ?_
  · have hb : t.val * 256 + (y 0).val < 1024 := by
      have : t.val < 4 := t.isLt
      have : (y 0).val < 256 := (y 0).isLt
      omega
    have he := emb_5 m t y hb
    blk_simp
    rw [point_g]
    refine (congrArg _ (show (y : S256x1536.Idx) = ix2 (y 0) (y 1) from funext fun a => by fin_cases a <;> rfl)).trans ?_
    exact (g_at m c t (y 0) (y 1) _ rfl).trans (congrArg _ he.symm)
  · have hi : (i 0).val < 1024 := (i 0).isLt
    have hN : (cfgM m (ok m)).N = 4 := rfl
    obtain ⟨t, ht⟩ : ∃ t : Fin (cfgM m (ok m)).N, t.val = (i 0).val / 256 := ⟨⟨(i 0).val / 256, by omega⟩, rfl⟩
    obtain ⟨y, hy0, hy1⟩ : ∃ y : S256x1536.Idx, (y 0).val = (i 0).val % 256 ∧ y 1 = i 1 :=
      ⟨ix2 (⟨(i 0).val % 256, Nat.mod_lt _ (by decide)⟩ : Fin 256) (i 1 : Fin 1536), rfl, rfl⟩
    have hb : t.val * 256 + (y 0).val < 1024 := by omega
    have hx : ix2 (⟨t.val * 256 + (y 0).val, hb⟩ : Fin 1024) (y 1) = i := funext fun a => by
      fin_cases a
      · exact Fin.ext (show t.val * 256 + (y 0).val = (i 0).val by omega)
      · exact hy1
    exact ⟨t, flush0_5 _ t, mem_of _ y i ((emb_5 m t y hb).trans hx)⟩

theorem emb_6 (t : Fin (cfgM m (ok m)).N) (y : S256x1536.Idx) (hb : t.val * 256 + (y 0).val < 1024) :
    ((((cfgM m (ok m)).win 6).blk t).view.emb y : S1024x1536.Idx) = ix2 (⟨t.val * 256 + (y 0).val, hb⟩ : Fin 1024) (y 1) := funext fun a => by
  fin_cases a
  · refine Fin.ext ?_
    blk_simp [idx_val _ t]
    rfl
  · refine Fin.ext ?_
    blk_simp [idx_val _ t]
    rfl

theorem step : (dats m (ok m) 0 c).arrAt 6 (cfgM m (ok m)).N = val_main_v28 (F := Ideal) (A0 m c) (A1 m c) (A2 m c) (A3 m c) (A4 m c) (A5 m c) := by
  refine (dats m (ok m) 0 c).arrAt_eq_of_emb 6 _ (fun t _ (y : S256x1536.Idx) => ?_) fun (i : S1024x1536.Idx) => ?_
  · have hb : t.val * 256 + (y 0).val < 1024 := by
      have : t.val < 4 := t.isLt
      have : (y 0).val < 256 := (y 0).isLt
      omega
    have he := emb_6 m t y hb
    blk_simp
    rw [point_d]
    refine (congrArg _ (show (y : S256x1536.Idx) = ix2 (y 0) (y 1) from funext fun a => by fin_cases a <;> rfl)).trans ?_
    exact (step_at m c t (y 0) (y 1) _ rfl).trans (congrArg _ he.symm)
  · have hi : (i 0).val < 1024 := (i 0).isLt
    have hN : (cfgM m (ok m)).N = 4 := rfl
    obtain ⟨t, ht⟩ : ∃ t : Fin (cfgM m (ok m)).N, t.val = (i 0).val / 256 := ⟨⟨(i 0).val / 256, by omega⟩, rfl⟩
    obtain ⟨y, hy0, hy1⟩ : ∃ y : S256x1536.Idx, (y 0).val = (i 0).val % 256 ∧ y 1 = i 1 :=
      ⟨ix2 (⟨(i 0).val % 256, Nat.mod_lt _ (by decide)⟩ : Fin 256) (i 1 : Fin 1536), rfl, rfl⟩
    have hb : t.val * 256 + (y 0).val < 1024 := by omega
    have hx : ix2 (⟨t.val * 256 + (y 0).val, hb⟩ : Fin 1024) (y 1) = i := funext fun a => by
      fin_cases a
      · exact Fin.ext (show t.val * 256 + (y 0).val = (i 0).val by omega)
      · exact hy1
    exact ⟨t, flush0_6 _ t, mem_of _ y i ((emb_6 m t y hb).trans hx)⟩

theorem emb_7 (t : Fin (cfgM m (ok m)).N) (y : S256x1536.Idx) (hb : t.val * 256 + (y 0).val < 1024) :
    ((((cfgM m (ok m)).win 7).blk t).view.emb y : S1024x1536.Idx) = ix2 (⟨t.val * 256 + (y 0).val, hb⟩ : Fin 1024) (y 1) := funext fun a => by
  fin_cases a
  · refine Fin.ext ?_
    blk_simp [idx_val _ t]
    rfl
  · refine Fin.ext ?_
    blk_simp [idx_val _ t]
    rfl

theorem mean : (dats m (ok m) 0 c).arrAt 7 (cfgM m (ok m)).N = val_main_v9 (F := Ideal) (A1 m c) (A2 m c) (A3 m c) (A5 m c) := by
  refine (dats m (ok m) 0 c).arrAt_eq_of_emb 7 _ (fun t _ (y : S256x1536.Idx) => ?_) fun (i : S1024x1536.Idx) => ?_
  · have hb : t.val * 256 + (y 0).val < 1024 := by
      have : t.val < 4 := t.isLt
      have : (y 0).val < 256 := (y 0).isLt
      omega
    have he := emb_7 m t y hb
    blk_simp
    rw [point_m]
    refine (congrArg _ (show (y : S256x1536.Idx) = ix2 (y 0) (y 1) from funext fun a => by fin_cases a <;> rfl)).trans ?_
    exact (mean_at m c t (y 0) (y 1) _ rfl).trans (congrArg _ he.symm)
  · have hi : (i 0).val < 1024 := (i 0).isLt
    have hN : (cfgM m (ok m)).N = 4 := rfl
    obtain ⟨t, ht⟩ : ∃ t : Fin (cfgM m (ok m)).N, t.val = (i 0).val / 256 := ⟨⟨(i 0).val / 256, by omega⟩, rfl⟩
    obtain ⟨y, hy0, hy1⟩ : ∃ y : S256x1536.Idx, (y 0).val = (i 0).val % 256 ∧ y 1 = i 1 :=
      ⟨ix2 (⟨(i 0).val % 256, Nat.mod_lt _ (by decide)⟩ : Fin 256) (i 1 : Fin 1536), rfl, rfl⟩
    have hb : t.val * 256 + (y 0).val < 1024 := by omega
    have hx : ix2 (⟨t.val * 256 + (y 0).val, hb⟩ : Fin 1024) (y 1) = i := funext fun a => by
      fin_cases a
      · exact Fin.ext (show t.val * 256 + (y 0).val = (i 0).val by omega)
      · exact hy1
    exact ⟨t, flush0_7 _ t, mem_of _ y i ((emb_7 m t y hb).trans hx)⟩

theorem emb_8 (t : Fin (cfgM m (ok m)).N) (y : S256x1536.Idx) (hb : t.val * 256 + (y 0).val < 1024) :
    ((((cfgM m (ok m)).win 8).blk t).view.emb y : S1024x1536.Idx) = ix2 (⟨t.val * 256 + (y 0).val, hb⟩ : Fin 1024) (y 1) := funext fun a => by
  fin_cases a
  · refine Fin.ext ?_
    blk_simp [idx_val _ t]
    rfl
  · refine Fin.ext ?_
    blk_simp [idx_val _ t]
    rfl

theorem square : (dats m (ok m) 0 c).arrAt 8 (cfgM m (ok m)).N = val_main_v15 (F := Ideal) (A1 m c) (A2 m c) (A4 m c) (A5 m c) := by
  refine (dats m (ok m) 0 c).arrAt_eq_of_emb 8 _ (fun t _ (y : S256x1536.Idx) => ?_) fun (i : S1024x1536.Idx) => ?_
  · have hb : t.val * 256 + (y 0).val < 1024 := by
      have : t.val < 4 := t.isLt
      have : (y 0).val < 256 := (y 0).isLt
      omega
    have he := emb_8 m t y hb
    blk_simp
    rw [point_v]
    refine (congrArg _ (show (y : S256x1536.Idx) = ix2 (y 0) (y 1) from funext fun a => by fin_cases a <;> rfl)).trans ?_
    exact (square_at m c t (y 0) (y 1) _ rfl).trans (congrArg _ he.symm)
  · have hi : (i 0).val < 1024 := (i 0).isLt
    have hN : (cfgM m (ok m)).N = 4 := rfl
    obtain ⟨t, ht⟩ : ∃ t : Fin (cfgM m (ok m)).N, t.val = (i 0).val / 256 := ⟨⟨(i 0).val / 256, by omega⟩, rfl⟩
    obtain ⟨y, hy0, hy1⟩ : ∃ y : S256x1536.Idx, (y 0).val = (i 0).val % 256 ∧ y 1 = i 1 :=
      ⟨ix2 (⟨(i 0).val % 256, Nat.mod_lt _ (by decide)⟩ : Fin 256) (i 1 : Fin 1536), rfl, rfl⟩
    have hb : t.val * 256 + (y 0).val < 1024 := by omega
    have hx : ix2 (⟨t.val * 256 + (y 0).val, hb⟩ : Fin 1024) (y 1) = i := funext fun a => by
      fin_cases a
      · exact Fin.ext (show t.val * 256 + (y 0).val = (i 0).val by omega)
      · exact hy1
    exact ⟨t, flush0_8 _ t, mem_of _ y i ((emb_8 m t y hb).trans hx)⟩

end Cert.Kernel12Ideal.Step
end
-- ==== Proof.StepEquation.lean ====
module

public import proofs.«01_k».proof.Defs
public import proofs.«01_k».proof.Proof.Step
public import proofs.«01_k».proof.Proof.Gen.Kernel12.Frame
public import proofs.«01_k».proof.Proof.Gen.Kernel12Ideal.Frame
public import proofs.«01_k».proof.Proof.Gen.Reference12Ideal.Run

@[expose] public section
set_option maxRecDepth 16384
noncomputable section

namespace Cert.Step

open Idealize.ShloMosaic Idealize.SL.Sem

/-- The call's run at the words: it ends, with its arguments unchanged and every counter at zero. -/
theorem frame_kernel : Cert.quiescent_Kernel12 := fun m ρ _ => Cert.Kernel12.Gen.frame m ρ trivial

/-- The same over the reals. -/
theorem frame_ideal : Cert.quiescent_Kernel12Ideal := fun m ρ _ => Cert.Kernel12Ideal.Gen.frame m ρ trivial

/-- The reference's run ends with its arguments unchanged and every counter at zero. -/
theorem frame_reference : Cert.quiescent_Reference12Ideal := by
  intro m ρ _
  exact (θ_run Cert.Reference12Ideal.defs _ _).mono (fun r h => ⟨fun c => (h c).2.2.2.2,
      Idealize.ShloMosaic.sem_eq_zero_of_no_sems (by decide) r.2⟩)
    (Cert.Reference12Ideal.Value.run (F := Ideal) m ρ)

open Cert.Kernel12Ideal.Step Cert.Reference12Ideal.Read in
/-- The optimiser's step, over the reals: kernel and reference leave the same gradient, step and running means. -/
theorem algebraic : Cert.algebraic_Kernel12Ideal_Reference12Ideal := by
  intro m g m' g' _ hagree
  refine ⟨fun c => val_main_v4 (F := Ideal) (A1 m c) (A2 m c) (A5 m c),
    fun c => val_main_v28 (F := Ideal) (A0 m c) (A1 m c) (A2 m c) (A3 m c) (A4 m c) (A5 m c),
    fun c => val_main_v9 (F := Ideal) (A1 m c) (A2 m c) (A3 m c) (A5 m c),
    fun c => val_main_v15 (F := Ideal) (A1 m c) (A2 m c) (A4 m c) (A5 m c), ?_, ?_⟩
  · refine (θ_run Cert.Kernel12Ideal.defs _ _).mono (fun r h c => ?_)
      (θ_run_and (Cert.Kernel12Ideal.Gen.run_main m g (ok m)) (Cert.Kernel12Ideal.Gen.unchanged m g (ok m)))
    obtain ⟨hv, hk⟩ := h
    exact ⟨((hv c).1 5).trans (grad m c), ((hv c).1 6).trans (step m c), ((hv c).1 7).trans (mean m c),
      ((hv c).1 8).trans (square m c), hk c⟩
  · refine (θ_run Cert.Reference12Ideal.defs _ _).mono (fun r h c => ?_) (Cert.Reference12Ideal.Value.run (F := Ideal) m' g')
    obtain ⟨h0, h1, h2, h3, hk⟩ := h c
    obtain ⟨e0, e1, e2, e3, e4, e5⟩ := hagree c
    have f0 := h0.trans (val_main_v4_eq (F := Ideal) _ _ _)
    rw [e1, e2, e5] at f0
    have f1 := h1.trans (val_main_v28_eq (F := Ideal) _ _ _ _ _ _)
    rw [e0, e1, e2, e3, e4, e5] at f1
    have f2 := h2.trans (val_main_v9_eq (F := Ideal) _ _ _ _)
    rw [e1, e2, e3, e5] at f2
    have f3 := h3.trans (val_main_v15_eq (F := Ideal) _ _ _ _)
    rw [e1, e2, e4, e5] at f3
    exact ⟨f0, f1, f2, f3, hk⟩

end Cert.Step
end
-- ==== Proof.Chips.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Claim

@[expose] public section
set_option maxRecDepth 16384
noncomputable section

/-! The sum of four chips' parts of a gradient: the kernel adds them one by one, the reference in one sum. -/
namespace Cert.Kernel13Ideal.Chips

open Cert.Kernel13Ideal Cert.Kernel13Ideal.Gen Idealize.ShloMosaic Idealize.ShloMosaic.TcCoe Idealize.SL.Sem
open Cert.Reference13Ideal.Read
variable (m : (ℓ : Loc nD τ sig) → Buf (Elt Ideal) ℓ) (c : Dev nD) (t : Fin cfg0.N)

theorem idx_val : ∀ t : Fin cfg0.N, win0_0.index t = ![0, 0, 0] ∧ win0_1.index t = ![0, 0, 0]
    ∧ win0_2.index t = ![0, 0] ∧ win0_3.index t = ![0, 0] := (by decide +kernel : ∀ t : Fin grid0.N, _)

abbrev A0 : FVec Ideal S4x512x1408 .f32 := m ((c : Thread nD τ).loc main_arg0)
abbrev A1 : FVec Ideal S4x352x1024 .f32 := m ((c : Thread nD τ).loc main_arg1)

theorem first_at (p : Fin 512) (q : Fin 1408) : (dats m 0 c).after 2 t (ix2 p q) = val_main_v0 (F := Ideal) (A0 m c) (ix2 p q) := by
  have h0 : ∀ s : Fin 4, iblk m c 0 t (ix3 s p q) = A0 m c (ix3 s p q) := fun s => by blk_point [iblk, V, idx_val t]
  rw [after0_2]
  frame_out
  pointwise [k0_pay1, val_main_v0, val_main_cst]
  rw [Fin.sum_univ_four, h0, h0, h0, h0]

theorem second_at (p : Fin 352) (q : Fin 1024) : (dats m 0 c).after 3 t (ix2 p q) = val_main_v1 (F := Ideal) (A1 m c) (ix2 p q) := by
  have h0 : ∀ s : Fin 4, iblk m c 1 t (ix3 s p q) = A1 m c (ix3 s p q) := fun s => by blk_point [iblk, V, idx_val t]
  rw [after0_3]
  frame_out
  pointwise [k0_pay2, val_main_v1, val_main_cst_0]
  rw [Fin.sum_univ_four, h0, h0, h0, h0]

theorem first : (dats m 0 c).arrAt 2 cfg0.N = val_main_v0 (F := Ideal) (A0 m c) := by
  refine (dats m 0 c).arrAt_eq_of_covers 2 _ (by decide +kernel) fun t _ y => ?_
  have h0 : ((((cfg0.win 2).blk t).view.emb y) 0 : ℕ) = (y 0).val := by blk_simp [idx_val t]
  have h1 : ((((cfg0.win 2).blk t).view.emb y) 1 : ℕ) = (y 1).val := by blk_simp [idx_val t]
  blk_simp
  rw [show ((cfg0.win 2).blk t).view.emb y = ix2 (y 0) (y 1) from funext fun a => by
      fin_cases a
      · exact Fin.ext h0
      · exact Fin.ext h1,
    show (y : S512x1408.Idx) = ix2 (y 0) (y 1) from funext fun a => by fin_cases a <;> rfl]
  exact first_at m c t (y 0) (y 1)

theorem second : (dats m 0 c).arrAt 3 cfg0.N = val_main_v1 (F := Ideal) (A1 m c) := by
  refine (dats m 0 c).arrAt_eq_of_covers 3 _ (by decide +kernel) fun t _ y => ?_
  have h0 : ((((cfg0.win 3).blk t).view.emb y) 0 : ℕ) = (y 0).val := by blk_simp [idx_val t]
  have h1 : ((((cfg0.win 3).blk t).view.emb y) 1 : ℕ) = (y 1).val := by blk_simp [idx_val t]
  blk_simp
  rw [show ((cfg0.win 3).blk t).view.emb y = ix2 (y 0) (y 1) from funext fun a => by
      fin_cases a
      · exact Fin.ext h0
      · exact Fin.ext h1,
    show (y : S352x1024.Idx) = ix2 (y 0) (y 1) from funext fun a => by fin_cases a <;> rfl]
  exact second_at m c t (y 0) (y 1)

end Cert.Kernel13Ideal.Chips
end
-- ==== Proof.ChipsEquation.lean ====
module

public import proofs.«01_k».proof.Defs
public import proofs.«01_k».proof.Proof.Chips
public import proofs.«01_k».proof.Proof.Gen.Kernel13Ideal.Value
public import proofs.«01_k».proof.Proof.Gen.Reference13Ideal.Run

@[expose] public section
set_option maxRecDepth 16384
noncomputable section

namespace Cert.Chips

open Idealize.ShloMosaic Idealize.SL.Sem

/-- The reference's run ends with its arguments unchanged and every counter at zero. -/
theorem frame_reference : Cert.quiescent_Reference13Ideal := by
  intro m ρ _
  exact (θ_run Cert.Reference13Ideal.defs _ _).mono (fun r h => ⟨fun c => (h c).2.2,
      Idealize.ShloMosaic.sem_eq_zero_of_no_sems (by decide) r.2⟩)
    (Cert.Reference13Ideal.Value.run (F := Ideal) m ρ)

/-- The sum over the chips, over the reals: kernel and reference leave the same arrays. -/
theorem algebraic : Cert.algebraic_Kernel13Ideal_Reference13Ideal := by
  intro m g m' g' _ hagree
  refine ⟨fun c => Cert.Reference13Ideal.Read.val_main_v0 (F := Ideal) (Cert.Kernel13Ideal.Chips.A0 m c),
    fun c => Cert.Reference13Ideal.Read.val_main_v1 (F := Ideal) (Cert.Kernel13Ideal.Chips.A1 m c), ?_, ?_⟩
  · refine (θ_run Cert.Kernel13Ideal.defs _ _).mono (fun r h c => ?_) (Cert.Kernel13Ideal.Value.run_blocks (F := Ideal) m g)
    obtain ⟨h0, h1, hk⟩ := h c
    exact ⟨h0.trans (Cert.Kernel13Ideal.Chips.first m c), h1.trans (Cert.Kernel13Ideal.Chips.second m c), hk⟩
  · refine (θ_run Cert.Reference13Ideal.defs _ _).mono (fun r h c => ?_) (Cert.Reference13Ideal.Value.run (F := Ideal) m' g')
    obtain ⟨h0, h1, hk⟩ := h c
    obtain ⟨e0, e1⟩ := hagree c
    have f0 := h0.trans (Cert.Reference13Ideal.Read.val_main_v0_eq (F := Ideal) _)
    rw [e0] at f0
    have f1 := h1.trans (Cert.Reference13Ideal.Read.val_main_v1_eq (F := Ideal) _)
    rw [e1] at f1
    exact ⟨f0, f1, hk⟩

end Cert.Chips
end
-- ==== Proof.PackRows.lean ====
module

public import proofs.«01_k».proof.Proof.Gen.Reference14Ideal.Read
public import Idealize.ShloMosaic.Lib.Pipeline.Value
public import Idealize.ShloMosaic.Lib.Pipeline.ValueKit
public import Idealize.ShloMosaic.Lib.Claim

@[expose] public section
set_option maxRecDepth 16384
noncomputable section

/-! The rows of the reference's packed gradients, one by one. -/
namespace Cert.Reference14Ideal.Rows

open Cert.Reference14Ideal Idealize.ShloMosaic Idealize.ShloMosaic.TcCoe Idealize.SL.Sem
open Cert.Reference14Ideal.Read

/-- What a list of arrays laid end to end holds at the place `c` of the axis. -/
def At {α : Type} (t : Shape) (a : Fin t.rank) (j : t.Idx) (xs : List ((s : Shape) × (s.Idx → α))) (c : ℕ) (v : α) : Prop :=
  ∀ hs hc, concatenateAt t a j xs hs c hc = v

theorem At.skip {α : Type} {t : Shape} {a : Fin t.rank} {j : t.Idx} {p q : (s : Shape) × (s.Idx → α)} {xs : List ((s : Shape) × (s.Idx → α))}
    {n c d : ℕ} {v : α} (hn : ∀ hp : p.1.rank = t.rank, p.1.size (a.cast hp.symm) = n) (e : d = n + c) (h : At t a j (q :: xs) c v) :
    At t a j (p :: q :: xs) d v := by
  intro hs hc
  have hp := hn (hs p.1 List.mem_cons_self).rank_eq
  obtain rfl : c = d - p.1.size (a.cast (hs p.1 List.mem_cons_self).rank_eq.symm) := by omega
  rw [concatenateAt, dif_neg (by omega)]
  exact h _ _

theorem At.here {α : Type} {t : Shape} {a : Fin t.rank} {j : t.Idx} {p : (s : Shape) × (s.Idx → α)} {xs : List ((s : Shape) × (s.Idx → α))}
    {c : ℕ} (i : p.1.Idx) (hi : ∀ hp : p.1.rank = t.rank, ∀ b, (i b).val = if b.val = a.val then c else (j (b.cast hp)).val) :
    At t a j (p :: xs) c (p.2 i) := by
  intro hs hc
  have hr := (hs p.1 List.mem_cons_self).rank_eq
  have hlt : c < p.1.size (a.cast hr.symm) := by
    have h := (hi hr (a.cast hr.symm)).trans (if_pos rfl)
    exact h ▸ (i _).isLt
  cases xs with
  | nil =>
    rw [concatenateAt, Shape.Idx.norm_def]
    exact congrArg p.2 (funext fun b => Fin.ext (hi hr b).symm)
  | cons q xs =>
    rw [concatenateAt, dif_pos hlt, Shape.Idx.norm_def]
    exact congrArg p.2 (funext fun b => Fin.ext (hi hr b).symm)

theorem At.read {α : Type} {t : Shape} {a : Fin t.rank} {j : t.Idx} {xs : List ((s : Shape) × (s.Idx → α))} {v : α}
    (h : Shape.Concatenates (xs.map (·.1)) t a) (H : At t a j xs (j a).val v) : concatenate t a xs h j = v :=
  (concatenate_apply t a xs h j).trans (H _ _)

section
variable (x0 x1 x2 : FVec Ideal S1x1024 .f32) (x3 : FVec Ideal S1x6144 .f32) (x4 x5 x6 x7 x8 x9 x10 x11 x12 x13 : FVec Ideal S1x1024 .f32)
  (x14 : FVec Ideal S16x1024 .f32) (x15 : FVec Ideal S4x1024 .f32) (x16 : FVec Ideal S31x1024 .f32)

theorem ref_0 (i : Fin 1) (q : Fin 1024) (r : Fin 88) (h : r.val = 0 + i.val) : val_main_v7 (F := Ideal) x0 x1 x2 x3 x4 x5 x6 x7 x8 x9 x10 x11 x12 x13 x14 x15 x16 (ix2 r q) = (x1 : FVec Ideal S1x1024 .f32) (ix2 i q) := by
  have e : val_main_v5 (F := Ideal) x1 x2 x3 x4 x5 x6 x7 x8 x9 x10 x11 x12 x13 x14 x15 (ix2 (⟨0 + i.val, by omega⟩ : Fin 44) q) = (x1 : FVec Ideal S1x1024 .f32) (ix2 i q) := by
    refine At.read _ (show At _ _ _ _ (0 + i.val) _ from ?_)
    exact At.here (p := ⟨S1x1024, x1⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨0 + i.val, by omega⟩ : Fin 44) q) (fun _ b => by fin_cases b <;> simp [h])

theorem ref_1 (i : Fin 1) (q : Fin 1024) (r : Fin 88) (h : r.val = 1 + i.val) : val_main_v7 (F := Ideal) x0 x1 x2 x3 x4 x5 x6 x7 x8 x9 x10 x11 x12 x13 x14 x15 x16 (ix2 r q) = (x2 : FVec Ideal S1x1024 .f32) (ix2 i q) := by
  have e : val_main_v5 (F := Ideal) x1 x2 x3 x4 x5 x6 x7 x8 x9 x10 x11 x12 x13 x14 x15 (ix2 (⟨1 + i.val, by omega⟩ : Fin 44) q) = (x2 : FVec Ideal S1x1024 .f32) (ix2 i q) := by
    refine At.read _ (show At _ _ _ _ (1 + i.val) _ from ?_)
    refine At.skip (n := 1) (c := 0 + i.val) (fun _ => rfl) (by omega) ?_
    exact At.here (p := ⟨S1x1024, x2⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨1 + i.val, by omega⟩ : Fin 44) q) (fun _ b => by fin_cases b <;> simp [h])

theorem ref_2 (i : Fin 6) (q : Fin 1024) (r : Fin 88) (h : r.val = 2 + i.val) : val_main_v7 (F := Ideal) x0 x1 x2 x3 x4 x5 x6 x7 x8 x9 x10 x11 x12 x13 x14 x15 x16 (ix2 r q) = (val_main_v0 (F := Ideal) x3 : FVec Ideal S6x1024 .f32) (ix2 i q) := by
  have e : val_main_v5 (F := Ideal) x1 x2 x3 x4 x5 x6 x7 x8 x9 x10 x11 x12 x13 x14 x15 (ix2 (⟨2 + i.val, by omega⟩ : Fin 44) q) = (val_main_v0 (F := Ideal) x3 : FVec Ideal S6x1024 .f32) (ix2 i q) := by
    refine At.read _ (show At _ _ _ _ (2 + i.val) _ from ?_)
    refine At.skip (n := 1) (c := 1 + i.val) (fun _ => rfl) (by omega) ?_
    refine At.skip (n := 1) (c := 0 + i.val) (fun _ => rfl) (by omega) ?_
    exact At.here (p := ⟨S6x1024, val_main_v0 (F := Ideal) x3⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨2 + i.val, by omega⟩ : Fin 44) q) (fun _ b => by fin_cases b <;> simp [h])

theorem ref_8 (i : Fin 1) (q : Fin 1024) (r : Fin 88) (h : r.val = 8 + i.val) : val_main_v7 (F := Ideal) x0 x1 x2 x3 x4 x5 x6 x7 x8 x9 x10 x11 x12 x13 x14 x15 x16 (ix2 r q) = (x4 : FVec Ideal S1x1024 .f32) (ix2 i q) := by
  have e : val_main_v5 (F := Ideal) x1 x2 x3 x4 x5 x6 x7 x8 x9 x10 x11 x12 x13 x14 x15 (ix2 (⟨8 + i.val, by omega⟩ : Fin 44) q) = (x4 : FVec Ideal S1x1024 .f32) (ix2 i q) := by
    refine At.read _ (show At _ _ _ _ (8 + i.val) _ from ?_)
    refine At.skip (n := 1) (c := 7 + i.val) (fun _ => rfl) (by omega) ?_
    refine At.skip (n := 1) (c := 6 + i.val) (fun _ => rfl) (by omega) ?_
    refine At.skip (n := 6) (c := 0 + i.val) (fun _ => rfl) (by omega) ?_
    exact At.here (p := ⟨S1x1024, x4⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨8 + i.val, by omega⟩ : Fin 44) q) (fun _ b => by fin_cases b <;> simp [h])

theorem ref_9 (i : Fin 1) (q : Fin 1024) (r : Fin 88) (h : r.val = 9 + i.val) : val_main_v7 (F := Ideal) x0 x1 x2 x3 x4 x5 x6 x7 x8 x9 x10 x11 x12 x13 x14 x15 x16 (ix2 r q) = (x5 : FVec Ideal S1x1024 .f32) (ix2 i q) := by
  have e : val_main_v5 (F := Ideal) x1 x2 x3 x4 x5 x6 x7 x8 x9 x10 x11 x12 x13 x14 x15 (ix2 (⟨9 + i.val, by omega⟩ : Fin 44) q) = (x5 : FVec Ideal S1x1024 .f32) (ix2 i q) := by
    refine At.read _ (show At _ _ _ _ (9 + i.val) _ from ?_)
    refine At.skip (n := 1) (c := 8 + i.val) (fun _ => rfl) (by omega) ?_
    refine At.skip (n := 1) (c := 7 + i.val) (fun _ => rfl) (by omega) ?_
    refine At.skip (n := 6) (c := 1 + i.val) (fun _ => rfl) (by omega) ?_
    refine At.skip (n := 1) (c := 0 + i.val) (fun _ => rfl) (by omega) ?_
    exact At.here (p := ⟨S1x1024, x5⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨9 + i.val, by omega⟩ : Fin 44) q) (fun _ b => by fin_cases b <;> simp [h])

theorem ref_10 (i : Fin 1) (q : Fin 1024) (r : Fin 88) (h : r.val = 10 + i.val) : val_main_v7 (F := Ideal) x0 x1 x2 x3 x4 x5 x6 x7 x8 x9 x10 x11 x12 x13 x14 x15 x16 (ix2 r q) = (x6 : FVec Ideal S1x1024 .f32) (ix2 i q) := by
  have e : val_main_v5 (F := Ideal) x1 x2 x3 x4 x5 x6 x7 x8 x9 x10 x11 x12 x13 x14 x15 (ix2 (⟨10 + i.val, by omega⟩ : Fin 44) q) = (x6 : FVec Ideal S1x1024 .f32) (ix2 i q) := by
    refine At.read _ (show At _ _ _ _ (10 + i.val) _ from ?_)
    refine At.skip (n := 1) (c := 9 + i.val) (fun _ => rfl) (by omega) ?_
    refine At.skip (n := 1) (c := 8 + i.val) (fun _ => rfl) (by omega) ?_
    refine At.skip (n := 6) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x6⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨10 + i.val, by omega⟩ : Fin 44) q) (fun _ b => by fin_cases b <;> simp [h])

theorem ref_11 (i : Fin 1) (q : Fin 1024) (r : Fin 88) (h : r.val = 11 + i.val) : val_main_v7 (F := Ideal) x0 x1 x2 x3 x4 x5 x6 x7 x8 x9 x10 x11 x12 x13 x14 x15 x16 (ix2 r q) = (x7 : FVec Ideal S1x1024 .f32) (ix2 i q) := by
  have e : val_main_v5 (F := Ideal) x1 x2 x3 x4 x5 x6 x7 x8 x9 x10 x11 x12 x13 x14 x15 (ix2 (⟨11 + i.val, by omega⟩ : Fin 44) q) = (x7 : FVec Ideal S1x1024 .f32) (ix2 i q) := by
    refine At.read _ (show At _ _ _ _ (11 + i.val) _ from ?_)
    refine At.skip (n := 1) (c := 10 + i.val) (fun _ => rfl) (by omega) ?_
    refine At.skip (n := 1) (c := 9 + i.val) (fun _ => rfl) (by omega) ?_
    refine At.skip (n := 6) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x7⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨11 + i.val, by omega⟩ : Fin 44) q) (fun _ b => by fin_cases b <;> simp [h])

theorem ref_12 (i : Fin 1) (q : Fin 1024) (r : Fin 88) (h : r.val = 12 + i.val) : val_main_v7 (F := Ideal) x0 x1 x2 x3 x4 x5 x6 x7 x8 x9 x10 x11 x12 x13 x14 x15 x16 (ix2 r q) = (x8 : FVec Ideal S1x1024 .f32) (ix2 i q) := by
  have e : val_main_v5 (F := Ideal) x1 x2 x3 x4 x5 x6 x7 x8 x9 x10 x11 x12 x13 x14 x15 (ix2 (⟨12 + i.val, by omega⟩ : Fin 44) q) = (x8 : FVec Ideal S1x1024 .f32) (ix2 i q) := by
    refine At.read _ (show At _ _ _ _ (12 + i.val) _ from ?_)
    refine At.skip (n := 1) (c := 11 + i.val) (fun _ => rfl) (by omega) ?_
    refine At.skip (n := 1) (c := 10 + i.val) (fun _ => rfl) (by omega) ?_
    refine At.skip (n := 6) (c := 4 + i.val) (fun _ => rfl) (by omega) ?_
    refine At.skip (n := 1) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x8⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨12 + i.val, by omega⟩ : Fin 44) q) (fun _ b => by fin_cases b <;> simp [h])

theorem ref_13 (i : Fin 1) (q : Fin 1024) (r : Fin 88) (h : r.val = 13 + i.val) : val_main_v7 (F := Ideal) x0 x1 x2 x3 x4 x5 x6 x7 x8 x9 x10 x11 x12 x13 x14 x15 x16 (ix2 r q) = (x9 : FVec Ideal S1x1024 .f32) (ix2 i q) := by
  have e : val_main_v5 (F := Ideal) x1 x2 x3 x4 x5 x6 x7 x8 x9 x10 x11 x12 x13 x14 x15 (ix2 (⟨13 + i.val, by omega⟩ : Fin 44) q) = (x9 : FVec Ideal S1x1024 .f32) (ix2 i q) := by
    refine At.read _ (show At _ _ _ _ (13 + i.val) _ from ?_)
    refine At.skip (n := 1) (c := 12 + i.val) (fun _ => rfl) (by omega) ?_
    refine At.skip (n := 1) (c := 11 + i.val) (fun _ => rfl) (by omega) ?_
    refine At.skip (n := 6) (c := 5 + i.val) (fun _ => rfl) (by omega) ?_
    refine At.skip (n := 1) (c := 4 + i.val) (fun _ => rfl) (by omega) ?_
    refine At.skip (n := 1) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x9⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨13 + i.val, by omega⟩ : Fin 44) q) (fun _ b => by fin_cases b <;> simp [h])

theorem ref_14 (i : Fin 1) (q : Fin 1024) (r : Fin 88) (h : r.val = 14 + i.val) : val_main_v7 (F := Ideal) x0 x1 x2 x3 x4 x5 x6 x7 x8 x9 x10 x11 x12 x13 x14 x15 x16 (ix2 r q) = (x10 : FVec Ideal S1x1024 .f32) (ix2 i q) := by
  have e : val_main_v5 (F := Ideal) x1 x2 x3 x4 x5 x6 x7 x8 x9 x10 x11 x12 x13 x14 x15 (ix2 (⟨14 + i.val, by omega⟩ : Fin 44) q) = (x10 : FVec Ideal S1x1024 .f32) (ix2 i q) := by
    refine At.read _ (show At _ _ _ _ (14 + i.val) _ from ?_)
    refine At.skip (n := 1) (c := 13 + i.val) (fun _ => rfl) (by omega) ?_
    refine At.skip (n := 1) (c := 12 + i.val) (fun _ => rfl) (by omega) ?_
    refine At.skip (n := 6) (c := 6 + i.val) (fun _ => rfl) (by omega) ?_
    refine At.skip (n := 1) (c := 5 + i.val) (fun _ => rfl) (by omega) ?_
    refine At.skip (n := 1) (c := 4 + i.val) (fun _ => rfl) (by omega) ?_
    refine At.skip (n := 1) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x10⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨14 + i.val, by omega⟩ : Fin 44) q) (fun _ b => by fin_cases b <;> simp [h])

theorem ref_15 (i : Fin 1) (q : Fin 1024) (r : Fin 88) (h : r.val = 15 + i.val) : val_main_v7 (F := Ideal) x0 x1 x2 x3 x4 x5 x6 x7 x8 x9 x10 x11 x12 x13 x14 x15 x16 (ix2 r q) = (x11 : FVec Ideal S1x1024 .f32) (ix2 i q) := by
  have e : val_main_v5 (F := Ideal) x1 x2 x3 x4 x5 x6 x7 x8 x9 x10 x11 x12 x13 x14 x15 (ix2 (⟨15 + i.val, by omega⟩ : Fin 44) q) = (x11 : FVec Ideal S1x1024 .f32) (ix2 i q) := by
    refine At.read _ (show At _ _ _ _ (15 + i.val) _ from ?_)
    refine At.skip (n := 1) (c := 14 + i.val) (fun _ => rfl) (by omega) ?_
    refine At.skip (n := 1) (c := 13 + i.val) (fun _ => rfl) (by omega) ?_
    refine At.skip (n := 6) (c := 7 + i.val) (fun _ => rfl) (by omega) ?_
    refine At.skip (n := 1) (c := 6 + i.val) (fun _ => rfl) (by omega) ?_
    refine At.skip (n := 1) (c := 5 + i.val) (fun _ => rfl) (by omega) ?_
    refine At.skip (n := 1) (c := 4 + i.val) (fun _ => rfl) (by omega) ?_
    refine At.skip (n := 1) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x11⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨15 + i.val, by omega⟩ : Fin 44) q) (fun _ b => by fin_cases b <;> simp [h])

theorem ref_16 (i : Fin 1) (q : Fin 1024) (r : Fin 88) (h : r.val = 16 + i.val) : val_main_v7 (F := Ideal) x0 x1 x2 x3 x4 x5 x6 x7 x8 x9 x10 x11 x12 x13 x14 x15 x16 (ix2 r q) = (x12 : FVec Ideal S1x1024 .f32) (ix2 i q) := by
  have e : val_main_v5 (F := Ideal) x1 x2 x3 x4 x5 x6 x7 x8 x9 x10 x11 x12 x13 x14 x15 (ix2 (⟨16 + i.val, by omega⟩ : Fin 44) q) = (x12 : FVec Ideal S1x1024 .f32) (ix2 i q) := by
    refine At.read _ (show At _ _ _ _ (16 + i.val) _ from ?_)
    refine At.skip (n := 1) (c := 15 + i.val) (fun _ => rfl) (by omega) ?_
    refine At.skip (n := 1) (c := 14 + i.val) (fun _ => rfl) (by omega) ?_
    refine At.skip (n := 6) (c := 8 + i.val) (fun _ => rfl) (by omega) ?_
    refine At.skip (n := 1) (c := 7 + i.val) (fun _ => rfl) (by omega) ?_
    refine At.skip (n := 1) (c := 6 + i.val) (fun _ => rfl) (by omega) ?_
    refine At.skip (n := 1) (c := 5 + i.val) (fun _ => rfl) (by omega) ?_
    refine At.skip (n := 1) (c := 4 + i.val) (fun _ => rfl) (by omega) ?_
    refine At.skip (n := 1) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x12⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨16 + i.val, by omega⟩ : Fin 44) q) (fun _ b => by fin_cases b <;> simp [h])

theorem ref_17 (i : Fin 1) (q : Fin 1024) (r : Fin 88) (h : r.val = 17 + i.val) : val_main_v7 (F := Ideal) x0 x1 x2 x3 x4 x5 x6 x7 x8 x9 x10 x11 x12 x13 x14 x15 x16 (ix2 r q) = (x13 : FVec Ideal S1x1024 .f32) (ix2 i q) := by
  have e : val_main_v5 (F := Ideal) x1 x2 x3 x4 x5 x6 x7 x8 x9 x10 x11 x12 x13 x14 x15 (ix2 (⟨17 + i.val, by omega⟩ : Fin 44) q) = (x13 : FVec Ideal S1x1024 .f32) (ix2 i q) := by
    refine At.read _ (show At _ _ _ _ (17 + i.val) _ from ?_)
    refine At.skip (n := 1) (c := 16 + i.val) (fun _ => rfl) (by omega) ?_
    refine At.skip (n := 1) (c := 15 + i.val) (fun _ => rfl) (by omega) ?_
    refine At.skip (n := 6) (c := 9 + i.val) (fun _ => rfl) (by omega) ?_
    refine At.skip (n := 1) (c := 8 + i.val) (fun _ => rfl) (by omega) ?_
    refine At.skip (n := 1) (c := 7 + i.val) (fun _ => rfl) (by omega) ?_
    refine At.skip (n := 1) (c := 6 + i.val) (fun _ => rfl) (by omega) ?_
    refine At.skip (n := 1) (c := 5 + i.val) (fun _ => rfl) (by omega) ?_
    refine At.skip (n := 1) (c := 4 + i.val) (fun _ => rfl) (by omega) ?_
    refine At.skip (n := 1) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S1x1024, x13⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨17 + i.val, by omega⟩ : Fin 44) q) (fun _ b => by fin_cases b <;> simp [h])

theorem ref_18 (i : Fin 6) (q : Fin 1024) (r : Fin 88) (h : r.val = 18 + i.val) : val_main_v7 (F := Ideal) x0 x1 x2 x3 x4 x5 x6 x7 x8 x9 x10 x11 x12 x13 x14 x15 x16 (ix2 r q) = (val_main_v1 (F := Ideal) : FVec Ideal S6x1024 .f32) (ix2 i q) := by
  have e : val_main_v5 (F := Ideal) x1 x2 x3 x4 x5 x6 x7 x8 x9 x10 x11 x12 x13 x14 x15 (ix2 (⟨18 + i.val, by omega⟩ : Fin 44) q) = (val_main_v1 (F := Ideal) : FVec Ideal S6x1024 .f32) (ix2 i q) := by
    refine At.read _ (show At _ _ _ _ (18 + i.val) _ from ?_)
    refine At.skip (n := 1) (c := 17 + i.val) (fun _ => rfl) (by omega) ?_
    refine At.skip (n := 1) (c := 16 + i.val) (fun _ => rfl) (by omega) ?_
    refine At.skip (n := 6) (c := 10 + i.val) (fun _ => rfl) (by omega) ?_
    refine At.skip (n := 1) (c := 9 + i.val) (fun _ => rfl) (by omega) ?_
    refine At.skip (n := 1) (c := 8 + i.val) (fun _ => rfl) (by omega) ?_
    refine At.skip (n := 1) (c := 7 + i.val) (fun _ => rfl) (by omega) ?_
    refine At.skip (n := 1) (c := 6 + i.val) (fun _ => rfl) (by omega) ?_
    refine At.skip (n := 1) (c := 5 + i.val) (fun _ => rfl) (by omega) ?_
    refine At.skip (n := 1) (c := 4 + i.val) (fun _ => rfl) (by omega) ?_
    refine At.skip (n := 1) (c := 3 + i.val) (fun _ => rfl) (by omega) ?_
    refine At.skip (n := 1) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S6x1024, val_main_v1 (F := Ideal)⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨18 + i.val, by omega⟩ : Fin 44) q) (fun _ b => by fin_cases b <;> simp [h])

theorem ref_24 (i : Fin 16) (q : Fin 1024) (r : Fin 88) (h : r.val = 24 + i.val) : val_main_v7 (F := Ideal) x0 x1 x2 x3 x4 x5 x6 x7 x8 x9 x10 x11 x12 x13 x14 x15 x16 (ix2 r q) = (x14 : FVec Ideal S16x1024 .f32) (ix2 i q) := by
  have e : val_main_v5 (F := Ideal) x1 x2 x3 x4 x5 x6 x7 x8 x9 x10 x11 x12 x13 x14 x15 (ix2 (⟨24 + i.val, by omega⟩ : Fin 44) q) = (x14 : FVec Ideal S16x1024 .f32) (ix2 i q) := by
    refine At.read _ (show At _ _ _ _ (24 + i.val) _ from ?_)
    refine At.skip (n := 1) (c := 23 + i.val) (fun _ => rfl) (by omega) ?_
    refine At.skip (n := 1) (c := 22 + i.val) (fun _ => rfl) (by omega) ?_
    refine At.skip (n := 6) (c := 16 + i.val) (fun _ => rfl) (by omega) ?_
    refine At.skip (n := 1) (c := 15 + i.val) (fun _ => rfl) (by omega) ?_
    refine At.skip (n := 1) (c := 14 + i.val) (fun _ => rfl) (by omega) ?_
    refine At.skip (n := 1) (c := 13 + i.val) (fun _ => rfl) (by omega) ?_
    refine At.skip (n := 1) (c := 12 + i.val) (fun _ => rfl) (by omega) ?_
    refine At.skip (n := 1) (c := 11 + i.val) (fun _ => rfl) (by omega) ?_
    refine At.skip (n := 1) (c := 10 + i.val) (fun _ => rfl) (by omega) ?_
    refine At.skip (n := 1) (c := 9 + i.val) (fun _ => rfl) (by omega) ?_
    refine At.skip (n := 1) (c := 8 + i.val) (fun _ => rfl) (by omega) ?_
    refine At.skip (n := 1) (c := 7 + i.val) (fun _ => rfl) (by omega) ?_
    refine At.skip (n := 1) (c := 6 + i.val) (fun _ => rfl) (by omega) ?_
    refine At.skip (n := 6) (c := 0 + i.val) (fun _ => rfl) (by omega) ?_
    exact At.here (p := ⟨S16x1024, x14⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨24 + i.val, by omega⟩ : Fin 44) q) (fun _ b => by fin_cases b <;> simp [h])

theorem ref_40 (i : Fin 4) (q : Fin 1024) (r : Fin 88) (h : r.val = 40 + i.val) : val_main_v7 (F := Ideal) x0 x1 x2 x3 x4 x5 x6 x7 x8 x9 x10 x11 x12 x13 x14 x15 x16 (ix2 r q) = (x15 : FVec Ideal S4x1024 .f32) (ix2 i q) := by
  have e : val_main_v5 (F := Ideal) x1 x2 x3 x4 x5 x6 x7 x8 x9 x10 x11 x12 x13 x14 x15 (ix2 (⟨40 + i.val, by omega⟩ : Fin 44) q) = (x15 : FVec Ideal S4x1024 .f32) (ix2 i q) := by
    refine At.read _ (show At _ _ _ _ (40 + i.val) _ from ?_)
    refine At.skip (n := 1) (c := 39 + i.val) (fun _ => rfl) (by omega) ?_
    refine At.skip (n := 1) (c := 38 + i.val) (fun _ => rfl) (by omega) ?_
    refine At.skip (n := 6) (c := 32 + i.val) (fun _ => rfl) (by omega) ?_
    refine At.skip (n := 1) (c := 31 + i.val) (fun _ => rfl) (by omega) ?_
    refine At.skip (n := 1) (c := 30 + i.val) (fun _ => rfl) (by omega) ?_
    refine At.skip (n := 1) (c := 29 + i.val) (fun _ => rfl) (by omega) ?_
    refine At.skip (n := 1) (c := 28 + i.val) (fun _ => rfl) (by omega) ?_
    refine At.skip (n := 1) (c := 27 + i.val) (fun _ => rfl) (by omega) ?_
    refine At.skip (n := 1) (c := 26 + i.val) (fun _ => rfl) (by omega) ?_
    refine At.skip (n := 1) (c := 25 + i.val) (fun _ => rfl) (by omega) ?_
    refine At.skip (n := 1) (c := 24 + i.val) (fun _ => rfl) (by omega) ?_
    refine At.skip (n := 1) (c := 23 + i.val) (fun _ => rfl) (by omega) ?_
    refine At.skip (n := 1) (c := 22 + i.val) (fun _ => rfl) (by omega) ?_
    refine At.skip (n := 6) (c := 16 + i.val) (fun _ => rfl) (by omega) ?_
    refine At.skip (n := 16) (c := 0 + i.val) (fun _ => rfl) (by omega) ?_
    exact At.here (p := ⟨S4x1024, x15⟩) (ix2 i q) (fun _ b => by fin_cases b <;> simp)
  rw [← e]
  refine At.read _ (show At _ _ _ _ r.val _ from ?_)
  exact At.here (p := ⟨S44x1024, val_main_v5 (F := Ideal) x1 x2 x3 x4 x5 x6 x7 x8 x9 x10 x11 x12 x13 x14 x15⟩) (ix2 (⟨40 + i.val, by omega⟩ : Fin 44) q) (fun _ b => by fin_cases b <;> simp [h])

theorem ref_44 (i : Fin 4) (q : Fin 1024) (r : Fin 88) (h : r.val = 44 + i.val) : val_main_v7 (F := Ideal) x0 x1 x2 x3 x4 x5 x6 x7 x8 x9 x10 x11 x12 x13 x14 x15 x16 (ix2 r q) = (val_main_v2 (F := Ideal) : FVec Ideal S4x1024 .f32) (ix2 i q) := by
  have e : val_main_v6 (F := Ideal) x0 x16 (ix2 (⟨0 + i.val, by omega⟩ : Fin 44) q) = (val_main_v2 (F := Ideal) : FVec Ideal S4x1024 .f32) (ix2 i q) := by
    refine At.read _ (show At _ _ _ _ (0 + i.val) _ from ?_)
    exact At.here (p := ⟨S4x1024, val_main_v2 (F := Ideal)⟩) (ix2 i q) (fun _ b => by fin_cases b <;> simp)
  rw [← e]
  refine At.read _ (show At _ _ _ _ r.val _ from ?_)
  refine At.skip (n := 44) (c := 0 + i.val) (fun _ => rfl) (by omega) ?_
  exact At.here (p := ⟨S44x1024, val_main_v6 (F := Ideal) x0 x16⟩) (ix2 (⟨0 + i.val, by omega⟩ : Fin 44) q) (fun _ b => by fin_cases b <;> simp)

theorem ref_48 (i : Fin 31) (q : Fin 1024) (r : Fin 88) (h : r.val = 48 + i.val) : val_main_v7 (F := Ideal) x0 x1 x2 x3 x4 x5 x6 x7 x8 x9 x10 x11 x12 x13 x14 x15 x16 (ix2 r q) = (x16 : FVec Ideal S31x1024 .f32) (ix2 i q) := by
  have e : val_main_v6 (F := Ideal) x0 x16 (ix2 (⟨4 + i.val, by omega⟩ : Fin 44) q) = (x16 : FVec Ideal S31x1024 .f32) (ix2 i q) := by
    refine At.read _ (show At _ _ _ _ (4 + i.val) _ from ?_)
    refine At.skip (n := 4) (c := 0 + i.val) (fun _ => rfl) (by omega) ?_
    exact At.here (p := ⟨S31x1024, x16⟩) (ix2 i q) (fun _ b => by fin_cases b <;> simp)
  rw [← e]
  refine At.read _ (show At _ _ _ _ r.val _ from ?_)
  refine At.skip (n := 44) (c := 4 + i.val) (fun _ => rfl) (by omega) ?_
  exact At.here (p := ⟨S44x1024, val_main_v6 (F := Ideal) x0 x16⟩) (ix2 (⟨4 + i.val, by omega⟩ : Fin 44) q) (fun _ b => by fin_cases b <;> simp)

theorem ref_79 (i : Fin 1) (q : Fin 1024) (r : Fin 88) (h : r.val = 79 + i.val) : val_main_v7 (F := Ideal) x0 x1 x2 x3 x4 x5 x6 x7 x8 x9 x10 x11 x12 x13 x14 x15 x16 (ix2 r q) = (val_main_v3 (F := Ideal) : FVec Ideal S1x1024 .f32) (ix2 i q) := by
  have e : val_main_v6 (F := Ideal) x0 x16 (ix2 (⟨35 + i.val, by omega⟩ : Fin 44) q) = (val_main_v3 (F := Ideal) : FVec Ideal S1x1024 .f32) (ix2 i q) := by
    refine At.read _ (show At _ _ _ _ (35 + i.val) _ from ?_)
    refine At.skip (n := 4) (c := 31 + i.val) (fun _ => rfl) (by omega) ?_
    refine At.skip (n := 31) (c := 0 + i.val) (fun _ => rfl) (by omega) ?_
    exact At.here (p := ⟨S1x1024, val_main_v3 (F := Ideal)⟩) (ix2 i q) (fun _ b => by fin_cases b <;> simp)
  rw [← e]
  refine At.read _ (show At _ _ _ _ r.val _ from ?_)
  refine At.skip (n := 44) (c := 35 + i.val) (fun _ => rfl) (by omega) ?_
  exact At.here (p := ⟨S44x1024, val_main_v6 (F := Ideal) x0 x16⟩) (ix2 (⟨35 + i.val, by omega⟩ : Fin 44) q) (fun _ b => by fin_cases b <;> simp)

theorem ref_80 (i : Fin 1) (q : Fin 1024) (r : Fin 88) (h : r.val = 80 + i.val) : val_main_v7 (F := Ideal) x0 x1 x2 x3 x4 x5 x6 x7 x8 x9 x10 x11 x12 x13 x14 x15 x16 (ix2 r q) = (x0 : FVec Ideal S1x1024 .f32) (ix2 i q) := by
  have e : val_main_v6 (F := Ideal) x0 x16 (ix2 (⟨36 + i.val, by omega⟩ : Fin 44) q) = (x0 : FVec Ideal S1x1024 .f32) (ix2 i q) := by
    refine At.read _ (show At _ _ _ _ (36 + i.val) _ from ?_)
    refine At.skip (n := 4) (c := 32 + i.val) (fun _ => rfl) (by omega) ?_
    refine At.skip (n := 31) (c := 1 + i.val) (fun _ => rfl) (by omega) ?_
    refine At.skip (n := 1) (c := 0 + i.val) (fun _ => rfl) (by omega) ?_
    exact At.here (p := ⟨S1x1024, x0⟩) (ix2 i q) (fun _ b => by fin_cases b <;> simp)
  rw [← e]
  refine At.read _ (show At _ _ _ _ r.val _ from ?_)
  refine At.skip (n := 44) (c := 36 + i.val) (fun _ => rfl) (by omega) ?_
  exact At.here (p := ⟨S44x1024, val_main_v6 (F := Ideal) x0 x16⟩) (ix2 (⟨36 + i.val, by omega⟩ : Fin 44) q) (fun _ b => by fin_cases b <;> simp)

theorem ref_81 (i : Fin 7) (q : Fin 1024) (r : Fin 88) (h : r.val = 81 + i.val) : val_main_v7 (F := Ideal) x0 x1 x2 x3 x4 x5 x6 x7 x8 x9 x10 x11 x12 x13 x14 x15 x16 (ix2 r q) = (val_main_v4 (F := Ideal) : FVec Ideal S7x1024 .f32) (ix2 i q) := by
  have e : val_main_v6 (F := Ideal) x0 x16 (ix2 (⟨37 + i.val, by omega⟩ : Fin 44) q) = (val_main_v4 (F := Ideal) : FVec Ideal S7x1024 .f32) (ix2 i q) := by
    refine At.read _ (show At _ _ _ _ (37 + i.val) _ from ?_)
    refine At.skip (n := 4) (c := 33 + i.val) (fun _ => rfl) (by omega) ?_
    refine At.skip (n := 31) (c := 2 + i.val) (fun _ => rfl) (by omega) ?_
    refine At.skip (n := 1) (c := 1 + i.val) (fun _ => rfl) (by omega) ?_
    refine At.skip (n := 1) (c := 0 + i.val) (fun _ => rfl) (by omega) ?_
    exact At.here (p := ⟨S7x1024, val_main_v4 (F := Ideal)⟩) (ix2 i q) (fun _ b => by fin_cases b <;> simp)
  rw [← e]
  refine At.read _ (show At _ _ _ _ r.val _ from ?_)
  refine At.skip (n := 44) (c := 37 + i.val) (fun _ => rfl) (by omega) ?_
  exact At.here (p := ⟨S44x1024, val_main_v6 (F := Ideal) x0 x16⟩) (ix2 (⟨37 + i.val, by omega⟩ : Fin 44) q) (fun _ b => by fin_cases b <;> simp)

theorem bias_at (k : Fin 6) (q : Fin 1024) : val_main_v0 (F := Ideal) x3 (ix2 k q) = x3 (ix2 0 (⟨k.val * 1024 + q.val, by omega⟩ : Fin 6144)) := by
  pointwise [val_main_v0]

theorem gap_6 (i : Fin 6) (q : Fin 1024) : (val_main_v1 (F := Ideal) : FVec Ideal S6x1024 .f32) (ix2 i q) = (0 : EReal) := by
  pointwise [val_main_v1, val_main_cst]

theorem gap_4 (i : Fin 4) (q : Fin 1024) : (val_main_v2 (F := Ideal) : FVec Ideal S4x1024 .f32) (ix2 i q) = (0 : EReal) := by
  pointwise [val_main_v2, val_main_cst_0]

theorem gap_1 (i : Fin 1) (q : Fin 1024) : (val_main_v3 (F := Ideal) : FVec Ideal S1x1024 .f32) (ix2 i q) = (0 : EReal) := by
  pointwise [val_main_v3, val_main_cst_1]

theorem gap_7 (i : Fin 7) (q : Fin 1024) : (val_main_v4 (F := Ideal) : FVec Ideal S7x1024 .f32) (ix2 i q) = (0 : EReal) := by
  pointwise [val_main_v4, val_main_cst_2]

end
end Cert.Reference14Ideal.Rows
end
-- ==== Proof.Pack.lean ====
module

public import proofs.«01_k».proof.Proof.Gen.Kernel14Ideal.Frame
public import proofs.«01_k».proof.Proof.Gen.Reference14Ideal.Read
public import proofs.«01_k».proof.Proof.PackRows
public import Idealize.ShloMosaic.Lib.Pipeline.Value
public import Idealize.ShloMosaic.Lib.Pipeline.ValueKit
public import Idealize.ShloMosaic.Lib.Claim

@[expose] public section
set_option maxRecDepth 16384
noncomputable section

/-! The small gradients packed in one device's slot, row by row, the rows no gradient fills at zero. -/
namespace Cert.Kernel14Ideal.Pack

open Cert.Kernel14Ideal Cert.Kernel14Ideal.Gen Idealize.ShloMosaic Idealize.ShloMosaic.TcCoe Idealize.SL.Sem
open Cert.Reference14Ideal.Read

variable (m : (ℓ : Loc nD τ sig) → Buf (Elt Ideal) ℓ) (c : Dev nD)

abbrev A0 : FVec Ideal S1x1024 .f32 := m ((c : Thread nD τ).loc main_arg0)
abbrev A1 : FVec Ideal S1x1024 .f32 := m ((c : Thread nD τ).loc main_arg1)
abbrev A2 : FVec Ideal S1x1024 .f32 := m ((c : Thread nD τ).loc main_arg2)
abbrev A3 : FVec Ideal S1x6144 .f32 := m ((c : Thread nD τ).loc main_arg3)
abbrev A4 : FVec Ideal S1x1024 .f32 := m ((c : Thread nD τ).loc main_arg4)
abbrev A5 : FVec Ideal S1x1024 .f32 := m ((c : Thread nD τ).loc main_arg5)
abbrev A6 : FVec Ideal S1x1024 .f32 := m ((c : Thread nD τ).loc main_arg6)
abbrev A7 : FVec Ideal S1x1024 .f32 := m ((c : Thread nD τ).loc main_arg7)
abbrev A8 : FVec Ideal S1x1024 .f32 := m ((c : Thread nD τ).loc main_arg8)
abbrev A9 : FVec Ideal S1x1024 .f32 := m ((c : Thread nD τ).loc main_arg9)
abbrev A10 : FVec Ideal S1x1024 .f32 := m ((c : Thread nD τ).loc main_arg10)
abbrev A11 : FVec Ideal S1x1024 .f32 := m ((c : Thread nD τ).loc main_arg11)
abbrev A12 : FVec Ideal S1x1024 .f32 := m ((c : Thread nD τ).loc main_arg12)
abbrev A13 : FVec Ideal S1x1024 .f32 := m ((c : Thread nD τ).loc main_arg13)
abbrev A14 : FVec Ideal S16x1024 .f32 := m ((c : Thread nD τ).loc main_arg14)
abbrev A15 : FVec Ideal S4x1024 .f32 := m ((c : Thread nD τ).loc main_arg15)
abbrev A16 : FVec Ideal S31x1024 .f32 := m ((c : Thread nD τ).loc main_arg16)

theorem table {F : FTy → Type} [FloatOps F] (m : (ℓ : Loc nD τ sig) → Buf (Elt F) ℓ) (c : Dev nD) :
    (V m c main_v0 : Vec F S2 .i32) = broadcastInDim S2 ![] bcast_S_S2 (constantI S_ 32 0#32) := by
  show StableHlo.after hostOps0 _ _ = _
  simp only [hostOps0, List.flatten_cons, List.flatten_nil, List.append_nil, List.cons_append, List.nil_append]
  after_results

theorem place {F : FTy → Type} [FloatOps F] (m : (ℓ : Loc nD τ sig) → Buf (Elt F) ℓ) (i : grid0.Coords) :
    cc0_transform_17 inb_S2_S1_0 numel1_S1 inb_S2_S1_1 (tbl m) i = ![0, 0, 0] := by
  have h : (tbl m 0 : Vec F S2 .i32) = fun _ => 0#32 := (table m 0).trans rfl
  unfold cc0_transform_17
  simp only [Pipeline.Prefetch.Contents.at, h]
  rfl

theorem ok {F : FTy → Type} [FloatOps F] (m : (ℓ : Loc nD τ sig) → Buf (Elt F) ℓ) : Ok m := by
  intro i
  refine ⟨fun a => ?_, Or.inl rfl⟩
  rw [place m i]
  fin_cases a <;> decide

theorem over {Val : EltTy → Type} [∀ e, Nonempty (Val e)] {S : Shape} {e : EltTy} (f : S.Idx → Val e) (y : S.Idx) (p : View.Piece Val S e)
    (L : List (View.Piece Val S e)) (h : ∀ x, p.2 x = f (p.1.emb x)) (hr : y ∉ p.1.set → View.canon L y = f y) : View.canon (p :: L) y = f y := by
  by_cases hm : y ∈ p.1.set
  · obtain ⟨x, rfl⟩ := p.1.exists_idx_of_mem hm
    exact (View.canon_cons_emb p.1 p.2 L x).trans (h x)
  · rw [View.canon_cons_of_not_mem _ _ hm]
    exact hr hm

abbrev Rows (o n : ℕ) : Prop := ∀ a, (![0, o, 0] : Fin 3 → ℕ) a + (![1, n, 1024] : Fin 3 → ℕ) a ≤ S1x88x1024.size a

/-- The reference's packed rows, as the block of one slot. -/
def packed (y : S1x88x1024.Idx) : Elt Ideal .f32 := val_main_v7 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (ix2 (y 1) (y 2))

/-- A store of `n` rows at row `o` holds the packed rows there. -/
theorem piece {n : ℕ} (o : ℕ) (hb : Rows o n) (w : (⟨3, ![1, n, 1024]⟩ : Shape).Idx → Elt Ideal .f32) (X : Fin n → Fin 1024 → Elt Ideal .f32)
    (hw : ∀ p q, w (ix3 0 p q) = X p q) (hX : ∀ (i : Fin n) (q : Fin 1024) (r : Fin 88), r.val = o + i.val → packed m c (ix3 0 r q) = X i q) :
    ∀ x, w x = packed m c ((Rect.unit (s := S1x88x1024) ![0, o, 0] ![1, n, 1024] hb).emb x) := by
  intro x
  obtain ⟨i, q, rfl⟩ : ∃ (i : Fin n) (q : Fin 1024), x = ix3 (0 : Fin 1) i q := ⟨x 1, x 2, funext fun a => by
    fin_cases a
    · exact Subsingleton.elim (α := Fin 1) _ _
    · rfl
    · rfl⟩
  have hr : o + i.val < 88 := lt_of_lt_of_le (Nat.add_lt_add_left i.isLt o) (hb 1)
  rw [hw, ← hX i q ⟨o + i.val, hr⟩ rfl]
  refine congrArg (packed m c) (funext fun a => ?_)
  fin_cases a
  · exact Subsingleton.elim (α := Fin 1) _ _
  · exact Fin.ext (show o + i.val = o + 1 * i.val by omega)
  · exact Fin.ext (show q.val = 0 + 1 * q.val by omega)

theorem out {o n : ℕ} (hb : Rows o n) (p : Fin 88) (q : Fin 1024) (h : (ix3 0 p q : S1x88x1024.Idx) ∉ (Rect.unit (s := S1x88x1024) ![0, o, 0] ![1, n, 1024] hb).set) :
    p.val < o ∨ o + n ≤ p.val := by
  by_contra hc
  refine h (Rect.mem_set_unit.mpr fun a => ?_)
  have hq := q.isLt
  fin_cases a
  · exact ⟨le_refl _, Nat.zero_lt_one⟩
  · exact (show o ≤ p.val ∧ p.val < o + n by omega)
  · exact ⟨Nat.zero_le _, (show q.val < 0 + 1024 by omega)⟩

theorem ld_at (v : S1x6144.Idx → Elt Ideal .f32) (o : ℕ) (h) (p : Fin 1) (q : Fin 1024) (ho : o + q.val < 6144) :
    View.ld v (Rect.unit (s := S1x6144) ![0, o] ![1, 1024] h) (ix2 p q) = v (ix2 0 (⟨o + q.val, ho⟩ : Fin 6144)) := by
  obtain rfl : p = 0 := Subsingleton.elim _ _
  refine View.ld_unit_apply_of _ _ _ _ _ _ fun a => ?_
  fin_cases a <;> rfl

theorem pay_1 (v : FVec Ideal S1x1024 .f32) (p : Fin 1) (q : Fin 1024) : k0_pay1 (F := Ideal) v (ix3 0 p q) = v (ix2 p q) := by
  obtain rfl : p = 0 := Subsingleton.elim _ _
  pointwise [k0_pay1]
theorem pay_5 (v : FVec Ideal S1x1024 .f32) (p : Fin 1) (q : Fin 1024) : k0_pay5 (F := Ideal) v (ix3 0 p q) = v (ix2 p q) := by
  obtain rfl : p = 0 := Subsingleton.elim _ _
  pointwise [k0_pay5]
theorem pay_7 (v : FVec Ideal S1x1024 .f32) (p : Fin 1) (q : Fin 1024) : k0_pay7 (F := Ideal) v (ix3 0 p q) = v (ix2 p q) := by
  obtain rfl : p = 0 := Subsingleton.elim _ _
  pointwise [k0_pay7]
theorem pay_8 (v : FVec Ideal S1x1024 .f32) (p : Fin 1) (q : Fin 1024) : k0_pay8 (F := Ideal) v (ix3 0 p q) = v (ix2 p q) := by
  obtain rfl : p = 0 := Subsingleton.elim _ _
  pointwise [k0_pay8]
theorem pay_9 (v : FVec Ideal S1x1024 .f32) (p : Fin 1) (q : Fin 1024) : k0_pay9 (F := Ideal) v (ix3 0 p q) = v (ix2 p q) := by
  obtain rfl : p = 0 := Subsingleton.elim _ _
  pointwise [k0_pay9]
theorem pay_10 (v : FVec Ideal S1x1024 .f32) (p : Fin 1) (q : Fin 1024) : k0_pay10 (F := Ideal) v (ix3 0 p q) = v (ix2 p q) := by
  obtain rfl : p = 0 := Subsingleton.elim _ _
  pointwise [k0_pay10]
theorem pay_11 (v : FVec Ideal S1x1024 .f32) (p : Fin 1) (q : Fin 1024) : k0_pay11 (F := Ideal) v (ix3 0 p q) = v (ix2 p q) := by
  obtain rfl : p = 0 := Subsingleton.elim _ _
  pointwise [k0_pay11]
theorem pay_12 (v : FVec Ideal S1x1024 .f32) (p : Fin 1) (q : Fin 1024) : k0_pay12 (F := Ideal) v (ix3 0 p q) = v (ix2 p q) := by
  obtain rfl : p = 0 := Subsingleton.elim _ _
  pointwise [k0_pay12]
theorem pay_13 (v : FVec Ideal S1x1024 .f32) (p : Fin 1) (q : Fin 1024) : k0_pay13 (F := Ideal) v (ix3 0 p q) = v (ix2 p q) := by
  obtain rfl : p = 0 := Subsingleton.elim _ _
  pointwise [k0_pay13]
theorem pay_14 (v : FVec Ideal S1x1024 .f32) (p : Fin 1) (q : Fin 1024) : k0_pay14 (F := Ideal) v (ix3 0 p q) = v (ix2 p q) := by
  obtain rfl : p = 0 := Subsingleton.elim _ _
  pointwise [k0_pay14]
theorem pay_15 (v : FVec Ideal S1x1024 .f32) (p : Fin 1) (q : Fin 1024) : k0_pay15 (F := Ideal) v (ix3 0 p q) = v (ix2 p q) := by
  obtain rfl : p = 0 := Subsingleton.elim _ _
  pointwise [k0_pay15]
theorem pay_16 (v : FVec Ideal S1x1024 .f32) (p : Fin 1) (q : Fin 1024) : k0_pay16 (F := Ideal) v (ix3 0 p q) = v (ix2 p q) := by
  obtain rfl : p = 0 := Subsingleton.elim _ _
  pointwise [k0_pay16]
theorem pay_17 (v : FVec Ideal S1x1024 .f32) (p : Fin 1) (q : Fin 1024) : k0_pay17 (F := Ideal) v (ix3 0 p q) = v (ix2 p q) := by
  obtain rfl : p = 0 := Subsingleton.elim _ _
  pointwise [k0_pay17]
theorem pay_18 (v : FVec Ideal S1x1024 .f32) (p : Fin 1) (q : Fin 1024) : k0_pay18 (F := Ideal) v (ix3 0 p q) = v (ix2 p q) := by
  obtain rfl : p = 0 := Subsingleton.elim _ _
  pointwise [k0_pay18]
theorem pay_19 (v : FVec Ideal S1x1024 .f32) (p : Fin 1) (q : Fin 1024) : k0_pay19 (F := Ideal) v (ix3 0 p q) = v (ix2 p q) := by
  obtain rfl : p = 0 := Subsingleton.elim _ _
  pointwise [k0_pay19]
theorem pay_20 (v : FVec Ideal S1x1024 .f32) (p : Fin 1) (q : Fin 1024) : k0_pay20 (F := Ideal) v (ix3 0 p q) = v (ix2 p q) := by
  obtain rfl : p = 0 := Subsingleton.elim _ _
  pointwise [k0_pay20]
theorem pay_21 (v : FVec Ideal S1x1024 .f32) (p : Fin 1) (q : Fin 1024) : k0_pay21 (F := Ideal) v (ix3 0 p q) = v (ix2 p q) := by
  obtain rfl : p = 0 := Subsingleton.elim _ _
  pointwise [k0_pay21]
theorem pay_22 (v : FVec Ideal S1x1024 .f32) (p : Fin 1) (q : Fin 1024) : k0_pay22 (F := Ideal) v (ix3 0 p q) = v (ix2 p q) := by
  obtain rfl : p = 0 := Subsingleton.elim _ _
  pointwise [k0_pay22]
theorem pay_23 (v : FVec Ideal S1x1024 .f32) (p : Fin 1) (q : Fin 1024) : k0_pay23 (F := Ideal) v (ix3 0 p q) = v (ix2 p q) := by
  obtain rfl : p = 0 := Subsingleton.elim _ _
  pointwise [k0_pay23]
theorem pay_2 (v : FVec Ideal S16x1024 .f32) (p : Fin 16) (q : Fin 1024) : k0_pay2 (F := Ideal) v (ix3 0 p q) = v (ix2 p q) := by
  pointwise [k0_pay2]
theorem pay_3 (v : FVec Ideal S4x1024 .f32) (p : Fin 4) (q : Fin 1024) : k0_pay3 (F := Ideal) v (ix3 0 p q) = v (ix2 p q) := by
  pointwise [k0_pay3]
theorem pay_4 (v : FVec Ideal S31x1024 .f32) (p : Fin 31) (q : Fin 1024) : k0_pay4 (F := Ideal) v (ix3 0 p q) = v (ix2 p q) := by
  pointwise [k0_pay4]

theorem idx_val (a) (t : Fin (cfg0 (F := Ideal) a).N) : ((cfg0 a).win 0).index t = ![0, 0] ∧ ((cfg0 a).win 1).index t = ![0, 0] ∧ ((cfg0 a).win 2).index t = ![0, 0] ∧ ((cfg0 a).win 3).index t = ![0, 0] ∧ ((cfg0 a).win 4).index t = ![0, 0] ∧ ((cfg0 a).win 5).index t = ![0, 0] ∧ ((cfg0 a).win 6).index t = ![0, 0] ∧ ((cfg0 a).win 7).index t = ![0, 0] ∧ ((cfg0 a).win 8).index t = ![0, 0] ∧ ((cfg0 a).win 9).index t = ![0, 0] ∧ ((cfg0 a).win 10).index t = ![0, 0] ∧ ((cfg0 a).win 11).index t = ![0, 0] ∧ ((cfg0 a).win 12).index t = ![0, 0] ∧ ((cfg0 a).win 13).index t = ![0, 0] ∧ ((cfg0 a).win 14).index t = ![0, 0] ∧ ((cfg0 a).win 15).index t = ![0, 0] ∧ ((cfg0 a).win 16).index t = ![0, 0] := by
  exact ⟨rfl, rfl, rfl, rfl, rfl, rfl, rfl, rfl, rfl, rfl, rfl, rfl, rfl, rfl, rfl, rfl, rfl⟩

variable (t : Fin (cfgM m (ok m)).N)

theorem blk_0 (p : Fin 1) (q : Fin 1024) : View.read (Elt Ideal) (ms0_0 m (ok m) t).view ((hs0_0 m (ok m) t).unread (iblk m (ok m) c 0 t)) (ix2 p q) = A1 m c (ix2 p q) := by
  refine (congrFun ((hs0_0 m (ok m) t).read_unread _) _).trans ?_
  blk_point [iblk, V, idx_val _ t]

theorem blk_1 (p : Fin 1) (q : Fin 1024) : View.read (Elt Ideal) (ms0_1 m (ok m) t).view ((hs0_1 m (ok m) t).unread (iblk m (ok m) c 1 t)) (ix2 p q) = A2 m c (ix2 p q) := by
  refine (congrFun ((hs0_1 m (ok m) t).read_unread _) _).trans ?_
  blk_point [iblk, V, idx_val _ t]

theorem blk_2 (p : Fin 1) (q : Fin 6144) : View.read (Elt Ideal) (ms0_2 m (ok m) t).view ((hs0_2 m (ok m) t).unread (iblk m (ok m) c 2 t)) (ix2 p q) = A3 m c (ix2 p q) := by
  refine (congrFun ((hs0_2 m (ok m) t).read_unread _) _).trans ?_
  blk_point [iblk, V, idx_val _ t]

theorem blk_3 (p : Fin 1) (q : Fin 1024) : View.read (Elt Ideal) (ms0_3 m (ok m) t).view ((hs0_3 m (ok m) t).unread (iblk m (ok m) c 3 t)) (ix2 p q) = A4 m c (ix2 p q) := by
  refine (congrFun ((hs0_3 m (ok m) t).read_unread _) _).trans ?_
  blk_point [iblk, V, idx_val _ t]

theorem blk_4 (p : Fin 1) (q : Fin 1024) : View.read (Elt Ideal) (ms0_4 m (ok m) t).view ((hs0_4 m (ok m) t).unread (iblk m (ok m) c 4 t)) (ix2 p q) = A5 m c (ix2 p q) := by
  refine (congrFun ((hs0_4 m (ok m) t).read_unread _) _).trans ?_
  blk_point [iblk, V, idx_val _ t]

theorem blk_5 (p : Fin 1) (q : Fin 1024) : View.read (Elt Ideal) (ms0_5 m (ok m) t).view ((hs0_5 m (ok m) t).unread (iblk m (ok m) c 5 t)) (ix2 p q) = A6 m c (ix2 p q) := by
  refine (congrFun ((hs0_5 m (ok m) t).read_unread _) _).trans ?_
  blk_point [iblk, V, idx_val _ t]

theorem blk_6 (p : Fin 1) (q : Fin 1024) : View.read (Elt Ideal) (ms0_6 m (ok m) t).view ((hs0_6 m (ok m) t).unread (iblk m (ok m) c 6 t)) (ix2 p q) = A7 m c (ix2 p q) := by
  refine (congrFun ((hs0_6 m (ok m) t).read_unread _) _).trans ?_
  blk_point [iblk, V, idx_val _ t]

theorem blk_7 (p : Fin 1) (q : Fin 1024) : View.read (Elt Ideal) (ms0_7 m (ok m) t).view ((hs0_7 m (ok m) t).unread (iblk m (ok m) c 7 t)) (ix2 p q) = A8 m c (ix2 p q) := by
  refine (congrFun ((hs0_7 m (ok m) t).read_unread _) _).trans ?_
  blk_point [iblk, V, idx_val _ t]

theorem blk_8 (p : Fin 1) (q : Fin 1024) : View.read (Elt Ideal) (ms0_8 m (ok m) t).view ((hs0_8 m (ok m) t).unread (iblk m (ok m) c 8 t)) (ix2 p q) = A9 m c (ix2 p q) := by
  refine (congrFun ((hs0_8 m (ok m) t).read_unread _) _).trans ?_
  blk_point [iblk, V, idx_val _ t]

theorem blk_9 (p : Fin 1) (q : Fin 1024) : View.read (Elt Ideal) (ms0_9 m (ok m) t).view ((hs0_9 m (ok m) t).unread (iblk m (ok m) c 9 t)) (ix2 p q) = A10 m c (ix2 p q) := by
  refine (congrFun ((hs0_9 m (ok m) t).read_unread _) _).trans ?_
  blk_point [iblk, V, idx_val _ t]

theorem blk_10 (p : Fin 1) (q : Fin 1024) : View.read (Elt Ideal) (ms0_10 m (ok m) t).view ((hs0_10 m (ok m) t).unread (iblk m (ok m) c 10 t)) (ix2 p q) = A11 m c (ix2 p q) := by
  refine (congrFun ((hs0_10 m (ok m) t).read_unread _) _).trans ?_
  blk_point [iblk, V, idx_val _ t]

theorem blk_11 (p : Fin 1) (q : Fin 1024) : View.read (Elt Ideal) (ms0_11 m (ok m) t).view ((hs0_11 m (ok m) t).unread (iblk m (ok m) c 11 t)) (ix2 p q) = A12 m c (ix2 p q) := by
  refine (congrFun ((hs0_11 m (ok m) t).read_unread _) _).trans ?_
  blk_point [iblk, V, idx_val _ t]

theorem blk_12 (p : Fin 1) (q : Fin 1024) : View.read (Elt Ideal) (ms0_12 m (ok m) t).view ((hs0_12 m (ok m) t).unread (iblk m (ok m) c 12 t)) (ix2 p q) = A13 m c (ix2 p q) := by
  refine (congrFun ((hs0_12 m (ok m) t).read_unread _) _).trans ?_
  blk_point [iblk, V, idx_val _ t]

theorem blk_13 (p : Fin 16) (q : Fin 1024) : View.read (Elt Ideal) (ms0_13 m (ok m) t).view ((hs0_13 m (ok m) t).unread (iblk m (ok m) c 13 t)) (ix2 p q) = A14 m c (ix2 p q) := by
  refine (congrFun ((hs0_13 m (ok m) t).read_unread _) _).trans ?_
  blk_point [iblk, V, idx_val _ t]

theorem blk_14 (p : Fin 4) (q : Fin 1024) : View.read (Elt Ideal) (ms0_14 m (ok m) t).view ((hs0_14 m (ok m) t).unread (iblk m (ok m) c 14 t)) (ix2 p q) = A15 m c (ix2 p q) := by
  refine (congrFun ((hs0_14 m (ok m) t).read_unread _) _).trans ?_
  blk_point [iblk, V, idx_val _ t]

theorem blk_15 (p : Fin 31) (q : Fin 1024) : View.read (Elt Ideal) (ms0_15 m (ok m) t).view ((hs0_15 m (ok m) t).unread (iblk m (ok m) c 15 t)) (ix2 p q) = A16 m c (ix2 p q) := by
  refine (congrFun ((hs0_15 m (ok m) t).read_unread _) _).trans ?_
  blk_point [iblk, V, idx_val _ t]

theorem blk_16 (p : Fin 1) (q : Fin 1024) : View.read (Elt Ideal) (ms0_16 m (ok m) t).view ((hs0_16 m (ok m) t).unread (iblk m (ok m) c 16 t)) (ix2 p q) = A0 m c (ix2 p q) := by
  refine (congrFun ((hs0_16 m (ok m) t).read_unread _) _).trans ?_
  blk_point [iblk, V, idx_val _ t]

theorem at_row (p : Fin 88) (q : Fin 1024) : packed m c (ix3 0 p q) = val_main_v7 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (ix2 p q) := rfl

theorem zero_at (p : Fin 88) (q : Fin 1024) : k0_pay6 (F := Ideal) (ix3 0 p q) = (0 : EReal) := by
  pointwise [k0_pay6]

set_option maxHeartbeats 2000000 in
/-- The block one point writes: the packed rows. -/
theorem block_at (p : Fin 88) (q : Fin 1024) : (dats m (ok m) 0 c).after 17 t (ix3 0 p q) = packed m c (ix3 0 p q) := by
  rw [after0_17]
  frame_out
  unfold outsAt0 out0_A_17
  frame_out
  refine over (packed m c) _ _ _ ?_ fun n80 => ?_
  · exact piece m c 80 (by decide) _ (fun p q => A0 m c (ix2 p q)) (fun p q => (pay_5 _ p q).trans (blk_16 m c t p q)) (fun i q r h => (at_row m c r q).trans (Cert.Reference14Ideal.Rows.ref_80 _ _ _ _ _ _ _ _ _ _ _ _ _ _ _ _ _ i q r h))
  refine over (packed m c) _ _ _ ?_ fun n48 => ?_
  · exact piece m c 48 (by decide) _ (fun p q => A16 m c (ix2 p q)) (fun p q => (pay_4 _ p q).trans (blk_15 m c t p q)) (fun i q r h => (at_row m c r q).trans (Cert.Reference14Ideal.Rows.ref_48 _ _ _ _ _ _ _ _ _ _ _ _ _ _ _ _ _ i q r h))
  refine over (packed m c) _ _ _ ?_ fun n40 => ?_
  · exact piece m c 40 (by decide) _ (fun p q => A15 m c (ix2 p q)) (fun p q => (pay_3 _ p q).trans (blk_14 m c t p q)) (fun i q r h => (at_row m c r q).trans (Cert.Reference14Ideal.Rows.ref_40 _ _ _ _ _ _ _ _ _ _ _ _ _ _ _ _ _ i q r h))
  refine over (packed m c) _ _ _ ?_ fun n24 => ?_
  · exact piece m c 24 (by decide) _ (fun p q => A14 m c (ix2 p q)) (fun p q => (pay_2 _ p q).trans (blk_13 m c t p q)) (fun i q r h => (at_row m c r q).trans (Cert.Reference14Ideal.Rows.ref_24 _ _ _ _ _ _ _ _ _ _ _ _ _ _ _ _ _ i q r h))
  refine over (packed m c) _ _ _ ?_ fun n17 => ?_
  · exact piece m c 17 (by decide) _ (fun p q => A13 m c (ix2 p q)) (fun p q => (pay_1 _ p q).trans (blk_12 m c t p q)) (fun i q r h => (at_row m c r q).trans (Cert.Reference14Ideal.Rows.ref_17 _ _ _ _ _ _ _ _ _ _ _ _ _ _ _ _ _ i q r h))
  refine over (packed m c) _ _ _ ?_ fun n16 => ?_
  · exact piece m c 16 (by decide) _ (fun p q => A12 m c (ix2 p q)) (fun p q => (pay_23 _ p q).trans (blk_11 m c t p q)) (fun i q r h => (at_row m c r q).trans (Cert.Reference14Ideal.Rows.ref_16 _ _ _ _ _ _ _ _ _ _ _ _ _ _ _ _ _ i q r h))
  refine over (packed m c) _ _ _ ?_ fun n15 => ?_
  · exact piece m c 15 (by decide) _ (fun p q => A11 m c (ix2 p q)) (fun p q => (pay_22 _ p q).trans (blk_10 m c t p q)) (fun i q r h => (at_row m c r q).trans (Cert.Reference14Ideal.Rows.ref_15 _ _ _ _ _ _ _ _ _ _ _ _ _ _ _ _ _ i q r h))
  refine over (packed m c) _ _ _ ?_ fun n14 => ?_
  · exact piece m c 14 (by decide) _ (fun p q => A10 m c (ix2 p q)) (fun p q => (pay_21 _ p q).trans (blk_9 m c t p q)) (fun i q r h => (at_row m c r q).trans (Cert.Reference14Ideal.Rows.ref_14 _ _ _ _ _ _ _ _ _ _ _ _ _ _ _ _ _ i q r h))
  refine over (packed m c) _ _ _ ?_ fun n13 => ?_
  · exact piece m c 13 (by decide) _ (fun p q => A9 m c (ix2 p q)) (fun p q => (pay_20 _ p q).trans (blk_8 m c t p q)) (fun i q r h => (at_row m c r q).trans (Cert.Reference14Ideal.Rows.ref_13 _ _ _ _ _ _ _ _ _ _ _ _ _ _ _ _ _ i q r h))
  refine over (packed m c) _ _ _ ?_ fun n12 => ?_
  · exact piece m c 12 (by decide) _ (fun p q => A8 m c (ix2 p q)) (fun p q => (pay_19 _ p q).trans (blk_7 m c t p q)) (fun i q r h => (at_row m c r q).trans (Cert.Reference14Ideal.Rows.ref_12 _ _ _ _ _ _ _ _ _ _ _ _ _ _ _ _ _ i q r h))
  refine over (packed m c) _ _ _ ?_ fun n11 => ?_
  · exact piece m c 11 (by decide) _ (fun p q => A7 m c (ix2 p q)) (fun p q => (pay_18 _ p q).trans (blk_6 m c t p q)) (fun i q r h => (at_row m c r q).trans (Cert.Reference14Ideal.Rows.ref_11 _ _ _ _ _ _ _ _ _ _ _ _ _ _ _ _ _ i q r h))
  refine over (packed m c) _ _ _ ?_ fun n10 => ?_
  · exact piece m c 10 (by decide) _ (fun p q => A6 m c (ix2 p q)) (fun p q => (pay_17 _ p q).trans (blk_5 m c t p q)) (fun i q r h => (at_row m c r q).trans (Cert.Reference14Ideal.Rows.ref_10 _ _ _ _ _ _ _ _ _ _ _ _ _ _ _ _ _ i q r h))
  refine over (packed m c) _ _ _ ?_ fun n9 => ?_
  · exact piece m c 9 (by decide) _ (fun p q => A5 m c (ix2 p q)) (fun p q => (pay_16 _ p q).trans (blk_4 m c t p q)) (fun i q r h => (at_row m c r q).trans (Cert.Reference14Ideal.Rows.ref_9 _ _ _ _ _ _ _ _ _ _ _ _ _ _ _ _ _ i q r h))
  refine over (packed m c) _ _ _ ?_ fun n8 => ?_
  · exact piece m c 8 (by decide) _ (fun p q => A4 m c (ix2 p q)) (fun p q => (pay_15 _ p q).trans (blk_3 m c t p q)) (fun i q r h => (at_row m c r q).trans (Cert.Reference14Ideal.Rows.ref_8 _ _ _ _ _ _ _ _ _ _ _ _ _ _ _ _ _ i q r h))
  refine over (packed m c) _ _ _ ?_ fun n7 => ?_
  · exact piece m c 7 (by decide) _ (fun p q => A3 m c (ix2 0 (⟨5 * 1024 + q.val, by omega⟩ : Fin 6144))) (fun p q => ((pay_14 _ p q).trans (ld_at _ 5120 _ p q (by omega))).trans (blk_2 m c t 0 _))
      (fun i q r h => (at_row m c r q).trans ((Cert.Reference14Ideal.Rows.ref_2 _ _ _ _ _ _ _ _ _ _ _ _ _ _ _ _ _ (⟨5, by decide⟩ : Fin 6) q r (by simp only; omega)).trans (Cert.Reference14Ideal.Rows.bias_at _ _ q)))
  refine over (packed m c) _ _ _ ?_ fun n6 => ?_
  · exact piece m c 6 (by decide) _ (fun p q => A3 m c (ix2 0 (⟨4 * 1024 + q.val, by omega⟩ : Fin 6144))) (fun p q => ((pay_13 _ p q).trans (ld_at _ 4096 _ p q (by omega))).trans (blk_2 m c t 0 _))
      (fun i q r h => (at_row m c r q).trans ((Cert.Reference14Ideal.Rows.ref_2 _ _ _ _ _ _ _ _ _ _ _ _ _ _ _ _ _ (⟨4, by decide⟩ : Fin 6) q r (by simp only; omega)).trans (Cert.Reference14Ideal.Rows.bias_at _ _ q)))
  refine over (packed m c) _ _ _ ?_ fun n5 => ?_
  · exact piece m c 5 (by decide) _ (fun p q => A3 m c (ix2 0 (⟨3 * 1024 + q.val, by omega⟩ : Fin 6144))) (fun p q => ((pay_12 _ p q).trans (ld_at _ 3072 _ p q (by omega))).trans (blk_2 m c t 0 _))
      (fun i q r h => (at_row m c r q).trans ((Cert.Reference14Ideal.Rows.ref_2 _ _ _ _ _ _ _ _ _ _ _ _ _ _ _ _ _ (⟨3, by decide⟩ : Fin 6) q r (by simp only; omega)).trans (Cert.Reference14Ideal.Rows.bias_at _ _ q)))
  refine over (packed m c) _ _ _ ?_ fun n4 => ?_
  · exact piece m c 4 (by decide) _ (fun p q => A3 m c (ix2 0 (⟨2 * 1024 + q.val, by omega⟩ : Fin 6144))) (fun p q => ((pay_11 _ p q).trans (ld_at _ 2048 _ p q (by omega))).trans (blk_2 m c t 0 _))
      (fun i q r h => (at_row m c r q).trans ((Cert.Reference14Ideal.Rows.ref_2 _ _ _ _ _ _ _ _ _ _ _ _ _ _ _ _ _ (⟨2, by decide⟩ : Fin 6) q r (by simp only; omega)).trans (Cert.Reference14Ideal.Rows.bias_at _ _ q)))
  refine over (packed m c) _ _ _ ?_ fun n3 => ?_
  · exact piece m c 3 (by decide) _ (fun p q => A3 m c (ix2 0 (⟨1 * 1024 + q.val, by omega⟩ : Fin 6144))) (fun p q => ((pay_10 _ p q).trans (ld_at _ 1024 _ p q (by omega))).trans (blk_2 m c t 0 _))
      (fun i q r h => (at_row m c r q).trans ((Cert.Reference14Ideal.Rows.ref_2 _ _ _ _ _ _ _ _ _ _ _ _ _ _ _ _ _ (⟨1, by decide⟩ : Fin 6) q r (by simp only; omega)).trans (Cert.Reference14Ideal.Rows.bias_at _ _ q)))
  refine over (packed m c) _ _ _ ?_ fun n2 => ?_
  · exact piece m c 2 (by decide) _ (fun p q => A3 m c (ix2 0 (⟨0 * 1024 + q.val, by omega⟩ : Fin 6144))) (fun p q => ((pay_9 _ p q).trans (ld_at _ 0 _ p q (by omega))).trans (blk_2 m c t 0 _))
      (fun i q r h => (at_row m c r q).trans ((Cert.Reference14Ideal.Rows.ref_2 _ _ _ _ _ _ _ _ _ _ _ _ _ _ _ _ _ (⟨0, by decide⟩ : Fin 6) q r (by simp only; omega)).trans (Cert.Reference14Ideal.Rows.bias_at _ _ q)))
  refine over (packed m c) _ _ _ ?_ fun n1 => ?_
  · exact piece m c 1 (by decide) _ (fun p q => A2 m c (ix2 p q)) (fun p q => (pay_8 _ p q).trans (blk_1 m c t p q)) (fun i q r h => (at_row m c r q).trans (Cert.Reference14Ideal.Rows.ref_1 _ _ _ _ _ _ _ _ _ _ _ _ _ _ _ _ _ i q r h))
  refine over (packed m c) _ _ _ ?_ fun n0 => ?_
  · exact piece m c 0 (by decide) _ (fun p q => A1 m c (ix2 p q)) (fun p q => (pay_7 _ p q).trans (blk_0 m c t p q)) (fun i q r h => (at_row m c r q).trans (Cert.Reference14Ideal.Rows.ref_0 _ _ _ _ _ _ _ _ _ _ _ _ _ _ _ _ _ i q r h))
  replace n80 := out (o := 80) (n := 1) (by decide) p q n80
  replace n48 := out (o := 48) (n := 31) (by decide) p q n48
  replace n40 := out (o := 40) (n := 4) (by decide) p q n40
  replace n24 := out (o := 24) (n := 16) (by decide) p q n24
  replace n17 := out (o := 17) (n := 1) (by decide) p q n17
  replace n16 := out (o := 16) (n := 1) (by decide) p q n16
  replace n15 := out (o := 15) (n := 1) (by decide) p q n15
  replace n14 := out (o := 14) (n := 1) (by decide) p q n14
  replace n13 := out (o := 13) (n := 1) (by decide) p q n13
  replace n12 := out (o := 12) (n := 1) (by decide) p q n12
  replace n11 := out (o := 11) (n := 1) (by decide) p q n11
  replace n10 := out (o := 10) (n := 1) (by decide) p q n10
  replace n9 := out (o := 9) (n := 1) (by decide) p q n9
  replace n8 := out (o := 8) (n := 1) (by decide) p q n8
  replace n7 := out (o := 7) (n := 1) (by decide) p q n7
  replace n6 := out (o := 6) (n := 1) (by decide) p q n6
  replace n5 := out (o := 5) (n := 1) (by decide) p q n5
  replace n4 := out (o := 4) (n := 1) (by decide) p q n4
  replace n3 := out (o := 3) (n := 1) (by decide) p q n3
  replace n2 := out (o := 2) (n := 1) (by decide) p q n2
  replace n1 := out (o := 1) (n := 1) (by decide) p q n1
  replace n0 := out (o := 0) (n := 1) (by decide) p q n0
  have e : packed m c (ix3 0 p q) = (0 : EReal) := by
    rw [at_row]
    have hp := p.isLt
    rcases (by omega : (18 ≤ p.val ∧ p.val < 24) ∨ (44 ≤ p.val ∧ p.val < 48) ∨ p.val = 79 ∨ (81 ≤ p.val ∧ p.val < 88)) with h | h | h | h
    · exact (Cert.Reference14Ideal.Rows.ref_18 _ _ _ _ _ _ _ _ _ _ _ _ _ _ _ _ _ (⟨p.val - 18, by omega⟩ : Fin 6) q p (by simp only; omega)).trans (Cert.Reference14Ideal.Rows.gap_6 _ q)
    · exact (Cert.Reference14Ideal.Rows.ref_44 _ _ _ _ _ _ _ _ _ _ _ _ _ _ _ _ _ (⟨p.val - 44, by omega⟩ : Fin 4) q p (by simp only; omega)).trans (Cert.Reference14Ideal.Rows.gap_4 _ q)
    · exact (Cert.Reference14Ideal.Rows.ref_79 _ _ _ _ _ _ _ _ _ _ _ _ _ _ _ _ _ (0 : Fin 1) q p h).trans (Cert.Reference14Ideal.Rows.gap_1 _ q)
    · exact (Cert.Reference14Ideal.Rows.ref_81 _ _ _ _ _ _ _ _ _ _ _ _ _ _ _ _ _ (⟨p.val - 81, by omega⟩ : Fin 7) q p (by simp only; omega)).trans (Cert.Reference14Ideal.Rows.gap_7 _ q)
  rw [e]
  exact (congrFun (View.canon_cons_unit_lit (Val := Elt Ideal) (S := S1x88x1024) (e := .f32) inb_S1x88x1024_S1x88x1024_0_0_0 (k0_pay6 (F := Ideal)) [] (by decide)) (ix3 0 p q)).trans (zero_at p q)

theorem emb_17 (y : S1x88x1024.Idx) : ((((cfgM m (ok m)).win 17).blk t).view.emb y : S8x88x1024.Idx) = ix3 0 (y 1) (y 2) := funext fun a => by
  have hi : ((cfgM m (ok m)).win 17).index t = ![0, 0, 0] := place m (grid0.coords t)
  fin_cases a
  · refine Fin.ext ?_
    blk_simp [hi]
    rfl
  · refine Fin.ext ?_
    blk_simp [hi]
    rfl
  · refine Fin.ext ?_
    blk_simp [hi]
    rfl

/-- The first slot of the array holds the packed rows. -/
theorem slot (p : Fin 88) (q : Fin 1024) : ((dats m (ok m) 0 c).arrAt 17 (cfgM m (ok m)).N : Vec Ideal S8x88x1024 .f32) (ix3 0 p q) = packed m c (ix3 0 p q) := by
  obtain ⟨t⟩ : Nonempty (Fin (cfgM m (ok m)).N) := ⟨⟨0, Nat.zero_lt_one⟩⟩
  have hf : ((cfgM m (ok m)).win 17).flush t = true := by
    obtain rfl : t = ⟨0, Nat.zero_lt_one⟩ := Subsingleton.elim (α := Fin 1) _ _
    rfl
  have h := (dats m (ok m) 0 c).arrAt_emb_eq_flushed 17 (fun t t' _ _ hne => absurd (Subsingleton.elim (α := Fin 1) t t') hne) t hf (ix3 0 p q : S1x88x1024.Idx)
  refine (congrArg _ (emb_17 m t (ix3 0 p q)).symm).trans (h.trans ?_)
  blk_simp
  exact block_at m c t p q

/-- What the run leaves in its result. -/
theorem result : Pipeline.afterTail pcfgs (fun _ => adm m (ok m)) (dats m (ok m)) 0 (V0 m) [hostOps1] c main_v3
    = val_main_v7 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) := by
  unfold Pipeline.afterTail
  simp only [hostOps1, List.flatten_cons, List.flatten_nil, List.append_nil, List.cons_append, List.nil_append]
  after_results
  have hw : (Pipeline.withArrays (Pipeline.pin pcfgs (fun x => adm m (ok m)) 0).spec c (V0 m c)
      (fun w => (dats m (ok m) 0 c).arrAt w (Pipeline.pin pcfgs (fun x => adm m (ok m)) 0).N) (Proc.tc.devRef main_v1) : Vec Ideal S8x88x1024 .f32)
      = (dats m (ok m) 0 c).arrAt 17 (cfgM m (ok m)).N :=
    Pipeline.withArrays_arr (Pipeline.pin pcfgs (fun x => adm m (ok m)) 0).spec (by decide : Function.Injective (Pipeline.arrRef spec0)) c (V0 m c) _ 17
  refine funext fun (i : S88x1024.Idx) => ?_
  obtain ⟨p, q, rfl⟩ : ∃ (p : Fin 88) (q : Fin 1024), i = ix2 p q := ⟨i 0, i 1, funext fun a => by fin_cases a <;> rfl⟩
  show shapeCast S88x1024 (extractStridedSlice S1x88x1024 ![0, 0, 0] (_ : Vec Ideal S8x88x1024 .f32) slices_S8x88x1024_S1x88x1024_0_0_0) shapeCasts_S1x88x1024_S88x1024 (ix2 p q) = _
  rw [hw]
  refine Eq.trans ?_ ((slot m c p q).trans (at_row m c p q))
  generalize (dats m (ok m) 0 c).arrAt 17 (cfgM m (ok m)).N = v
  pointwise

end Cert.Kernel14Ideal.Pack
end
-- ==== Proof.PackEquation.lean ====
module

public import proofs.«01_k».proof.Defs
public import proofs.«01_k».proof.Proof.Pack
public import proofs.«01_k».proof.Proof.Gen.Kernel14.Frame
public import proofs.«01_k».proof.Proof.Gen.Kernel14Ideal.Frame
public import proofs.«01_k».proof.Proof.Gen.Reference14Ideal.Run

@[expose] public section
set_option maxRecDepth 16384
noncomputable section

namespace Cert.Kernel14.Pack

open Cert.Kernel14 Cert.Kernel14.Gen Idealize.ShloMosaic Idealize.ShloMosaic.TcCoe Idealize.SL.Sem

theorem table {F : FTy → Type} [FloatOps F] (m : (ℓ : Loc nD τ sig) → Buf (Elt F) ℓ) (c : Dev nD) :
    (V m c main_v0 : Vec F S2 .i32) = broadcastInDim S2 ![] bcast_S_S2 (constantI S_ 32 0#32) := by
  show StableHlo.after hostOps0 _ _ = _
  simp only [hostOps0, List.flatten_cons, List.flatten_nil, List.append_nil, List.cons_append, List.nil_append]
  after_results

theorem place {F : FTy → Type} [FloatOps F] (m : (ℓ : Loc nD τ sig) → Buf (Elt F) ℓ) (i : grid0.Coords) :
    cc0_transform_17 inb_S2_S1_0 numel1_S1 inb_S2_S1_1 (tbl m) i = ![0, 0, 0] := by
  have h : (tbl m 0 : Vec F S2 .i32) = fun _ => 0#32 := (table m 0).trans rfl
  unfold cc0_transform_17
  simp only [Pipeline.Prefetch.Contents.at, h]
  rfl

theorem ok {F : FTy → Type} [FloatOps F] (m : (ℓ : Loc nD τ sig) → Buf (Elt F) ℓ) : Ok m := by
  intro i
  refine ⟨fun a => ?_, Or.inl rfl⟩
  rw [place m i]
  fin_cases a <;> decide

end Cert.Kernel14.Pack

namespace Cert.Pack

open Idealize.ShloMosaic Idealize.SL.Sem

/-- The kernel's run ends with its arguments unchanged and every counter at zero. -/
theorem frame_kernel : Cert.quiescent_Kernel14 := fun m ρ _ => Cert.Kernel14.Gen.frame m ρ (Cert.Kernel14.Pack.ok m)

/-- The same over the reals. -/
theorem frame_ideal : Cert.quiescent_Kernel14Ideal := fun m ρ _ => Cert.Kernel14Ideal.Gen.frame m ρ (Cert.Kernel14Ideal.Pack.ok m)

/-- The reference's run ends with its arguments unchanged and every counter at zero. -/
theorem frame_reference : Cert.quiescent_Reference14Ideal := by
  intro m ρ _
  exact (θ_run Cert.Reference14Ideal.defs _ _).mono (fun r h => ⟨fun c => (h c).2,
      Idealize.ShloMosaic.sem_eq_zero_of_no_sems (by decide) r.2⟩)
    (Cert.Reference14Ideal.Value.run (F := Ideal) m ρ)

open Cert.Kernel14Ideal.Pack Cert.Reference14Ideal.Read in
/-- The packing, over the reals: kernel and reference leave the same rows. -/
theorem algebraic : Cert.algebraic_Kernel14Ideal_Reference14Ideal := by
  intro m g m' g' _ hagree
  refine ⟨fun c => val_main_v7 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c), ?_, ?_⟩
  · refine (θ_run Cert.Kernel14Ideal.defs _ _).mono (fun r h c => ?_)
      (θ_run_and (Cert.Kernel14Ideal.Gen.run_main m g (ok m)) (Cert.Kernel14Ideal.Gen.unchanged m g (ok m)))
    obtain ⟨hv, hk⟩ := h
    exact ⟨((hv c).2 Cert.Kernel14Ideal.main_v3 (Pipeline.mem_restRefs_of Cert.Kernel14Ideal.main_v3 (by decide) (by decide : ∀ w, Pipeline.arrRef Cert.Kernel14Ideal.spec0 w ≠ Cert.Kernel14Ideal.main_v3))).trans (result m c), hk c⟩
  · refine (θ_run Cert.Reference14Ideal.defs _ _).mono (fun r h c => ?_) (Cert.Reference14Ideal.Value.run (F := Ideal) m' g')
    obtain ⟨h0, hk⟩ := h c
    obtain ⟨e0, e1, e2, e3, e4, e5, e6, e7, e8, e9, e10, e11, e12, e13, e14, e15, e16⟩ := hagree c
    have f0 := h0.trans (val_main_v7_eq (F := Ideal) _ _ _ _ _ _ _ _ _ _ _ _ _ _ _ _ _)
    rw [e0, e1, e2, e3, e4, e5, e6, e7, e8, e9, e10, e11, e12, e13, e14, e15, e16] at f0
    exact ⟨f0, hk⟩

end Cert.Pack
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.On_gate_columns
public import proofs.«01_k».proof.Proof.MergeEquation
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.MixEquation
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_finite3
public import proofs.«01_k».proof.Proof.FfnEquation
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.HeadEquation
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.CopyEquation
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.LiftEquation
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.JoinEquation
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Kernel9
public import proofs.«01_k».proof.Proof.Gen.Kernel9Ideal
public import proofs.«01_k».proof.Proof.Gen.Kernel10
public import proofs.«01_k».proof.Proof.Gen.Kernel10Ideal
public import proofs.«01_k».proof.Proof.RecurFrame
public import proofs.«01_k».proof.Proof.ScanFrame
public import proofs.«01_k».proof.Proof.Gen.Reference8Ideal.Run
public import proofs.«01_k».proof.Proof.Gen.Reference8Ideal.Read
public import proofs.«01_k».proof.Proof.GateEquation
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.DwInEquation
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.StepEquation
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.ChipsEquation
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.PackEquation
public import Idealize.ShloMosaic.Adequacy
public import Idealize.ShloMosaic.Init

@[expose] public section

noncomputable section

namespace Cert.Proof

open Idealize.ShloMosaic Idealize.SL.Sem

/-- Every claim of the certificate, each proved in its own module. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Kernel10.Gen.facts, Cert.Kernel10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Pre_finite3.Gen.facts, Cert.On_gate_columns.Gen.facts,
  fun m ρ _ => Cert.Kernel.Gen.frame m ρ, fun m ρ _ => Cert.KernelIdeal.Gen.frame m ρ,
  Cert.Merge.frame_reference,
  fun m ρ _ => Cert.Kernel2.Gen.frame m ρ, fun m ρ _ => Cert.Kernel2Ideal.Gen.frame m ρ,
  Cert.Mix.frame_reference,
  fun m ρ _ => Cert.Kernel3.Gen.frame m ρ, fun m ρ _ => Cert.Kernel3Ideal.Gen.frame m ρ,
  fun m ρ _ => Cert.Kernel3Ideal.Gen.frame m ρ,
  Cert.Ffn.frame_reference,
  fun m ρ _ => Cert.Ffn.frame_reference m ρ trivial,
  fun m ρ _ => Cert.Kernel4.Gen.frame m ρ, fun m ρ _ => Cert.Kernel4Ideal.Gen.frame m ρ,
  Cert.Head.frame_reference,
  fun m ρ _ => Cert.Kernel5Ideal.Copy.frame_kernel m ρ trivial, fun m ρ _ => Cert.Kernel5Ideal.Copy.frame_ideal m ρ trivial,
  fun m ρ _ => Cert.Kernel5Ideal.Copy.frame_ideal m ρ trivial,
  Cert.Kernel5Ideal.Copy.frame_reference,
  fun m ρ _ => Cert.Kernel5Ideal.Copy.frame_reference m ρ trivial,
  fun m ρ _ => Cert.Kernel6.Gen.frame m ρ, fun m ρ _ => Cert.Kernel6Ideal.Gen.frame m ρ,
  Cert.Lift.frame_reference,
  fun m ρ _ => Cert.Kernel7.Gen.frame m ρ, fun m ρ _ => Cert.Kernel7Ideal.Gen.frame m ρ,
  Cert.Join.frame_reference,
  fun m ρ _ => Cert.Kernel8.Gen.frame m ρ, fun m ρ _ => Cert.Kernel8Ideal.Gen.frame m ρ,
  Cert.Gate.frame_reference,
  Cert.Kernel9Ideal.Recur.frame_kernel, Cert.Kernel9Ideal.Recur.frame_ideal,
  Cert.Kernel10Ideal.Scan.frame_kernel, Cert.Kernel10Ideal.Scan.frame_ideal,
  fun m ρ _ => Cert.Kernel11.Gen.frame m ρ, fun m ρ _ => Cert.Kernel11Ideal.Gen.frame m ρ,
  Cert.DwIn.frame_reference,
  Cert.Step.frame_kernel, Cert.Step.frame_ideal, Cert.Step.frame_reference,
  fun m ρ _ => Cert.Kernel13.Gen.frame m ρ, fun m ρ _ => Cert.Kernel13Ideal.Gen.frame m ρ,
  Cert.Chips.frame_reference,
  Cert.Pack.frame_kernel, Cert.Pack.frame_ideal, Cert.Pack.frame_reference,
  trivial,
  Cert.Merge.algebraic,
  trivial,
  Cert.Mix.algebraic,
  trivial,
  Cert.Ffn.algebraic,
  trivial,
  Cert.Head.algebraic,
  trivial,
  Cert.Kernel5Ideal.Copy.algebraic,
  trivial,
  Cert.Lift.algebraic,
  trivial,
  Cert.Join.algebraic,
  trivial,
  Cert.Gate.algebraic,
  trivial,
  trivial,
  trivial,
  Cert.DwIn.algebraic,
  trivial,
  Cert.Step.algebraic,
  trivial,
  Cert.Chips.algebraic,
  trivial,
  Cert.Pack.algebraic⟩

end Cert.Proof

end
